-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_spread [hPre_finite_and_spread : Cert.Pre_finite_and_spread.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_spread [hPre_finite_and_spread : Cert.Pre_finite_and_spread.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite [hPre_finite : Cert.Pre_finite.Facts] (m : (ℓ : Loc Cert.TailIdeal.nD Cert.TailIdeal.τ Cert.TailIdeal.sig) → Buf (Elt Ideal) ℓ) : Prop :=
  ∀ c : Dev Cert.TailIdeal.nD,
    (Cert.Pre_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_finite [hPre_finite : Cert.Pre_finite.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_finite.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10)) (m ((c.tc : Thread Cert.TailReferenceIdeal.nD Cert.TailReferenceIdeal.τ).loc Cert.TailReferenceIdeal.main_arg11)) (m ((c.tc : Thread Cert.TailReferenceIdeal.nD Cert.TailReferenceIdeal.τ).loc Cert.TailReferenceIdeal.main_arg12)) (m ((c.tc : Thread Cert.TailReferenceIdeal.nD Cert.TailReferenceIdeal.τ).loc Cert.TailReferenceIdeal.main_arg13))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_and_spread2 [hPre_finite_and_spread2 : Cert.Pre_finite_and_spread2.Facts] (m : (ℓ : Loc Cert.MidIdeal.nD Cert.MidIdeal.τ Cert.MidIdeal.sig) → Buf (Elt Ideal) ℓ) : Prop :=
  ∀ c : Dev Cert.MidIdeal.nD,
    (Cert.Pre_finite_and_spread2.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9))) = (fun _ => 1#1)

def Pre_MidReferenceIdeal (m : (ℓ : Loc Cert.MidReferenceIdeal.nD Cert.MidReferenceIdeal.τ Cert.MidReferenceIdeal.sig) → Buf (Elt Ideal) ℓ) : Prop :=
  True

def Pre_MidReferenceIdeal_finite_and_spread2 [hPre_finite_and_spread2 : Cert.Pre_finite_and_spread2.Facts] (m : (ℓ : Loc Cert.MidReferenceIdeal.nD Cert.MidReferenceIdeal.τ Cert.MidReferenceIdeal.sig) → Buf (Elt Ideal) ℓ) : Prop :=
  ∀ c : Dev Cert.MidReferenceIdeal.nD,
    (Cert.Pre_finite_and_spread2.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_spread [hKernelIdeal : Cert.KernelIdeal.Facts] [hPre_finite_and_spread : Cert.Pre_finite_and_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_spread m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_spread [hReferenceIdeal : Cert.ReferenceIdeal.Facts] [hPre_finite_and_spread : Cert.Pre_finite_and_spread.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_spread m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ r.2.sem = fun _ => 0)

def quiescent_TailIdeal_pre_finite [hTailIdeal : Cert.TailIdeal.Facts] [hPre_finite : Cert.Pre_finite.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13))
      ∧ r.2.sem = fun _ => 0)

def quiescent_TailReferenceIdeal_pre_finite [hTailReferenceIdeal : Cert.TailReferenceIdeal.Facts] [hPre_finite : Cert.Pre_finite.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_finite m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ r.2.sem = fun _ => 0)

def quiescent_MidIdeal_pre_finite_and_spread2 [hMidIdeal : Cert.MidIdeal.Facts] [hPre_finite_and_spread2 : Cert.Pre_finite_and_spread2.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_and_spread2 m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9))
      ∧ r.2.sem = fun _ => 0)

def quiescent_MidReferenceIdeal_pre_finite_and_spread2 [hMidReferenceIdeal : Cert.MidReferenceIdeal.Facts] [hPre_finite_and_spread2 : Cert.Pre_finite_and_spread2.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal_finite_and_spread2 m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9))
      ∧ r.2.sem = fun _ => 0)

def preserves_Kernel_KernelIdeal : Prop :=
  IdealRules.named_const.Statement Cert.KernelIdeal.κ "neg_big" .f32 0xFF61B1E6#32 ⊥
  ∧ IdealRules.named_const.Statement Cert.KernelIdeal.κ "pos_big" .f32 0x7F61B1E6#32 ⊤
  ∧ IdealRules.named_const.Statement Cert.KernelIdeal.κ "mask_big" .f32 0x7149F2CA#32 ⊤

def algebraic_KernelIdeal_ReferenceIdeal_pre_finite_and_spread [hKernelIdeal : Cert.KernelIdeal.Facts] [hReferenceIdeal : Cert.ReferenceIdeal.Facts] [hPre_finite_and_spread : Cert.Pre_finite_and_spread.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_spread m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Tail_TailIdeal : Prop :=
  IdealRules.named_const.Statement Cert.TailIdeal.κ "neg_big" .f32 0xFF61B1E6#32 ⊥
  ∧ IdealRules.named_const.Statement Cert.TailIdeal.κ "pos_big" .f32 0x7F61B1E6#32 ⊤
  ∧ IdealRules.named_const.Statement Cert.TailIdeal.κ "mask_big" .f32 0x7149F2CA#32 ⊤

def algebraic_TailIdeal_TailReferenceIdeal_pre_finite [hTailIdeal : Cert.TailIdeal.Facts] [hTailReferenceIdeal : Cert.TailReferenceIdeal.Facts] [hPre_finite : Cert.Pre_finite.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal_finite m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)
      ∧ m' ((c.tc : Thread Cert.TailReferenceIdeal.nD Cert.TailReferenceIdeal.τ).loc Cert.TailReferenceIdeal.main_arg13) = m ((c.tc : Thread Cert.TailIdeal.nD Cert.TailIdeal.τ).loc Cert.TailIdeal.main_arg13)) →
    ∃ (v0 : (c : Dev Cert.TailIdeal.nD) → Buf (Elt Ideal) ((c.tc : Thread Cert.TailIdeal.nD Cert.TailIdeal.τ).loc Cert.TailIdeal.main_v12)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v12) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v112) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13))

def preserves_Mid_MidIdeal : Prop :=
  IdealRules.named_const.Statement Cert.MidIdeal.κ "neg_big" .f32 0xFF61B1E6#32 ⊥
  ∧ IdealRules.named_const.Statement Cert.MidIdeal.κ "pos_big" .f32 0x7F61B1E6#32 ⊤
  ∧ IdealRules.named_const.Statement Cert.MidIdeal.κ "mask_big" .f32 0x7149F2CA#32 ⊤

def algebraic_MidIdeal_MidReferenceIdeal_pre_finite_and_spread2 [hMidIdeal : Cert.MidIdeal.Facts] [hMidReferenceIdeal : Cert.MidReferenceIdeal.Facts] [hPre_finite_and_spread2 : Cert.Pre_finite_and_spread2.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal_finite_and_spread2 m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)
      ∧ m' ((c.tc : Thread Cert.MidReferenceIdeal.nD Cert.MidReferenceIdeal.τ).loc Cert.MidReferenceIdeal.main_arg7) = m ((c.tc : Thread Cert.MidIdeal.nD Cert.MidIdeal.τ).loc Cert.MidIdeal.main_arg7)
      ∧ m' ((c.tc : Thread Cert.MidReferenceIdeal.nD Cert.MidReferenceIdeal.τ).loc Cert.MidReferenceIdeal.main_arg8) = m ((c.tc : Thread Cert.MidIdeal.nD Cert.MidIdeal.τ).loc Cert.MidIdeal.main_arg8)
      ∧ m' ((c.tc : Thread Cert.MidReferenceIdeal.nD Cert.MidReferenceIdeal.τ).loc Cert.MidReferenceIdeal.main_arg9) = m ((c.tc : Thread Cert.MidIdeal.nD Cert.MidIdeal.τ).loc Cert.MidIdeal.main_arg9)) →
    ∃ (v0 : (c : Dev Cert.MidIdeal.nD) → Buf (Elt Ideal) ((c.tc : Thread Cert.MidIdeal.nD Cert.MidIdeal.τ).loc Cert.MidIdeal.main_v10)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v10) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v81) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8)
          ∧ r.2.mem ((c.tc : Thread Cert.MidReferenceIdeal.nD Cert.MidReferenceIdeal.τ).loc Cert.MidReferenceIdeal.main_arg9) = m' ((c.tc : Thread Cert.MidReferenceIdeal.nD Cert.MidReferenceIdeal.τ).loc Cert.MidReferenceIdeal.main_arg9))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hMid : Cert.Mid.Facts) (hMidIdeal : Cert.MidIdeal.Facts) (hMidReferenceIdeal : Cert.MidReferenceIdeal.Facts) (hPre_finite_and_spread : Cert.Pre_finite_and_spread.Facts) (hPre_finite : Cert.Pre_finite.Facts) (hPre_finite_and_spread2 : Cert.Pre_finite_and_spread2.Facts),
    quiescent_Kernel (hKernel := hKernel)
    ∧ quiescent_KernelIdeal (hKernelIdeal := hKernelIdeal)
    ∧ quiescent_KernelIdeal_pre_finite_and_spread (hKernelIdeal := hKernelIdeal) (hPre_finite_and_spread := hPre_finite_and_spread)
    ∧ quiescent_ReferenceIdeal (hReferenceIdeal := hReferenceIdeal)
    ∧ quiescent_ReferenceIdeal_pre_finite_and_spread (hReferenceIdeal := hReferenceIdeal) (hPre_finite_and_spread := hPre_finite_and_spread)
    ∧ quiescent_Tail (hTail := hTail)
    ∧ quiescent_TailIdeal (hTailIdeal := hTailIdeal)
    ∧ quiescent_TailIdeal_pre_finite (hTailIdeal := hTailIdeal) (hPre_finite := hPre_finite)
    ∧ quiescent_TailReferenceIdeal (hTailReferenceIdeal := hTailReferenceIdeal)
    ∧ quiescent_TailReferenceIdeal_pre_finite (hTailReferenceIdeal := hTailReferenceIdeal) (hPre_finite := hPre_finite)
    ∧ quiescent_Mid (hMid := hMid)
    ∧ quiescent_MidIdeal (hMidIdeal := hMidIdeal)
    ∧ quiescent_MidIdeal_pre_finite_and_spread2 (hMidIdeal := hMidIdeal) (hPre_finite_and_spread2 := hPre_finite_and_spread2)
    ∧ quiescent_MidReferenceIdeal (hMidReferenceIdeal := hMidReferenceIdeal)
    ∧ quiescent_MidReferenceIdeal_pre_finite_and_spread2 (hMidReferenceIdeal := hMidReferenceIdeal) (hPre_finite_and_spread2 := hPre_finite_and_spread2)
    ∧ preserves_Kernel_KernelIdeal
    ∧ algebraic_KernelIdeal_ReferenceIdeal_pre_finite_and_spread (hKernelIdeal := hKernelIdeal) (hReferenceIdeal := hReferenceIdeal) (hPre_finite_and_spread := hPre_finite_and_spread)
    ∧ preserves_Tail_TailIdeal
    ∧ algebraic_TailIdeal_TailReferenceIdeal_pre_finite (hTailIdeal := hTailIdeal) (hTailReferenceIdeal := hTailReferenceIdeal) (hPre_finite := hPre_finite)
    ∧ preserves_Mid_MidIdeal
    ∧ algebraic_MidIdeal_MidReferenceIdeal_pre_finite_and_spread2 (hMidIdeal := hMidIdeal) (hMidReferenceIdeal := hMidReferenceIdeal) (hPre_finite_and_spread2 := hPre_finite_and_spread2)
-- ==== Pre_finite.lean ====
abbrev S2048x128 : Shape := ⟨2, ![2048, 128]⟩
abbrev S16x3x128 : Shape := ⟨3, ![16, 3, 128]⟩
abbrev S16x3x32 : Shape := ⟨3, ![16, 3, 32]⟩
abbrev S16x3x8 : Shape := ⟨3, ![16, 3, 8]⟩
abbrev S131x256 : Shape := ⟨2, ![131, 256]⟩
abbrev S256 : Shape := ⟨1, ![256]⟩
abbrev S259x512 : Shape := ⟨2, ![259, 512]⟩
abbrev S512 : Shape := ⟨1, ![512]⟩
abbrev S512x512 : Shape := ⟨2, ![512, 512]⟩
abbrev S512x6 : Shape := ⟨2, ![512, 6]⟩
abbrev S6 : Shape := ⟨1, ![6]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S16x3x128 : S_.BroadcastsInDim S16x3x128 (![] : Fin 0 → Fin S16x3x128.rank)
  reducesTo_S16x3x128_S_d0_1_2 : S16x3x128.ReducesTo [0, 1, 2] S_
  bcast_S_S16x3x32 : S_.BroadcastsInDim S16x3x32 (![] : Fin 0 → Fin S16x3x32.rank)
  reducesTo_S16x3x32_S_d0_1_2 : S16x3x32.ReducesTo [0, 1, 2] S_
  bcast_S_S16x3x8 : S_.BroadcastsInDim S16x3x8 (![] : Fin 0 → Fin S16x3x8.rank)
  reducesTo_S16x3x8_S_d0_1_2 : S16x3x8.ReducesTo [0, 1, 2] S_
  bcast_S_S131x256 : S_.BroadcastsInDim S131x256 (![] : Fin 0 → Fin S131x256.rank)
  reducesTo_S131x256_S_d0_1 : S131x256.ReducesTo [0, 1] S_
  bcast_S_S256 : S_.BroadcastsInDim S256 (![] : Fin 0 → Fin S256.rank)
  reducesTo_S256_S_d0 : S256.ReducesTo [0] S_
  bcast_S_S259x512 : S_.BroadcastsInDim S259x512 (![] : Fin 0 → Fin S259x512.rank)
  reducesTo_S259x512_S_d0_1 : S259x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S259x512 .f32) (main_arg8 : FVec F S512 .f32) (main_arg9 : FVec F S512 .f32) (main_v33 : IVec S_ 1) : IVec S_ 1 :=
  let main_v34 : FVec F S259x512 .f32 := Host.absf main_arg7
  let main_cst_12 : FVec F S_ .f32 := constant S_ .f32 0x7F800000#32
  let main_v35 : FVec F S259x512 .f32 := broadcastInDim S259x512 ![] bcast_S_S259x512 main_cst_12
  let main_v36 : IVec S259x512 1 := cmpf .olt main_v34 main_v35
  let main_c_13 : IVec S_ 1 := constantI S_ 1 1#1
  let main_v37 : IVec S_ 1 := (fun x v => Host.reduce IntOp.andi x v reducesTo_S259x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S131x256 .f32) (main_arg5 : FVec F S256 .f32) (main_arg6 : FVec F S256 .f32) (main_arg7 : FVec F S259x512 .f32) (main_arg8 : FVec F S512 .f32) (main_arg9 : FVec F S512 .f32) (main_v13 : IVec S_ 1) (main_v16 : IVec S16x3x8 1) : IVec S_ 1 :=
  let main_c_5 : IVec S_ 1 := constantI S_ 1 1#1
  let main_v17 : IVec S_ 1 := (fun x v => Host.reduce IntOp.andi x v reducesTo_S16x3x8_S_d0_1_2 h_S_) main_v16 main_c_5
  let main_v18 : IVec S_ 1 := andi main_v13 main_v17
  let main_v19 : FVec F S131x256 .f32 := Host.absf main_arg4
  let main_cst_6 : FVec F S_ .f32 := constant S_ .f32 0x7F800000#32
  let main_v20 : FVec F S131x256 .f32 := broadcastInDim S131x256 ![] bcast_S_S131x256 main_cst_6
  let main_v21 : IVec S131x256 1 := cmpf .olt main_v19 main_v20
  let main_c_7 : IVec S_ 1 := constantI S_ 1 1#1
  let main_v22 : IVec S_ 1 := (fun x v => Host.reduce IntOp.andi x v reducesTo_S131x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S2048x128 .f32) (main_arg1 : FVec F S16x3x128 .f32) (main_arg2 : FVec F S16x3x32 .f32) (main_arg3 : FVec F S16x3x8 .f32) (main_arg4 : FVec F S131x256 .f32) (main_arg5 : FVec F S256 .f32) (main_arg6 : FVec F S256 .f32) (main_arg7 : FVec F S259x512 .f32) (main_arg8 : FVec F S512 .f32) (main_arg9 : FVec F S512 .f32) (main_arg10 : FVec F S512x512 .f32) (main_arg11 : FVec F S512 .f32) (main_arg12 : FVec F S512x6 .f32) (main_arg13 : FVec F S6 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S16x3x128 .f32 := Host.absf main_arg1
  let main_cst_0 : FVec F S_ .f32 := constant S_ .f32 0x7F800000#32
  let main_v5 : FVec F S16x3x128 .f32 := broadcastInDim S16x3x128 ![] bcast_S_S16x3x128 main_cst_0
  let main_v6 : IVec S16x3x128 1 := cmpf .olt main_v4 main_v5
  let main_c_1 : IVec S_ 1 := constantI S_ 1 1#1
  let main_v7 : IVec S_ 1 := (fun x v => Host.reduce IntOp.andi x v reducesTo_S16x3x128_S_d0_1_2 h_S_) main_v6 main_c_1
  let main_v8 : IVec S_ 1 := andi main_v3 main_v7
  let main_v9 : FVec F S16x3x32 .f32 := Host.absf main_arg2
  let main_cst_2 : FVec F S_ .f32 := constant S_ .f32 0x7F800000#32
  let main_v10 : FVec F S16x3x32 .f32 := broadcastInDim S16x3x32 ![] bcast_S_S16x3x32 main_cst_2
  let main_v11 : IVec S16x3x32 1 := cmpf .olt main_v9 main_v10
  let main_c_3 : IVec S_ 1 := constantI S_ 1 1#1
  let main_v12 : IVec S_ 1 := (fun x v => Host.reduce IntOp.andi x v reducesTo_S16x3x32_S_d0_1_2 h_S_) main_v11 main_c_3
  let main_v13 : IVec S_ 1 := andi main_v8 main_v12
  let main_v14 : FVec F S16x3x8 .f32 := Host.absf main_arg3
  let main_cst_4 : FVec F S_ .f32 := constant S_ .f32 0x7F800000#32
  let main_v15 : FVec F S16x3x8 .f32 := broadcastInDim S16x3x8 ![] bcast_S_S16x3x8 main_cst_4
  let main_v16 : IVec S16x3x8 1 := cmpf .olt main_v14 main_v15
  fn_part1 (F := F) main_arg4 main_arg5 main_arg6 main_arg7 main_arg8 main_arg9 main_v13 main_v16
-- ==== Pre_finite_and_spread.lean ====
abbrev S32768x3 : Shape := ⟨2, ![32768, 3]⟩
abbrev S16x3x512 : Shape := ⟨3, ![16, 3, 512]⟩
abbrev S32768x32 : Shape := ⟨2, ![32768, 32]⟩
abbrev S1x2x32 : Shape := ⟨3, ![1, 2, 32]⟩
abbrev S32 : Shape := ⟨1, ![32]⟩
abbrev S35x64 : Shape := ⟨2, ![35, 64]⟩
abbrev S1x1x32 : Shape := ⟨3, ![1, 1, 32]⟩
abbrev S_ : Shape := ⟨0, ![]⟩

class Facts : Prop where
  slices_S1x2x32_S1x1x32_0_0_0 : S1x2x32.Slices ![0, 0, 0] S1x1x32
  shapeCasts_S1x1x32_S32 : S1x1x32.ShapeCasts S32
  bcast_S_S32 : S_.BroadcastsInDim S32 (![] : Fin 0 → Fin S32.rank)
  bcast_S_S32768x3 : S_.BroadcastsInDim S32768x3 (![] : Fin 0 → Fin S32768x3.rank)
  reducesTo_S32768x3_S_d0_1 : S32768x3.ReducesTo [0, 1] S_
  h_S_ : 0 < S_.numel
  bcast_S_S16x3x512 : S_.BroadcastsInDim S16x3x512 (![] : Fin 0 → Fin S16x3x512.rank)
  reducesTo_S16x3x512_S_d0_1_2 : S16x3x512.ReducesTo [0, 1, 2] S_
  bcast_S_S32768x32 : S_.BroadcastsInDim S32768x32 (![] : Fin 0 → Fin S32768x32.rank)
  reducesTo_S32768x32_S_d0_1 : S32768x32.ReducesTo [0, 1] S_
  bcast_S_S1x2x32 : S_.BroadcastsInDim S1x2x32 (![] : Fin 0 → Fin S1x2x32.rank)
  reducesTo_S1x2x32_S_d0_1_2 : S1x2x32.ReducesTo [0, 1, 2] S_
  reducesTo_S32_S_d0 : S32.ReducesTo [0] S_
  bcast_S_S35x64 : S_.BroadcastsInDim S35x64 (![] : Fin 0 → Fin S35x64.rank)
  reducesTo_S35x64_S_d0_1 : S35x64.ReducesTo [0, 1] S_
  slices_S1x2x32_S1x1x32_0_1_0 : S1x2x32.Slices ![0, 1, 0] S1x1x32

variable [Facts]

def fn_part2 {F : FTy → Type} [FloatOps F] (main_arg3 : FVec F S1x2x32 .f32) (main_v3 : FVec F S32 .f32) (main_v32 : IVec S_ 1) (main_v33 : FVec F S35x64 .f32) (main_cst_11 : FVec F S_ .f32) : IVec S_ 1 :=
  let main_v34 : FVec F S35x64 .f32 := broadcastInDim S35x64 ![] bcast_S_S35x64 main_cst_11
  let main_v35 : IVec S35x64 1 := cmpf .olt main_v33 main_v34
  let main_c_12 : IVec S_ 1 := constantI S_ 1 1#1
  let main_v36 : IVec S_ 1 := (fun x v => Host.reduce IntOp.andi x v reducesTo_S35x64_S_d0_1 h_S_) main_v35 main_c_12
  let main_v37 : IVec S_ 1 := andi main_v32 main_v36
  let main_v38 : FVec F S1x1x32 .f32 := (extractStridedSlice S1x1x32 ![0, 1, 0] · slices_S1x2x32_S1x1x32_0_1_0) main_arg3
  let main_v39 : FVec F S32 .f32 := shapeCast S32 main_v38 shapeCasts_S1x1x32_S32
  let main_cst_13 : FVec F S_ .f32 := constant S_ .f32 0x47000000#32
  let main_v40 : FVec F S32 .f32 := broadcastInDim S32 ![] bcast_S_S32 main_cst_13
  let main_v41 : FVec F S32 .f32 := Host.divf main_v39 main_v40
  let main_v42 : FVec F S32 .f32 := mulf main_v3 main_v3
  let main_v43 : FVec F S32 .f32 := subf main_v41 main_v42
  let main_cst_14 : FVec F S_ .f32 := constant S_ .f32 0x00000000#32
  let main_v44 : FVec F S32 .f32 := broadcastInDim S32 ![] bcast_S_S32 main_cst_14
  let main_v45 : IVec S32 1 := cmpf .oge main_v43 main_v44
  let main_c_15 : IVec S_ 1 := constantI S_ 1 1#1
  let main_v46 : IVec S_ 1 := (fun x v => Host.reduce IntOp.andi x v reducesTo_S32_S_d0 h_S_) main_v45 main_c_15
  let main_v47 : IVec S_ 1 := andi main_v37 main_v46
  main_v47

def fn_part1 {F : FTy → Type} [FloatOps F] (main_arg3 : FVec F S1x2x32 .f32) (main_arg4 : FVec F S32 .f32) (main_arg5 : FVec F S32 .f32) (main_arg6 : FVec F S35x64 .f32) (main_v3 : FVec F S32 .f32) (main_v12 : IVec S_ 1) (main_v16 : IVec S_ 1) : IVec S_ 1 :=
  let main_v17 : IVec S_ 1 := andi main_v12 main_v16
  let main_v18 : FVec F S1x2x32 .f32 := Host.absf main_arg3
  let main_cst_5 : FVec F S_ .f32 := constant S_ .f32 0x7F800000#32
  let main_v19 : FVec F S1x2x32 .f32 := broadcastInDim S1x2x32 ![] bcast_S_S1x2x32 main_cst_5
  let main_v20 : IVec S1x2x32 1 := cmpf .olt main_v18 main_v19
  let main_c_6 : IVec S_ 1 := constantI S_ 1 1#1
  let main_v21 : IVec S_ 1 := (fun x v => Host.reduce IntOp.andi x v reducesTo_S1x2x32_S_d0_1_2 h_S_) main_v20 main_c_6
  let main_v22 : IVec S_ 1 := andi main_v17 main_v21
  let main_v23 : FVec F S32 .f32 := Host.absf main_arg4
  let main_cst_7 : FVec F S_ .f32 := constant S_ .f32 0x7F800000#32
  let main_v24 : FVec F S32 .f32 := broadcastInDim S32 ![] bcast_S_S32 main_cst_7
  let main_v25 : IVec S32 1 := cmpf .olt main_v23 main_v24
  let main_c_8 : IVec S_ 1 := constantI S_ 1 1#1
  let main_v26 : IVec S_ 1 := (fun x v => Host.reduce IntOp.andi x v reducesTo_S32_S_d0 h_S_) main_v25 main_c_8
  let main_v27 : IVec S_ 1 := andi main_v22 main_v26
  let main_v28 : FVec F S32 .f32 := Host.absf main_arg5
  let main_cst_9 : FVec F S_ .f32 := constant S_ .f32 0x7F800000#32
  let main_v29 : FVec F S32 .f32 := broadcastInDim S32 ![] bcast_S_S32 main_cst_9
  let main_v30 : IVec S32 1 := cmpf .olt main_v28 main_v29
  let main_c_10 : IVec S_ 1 := constantI S_ 1 1#1
  let main_v31 : IVec S_ 1 := (fun x v => Host.reduce IntOp.andi x v reducesTo_S32_S_d0 h_S_) main_v30 main_c_10
  let main_v32 : IVec S_ 1 := andi main_v27 main_v31
  let main_v33 : FVec F S35x64 .f32 := Host.absf main_arg6
  let main_cst_11 : FVec F S_ .f32 := constant S_ .f32 0x7F800000#32
  fn_part2 (F := F) main_arg3 main_v3 main_v32 main_v33 main_cst_11

def fn {F : FTy → Type} [FloatOps F] (main_arg0 : FVec F S32768x3 .f32) (main_arg1 : FVec F S16x3x512 .f32) (main_arg2 : FVec F S32768x32 .f32) (main_arg3 : FVec F S1x2x32 .f32) (main_arg4 : FVec F S32 .f32) (main_arg5 : FVec F S32 .f32) (main_arg6 : FVec F S35x64 .f32) : IVec S_ 1 :=
  let main_v0 : FVec F S1x1x32 .f32 := (extractStridedSlice S1x1x32 ![0, 0, 0] · slices_S1x2x32_S1x1x32_0_0_0) main_arg3
  let main_v1 : FVec F S32 .f32 := shapeCast S32 main_v0 shapeCasts_S1x1x32_S32
  let main_cst : FVec F S_ .f32 := constant S_ .f32 0x47000000#32
  let main_v2 : FVec F S32 .f32 := broadcastInDim S32 ![] bcast_S_S32 main_cst
  let main_v3 : FVec F S32 .f32 := Host.divf main_v1 main_v2
  let main_v4 : FVec F S32768x3 .f32 := Host.absf main_arg0
  let main_cst_0 : FVec F S_ .f32 := constant S_ .f32 0x7F800000#32
  let main_v5 : FVec F S32768x3 .f32 := broadcastInDim S32768x3 ![] bcast_S_S32768x3 main_cst_0
  let main_v6 : IVec S32768x3 1 := cmpf .olt main_v4 main_v5
  let main_c : IVec S_ 1 := constantI S_ 1 1#1
  let main_v7 : IVec S_ 1 := (fun x v => Host.reduce IntOp.andi x v reducesTo_S32768x3_S_d0_1 h_S_) main_v6 main_c
  let main_v8 : FVec F S16x3x512 .f32 := Host.absf main_arg1
  let main_cst_1 : FVec F S_ .f32 := constant S_ .f32 0x7F800000#32
  let main_v9 : FVec F S16x3x512 .f32 := broadcastInDim S16x3x512 ![] bcast_S_S16x3x512 main_cst_1
  let main_v10 : IVec S16x3x512 1 := cmpf .olt main_v8 main_v9
  let main_c_2 : IVec S_ 1 := constantI S_ 1 1#1
  let main_v11 : IVec S_ 1 := (fun x v => Host.reduce IntOp.andi x v reducesTo_S16x3x512_S_d0_1_2 h_S_) main_v10 main_c_2
  let main_v12 : IVec S_ 1 := andi main_v7 main_v11
  let main_v13 : FVec F S32768x32 .f32 := Host.absf main_arg2
  let main_cst_3 : FVec F S_ .f32 := constant S_ .f32 0x7F800000#32
  let main_v14 : FVec F S32768x32 .f32 := broadcastInDim S32768x32 ![] bcast_S_S32768x32 main_cst_3
  let main_v15 : IVec S32768x32 1 := cmpf .olt main_v13 main_v14
  let main_c_4 : IVec S_ 1 := constantI S_ 1 1#1
  let main_v16 : IVec S_ 1 := (fun x v => Host.reduce IntOp.andi x v reducesTo_S32768x32_S_d0_1 h_S_) main_v15 main_c_4
  fn_part1 (F := F) main_arg3 main_arg4 main_arg5 main_arg6 main_v3 main_v12 main_v16
-- ==== Pre_finite_and_spread2.lean ====
abbrev S16x3x512 : Shape := ⟨3, ![16, 3, 512]⟩
abbrev S16x3x128 : Shape := ⟨3, ![16, 3, 128]⟩
abbrev S16x512x64 : Shape := ⟨3, ![16, 512, 64]⟩
abbrev S16x2x64 : Shape := ⟨3, ![16, 2, 64]⟩
abbrev S64 : Shape := ⟨1, ![64]⟩
abbrev S67x128 : Shape := ⟨2, ![67, 128]⟩
abbrev S128 : Shape := ⟨1, ![128]⟩
abbrev S16x1x64 : Shape := ⟨3, ![16, 1, 64]⟩
abbrev S16x64 : Shape := ⟨2, ![16, 64]⟩
abbrev S_ : Shape := ⟨0, ![]⟩

class Facts : Prop where
  slices_S16x2x64_S16x1x64_0_0_0 : S16x2x64.Slices ![0, 0, 0] S16x1x64
  shapeCasts_S16x1x64_S16x64 : S16x1x64.ShapeCasts S16x64
  reducesTo_S16x64_S64_d0 : S16x64.ReducesTo [0] S64
  h_S_ : 0 < S_.numel
  bcast_S_S64 : S_.BroadcastsInDim S64 (![] : Fin 0 → Fin S64.rank)
  bcast_S_S16x3x512 : S_.BroadcastsInDim S16x3x512 (![] : Fin 0 → Fin S16x3x512.rank)
  reducesTo_S16x3x512_S_d0_1_2 : S16x3x512.ReducesTo [0, 1, 2] S_
  bcast_S_S16x3x128 : S_.BroadcastsInDim S16x3x128 (![] : Fin 0 → Fin S16x3x128.rank)
  reducesTo_S16x3x128_S_d0_1_2 : S16x3x128.ReducesTo [0, 1, 2] S_
  bcast_S_S16x512x64 : S_.BroadcastsInDim S16x512x64 (![] : Fin 0 → Fin S16x512x64.rank)
  reducesTo_S16x512x64_S_d0_1_2 : S16x512x64.ReducesTo [0, 1, 2] S_
  bcast_S_S16x2x64 : S_.BroadcastsInDim S16x2x64 (![] : Fin 0 → Fin S16x2x64.rank)
  reducesTo_S16x2x64_S_d0_1_2 : S16x2x64.ReducesTo [0, 1, 2] S_
  reducesTo_S64_S_d0 : S64.ReducesTo [0] S_
  bcast_S_S67x128 : S_.BroadcastsInDim S67x128 (![] : Fin 0 → Fin S67x128.rank)
  reducesTo_S67x128_S_d0_1 : S67x128.ReducesTo [0, 1] S_
  bcast_S_S128 : S_.BroadcastsInDim S128 (![] : Fin 0 → Fin S128.rank)
  reducesTo_S128_S_d0 : S128.ReducesTo [0] S_
  slices_S16x2x64_S16x1x64_0_1_0 : S16x2x64.Slices ![0, 1, 0] S16x1x64

variable [Facts]

def fn_part3 {F : FTy → Type} [FloatOps F] (main_arg4 : FVec F S16x2x64 .f32) (main_v4 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S16x1x64 .f32 := (extractStridedSlice S16x1x64 ![0, 1, 0] · slices_S16x2x64_S16x1x64_0_1_0) main_arg4
  let main_v55 : FVec F S16x64 .f32 := shapeCast S16x64 main_v54 shapeCasts_S16x1x64_S16x64
  let main_cst_20 : FVec F S_ .f32 := constant S_ .f32 0x00000000#32
  let main_v56 : FVec F S64 .f32 := (fun x v => Host.reduceAdd x v reducesTo_S16x64_S64_d0 h_S_) main_v55 main_cst_20
  let main_cst_21 : FVec F S_ .f32 := constant S_ .f32 0x48000000#32
  let main_v57 : FVec F S64 .f32 := broadcastInDim S64 ![] bcast_S_S64 main_cst_21
  let main_v58 : FVec F S64 .f32 := Host.divf main_v56 main_v57
  let main_v59 : FVec F S64 .f32 := mulf main_v4 main_v4
  let main_v60 : FVec F S64 .f32 := subf main_v58 main_v59
  let main_cst_22 : FVec F S_ .f32 := constant S_ .f32 0x00000000#32
  let main_v61 : FVec F S64 .f32 := broadcastInDim S64 ![] bcast_S_S64 main_cst_22
  let main_v62 : IVec S64 1 := cmpf .oge main_v60 main_v61
  let main_c_23 : IVec S_ 1 := constantI S_ 1 1#1
  let main_v63 : IVec S_ 1 := (fun x v => Host.reduce IntOp.andi x v reducesTo_S64_S_d0 h_S_) main_v62 main_c_23
  let main_v64 : IVec S_ 1 := andi main_v53 main_v63
  main_v64

def fn_part2 {F : FTy → Type} [FloatOps F] (main_arg4 : FVec F S16x2x64 .f32) (main_arg6 : FVec F S64 .f32) (main_arg7 : FVec F S67x128 .f32) (main_arg8 : FVec F S128 .f32) (main_arg9 : FVec F S128 .f32) (main_v4 : FVec F S64 .f32) (main_v33 : IVec S_ 1) : IVec S_ 1 :=
  let main_v34 : FVec F S64 .f32 := Host.absf main_arg6
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S67x128 .f32 := Host.absf main_arg7
  let main_cst_14 : FVec F S_ .f32 := constant S_ .f32 0x7F800000#32
  let main_v40 : FVec F S67x128 .f32 := broadcastInDim S67x128 ![] bcast_S_S67x128 main_cst_14
  let main_v41 : IVec S67x128 1 := cmpf .olt main_v39 main_v40
  let main_c_15 : IVec S_ 1 := constantI S_ 1 1#1
  let main_v42 : IVec S_ 1 := (fun x v => Host.reduce IntOp.andi x v reducesTo_S67x128_S_d0_1 h_S_) main_v41 main_c_15
  let main_v43 : IVec S_ 1 := andi main_v38 main_v42
  let main_v44 : FVec F S128 .f32 := Host.absf main_arg8
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg9
  let main_cst_18 : FVec F S_ .f32 := constant S_ .f32 0x7F800000#32
  let main_v50 : FVec F S128 .f32 := broadcastInDim S128 ![] bcast_S_S128 main_cst_18
  fn_part3 (F := F) main_arg4 main_v4 main_v48 main_v49 main_v50

def fn_part1 {F : FTy → Type} [FloatOps F] (main_arg3 : FVec F S16x512x64 .f32) (main_arg4 : FVec F S16x2x64 .f32) (main_arg5 : FVec F S64 .f32) (main_arg6 : FVec F S64 .f32) (main_arg7 : FVec F S67x128 .f32) (main_arg8 : FVec F S128 .f32) (main_arg9 : FVec F S128 .f32) (main_v4 : FVec F S64 .f32) (main_v13 : IVec S_ 1) (main_v16 : IVec S16x512x64 1) : IVec S_ 1 :=
  let main_c_5 : IVec S_ 1 := constantI S_ 1 1#1
  let main_v17 : IVec S_ 1 := (fun x v => Host.reduce IntOp.andi x v reducesTo_S16x512x64_S_d0_1_2 h_S_) main_v16 main_c_5
  let main_v18 : IVec S_ 1 := andi main_v13 main_v17
  let main_v19 : FVec F S16x512x64 .f32 := Host.absf main_arg3
  let main_cst_6 : FVec F S_ .f32 := constant S_ .f32 0x7F800000#32
  let main_v20 : FVec F S16x512x64 .f32 := broadcastInDim S16x512x64 ![] bcast_S_S16x512x64 main_cst_6
  let main_v21 : IVec S16x512x64 1 := cmpf .olt main_v19 main_v20
  let main_c_7 : IVec S_ 1 := constantI S_ 1 1#1
  let main_v22 : IVec S_ 1 := (fun x v => Host.reduce IntOp.andi x v reducesTo_S16x512x64_S_d0_1_2 h_S_) main_v21 main_c_7
  let main_v23 : IVec S_ 1 := andi main_v18 main_v22
  let main_v24 : FVec F S16x2x64 .f32 := Host.absf main_arg4
  let main_cst_8 : FVec F S_ .f32 := constant S_ .f32 0x7F800000#32
  let main_v25 : FVec F S16x2x64 .f32 := broadcastInDim S16x2x64 ![] bcast_S_S16x2x64 main_cst_8
  let main_v26 : IVec S16x2x64 1 := cmpf .olt main_v24 main_v25
  let main_c_9 : IVec S_ 1 := constantI S_ 1 1#1
  let main_v27 : IVec S_ 1 := (fun x v => Host.reduce IntOp.andi x v reducesTo_S16x2x64_S_d0_1_2 h_S_) main_v26 main_c_9
  let main_v28 : IVec S_ 1 := andi main_v23 main_v27
  let main_v29 : FVec F S64 .f32 := Host.absf main_arg5
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg4 main_arg6 main_arg7 main_arg8 main_arg9 main_v4 main_v33

def fn {F : FTy → Type} [FloatOps F] (main_arg0 : FVec F S16x3x512 .f32) (main_arg1 : FVec F S16x3x128 .f32) (main_arg2 : FVec F S16x512x64 .f32) (main_arg3 : FVec F S16x512x64 .f32) (main_arg4 : FVec F S16x2x64 .f32) (main_arg5 : FVec F S64 .f32) (main_arg6 : FVec F S64 .f32) (main_arg7 : FVec F S67x128 .f32) (main_arg8 : FVec F S128 .f32) (main_arg9 : FVec F S128 .f32) : IVec S_ 1 :=
  let main_v0 : FVec F S16x1x64 .f32 := (extractStridedSlice S16x1x64 ![0, 0, 0] · slices_S16x2x64_S16x1x64_0_0_0) main_arg4
  let main_v1 : FVec F S16x64 .f32 := shapeCast S16x64 main_v0 shapeCasts_S16x1x64_S16x64
  let main_cst : FVec F S_ .f32 := constant S_ .f32 0x00000000#32
  let main_v2 : FVec F S64 .f32 := (fun x v => Host.reduceAdd x v reducesTo_S16x64_S64_d0 h_S_) main_v1 main_cst
  let main_cst_0 : FVec F S_ .f32 := constant S_ .f32 0x48000000#32
  let main_v3 : FVec F S64 .f32 := broadcastInDim S64 ![] bcast_S_S64 main_cst_0
  let main_v4 : FVec F S64 .f32 := Host.divf main_v2 main_v3
  let main_v5 : FVec F S16x3x512 .f32 := Host.absf main_arg0
  let main_cst_1 : FVec F S_ .f32 := constant S_ .f32 0x7F800000#32
  let main_v6 : FVec F S16x3x512 .f32 := broadcastInDim S16x3x512 ![] bcast_S_S16x3x512 main_cst_1
  let main_v7 : IVec S16x3x512 1 := cmpf .olt main_v5 main_v6
  let main_c : IVec S_ 1 := constantI S_ 1 1#1
  let main_v8 : IVec S_ 1 := (fun x v => Host.reduce IntOp.andi x v reducesTo_S16x3x512_S_d0_1_2 h_S_) main_v7 main_c
  let main_v9 : FVec F S16x3x128 .f32 := Host.absf main_arg1
  let main_cst_2 : FVec F S_ .f32 := constant S_ .f32 0x7F800000#32
  let main_v10 : FVec F S16x3x128 .f32 := broadcastInDim S16x3x128 ![] bcast_S_S16x3x128 main_cst_2
  let main_v11 : IVec S16x3x128 1 := cmpf .olt main_v9 main_v10
  let main_c_3 : IVec S_ 1 := constantI S_ 1 1#1
  let main_v12 : IVec S_ 1 := (fun x v => Host.reduce IntOp.andi x v reducesTo_S16x3x128_S_d0_1_2 h_S_) main_v11 main_c_3
  let main_v13 : IVec S_ 1 := andi main_v8 main_v12
  let main_v14 : FVec F S16x512x64 .f32 := Host.absf main_arg2
  let main_cst_4 : FVec F S_ .f32 := constant S_ .f32 0x7F800000#32
  let main_v15 : FVec F S16x512x64 .f32 := broadcastInDim S16x512x64 ![] bcast_S_S16x512x64 main_cst_4
  let main_v16 : IVec S16x512x64 1 := cmpf .olt main_v14 main_v15
  fn_part1 (F := F) main_arg3 main_arg4 main_arg5 main_arg6 main_arg7 main_arg8 main_arg9 main_v4 main_v13 main_v16
-- ==== Kernel.lean ====
abbrev S32768x3 : Shape := ⟨2, ![32768, 3]⟩
abbrev S16x3x512 : Shape := ⟨3, ![16, 3, 512]⟩
abbrev S32768x32 : Shape := ⟨2, ![32768, 32]⟩
abbrev S1x2x32 : Shape := ⟨3, ![1, 2, 32]⟩
abbrev S32 : Shape := ⟨1, ![32]⟩
abbrev S35x64 : Shape := ⟨2, ![35, 64]⟩
abbrev S16x2048x3 : Shape := ⟨3, ![16, 2048, 3]⟩
abbrev S16x3x2048 : Shape := ⟨3, ![16, 3, 2048]⟩
abbrev S16x2048x32 : Shape := ⟨3, ![16, 2048, 32]⟩
abbrev S16x512x3 : Shape := ⟨3, ![16, 512, 3]⟩
abbrev S1x32 : Shape := ⟨2, ![1, 32]⟩
abbrev S16x512x64 : Shape := ⟨3, ![16, 512, 64]⟩
abbrev S16x2x64 : Shape := ⟨3, ![16, 2, 64]⟩
abbrev S1x2048x3 : Shape := ⟨3, ![1, 2048, 3]⟩
abbrev S1x3x2048 : Shape := ⟨3, ![1, 3, 2048]⟩
abbrev S1x512x3 : Shape := ⟨3, ![1, 512, 3]⟩
abbrev S1x2048x32 : Shape := ⟨3, ![1, 2048, 32]⟩
abbrev S1x512x64 : Shape := ⟨3, ![1, 512, 64]⟩
abbrev S1x2x64 : Shape := ⟨3, ![1, 2, 64]⟩
abbrev S512x2048 : Shape := ⟨2, ![512, 2048]⟩
abbrev S2048x128 : Shape := ⟨2, ![2048, 128]⟩
abbrev S2048x32 : Shape := ⟨2, ![2048, 32]⟩
abbrev S1x1x32 : Shape := ⟨3, ![1, 1, 32]⟩
abbrev S3x64 : Shape := ⟨2, ![3, 64]⟩
abbrev S32x64 : Shape := ⟨2, ![32, 64]⟩
abbrev S2048x3 : Shape := ⟨2, ![2048, 3]⟩
abbrev S512x3 : Shape := ⟨2, ![512, 3]⟩
abbrev S2048x64 : Shape := ⟨2, ![2048, 64]⟩
abbrev S512x64 : Shape := ⟨2, ![512, 64]⟩
abbrev S3x2048 : Shape := ⟨2, ![3, 2048]⟩
abbrev S512x1 : Shape := ⟨2, ![512, 1]⟩
abbrev S1x2048 : Shape := ⟨2, ![1, 2048]⟩
abbrev S1x64 : Shape := ⟨2, ![1, 64]⟩
abbrev S512 : Shape := ⟨1, ![512]⟩
abbrev S512x128 : Shape := ⟨2, ![512, 128]⟩
abbrev S64 : Shape := ⟨1, ![64]⟩
abbrev S1x1x64 : Shape := ⟨3, ![1, 1, 64]⟩

abbrev nBuf : Space → Nat
  | .hbm => 16
  | .vmem => 22
  | .smem => 0
  | _ => 0

abbrev bufTy : (tb : Table) → Fin (tcTables nBuf tb) → BufTy
  | .hbm, ⟨0, _⟩ => ⟨S32768x3, .f32⟩
  | .hbm, ⟨1, _⟩ => ⟨S16x3x512, .f32⟩
  | .hbm, ⟨2, _⟩ => ⟨S32768x32, .f32⟩
  | .hbm, ⟨3, _⟩ => ⟨S1x2x32, .f32⟩
  | .hbm, ⟨4, _⟩ => ⟨S32, .f32⟩
  | .hbm, ⟨5, _⟩ => ⟨S32, .f32⟩
  | .hbm, ⟨6, _⟩ => ⟨S35x64, .f32⟩
  | .hbm, ⟨7, _⟩ => ⟨S16x2048x3, .f32⟩
  | .hbm, ⟨8, _⟩ => ⟨S16x3x2048, .f32⟩
  | .hbm, ⟨9, _⟩ => ⟨S16x2048x32, .f32⟩
  | .hbm, ⟨10, _⟩ => ⟨S16x512x3, .f32⟩
  | .hbm, ⟨11, _⟩ => ⟨S1x32, .f32⟩
  | .hbm, ⟨12, _⟩ => ⟨S1x32, .f32⟩
  | .hbm, ⟨13, _⟩ => ⟨S16x512x64, .f32⟩
  | .hbm, ⟨14, _⟩ => ⟨S16x512x64, .f32⟩
  | .hbm, ⟨15, _⟩ => ⟨S16x2x64, .f32⟩
  | .local _ .vmem, ⟨0, _⟩ => ⟨S1x2048x3, .f32⟩
  | .local _ .vmem, ⟨1, _⟩ => ⟨S1x2048x3, .f32⟩
  | .local _ .vmem, ⟨2, _⟩ => ⟨S1x3x2048, .f32⟩
  | .local _ .vmem, ⟨3, _⟩ => ⟨S1x3x2048, .f32⟩
  | .local _ .vmem, ⟨4, _⟩ => ⟨S1x512x3, .f32⟩
  | .local _ .vmem, ⟨5, _⟩ => ⟨S1x512x3, .f32⟩
  | .local _ .vmem, ⟨6, _⟩ => ⟨S1x2048x32, .f32⟩
  | .local _ .vmem, ⟨7, _⟩ => ⟨S1x2048x32, .f32⟩
  | .local _ .vmem, ⟨8, _⟩ => ⟨S1x2048x32, .f32⟩
  | .local _ .vmem, ⟨9, _⟩ => ⟨S1x2048x32, .f32⟩
  | .local _ .vmem, ⟨10, _⟩ => ⟨S1x2x32, .f32⟩
  | .local _ .vmem, ⟨11, _⟩ => ⟨S1x32, .f32⟩
  | .local _ .vmem, ⟨12, _⟩ => ⟨S1x32, .f32⟩
  | .local _ .vmem, ⟨13, _⟩ => ⟨S35x64, .f32⟩
  | .local _ .vmem, ⟨14, _⟩ => ⟨S1x512x64, .f32⟩
  | .local _ .vmem, ⟨15, _⟩ => ⟨S1x512x64, .f32⟩
  | .local _ .vmem, ⟨16, _⟩ => ⟨S1x512x64, .f32⟩
  | .local _ .vmem, ⟨17, _⟩ => ⟨S1x512x64, .f32⟩
  | .local _ .vmem, ⟨18, _⟩ => ⟨S1x2x64, .f32⟩
  | .local _ .vmem, ⟨19, _⟩ => ⟨S1x2x64, .f32⟩
  | .local _ .vmem, ⟨20, _⟩ => ⟨S512x2048, .f32⟩
  | .local _ .vmem, ⟨21, _⟩ => ⟨S2048x128, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v88 : BitVec 32 := Scalar.addi c0_i32 c16_i32
  let c1_i32 : BitVec 32 := 1#32
  ⟨c0_i32, v88, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S35x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask_big" => some ⊤
  | "neg_big" => some ⊥
  | "pos_big" => some ⊤
  | _ => none
-- ==== ReferenceIdeal.lean ====
abbrev S32768x3 : Shape := ⟨2, ![32768, 3]⟩
abbrev S16x3x512 : Shape := ⟨3, ![16, 3, 512]⟩
abbrev S32768x32 : Shape := ⟨2, ![32768, 32]⟩
abbrev S1x2x32 : Shape := ⟨3, ![1, 2, 32]⟩
abbrev S32 : Shape := ⟨1, ![32]⟩
abbrev S35x64 : Shape := ⟨2, ![35, 64]⟩
abbrev S16x2048x3 : Shape := ⟨3, ![16, 2048, 3]⟩
abbrev S16x512x3 : Shape := ⟨3, ![16, 512, 3]⟩
abbrev S16x2048x32 : Shape := ⟨3, ![16, 2048, 32]⟩
abbrev S1x1x32 : Shape := ⟨3, ![1, 1, 32]⟩
abbrev S_ : Shape := ⟨0, ![]⟩
abbrev S16x512x1x3 : Shape := ⟨4, ![16, 512, 1, 3]⟩
abbrev S16x1x2048x3 : Shape := ⟨4, ![16, 1, 2048, 3]⟩
abbrev S16x512x2048x3 : Shape := ⟨4, ![16, 512, 2048, 3]⟩
abbrev S16x512x2048 : Shape := ⟨3, ![16, 512, 2048]⟩
abbrev S16x512x16 : Shape := ⟨3, ![16, 512, 16]⟩
abbrev S16x512x16x1 : Shape := ⟨4, ![16, 512, 16, 1]⟩
abbrev S16x512x16x3 : Shape := ⟨4, ![16, 512, 16, 3]⟩
abbrev S16x512x16x32 : Shape := ⟨4, ![16, 512, 16, 32]⟩
abbrev S16x512x16x35 : Shape := ⟨4, ![16, 512, 16, 35]⟩
abbrev S16x512x16x64 : Shape := ⟨4, ![16, 512, 16, 64]⟩
abbrev S16x64 : Shape := ⟨2, ![16, 64]⟩
abbrev S16x1x64 : Shape := ⟨3, ![16, 1, 64]⟩
abbrev S16x2x64 : Shape := ⟨3, ![16, 2, 64]⟩
abbrev S16x512x64 : Shape := ⟨3, ![16, 512, 64]⟩

abbrev nBuf : Space → Nat
  | .hbm => 87
  | .vmem => 0
  | .smem => 0
  | _ => 0

abbrev bufTy : (tb : Table) → Fin (tcTables nBuf tb) → BufTy
  | .hbm, ⟨0, _⟩ => ⟨S32768x3, .f32⟩
  | .hbm, ⟨1, _⟩ => ⟨S16x3x512, .f32⟩
  | .hbm, ⟨2, _⟩ => ⟨S32768x32, .f32⟩
  | .hbm, ⟨3, _⟩ => ⟨S1x2x32, .f32⟩
  | .hbm, ⟨4, _⟩ => ⟨S32, .f32⟩
  | .hbm, ⟨5, _⟩ => ⟨S32, .f32⟩
  | .hbm, ⟨6, _⟩ => ⟨S35x64, .f32⟩
  | .hbm, ⟨7, _⟩ => ⟨S16x2048x3, .f32⟩
  | .hbm, ⟨8, _⟩ => ⟨S16x512x3, .f32⟩
  | .hbm, ⟨9, _⟩ => ⟨S16x2048x32, .f32⟩
  | .hbm, ⟨10, _⟩ => ⟨S1x1x32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x1x32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S1x1x32, .f32⟩
  | .hbm, ⟨23, _⟩ => ⟨S16x2048x32, .f32⟩
  | .hbm, ⟨24, _⟩ => ⟨S16x2048x32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S1x1x32, .f32⟩
  | .hbm, ⟨30, _⟩ => ⟨S16x2048x32, .f32⟩
  | .hbm, ⟨31, _⟩ => ⟨S16x2048x32, .f32⟩
  | .hbm, ⟨32, _⟩ => ⟨S1x1x32, .f32⟩
  | .hbm, ⟨33, _⟩ => ⟨S16x2048x32, .f32⟩
  | .hbm, ⟨34, _⟩ => ⟨S16x2048x32, .f32⟩
  | .hbm, ⟨35, _⟩ => ⟨S1x1x32, .f32⟩
  | .hbm, ⟨36, _⟩ => ⟨S16x2048x32, .f32⟩
  | .hbm, ⟨37, _⟩ => ⟨S16x2048x32, .f32⟩
  | .hbm, ⟨38, _⟩ => ⟨S_, .f32⟩
  | .hbm, ⟨39, _⟩ => ⟨S16x2048x32, .f32⟩
  | .hbm, ⟨40, _⟩ => ⟨S16x2048x32, .f32⟩
  | .hbm, ⟨41, _⟩ => ⟨S16x512x1x3, .f32⟩
  | .hbm, ⟨42, _⟩ => ⟨S16x1x2048x3, .f32⟩
  | .hbm, ⟨43, _⟩ => ⟨S16x512x2048x3, .f32⟩
  | .hbm, ⟨44, _⟩ => ⟨S16x512x2048x3, .f32⟩
  | .hbm, ⟨45, _⟩ => ⟨S16x512x2048x3, .f32⟩
  | .hbm, ⟨46, _⟩ => ⟨S16x512x2048x3, .f32⟩
  | .hbm, ⟨47, _⟩ => ⟨S_, .f32⟩
  | .hbm, ⟨48, _⟩ => ⟨S16x512x2048, .f32⟩
  | .hbm, ⟨49, _⟩ => ⟨S16x512x2048, .f32⟩
  | .hbm, ⟨50, _⟩ => ⟨S16x512x16, .f32⟩
  | .hbm, ⟨51, _⟩ => ⟨S16x512x16, .i32⟩
  | .hbm, ⟨52, _⟩ => ⟨S_, .i32⟩
  | .hbm, ⟨53, _⟩ => ⟨S16x512x16, .i32⟩
  | .hbm, ⟨54, _⟩ => ⟨S16x512x16, .i1⟩
  | .hbm, ⟨55, _⟩ => ⟨S_, .i32⟩
  | .hbm, ⟨56, _⟩ => ⟨S16x512x16, .i32⟩
  | .hbm, ⟨57, _⟩ => ⟨S16x512x16, .i32⟩
  | .hbm, ⟨58, _⟩ => ⟨S16x512x16, .i32⟩
  | .hbm, ⟨59, _⟩ => ⟨S16x512x16x1, .i32⟩
  | .hbm, ⟨60, _⟩ => ⟨S16x512x16x3, .f32⟩
  | .hbm, ⟨61, _⟩ => ⟨S_, .i32⟩
  | .hbm, ⟨62, _⟩ => ⟨S16x512x16, .i32⟩
  | .hbm, ⟨63, _⟩ => ⟨S16x512x16, .i1⟩
  | .hbm, ⟨64, _⟩ => ⟨S_, .i32⟩
  | .hbm, ⟨65, _⟩ => ⟨S16x512x16, .i32⟩
  | .hbm, ⟨66, _⟩ => ⟨S16x512x16, .i32⟩
  | .hbm, ⟨67, _⟩ => ⟨S16x512x16, .i32⟩
  | .hbm, ⟨68, _⟩ => ⟨S16x512x16x1, .i32⟩
  | .hbm, ⟨69, _⟩ => ⟨S16x512x16x32, .f32⟩
  | .hbm, ⟨70, _⟩ => ⟨S16x512x1x3, .f32⟩
  | .hbm, ⟨71, _⟩ => ⟨S16x512x16x3, .f32⟩
  | .hbm, ⟨72, _⟩ => ⟨S16x512x16x3, .f32⟩
  | .hbm, ⟨73, _⟩ => ⟨S16x512x16x35, .f32⟩
  | .hbm, ⟨74, _⟩ => ⟨S16x512x16x64, .f32⟩
  | .hbm, ⟨75, _⟩ => ⟨S_, .f32⟩
  | .hbm, ⟨76, _⟩ => ⟨S16x64, .f32⟩
  | .hbm, ⟨77, _⟩ => ⟨S16x512x16x64, .f32⟩
  | .hbm, ⟨78, _⟩ => ⟨S_, .f32⟩
  | .hbm, ⟨79, _⟩ => ⟨S16x64, .f32⟩
  | .hbm, ⟨80, _⟩ => ⟨S16x1x64, .f32⟩
  | .hbm, ⟨81, _⟩ => ⟨S16x1x64, .f32⟩
  | .hbm, ⟨82, _⟩ => ⟨S16x2x64, .f32⟩
  | .hbm, ⟨83, _⟩ => ⟨S_, .f32⟩
  | .hbm, ⟨84, _⟩ => ⟨S16x512x64, .f32⟩
  | .hbm, ⟨85, _⟩ => ⟨S_, .f32⟩
  | .hbm, ⟨86, _⟩ => ⟨S16x512x64, .f32⟩
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_values : Ref sig .tc := ⟨.hbm, 50, rfl⟩
abbrev main_indices : Ref sig .tc := ⟨.hbm, 51, rfl⟩
abbrev main_c : Ref sig .tc := ⟨.hbm, 52, rfl⟩
abbrev main_v37 : Ref sig .tc := ⟨.hbm, 53, rfl⟩
abbrev main_v38 : Ref sig .tc := ⟨.hbm, 54, rfl⟩
abbrev main_c_3 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_4 : Ref sig .tc := ⟨.hbm, 61, rfl⟩
abbrev main_v44 : Ref sig .tc := ⟨.hbm, 62, rfl⟩
abbrev main_v45 : Ref sig .tc := ⟨.hbm, 63, rfl⟩
abbrev main_c_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_8 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Tail.lean ====
abbrev S2048x128 : Shape := ⟨2, ![2048, 128]⟩
abbrev S16x3x128 : Shape := ⟨3, ![16, 3, 128]⟩
abbrev S16x3x32 : Shape := ⟨3, ![16, 3, 32]⟩
abbrev S16x3x8 : Shape := ⟨3, ![16, 3, 8]⟩
abbrev S131x256 : Shape := ⟨2, ![131, 256]⟩
abbrev S256 : Shape := ⟨1, ![256]⟩
abbrev S259x512 : Shape := ⟨2, ![259, 512]⟩
abbrev S512 : Shape := ⟨1, ![512]⟩
abbrev S512x512 : Shape := ⟨2, ![512, 512]⟩
abbrev S512x6 : Shape := ⟨2, ![512, 6]⟩
abbrev S6 : Shape := ⟨1, ![6]⟩
abbrev S16x128x3 : Shape := ⟨3, ![16, 128, 3]⟩
abbrev S16x32x3 : Shape := ⟨3, ![16, 32, 3]⟩
abbrev S16x8x3 : Shape := ⟨3, ![16, 8, 3]⟩
abbrev S2048x3 : Shape := ⟨2, ![2048, 3]⟩
abbrev S512x3 : Shape := ⟨2, ![512, 3]⟩
abbrev S128x3 : Shape := ⟨2, ![128, 3]⟩
abbrev S1x256 : Shape := ⟨2, ![1, 256]⟩
abbrev S1x512 : Shape := ⟨2, ![1, 512]⟩
abbrev S1x6 : Shape := ⟨2, ![1, 6]⟩
abbrev S16x6 : Shape := ⟨2, ![16, 6]⟩
abbrev S2048x512 : Shape := ⟨2, ![2048, 512]⟩
abbrev S512x128 : Shape := ⟨2, ![512, 128]⟩
abbrev S512x256 : Shape := ⟨2, ![512, 256]⟩
abbrev S512x1024 : Shape := ⟨2, ![512, 1024]⟩
abbrev S128x32 : Shape := ⟨2, ![128, 32]⟩
abbrev S128x1024 : Shape := ⟨2, ![128, 1024]⟩
abbrev S128x512 : Shape := ⟨2, ![128, 512]⟩
abbrev S3x256 : Shape := ⟨2, ![3, 256]⟩
abbrev S128x256 : Shape := ⟨2, ![128, 256]⟩
abbrev S2048x256 : Shape := ⟨2, ![2048, 256]⟩
abbrev S16x1x128 : Shape := ⟨3, ![16, 1, 128]⟩
abbrev S16x128 : Shape := ⟨2, ![16, 128]⟩
abbrev S16x32x128 : Shape := ⟨3, ![16, 32, 128]⟩
abbrev S512x1 : Shape := ⟨2, ![512, 1]⟩
abbrev S32x128 : Shape := ⟨2, ![32, 128]⟩
abbrev S32x512 : Shape := ⟨2, ![32, 512]⟩
abbrev S3x512 : Shape := ⟨2, ![3, 512]⟩
abbrev S256x512 : Shape := ⟨2, ![256, 512]⟩
abbrev S16x1x32 : Shape := ⟨3, ![16, 1, 32]⟩
abbrev S16x32 : Shape := ⟨2, ![16, 32]⟩
abbrev S16x8x32 : Shape := ⟨3, ![16, 8, 32]⟩
abbrev S128x1 : Shape := ⟨2, ![128, 1]⟩
abbrev S128 : Shape := ⟨1, ![128]⟩
abbrev S8x32 : Shape := ⟨2, ![8, 32]⟩
abbrev S32x1024 : Shape := ⟨2, ![32, 1024]⟩
abbrev S8x1024 : Shape := ⟨2, ![8, 1024]⟩
abbrev S16x8x512 : Shape := ⟨3, ![16, 8, 512]⟩
abbrev S16x512 : Shape := ⟨2, ![16, 512]⟩

abbrev nBuf : Space → Nat
  | .hbm => 27
  | .vmem => 29
  | .smem => 0
  | _ => 0

abbrev bufTy : (tb : Table) → Fin (tcTables nBuf tb) → BufTy
  | .hbm, ⟨0, _⟩ => ⟨S2048x128, .f32⟩
  | .hbm, ⟨1, _⟩ => ⟨S16x3x128, .f32⟩
  | .hbm, ⟨2, _⟩ => ⟨S16x3x32, .f32⟩
  | .hbm, ⟨3, _⟩ => ⟨S16x3x8, .f32⟩
  | .hbm, ⟨4, _⟩ => ⟨S131x256, .f32⟩
  | .hbm, ⟨5, _⟩ => ⟨S256, .f32⟩
  | .hbm, ⟨6, _⟩ => ⟨S256, .f32⟩
  | .hbm, ⟨7, _⟩ => ⟨S259x512, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x6, .f32⟩
  | .hbm, ⟨13, _⟩ => ⟨S6, .f32⟩
  | .hbm, ⟨14, _⟩ => ⟨S16x128x3, .f32⟩
  | .hbm, ⟨15, _⟩ => ⟨S16x32x3, .f32⟩
  | .hbm, ⟨16, _⟩ => ⟨S16x8x3, .f32⟩
  | .hbm, ⟨17, _⟩ => ⟨S2048x3, .f32⟩
  | .hbm, ⟨18, _⟩ => ⟨S512x3, .f32⟩
  | .hbm, ⟨19, _⟩ => ⟨S128x3, .f32⟩
  | .hbm, ⟨20, _⟩ => ⟨S1x256, .f32⟩
  | .hbm, ⟨21, _⟩ => ⟨S1x256, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x6, .f32⟩
  | .hbm, ⟨26, _⟩ => ⟨S16x6, .f32⟩
  | .local _ .vmem, ⟨0, _⟩ => ⟨S2048x128, .f32⟩
  | .local _ .vmem, ⟨1, _⟩ => ⟨S2048x3, .f32⟩
  | .local _ .vmem, ⟨2, _⟩ => ⟨S16x3x128, .f32⟩
  | .local _ .vmem, ⟨3, _⟩ => ⟨S512x3, .f32⟩
  | .local _ .vmem, ⟨4, _⟩ => ⟨S16x3x32, .f32⟩
  | .local _ .vmem, ⟨5, _⟩ => ⟨S128x3, .f32⟩
  | .local _ .vmem, ⟨6, _⟩ => ⟨S131x256, .f32⟩
  | .local _ .vmem, ⟨7, _⟩ => ⟨S1x256, .f32⟩
  | .local _ .vmem, ⟨8, _⟩ => ⟨S1x256, .f32⟩
  | .local _ .vmem, ⟨9, _⟩ => ⟨S259x512, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S512x6, .f32⟩
  | .local _ .vmem, ⟨15, _⟩ => ⟨S1x6, .f32⟩
  | .local _ .vmem, ⟨16, _⟩ => ⟨S16x6, .f32⟩
  | .local _ .vmem, ⟨17, _⟩ => ⟨S2048x512, .f32⟩
  | .local _ .vmem, ⟨18, _⟩ => ⟨S512x128, .f32⟩
  | .local _ .vmem, ⟨19, _⟩ => ⟨S512x128, .f32⟩
  | .local _ .vmem, ⟨20, _⟩ => ⟨S512x512, .f32⟩
  | .local _ .vmem, ⟨21, _⟩ => ⟨S512x256, .f32⟩
  | .local _ .vmem, ⟨22, _⟩ => ⟨S512x256, .f32⟩
  | .local _ .vmem, ⟨23, _⟩ => ⟨S512x1024, .f32⟩
  | .local _ .vmem, ⟨24, _⟩ => ⟨S128x32, .f32⟩
  | .local _ .vmem, ⟨25, _⟩ => ⟨S128x32, .f32⟩
  | .local _ .vmem, ⟨26, _⟩ => ⟨S128x1024, .f32⟩
  | .local _ .vmem, ⟨27, _⟩ => ⟨S128x512, .f32⟩
  | .local _ .vmem, ⟨28, _⟩ => ⟨S128x512, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v69 : BitVec 32 := Scalar.addi c0_i32 c16_i32
  let c1_i32 : BitVec 32 := 1#32
  ⟨c0_i32, v69, c1_i32⟩
@[reducible] def k0_t2_loop : Scf.Loop 32 :=
  let c0_i32_114 : BitVec 32 := 0#32
  let c16_i32_115 : BitVec 32 := 16#32
  let v234 : BitVec 32 := Scalar.addi c0_i32_114 c16_i32_115
  let c1_i32_116 : BitVec 32 := 1#32
  ⟨c0_i32_114, v234, c1_i32_116⟩
def k0_off1 (k0_t2 : Fin k0_t2_loop.trips) : Fin 2 → Nat :=
  let c0_i32_114 : BitVec 32 := 0#32
  let c1_i32_116 : BitVec 32 := 1#32
  let arg32 : BitVec 32 := Scf.iv c0_i32_114 c1_i32_116 k0_t2
  let c32_i32 : BitVec 32 := 32#32
  let v257 : BitVec 32 := Scalar.muli arg32 c32_i32
  let v258 : Index := Scalar.indexCast v257
  let c0_130 : Index := 0#32
  ![v258.toNat, 0]
def k0_off2 (k0_t2 : Fin k0_t2_loop.trips) : Fin 2 → Nat :=
  let c0_i32_114 : BitVec 32 := 0#32
  let c1_i32_116 : BitVec 32 := 1#32
  let arg32 : BitVec 32 := Scf.iv c0_i32_114 c1_i32_116 k0_t2
  let c128_i32_131 : BitVec 32 := 128#32
  let v260 : BitVec 32 := Scalar.muli arg32 c128_i32_131
  let v261 : Index := Scalar.indexCast v260
  let c0_132 : Index := 0#32
  ![v261.toNat, 0]
def k0_off3 (k0_t2 : Fin k0_t2_loop.trips) : Fin 2 → Nat :=
  let c0_i32_114 : BitVec 32 := 0#32
  let c1_i32_116 : BitVec 32 := 1#32
  let arg32 : BitVec 32 := Scf.iv c0_i32_114 c1_i32_116 k0_t2
  let c32_i32_134 : BitVec 32 := 32#32
  let v264 : BitVec 32 := Scalar.muli arg32 c32_i32_134
  let v265 : Index := Scalar.indexCast v264
  let c0_135 : Index := 0#32
  ![v265.toNat, 0]
@[reducible] def k0_t3_loop : Scf.Loop 32 :=
  let c0_i32_78 : BitVec 32 := 0#32
  let c16_i32_79 : BitVec 32 := 16#32
  let v165 : BitVec 32 := Scalar.addi c0_i32_78 c16_i32_79
  let c1_i32_80 : BitVec 32 := 1#32
  ⟨c0_i32_78, v165, c1_i32_80⟩
@[reducible] def k0_t4_loop : Scf.Loop 32 :=
  let c0_i32_114 : BitVec 32 := 0#32
  let c16_i32_115 : BitVec 32 := 16#32
  let v234 : BitVec 32 := Scalar.addi c0_i32_114 c16_i32_115
  let c1_i32_116 : BitVec 32 := 1#32
  ⟨c0_i32_114, v234, c1_i32_116⟩
def k0_off4 (k0_t4 : Fin k0_t4_loop.trips) : Fin 2 → Nat :=
  let c0_i32_114 : BitVec 32 := 0#32
  let c1_i32_116 : BitVec 32 := 1#32
  let arg32 : BitVec 32 := Scf.iv c0_i32_114 c1_i32_116 k0_t4
  let c8_i32 : BitVec 32 := 8#32
  let v257 : BitVec 32 := Scalar.muli arg32 c8_i32
  let v258 : Index := Scalar.indexCast v257
  let c0_130 : Index := 0#32
  ![v258.toNat, 0]
def k0_off5 (k0_t4 : Fin k0_t4_loop.trips) : Fin 2 → Nat :=
  let c0_i32_114 : BitVec 32 := 0#32
  let c1_i32_116 : BitVec 32 := 1#32
  let arg32 : BitVec 32 := Scf.iv c0_i32_114 c1_i32_116 k0_t4
  let c32_i32_131 : BitVec 32 := 32#32
  let v260 : BitVec 32 := Scalar.muli arg32 c32_i32_131
  let v261 : Index := Scalar.indexCast v260
  let c0_132 : Index := 0#32
  ![v261.toNat, 0]
def k0_off6 (k0_t4 : Fin k0_t4_loop.trips) : Fin 2 → Nat :=
  let c0_i32_114 : BitVec 32 := 0#32
  let c1_i32_116 : BitVec 32 := 1#32
  let arg32 : BitVec 32 := Scf.iv c0_i32_114 c1_i32_116 k0_t4
  let c8_i32_134 : BitVec 32 := 8#32
  let v264 : BitVec 32 := Scalar.muli arg32 c8_i32_134
  let v265 : Index := Scalar.indexCast v264
  let c0_135 : Index := 0#32
  ![v265.toNat, 0]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x3x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S131x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S259x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x6 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x6 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x6 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== TailIdeal.lean ====
variable {F : FTy → Type} [FloatOps F] [Named F]
def κ : String → Option EReal := fun
  | "mask_big" => some ⊤
  | "neg_big" => some ⊥
  | "pos_big" => some ⊤
  | _ => none
-- ==== TailReferenceIdeal.lean ====
abbrev S2048x128 : Shape := ⟨2, ![2048, 128]⟩
abbrev S16x3x128 : Shape := ⟨3, ![16, 3, 128]⟩
abbrev S16x3x32 : Shape := ⟨3, ![16, 3, 32]⟩
abbrev S16x3x8 : Shape := ⟨3, ![16, 3, 8]⟩
abbrev S131x256 : Shape := ⟨2, ![131, 256]⟩
abbrev S256 : Shape := ⟨1, ![256]⟩
abbrev S259x512 : Shape := ⟨2, ![259, 512]⟩
abbrev S512 : Shape := ⟨1, ![512]⟩
abbrev S512x512 : Shape := ⟨2, ![512, 512]⟩
abbrev S512x6 : Shape := ⟨2, ![512, 6]⟩
abbrev S6 : Shape := ⟨1, ![6]⟩
abbrev S16x128x3 : Shape := ⟨3, ![16, 128, 3]⟩
abbrev S16x32x3 : Shape := ⟨3, ![16, 32, 3]⟩
abbrev S16x8x3 : Shape := ⟨3, ![16, 8, 3]⟩
abbrev S16x128x128 : Shape := ⟨3, ![16, 128, 128]⟩
abbrev S16x32x1x3 : Shape := ⟨4, ![16, 32, 1, 3]⟩
abbrev S16x1x128x3 : Shape := ⟨4, ![16, 1, 128, 3]⟩
abbrev S16x32x128x3 : Shape := ⟨4, ![16, 32, 128, 3]⟩
abbrev S_ : Shape := ⟨0, ![]⟩
abbrev S16x32x128 : Shape := ⟨3, ![16, 32, 128]⟩
abbrev S16x32x16 : Shape := ⟨3, ![16, 32, 16]⟩
abbrev S16x32x16x1 : Shape := ⟨4, ![16, 32, 16, 1]⟩
abbrev S16x32x16x3 : Shape := ⟨4, ![16, 32, 16, 3]⟩
abbrev S16x32x16x128 : Shape := ⟨4, ![16, 32, 16, 128]⟩
abbrev S16x32x16x131 : Shape := ⟨4, ![16, 32, 16, 131]⟩
abbrev S16x32x16x256 : Shape := ⟨4, ![16, 32, 16, 256]⟩
abbrev S1x1x1x256 : Shape := ⟨4, ![1, 1, 1, 256]⟩
abbrev S16x32x256 : Shape := ⟨3, ![16, 32, 256]⟩
abbrev S16x8x1x3 : Shape := ⟨4, ![16, 8, 1, 3]⟩
abbrev S16x1x32x3 : Shape := ⟨4, ![16, 1, 32, 3]⟩
abbrev S16x8x32x3 : Shape := ⟨4, ![16, 8, 32, 3]⟩
abbrev S16x8x32 : Shape := ⟨3, ![16, 8, 32]⟩
abbrev S16x8x16 : Shape := ⟨3, ![16, 8, 16]⟩
abbrev S16x8x16x1 : Shape := ⟨4, ![16, 8, 16, 1]⟩
abbrev S16x8x16x3 : Shape := ⟨4, ![16, 8, 16, 3]⟩
abbrev S16x8x16x256 : Shape := ⟨4, ![16, 8, 16, 256]⟩
abbrev S16x8x16x259 : Shape := ⟨4, ![16, 8, 16, 259]⟩
abbrev S16x8x16x512 : Shape := ⟨4, ![16, 8, 16, 512]⟩
abbrev S1x1x1x512 : Shape := ⟨4, ![1, 1, 1, 512]⟩
abbrev S16x8x512 : Shape := ⟨3, ![16, 8, 512]⟩
abbrev S16x512 : Shape := ⟨2, ![16, 512]⟩
abbrev S1x512 : Shape := ⟨2, ![1, 512]⟩
abbrev S16x6 : Shape := ⟨2, ![16, 6]⟩
abbrev S1x6 : Shape := ⟨2, ![1, 6]⟩

abbrev nBuf : Space → Nat
  | .hbm => 201
  | .vmem => 0
  | .smem => 0
  | _ => 0

abbrev hbmTy0_0 (i : Nat) : BufTy := match i % 128 with
  | 0 => ⟨S2048x128, .f32⟩
  | 1 => ⟨S16x3x128, .f32⟩
  | 2 => ⟨S16x3x32, .f32⟩
  | 3 => ⟨S16x3x8, .f32⟩
  | 4 => ⟨S131x256, .f32⟩
  | 5 => ⟨S256, .f32⟩
  | 6 => ⟨S256, .f32⟩
  | 7 => ⟨S259x512, .f32⟩
  | 8 => ⟨S512, .f32⟩
  | 9 => ⟨S512, .f32⟩
  | 10 => ⟨S512x512, .f32⟩
  | 11 => ⟨S512, .f32⟩
  | 12 => ⟨S512x6, .f32⟩
  | 13 => ⟨S6, .f32⟩
  | 14 => ⟨S16x128x3, .f32⟩
  | 15 => ⟨S16x32x3, .f32⟩
  | 16 => ⟨S16x8x3, .f32⟩
  | 17 => ⟨S16x128x128, .f32⟩
  | 18 => ⟨S16x32x1x3, .f32⟩
  | 19 => ⟨S16x1x128x3, .f32⟩
  | 20 => ⟨S16x32x128x3, .f32⟩
  | 21 => ⟨S16x32x128x3, .f32⟩
  | 22 => ⟨S16x32x128x3, .f32⟩
  | 23 => ⟨S16x32x128x3, .f32⟩
  | 24 => ⟨S_, .f32⟩
  | 25 => ⟨S16x32x128, .f32⟩
  | 26 => ⟨S16x32x128, .f32⟩
  | 27 => ⟨S16x32x16, .f32⟩
  | 28 => ⟨S16x32x16, .i32⟩
  | 29 => ⟨S_, .i32⟩
  | 30 => ⟨S16x32x16, .i32⟩
  | 31 => ⟨S16x32x16, .i1⟩
  | 32 => ⟨S_, .i32⟩
  | 33 => ⟨S16x32x16, .i32⟩
  | 34 => ⟨S16x32x16, .i32⟩
  | 35 => ⟨S16x32x16, .i32⟩
  | 36 => ⟨S16x32x16x1, .i32⟩
  | 37 => ⟨S16x32x16x3, .f32⟩
  | 38 => ⟨S_, .i32⟩
  | 39 => ⟨S16x32x16, .i32⟩
  | 40 => ⟨S16x32x16, .i1⟩
  | 41 => ⟨S_, .i32⟩
  | 42 => ⟨S16x32x16, .i32⟩
  | 43 => ⟨S16x32x16, .i32⟩
  | 44 => ⟨S16x32x16, .i32⟩
  | 45 => ⟨S16x32x16x1, .i32⟩
  | 46 => ⟨S16x32x16x128, .f32⟩
  | 47 => ⟨S16x32x1x3, .f32⟩
  | 48 => ⟨S16x32x16x3, .f32⟩
  | 49 => ⟨S16x32x16x3, .f32⟩
  | 50 => ⟨S16x32x16x131, .f32⟩
  | 51 => ⟨S16x32x16x256, .f32⟩
  | 52 => ⟨S_, .f32⟩
  | 53 => ⟨S256, .f32⟩
  | 54 => ⟨S_, .f32⟩
  | 55 => ⟨S256, .f32⟩
  | 56 => ⟨S256, .f32⟩
  | 57 => ⟨S_, .i32⟩
  | 58 => ⟨S_, .f32⟩
  | 59 => ⟨S256, .f32⟩
  | 60 => ⟨S1x1x1x256, .f32⟩
  | 61 => ⟨S_, .f32⟩
  | 62 => ⟨S1x1x1x256, .f32⟩
  | 63 => ⟨S1x1x1x256, .f32⟩
  | 64 => ⟨S16x32x16x256, .f32⟩
  | 65 => ⟨S16x32x16x256, .f32⟩
  | 66 => ⟨S16x32x16x256, .f32⟩
  | 67 => ⟨S_, .f32⟩
  | 68 => ⟨S_, .f32⟩
  | 69 => ⟨S_, .f32⟩
  | 70 => ⟨S_, .f32⟩
  | 71 => ⟨S256, .f32⟩
  | 72 => ⟨S256, .f32⟩
  | 73 => ⟨S256, .f32⟩
  | 74 => ⟨S_, .f32⟩
  | 75 => ⟨S_, .i1⟩
  | 76 => ⟨S_, .f32⟩
  | 77 => ⟨S_, .f32⟩
  | 78 => ⟨S256, .f32⟩
  | 79 => ⟨S256, .f32⟩
  | 80 => ⟨S1x1x1x256, .f32⟩
  | 81 => ⟨S16x32x16x256, .f32⟩
  | 82 => ⟨S16x32x16x256, .f32⟩
  | 83 => ⟨S_, .f32⟩
  | 84 => ⟨S256, .f32⟩
  | 85 => ⟨S256, .f32⟩
  | 86 => ⟨S256, .f32⟩
  | 87 => ⟨S1x1x1x256, .f32⟩
  | 88 => ⟨S16x32x16x256, .f32⟩
  | 89 => ⟨S16x32x16x256, .f32⟩
  | 90 => ⟨S1x1x1x256, .f32⟩
  | 91 => ⟨S16x32x16x256, .f32⟩
  | 92 => ⟨S16x32x16x256, .f32⟩
  | 93 => ⟨S1x1x1x256, .f32⟩
  | 94 => ⟨S16x32x16x256, .f32⟩
  | 95 => ⟨S16x32x16x256, .f32⟩
  | 96 => ⟨S_, .f32⟩
  | 97 => ⟨S16x32x16x256, .f32⟩
  | 98 => ⟨S16x32x16x256, .f32⟩
  | 99 => ⟨S_, .f32⟩
  | 100 => ⟨S16x32x256, .f32⟩
  | 101 => ⟨S16x8x1x3, .f32⟩
  | 102 => ⟨S16x1x32x3, .f32⟩
  | 103 => ⟨S16x8x32x3, .f32⟩
  | 104 => ⟨S16x8x32x3, .f32⟩
  | 105 => ⟨S16x8x32x3, .f32⟩
  | 106 => ⟨S16x8x32x3, .f32⟩
  | 107 => ⟨S_, .f32⟩
  | 108 => ⟨S16x8x32, .f32⟩
  | 109 => ⟨S16x8x32, .f32⟩
  | 110 => ⟨S16x8x16, .f32⟩
  | 111 => ⟨S16x8x16, .i32⟩
  | 112 => ⟨S_, .i32⟩
  | 113 => ⟨S16x8x16, .i32⟩
  | 114 => ⟨S16x8x16, .i1⟩
  | 115 => ⟨S_, .i32⟩
  | 116 => ⟨S16x8x16, .i32⟩
  | 117 => ⟨S16x8x16, .i32⟩
  | 118 => ⟨S16x8x16, .i32⟩
  | 119 => ⟨S16x8x16x1, .i32⟩
  | 120 => ⟨S16x8x16x3, .f32⟩
  | 121 => ⟨S_, .i32⟩
  | 122 => ⟨S16x8x16, .i32⟩
  | 123 => ⟨S16x8x16, .i1⟩
  | 124 => ⟨S_, .i32⟩
  | 125 => ⟨S16x8x16, .i32⟩
  | 126 => ⟨S16x8x16, .i32⟩
  | 127 => ⟨S16x8x16, .i32⟩
  | _ => ⟨S2048x128, .f32⟩

abbrev hbmTy0_1 (i : Nat) : BufTy := match i % 128 with
  | 0 => ⟨S16x8x16x1, .i32⟩
  | 1 => ⟨S16x8x16x256, .f32⟩
  | 2 => ⟨S16x8x1x3, .f32⟩
  | 3 => ⟨S16x8x16x3, .f32⟩
  | 4 => ⟨S16x8x16x3, .f32⟩
  | 5 => ⟨S16x8x16x259, .f32⟩
  | 6 => ⟨S16x8x16x512, .f32⟩
  | 7 => ⟨S_, .f32⟩
  | 8 => ⟨S512, .f32⟩
  | 9 => ⟨S_, .f32⟩
  | 10 => ⟨S512, .f32⟩
  | 11 => ⟨S512, .f32⟩
  | 12 => ⟨S_, .i32⟩
  | 13 => ⟨S_, .f32⟩
  | 14 => ⟨S512, .f32⟩
  | 15 => ⟨S1x1x1x512, .f32⟩
  | 16 => ⟨S_, .f32⟩
  | 17 => ⟨S1x1x1x512, .f32⟩
  | 18 => ⟨S1x1x1x512, .f32⟩
  | 19 => ⟨S16x8x16x512, .f32⟩
  | 20 => ⟨S16x8x16x512, .f32⟩
  | 21 => ⟨S16x8x16x512, .f32⟩
  | 22 => ⟨S_, .f32⟩
  | 23 => ⟨S_, .f32⟩
  | 24 => ⟨S_, .f32⟩
  | 25 => ⟨S_, .f32⟩
  | 26 => ⟨S512, .f32⟩
  | 27 => ⟨S512, .f32⟩
  | 28 => ⟨S512, .f32⟩
  | 29 => ⟨S_, .f32⟩
  | 30 => ⟨S_, .i1⟩
  | 31 => ⟨S_, .f32⟩
  | 32 => ⟨S_, .f32⟩
  | 33 => ⟨S512, .f32⟩
  | 34 => ⟨S512, .f32⟩
  | 35 => ⟨S1x1x1x512, .f32⟩
  | 36 => ⟨S16x8x16x512, .f32⟩
  | 37 => ⟨S16x8x16x512, .f32⟩
  | 38 => ⟨S_, .f32⟩
  | 39 => ⟨S512, .f32⟩
  | 40 => ⟨S512, .f32⟩
  | 41 => ⟨S512, .f32⟩
  | 42 => ⟨S1x1x1x512, .f32⟩
  | 43 => ⟨S16x8x16x512, .f32⟩
  | 44 => ⟨S16x8x16x512, .f32⟩
  | 45 => ⟨S1x1x1x512, .f32⟩
  | 46 => ⟨S16x8x16x512, .f32⟩
  | 47 => ⟨S16x8x16x512, .f32⟩
  | 48 => ⟨S1x1x1x512, .f32⟩
  | 49 => ⟨S16x8x16x512, .f32⟩
  | 50 => ⟨S16x8x16x512, .f32⟩
  | 51 => ⟨S_, .f32⟩
  | 52 => ⟨S16x8x16x512, .f32⟩
  | 53 => ⟨S16x8x16x512, .f32⟩
  | 54 => ⟨S_, .f32⟩
  | 55 => ⟨S16x8x512, .f32⟩
  | 56 => ⟨S_, .f32⟩
  | 57 => ⟨S16x512, .f32⟩
  | 58 => ⟨S_, .f32⟩
  | 59 => ⟨S16x512, .f32⟩
  | 60 => ⟨S16x512, .f32⟩
  | 61 => ⟨S16x512, .f32⟩
  | 62 => ⟨S1x512, .f32⟩
  | 63 => ⟨S16x512, .f32⟩
  | 64 => ⟨S16x512, .f32⟩
  | 65 => ⟨S_, .f32⟩
  | 66 => ⟨S16x512, .f32⟩
  | 67 => ⟨S16x512, .f32⟩
  | 68 => ⟨S16x512, .f32⟩
  | 69 => ⟨S16x6, .f32⟩
  | 70 => ⟨S1x6, .f32⟩
  | 71 => ⟨S16x6, .f32⟩
  | 72 => ⟨S16x6, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_values : Ref sig .tc := ⟨.hbm, 27, rfl⟩
abbrev main_indices : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_6 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_call1_cst : Ref sig .tc := ⟨.hbm, 96, rfl⟩
abbrev main_call1_v0 : Ref sig .tc := ⟨.hbm, 97, rfl⟩
abbrev main_v50 : Ref sig .tc := ⟨.hbm, 98, rfl⟩
abbrev main_cst_7 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_8 : Ref sig .tc := ⟨.hbm, 107, rfl⟩
abbrev main_v58 : Ref sig .tc := ⟨.hbm, 108, rfl⟩
abbrev main_v59 : Ref sig .tc := ⟨.hbm, 109, rfl⟩
abbrev main_values_9 : Ref sig .tc := ⟨.hbm, 110, rfl⟩
abbrev main_indices_10 : Ref sig .tc := ⟨.hbm, 111, rfl⟩
abbrev main_c_11 : Ref sig .tc := ⟨.hbm, 112, rfl⟩
abbrev main_v60 : Ref sig .tc := ⟨.hbm, 113, rfl⟩
abbrev main_v61 : Ref sig .tc := ⟨.hbm, 114, rfl⟩
abbrev main_c_12 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_c_13 : Ref sig .tc := ⟨.hbm, 121, rfl⟩
abbrev main_v67 : Ref sig .tc := ⟨.hbm, 122, rfl⟩
abbrev main_v68 : Ref sig .tc := ⟨.hbm, 123, rfl⟩
abbrev main_c_14 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_cst_15 : Ref sig .tc := ⟨.hbm, 135, rfl⟩
abbrev main_v79 : Ref sig .tc := ⟨.hbm, 136, rfl⟩
abbrev main_cst_16 : Ref sig .tc := ⟨.hbm, 137, rfl⟩
abbrev main_v80 : Ref sig .tc := ⟨.hbm, 138, rfl⟩
abbrev main_v81 : Ref sig .tc := ⟨.hbm, 139, rfl⟩
abbrev main_c_17 : Ref sig .tc := ⟨.hbm, 140, rfl⟩
abbrev main_call2_cst : Ref sig .tc := ⟨.hbm, 141, rfl⟩
abbrev main_call2_v0 : Ref sig .tc := ⟨.hbm, 142, rfl⟩
abbrev main_call2_v1 : Ref sig .tc := ⟨.hbm, 143, rfl⟩
abbrev main_call2_cst_0 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_v5 : Ref sig .tc := ⟨.hbm, 148, rfl⟩
abbrev main_call2_v6 : Ref sig .tc := ⟨.hbm, 149, rfl⟩
abbrev main_call2_v7 : Ref sig .tc := ⟨.hbm, 150, rfl⟩
abbrev main_call2_cst_1 : Ref sig .tc := ⟨.hbm, 151, rfl⟩
abbrev main_call2_v8 : Ref sig .tc := ⟨.hbm, 152, rfl⟩
abbrev main_call2_cst_2 : Ref sig .tc := ⟨.hbm, 153, rfl⟩
abbrev main_call2_v9 : Ref sig .tc := ⟨.hbm, 154, rfl⟩
abbrev main_call2_v10 : Ref sig .tc := ⟨.hbm, 155, rfl⟩
abbrev main_call2_v11 : Ref sig .tc := ⟨.hbm, 156, rfl⟩
abbrev main_call2_cst_3 : Ref sig .tc := ⟨.hbm, 157, rfl⟩
abbrev main_call2_v12 : Ref sig .tc := ⟨.hbm, 158, rfl⟩
abbrev main_call2_cst_4 : Ref sig .tc := ⟨.hbm, 159, rfl⟩
abbrev main_call2_call0_v0 : Ref sig .tc := ⟨.hbm, 160, rfl⟩
abbrev main_call2_call0_v1 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_cst_18 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_call3_cst : Ref sig .tc := ⟨.hbm, 179, rfl⟩
abbrev main_call3_v0 : Ref sig .tc := ⟨.hbm, 180, rfl⟩
abbrev main_v98 : Ref sig .tc := ⟨.hbm, 181, rfl⟩
abbrev main_cst_19 : Ref sig .tc := ⟨.hbm, 182, rfl⟩
abbrev main_v99 : Ref sig .tc := ⟨.hbm, 183, rfl⟩
abbrev main_cst_20 : Ref sig .tc := ⟨.hbm, 184, rfl⟩
abbrev main_v100 : Ref sig .tc := ⟨.hbm, 185, rfl⟩
abbrev main_cst_21 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_call4_cst : Ref sig .tc := ⟨.hbm, 193, rfl⟩
abbrev main_call4_v0 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩

abbrev nD : Nat := 1
abbrev τ : Topo := Topo.v7x

variable {F : FTy → Type} [FloatOps F]
-- ==== Mid.lean ====
abbrev S16x3x512 : Shape := ⟨3, ![16, 3, 512]⟩
abbrev S16x3x128 : Shape := ⟨3, ![16, 3, 128]⟩
abbrev S16x512x64 : Shape := ⟨3, ![16, 512, 64]⟩
abbrev S16x2x64 : Shape := ⟨3, ![16, 2, 64]⟩
abbrev S64 : Shape := ⟨1, ![64]⟩
abbrev S67x128 : Shape := ⟨2, ![67, 128]⟩
abbrev S128 : Shape := ⟨1, ![128]⟩
abbrev S16x512x3 : Shape := ⟨3, ![16, 512, 3]⟩
abbrev S16x128x3 : Shape := ⟨3, ![16, 128, 3]⟩
abbrev S8192x3 : Shape := ⟨2, ![8192, 3]⟩
abbrev S2048x3 : Shape := ⟨2, ![2048, 3]⟩
abbrev S8192x64 : Shape := ⟨2, ![8192, 64]⟩
abbrev S1x64 : Shape := ⟨2, ![1, 64]⟩
abbrev S1x128 : Shape := ⟨2, ![1, 128]⟩
abbrev S2048x128 : Shape := ⟨2, ![2048, 128]⟩
abbrev S8192x256 : Shape := ⟨2, ![8192, 256]⟩
abbrev S2048x512 : Shape := ⟨2, ![2048, 512]⟩
abbrev S2048x256 : Shape := ⟨2, ![2048, 256]⟩
abbrev S16x1x64 : Shape := ⟨3, ![16, 1, 64]⟩
abbrev S16x64 : Shape := ⟨2, ![16, 64]⟩
abbrev S3x128 : Shape := ⟨2, ![3, 128]⟩
abbrev S64x128 : Shape := ⟨2, ![64, 128]⟩
abbrev S8192x128 : Shape := ⟨2, ![8192, 128]⟩
abbrev S16x1x512 : Shape := ⟨3, ![16, 1, 512]⟩
abbrev S16x512 : Shape := ⟨2, ![16, 512]⟩
abbrev S16x128x512 : Shape := ⟨3, ![16, 128, 512]⟩
abbrev S2048x1 : Shape := ⟨2, ![2048, 1]⟩
abbrev S2048 : Shape := ⟨1, ![2048]⟩
abbrev S128x512 : Shape := ⟨2, ![128, 512]⟩
abbrev S512x256 : Shape := ⟨2, ![512, 256]⟩
abbrev S128x256 : Shape := ⟨2, ![128, 256]⟩

abbrev nBuf : Space → Nat
  | .hbm => 21
  | .vmem => 18
  | .smem => 0
  | _ => 0

abbrev bufTy : (tb : Table) → Fin (tcTables nBuf tb) → BufTy
  | .hbm, ⟨0, _⟩ => ⟨S16x3x512, .f32⟩
  | .hbm, ⟨1, _⟩ => ⟨S16x3x128, .f32⟩
  | .hbm, ⟨2, _⟩ => ⟨S16x512x64, .f32⟩
  | .hbm, ⟨3, _⟩ => ⟨S16x512x64, .f32⟩
  | .hbm, ⟨4, _⟩ => ⟨S16x2x64, .f32⟩
  | .hbm, ⟨5, _⟩ => ⟨S64, .f32⟩
  | .hbm, ⟨6, _⟩ => ⟨S64, .f32⟩
  | .hbm, ⟨7, _⟩ => ⟨S67x128, .f32⟩
  | .hbm, ⟨8, _⟩ => ⟨S128, .f32⟩
  | .hbm, ⟨9, _⟩ => ⟨S128, .f32⟩
  | .hbm, ⟨10, _⟩ => ⟨S16x512x3, .f32⟩
  | .hbm, ⟨11, _⟩ => ⟨S16x128x3, .f32⟩
  | .hbm, ⟨12, _⟩ => ⟨S8192x3, .f32⟩
  | .hbm, ⟨13, _⟩ => ⟨S2048x3, .f32⟩
  | .hbm, ⟨14, _⟩ => ⟨S8192x64, .f32⟩
  | .hbm, ⟨15, _⟩ => ⟨S8192x64, .f32⟩
  | .hbm, ⟨16, _⟩ => ⟨S1x64, .f32⟩
  | .hbm, ⟨17, _⟩ => ⟨S1x64, .f32⟩
  | .hbm, ⟨18, _⟩ => ⟨S1x128, .f32⟩
  | .hbm, ⟨19, _⟩ => ⟨S1x128, .f32⟩
  | .hbm, ⟨20, _⟩ => ⟨S2048x128, .f32⟩
  | .local _ .vmem, ⟨0, _⟩ => ⟨S8192x3, .f32⟩
  | .local _ .vmem, ⟨1, _⟩ => ⟨S16x3x512, .f32⟩
  | .local _ .vmem, ⟨2, _⟩ => ⟨S2048x3, .f32⟩
  | .local _ .vmem, ⟨3, _⟩ => ⟨S8192x64, .f32⟩
  | .local _ .vmem, ⟨4, _⟩ => ⟨S8192x64, .f32⟩
  | .local _ .vmem, ⟨5, _⟩ => ⟨S16x2x64, .f32⟩
  | .local _ .vmem, ⟨6, _⟩ => ⟨S1x64, .f32⟩
  | .local _ .vmem, ⟨7, _⟩ => ⟨S1x64, .f32⟩
  | .local _ .vmem, ⟨8, _⟩ => ⟨S67x128, .f32⟩
  | .local _ .vmem, ⟨9, _⟩ => ⟨S1x128, .f32⟩
  | .local _ .vmem, ⟨10, _⟩ => ⟨S1x128, .f32⟩
  | .local _ .vmem, ⟨11, _⟩ => ⟨S2048x128, .f32⟩
  | .local _ .vmem, ⟨12, _⟩ => ⟨S8192x256, .f32⟩
  | .local _ .vmem, ⟨13, _⟩ => ⟨S2048x512, .f32⟩
  | .local _ .vmem, ⟨14, _⟩ => ⟨S2048x512, .f32⟩
  | .local _ .vmem, ⟨15, _⟩ => ⟨S2048x256, .f32⟩
  | .local _ .vmem, ⟨16, _⟩ => ⟨S2048x128, .f32⟩
  | .local _ .vmem, ⟨17, _⟩ => ⟨S2048x128, .f32⟩
  | _, _ => ⟨S16x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v109 : BitVec 32 := Scalar.addi c0_i32 c16_i32
  let c1_i32 : BitVec 32 := 1#32
  ⟨c0_i32, v109, c1_i32⟩
@[reducible] def k0_t2_loop : Scf.Loop 32 :=
  let c0_i32_69 : BitVec 32 := 0#32
  let c16_i32_70 : BitVec 32 := 16#32
  let v159 : BitVec 32 := Scalar.addi c0_i32_69 c16_i32_70
  let c1_i32_71 : BitVec 32 := 1#32
  ⟨c0_i32_69, v159, c1_i32_71⟩
def k0_off1 (k0_t2 : Fin k0_t2_loop.trips) : Fin 2 → Nat :=
  let c0_i32_69 : BitVec 32 := 0#32
  let c1_i32_71 : BitVec 32 := 1#32
  let arg21 : BitVec 32 := Scf.iv c0_i32_69 c1_i32_71 k0_t2
  let c128_i32 : BitVec 32 := 128#32
  let v182 : BitVec 32 := Scalar.muli arg21 c128_i32
  let v183 : Index := Scalar.indexCast v182
  let c0_85 : Index := 0#32
  ![v183.toNat, 0]
def k0_off2 (k0_t2 : Fin k0_t2_loop.trips) : Fin 2 → Nat :=
  let c0_i32_69 : BitVec 32 := 0#32
  let c1_i32_71 : BitVec 32 := 1#32
  let arg21 : BitVec 32 := Scf.iv c0_i32_69 c1_i32_71 k0_t2
  let c512_i32_86 : BitVec 32 := 512#32
  let v185 : BitVec 32 := Scalar.muli arg21 c512_i32_86
  let v186 : Index := Scalar.indexCast v185
  let c0_87 : Index := 0#32
  ![v186.toNat, 0]
def k0_off3 (k0_t2 : Fin k0_t2_loop.trips) : Fin 2 → Nat :=
  let c0_i32_69 : BitVec 32 := 0#32
  let c1_i32_71 : BitVec 32 := 1#32
  let arg21 : BitVec 32 := Scf.iv c0_i32_69 c1_i32_71 k0_t2
  let c128_i32_89 : BitVec 32 := 128#32
  let v189 : BitVec 32 := Scalar.muli arg21 c128_i32_89
  let v190 : Index := Scalar.indexCast v189
  let c0_90 : Index := 0#32
  ![v190.toNat, 0]
abbrev stage0_0 : Fin 1 → Memref sig .tc .vmem S8192x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S67x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== MidIdeal.lean ====
variable {F : FTy → Type} [FloatOps F] [Named F]
def κ : String → Option EReal := fun
  | "mask_big" => some ⊤
  | "neg_big" => some ⊥
  | "pos_big" => some ⊤
  | _ => none
-- ==== MidReferenceIdeal.lean ====
abbrev S16x3x512 : Shape := ⟨3, ![16, 3, 512]⟩
abbrev S16x3x128 : Shape := ⟨3, ![16, 3, 128]⟩
abbrev S16x512x64 : Shape := ⟨3, ![16, 512, 64]⟩
abbrev S16x2x64 : Shape := ⟨3, ![16, 2, 64]⟩
abbrev S64 : Shape := ⟨1, ![64]⟩
abbrev S67x128 : Shape := ⟨2, ![67, 128]⟩
abbrev S128 : Shape := ⟨1, ![128]⟩
abbrev S16x512x3 : Shape := ⟨3, ![16, 512, 3]⟩
abbrev S16x128x3 : Shape := ⟨3, ![16, 128, 3]⟩
abbrev S16x1x64 : Shape := ⟨3, ![16, 1, 64]⟩
abbrev S16x64 : Shape := ⟨2, ![16, 64]⟩
abbrev S_ : Shape := ⟨0, ![]⟩
abbrev S1x1x64 : Shape := ⟨3, ![1, 1, 64]⟩
abbrev S16x128x1x3 : Shape := ⟨4, ![16, 128, 1, 3]⟩
abbrev S16x1x512x3 : Shape := ⟨4, ![16, 1, 512, 3]⟩
abbrev S16x128x512x3 : Shape := ⟨4, ![16, 128, 512, 3]⟩
abbrev S16x128x512 : Shape := ⟨3, ![16, 128, 512]⟩
abbrev S16x128x16 : Shape := ⟨3, ![16, 128, 16]⟩
abbrev S16x128x16x1 : Shape := ⟨4, ![16, 128, 16, 1]⟩
abbrev S16x128x16x3 : Shape := ⟨4, ![16, 128, 16, 3]⟩
abbrev S16x128x16x64 : Shape := ⟨4, ![16, 128, 16, 64]⟩
abbrev S16x128x16x67 : Shape := ⟨4, ![16, 128, 16, 67]⟩
abbrev S16x128x16x128 : Shape := ⟨4, ![16, 128, 16, 128]⟩
abbrev S1x1x1x128 : Shape := ⟨4, ![1, 1, 1, 128]⟩
abbrev S16x128x128 : Shape := ⟨3, ![16, 128, 128]⟩
abbrev S2048x128 : Shape := ⟨2, ![2048, 128]⟩

abbrev nBuf : Space → Nat
  | .hbm => 136
  | .vmem => 0
  | .smem => 0
  | _ => 0

abbrev hbmTy0_0 (i : Nat) : BufTy := match i % 128 with
  | 0 => ⟨S16x3x512, .f32⟩
  | 1 => ⟨S16x3x128, .f32⟩
  | 2 => ⟨S16x512x64, .f32⟩
  | 3 => ⟨S16x512x64, .f32⟩
  | 4 => ⟨S16x2x64, .f32⟩
  | 5 => ⟨S64, .f32⟩
  | 6 => ⟨S64, .f32⟩
  | 7 => ⟨S67x128, .f32⟩
  | 8 => ⟨S128, .f32⟩
  | 9 => ⟨S128, .f32⟩
  | 10 => ⟨S16x512x3, .f32⟩
  | 11 => ⟨S16x128x3, .f32⟩
  | 12 => ⟨S16x1x64, .f32⟩
  | 13 => ⟨S16x64, .f32⟩
  | 14 => ⟨S_, .f32⟩
  | 15 => ⟨S64, .f32⟩
  | 16 => ⟨S_, .f32⟩
  | 17 => ⟨S64, .f32⟩
  | 18 => ⟨S64, .f32⟩
  | 19 => ⟨S16x1x64, .f32⟩
  | 20 => ⟨S16x64, .f32⟩
  | 21 => ⟨S_, .f32⟩
  | 22 => ⟨S64, .f32⟩
  | 23 => ⟨S_, .f32⟩
  | 24 => ⟨S64, .f32⟩
  | 25 => ⟨S64, .f32⟩
  | 26 => ⟨S64, .f32⟩
  | 27 => ⟨S64, .f32⟩
  | 28 => ⟨S_, .f32⟩
  | 29 => ⟨S64, .f32⟩
  | 30 => ⟨S64, .i1⟩
  | 31 => ⟨S16x512x64, .i1⟩
  | 32 => ⟨S16x512x64, .f32⟩
  | 33 => ⟨S1x1x64, .f32⟩
  | 34 => ⟨S16x512x64, .f32⟩
  | 35 => ⟨S16x512x64, .f32⟩
  | 36 => ⟨S_, .f32⟩
  | 37 => ⟨S64, .f32⟩
  | 38 => ⟨S64, .f32⟩
  | 39 => ⟨S64, .f32⟩
  | 40 => ⟨S1x1x64, .f32⟩
  | 41 => ⟨S16x512x64, .f32⟩
  | 42 => ⟨S16x512x64, .f32⟩
  | 43 => ⟨S1x1x64, .f32⟩
  | 44 => ⟨S16x512x64, .f32⟩
  | 45 => ⟨S16x512x64, .f32⟩
  | 46 => ⟨S1x1x64, .f32⟩
  | 47 => ⟨S16x512x64, .f32⟩
  | 48 => ⟨S16x512x64, .f32⟩
  | 49 => ⟨S_, .f32⟩
  | 50 => ⟨S16x512x64, .f32⟩
  | 51 => ⟨S16x512x64, .f32⟩
  | 52 => ⟨S16x128x1x3, .f32⟩
  | 53 => ⟨S16x1x512x3, .f32⟩
  | 54 => ⟨S16x128x512x3, .f32⟩
  | 55 => ⟨S16x128x512x3, .f32⟩
  | 56 => ⟨S16x128x512x3, .f32⟩
  | 57 => ⟨S16x128x512x3, .f32⟩
  | 58 => ⟨S_, .f32⟩
  | 59 => ⟨S16x128x512, .f32⟩
  | 60 => ⟨S16x128x512, .f32⟩
  | 61 => ⟨S16x128x16, .f32⟩
  | 62 => ⟨S16x128x16, .i32⟩
  | 63 => ⟨S_, .i32⟩
  | 64 => ⟨S16x128x16, .i32⟩
  | 65 => ⟨S16x128x16, .i1⟩
  | 66 => ⟨S_, .i32⟩
  | 67 => ⟨S16x128x16, .i32⟩
  | 68 => ⟨S16x128x16, .i32⟩
  | 69 => ⟨S16x128x16, .i32⟩
  | 70 => ⟨S16x128x16x1, .i32⟩
  | 71 => ⟨S16x128x16x3, .f32⟩
  | 72 => ⟨S_, .i32⟩
  | 73 => ⟨S16x128x16, .i32⟩
  | 74 => ⟨S16x128x16, .i1⟩
  | 75 => ⟨S_, .i32⟩
  | 76 => ⟨S16x128x16, .i32⟩
  | 77 => ⟨S16x128x16, .i32⟩
  | 78 => ⟨S16x128x16, .i32⟩
  | 79 => ⟨S16x128x16x1, .i32⟩
  | 80 => ⟨S16x128x16x64, .f32⟩
  | 81 => ⟨S16x128x1x3, .f32⟩
  | 82 => ⟨S16x128x16x3, .f32⟩
  | 83 => ⟨S16x128x16x3, .f32⟩
  | 84 => ⟨S16x128x16x67, .f32⟩
  | 85 => ⟨S16x128x16x128, .f32⟩
  | 86 => ⟨S_, .f32⟩
  | 87 => ⟨S128, .f32⟩
  | 88 => ⟨S_, .f32⟩
  | 89 => ⟨S128, .f32⟩
  | 90 => ⟨S128, .f32⟩
  | 91 => ⟨S_, .i32⟩
  | 92 => ⟨S_, .f32⟩
  | 93 => ⟨S128, .f32⟩
  | 94 => ⟨S1x1x1x128, .f32⟩
  | 95 => ⟨S_, .f32⟩
  | 96 => ⟨S1x1x1x128, .f32⟩
  | 97 => ⟨S1x1x1x128, .f32⟩
  | 98 => ⟨S16x128x16x128, .f32⟩
  | 99 => ⟨S16x128x16x128, .f32⟩
  | 100 => ⟨S16x128x16x128, .f32⟩
  | 101 => ⟨S_, .f32⟩
  | 102 => ⟨S_, .f32⟩
  | 103 => ⟨S_, .f32⟩
  | 104 => ⟨S_, .f32⟩
  | 105 => ⟨S128, .f32⟩
  | 106 => ⟨S128, .f32⟩
  | 107 => ⟨S128, .f32⟩
  | 108 => ⟨S_, .f32⟩
  | 109 => ⟨S_, .i1⟩
  | 110 => ⟨S_, .f32⟩
  | 111 => ⟨S_, .f32⟩
  | 112 => ⟨S128, .f32⟩
  | 113 => ⟨S128, .f32⟩
  | 114 => ⟨S1x1x1x128, .f32⟩
  | 115 => ⟨S16x128x16x128, .f32⟩
  | 116 => ⟨S16x128x16x128, .f32⟩
  | 117 => ⟨S_, .f32⟩
  | 118 => ⟨S128, .f32⟩
  | 119 => ⟨S128, .f32⟩
  | 120 => ⟨S128, .f32⟩
  | 121 => ⟨S1x1x1x128, .f32⟩
  | 122 => ⟨S16x128x16x128, .f32⟩
  | 123 => ⟨S16x128x16x128, .f32⟩
  | 124 => ⟨S1x1x1x128, .f32⟩
  | 125 => ⟨S16x128x16x128, .f32⟩
  | 126 => ⟨S16x128x16x128, .f32⟩
  | 127 => ⟨S1x1x1x128, .f32⟩
  | _ => ⟨S16x3x512, .f32⟩

abbrev hbmTy0_1 (i : Nat) : BufTy := match i % 128 with
  | 0 => ⟨S16x128x16x128, .f32⟩
  | 1 => ⟨S16x128x16x128, .f32⟩
  | 2 => ⟨S_, .f32⟩
  | 3 => ⟨S16x128x16x128, .f32⟩
  | 4 => ⟨S16x128x16x128, .f32⟩
  | 5 => ⟨S_, .f32⟩
  | 6 => ⟨S16x128x128, .f32⟩
  | 7 => ⟨S2048x128, .f32⟩
  | _ => ⟨S16x3x512, .f32⟩

abbrev hbmTy (i : Nat) : BufTy := match i / 128 with
  | 0 => hbmTy0_0 i
  | 1 => hbmTy0_1 i
  | _ => ⟨S16x3x512, .f32⟩

abbrev bufTy : (tb : Table) → Fin (tcTables nBuf tb) → BufTy
  | .hbm, ⟨i, _⟩ => hbmTy i
  | _, _ => ⟨S16x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_values : Ref sig .tc := ⟨.hbm, 61, rfl⟩
abbrev main_indices : Ref sig .tc := ⟨.hbm, 62, rfl⟩
abbrev main_c : Ref sig .tc := ⟨.hbm, 63, rfl⟩
abbrev main_v41 : Ref sig .tc := ⟨.hbm, 64, rfl⟩
abbrev main_v42 : Ref sig .tc := ⟨.hbm, 65, rfl⟩
abbrev main_c_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_7 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_9 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_c_11 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_cst_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_cst_1 : Ref sig .tc := ⟨.hbm, 102, rfl⟩
abbrev main_call2_v8 : Ref sig .tc := ⟨.hbm, 103, rfl⟩
abbrev main_call2_cst_2 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_cst_3 : Ref sig .tc := ⟨.hbm, 108, rfl⟩
abbrev main_call2_v12 : Ref sig .tc := ⟨.hbm, 109, rfl⟩
abbrev main_call2_cst_4 : Ref sig .tc := ⟨.hbm, 110, rfl⟩
abbrev main_call2_call0_v0 : Ref sig .tc := ⟨.hbm, 111, rfl⟩
abbrev main_call2_call0_v1 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_12 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_call3_cst : Ref sig .tc := ⟨.hbm, 130, rfl⟩
abbrev main_call3_v0 : Ref sig .tc := ⟨.hbm, 131, rfl⟩
abbrev main_v79 : Ref sig .tc := ⟨.hbm, 132, rfl⟩
abbrev main_cst_13 : Ref sig .tc := ⟨.hbm, 133, rfl⟩
abbrev main_v80 : Ref sig .tc := ⟨.hbm, 134, rfl⟩
abbrev main_v81 : Ref sig .tc := ⟨.hbm, 135, rfl⟩

abbrev nD : Nat := 1
abbrev τ : Topo := Topo.v7x

variable {F : FTy → Type} [FloatOps F]
-- ==== Proof.Consts.lean ====
/-
  The values of the float literals over the reals.
-/
module

public import Idealize.ShloMosaic.PureOps.Ideal

@[expose] public section

noncomputable section

namespace Cert.Consts

open Idealize.ShloMosaic

theorem top_bits : Ideal.ofBits .f32 0x7F800000#32 = ⊤ := by simp [Ideal.ofBits, Ideal.ieee]

theorem bot_bits : Ideal.ofBits .f32 0xFF800000#32 = ⊥ := by simp [Ideal.ofBits, Ideal.ieee]

theorem zero_bits : Ideal.ofBits .f32 0x00000000#32 = 0 := by simp [Ideal.ofBits, Ideal.ieee]

theorem count_bits : Ideal.ofBits .f32 0x47000000#32 = ((32768 : ℝ) : EReal) := by
  simp [Ideal.ofBits, Ideal.ieee, -EReal.coe_mul]; norm_num

/-- The small addend of the normalisation is a positive real. -/
theorem eps_bits : ∃ e : ℝ, 0 < e ∧ Ideal.ofBits .f32 0x3727C5AC#32 = (e : EReal) := by
  refine ⟨(1 + 2606508 / 2 ^ 23) * 2 ^ (-17 : ℤ), by positivity, ?_⟩
  simp [Ideal.ofBits, Ideal.ieee, -EReal.coe_mul]; norm_num

end Cert.Consts

end
-- ==== Proof.Arith.lean ====
/-
  The two identities over the reals that relate the kernel's arithmetic to the reference's: the batch normalisation written with
  a reciprocal square root, and the product with the differences' weights split off.
-/
module

public import proofs.«01_k».proof.Proof.Consts

@[expose] public section

noncomputable section

namespace Cert.Arith

open Idealize.ShloMosaic Cert.Consts

/-- An extended real that is a real. -/
def Real' (x : EReal) : Prop := ∃ r : ℝ, x = (r : EReal)

theorem Real'.ne_top {x : EReal} (h : Real' x) : x ≠ ⊤ := by obtain ⟨r, rfl⟩ := h; exact EReal.coe_ne_top r

theorem Real'.add {x y : EReal} (hx : Real' x) (hy : Real' y) : Real' (x + y) := by
  obtain ⟨r, rfl⟩ := hx; obtain ⟨s, rfl⟩ := hy; exact ⟨r + s, (EReal.coe_add r s).symm⟩

theorem Real'.sub {x y : EReal} (hx : Real' x) (hy : Real' y) : Real' (x - y) := by
  obtain ⟨r, rfl⟩ := hx; obtain ⟨s, rfl⟩ := hy; exact ⟨r - s, (EReal.coe_sub r s).symm⟩

theorem Real'.mul {x y : EReal} (hx : Real' x) (hy : Real' y) : Real' (x * y) := by
  obtain ⟨r, rfl⟩ := hx; obtain ⟨s, rfl⟩ := hy; exact ⟨r * s, (EReal.coe_mul r s).symm⟩

theorem Real'.max {x y : EReal} (hx : Real' x) (hy : Real' y) : Real' (max x y) := by
  rcases max_choice x y with h | h <;> rw [h] <;> assumption

theorem Real'.zero : Real' 0 := ⟨0, rfl⟩

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem Real'.sum {ι : Type} [Fintype ι] {f : ι → EReal} (h : ∀ i, Real' (f i)) : Real' (∑ i, f i) := by
  choose g hg using h
  exact ⟨∑ i, g i, by rw [coe_sum]; exact Finset.sum_congr rfl fun i _ => hg i⟩

/-- Split weights: the product of the differences is the difference of the products, whatever is split off and put back. -/
theorem regroup {n m : ℕ} {P Q w : Fin n → EReal} {X w' : Fin m → EReal} (hP : ∀ i, Real' (P i)) (hQ : ∀ i, Real' (Q i))
    (hw : ∀ i, Real' (w i)) (hX : ∀ i, Real' (X i)) (hw' : ∀ i, Real' (w' i)) :
    (∑ i, P i * w i + ∑ i, X i * w' i) + ((∑ i, P i * w i + ∑ i, X i * w' i) - (∑ i, P i * w i + ∑ i, X i * w' i)) -
      ∑ i, Q i * w i = ∑ i, (P i - Q i) * w i + ∑ i, X i * w' i := by
  choose P hP using hP
  choose Q hQ using hQ
  choose w hw using hw
  choose X hX using hX
  choose w' hw' using hw'
  simp only [hP, hQ, hw, hX, hw', ← EReal.coe_mul, ← EReal.coe_sub, ← coe_sum, ← EReal.coe_add]
  congr 1
  simp only [sub_mul, Finset.sum_sub_distrib]
  ring

theorem regroup_real {n m : ℕ} {P Q w : Fin n → EReal} {X w' : Fin m → EReal} (hP : ∀ i, Real' (P i)) (hQ : ∀ i, Real' (Q i))
    (hw : ∀ i, Real' (w i)) (hX : ∀ i, Real' (X i)) (hw' : ∀ i, Real' (w' i)) :
    Real' (∑ i, (P i - Q i) * w i + ∑ i, X i * w' i) :=
  (Real'.sum fun i => ((hP i).sub (hQ i)).mul (hw i)).add (Real'.sum fun i => (hX i).mul (hw' i))

/-- The mean read from a sum. -/
def mean (s : EReal) : EReal := Ideal.div s (Ideal.ofBits .f32 0x47000000#32)

/-- Mean of the squares less the square of the mean. -/
def var (s t : EReal) : EReal := mean t - mean s * mean s

/-- The normalised, rectified feature. -/
def bn (h s t g b : EReal) : EReal :=
  max (Ideal.div (h - mean s) (Ideal.sqrt (var s t + Ideal.ofBits .f32 0x3727C5AC#32)) * g + b) 0

theorem mean_coe (s : ℝ) : mean (s : EReal) = ((s / 32768 : ℝ) : EReal) := by
  unfold mean
  rw [count_bits, Ideal.div_coe (by norm_num), ← EReal.coe_mul, mul_one_div]

theorem mean_real {s : EReal} (h : Real' s) : Real' (mean s) := by
  obtain ⟨r, rfl⟩ := h; exact ⟨_, mean_coe r⟩

theorem var_real {s t : EReal} (hs : Real' s) (ht : Real' t) : Real' (var s t) :=
  (mean_real ht).sub ((mean_real hs).mul (mean_real hs))

variable {h s t g b : EReal} (hh : Real' h) (hs : Real' s) (ht : Real' t) (hg : Real' g) (hb : Real' b) (hv : 0 ≤ var s t)
include hh hs ht hg hb hv

theorem bn_both : max (g * (h - mean s) * Ideal.rsqrt (var s t + Ideal.ofBits .f32 0x3727C5AC#32) + b) 0 = bn h s t g b ∧
    Real' (bn h s t g b) := by
  obtain ⟨e, he, heq⟩ := eps_bits
  obtain ⟨v, hv'⟩ := var_real hs ht
  obtain ⟨m, hm⟩ := mean_real hs
  obtain ⟨h, rfl⟩ := hh
  obtain ⟨g, rfl⟩ := hg
  obtain ⟨b, rfl⟩ := hb
  have hv0 : (0 : ℝ) ≤ v := by rw [hv'] at hv; exact_mod_cast hv
  have hpos : 0 < v + e := by linarith
  have hsq : Real.sqrt (v + e) ≠ 0 := (Real.sqrt_pos.mpr hpos).ne'
  unfold bn
  rw [hv', hm, heq, ← EReal.coe_add, Ideal.rsqrt_coe, if_neg hpos.le.not_gt, if_neg hpos.ne', Ideal.sqrt_coe,
    if_neg hpos.le.not_gt, Ideal.div_coe hsq]
  simp only [← EReal.coe_sub, ← EReal.coe_mul, ← EReal.coe_add]
  refine ⟨?_, Real'.max ⟨_, rfl⟩ Real'.zero⟩
  congr 2
  rw [one_div]; ring

theorem bn_kernel : max (g * (h - mean s) * Ideal.rsqrt (var s t + Ideal.ofBits .f32 0x3727C5AC#32) + b) 0 = bn h s t g b :=
  (bn_both hh hs ht hg hb hv).1

theorem bn_real : Real' (bn h s t g b) := (bn_both hh hs ht hg hb hv).2

end Cert.Arith

end
-- ==== Proof.Pre.lean ====
/-
  What the precondition says at the extended reals: every element of every argument is a real, and the batch variance of
  each channel is nonnegative.
-/
module

public import proofs.«01_k».proof.Pre_finite_and_spread
public import Idealize.ShloMosaic.Lib.ReduceAll
public import Idealize.ShloMosaic.Lib.Pointwise
public import proofs.«01_k».proof.Proof.Arith

@[expose] public section

set_option maxRecDepth 16384

noncomputable section

namespace Cert.Pre

open Idealize.ShloMosaic Cert.Pre_finite_and_spread Cert.Arith Cert.Consts

/-- The shape relations of the precondition. -/
theorem facts : Cert.Pre_finite_and_spread.Facts where
  slices_S1x2x32_S1x1x32_0_0_0 := by decide
  shapeCasts_S1x1x32_S32 := by decide
  bcast_S_S32 := by decide
  bcast_S_S32768x3 := by decide
  reducesTo_S32768x3_S_d0_1 := by decide
  h_S_ := by decide
  bcast_S_S16x3x512 := by decide
  reducesTo_S16x3x512_S_d0_1_2 := by decide
  bcast_S_S32768x32 := by decide
  reducesTo_S32768x32_S_d0_1 := by decide
  bcast_S_S1x2x32 := by decide
  reducesTo_S1x2x32_S_d0_1_2 := by decide
  reducesTo_S32_S_d0 := by decide
  bcast_S_S35x64 := by decide
  reducesTo_S35x64_S_d0_1 := by decide
  slices_S1x2x32_S1x1x32_0_1_0 := by decide

instance : Subsingleton S_.Idx := ⟨fun a b => funext fun i => i.elim0⟩

/-- An extended real below infinity in absolute value is a real. -/
theorem real_of_abs (x : EReal) (h : Ideal.cmp .olt (max x (-x)) (Ideal.ofBits .f32 0x7F800000#32) = 1#1) : Real' x := by
  rw [top_bits] at h
  induction x using EReal.rec with
  | bot => simp [Ideal.cmp] at h
  | top => simp [Ideal.cmp] at h
  | coe r => exact ⟨r, rfl⟩

/-- Such a comparison under an `and` over a whole array. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : Real' (x i) :=
  real_of_abs _ (Host.reduce_andi_all _ _ hr hu j e i)

variable [Cert.Pre_finite_and_spread.Facts]

/-- The precondition, read. -/
theorem read (x0 : FVec Ideal S32768x3 .f32) (x1 : FVec Ideal S16x3x512 .f32) (x2 : FVec Ideal S32768x32 .f32)
    (x3 : FVec Ideal S1x2x32 .f32) (x4 x5 : FVec Ideal S32 .f32) (x6 : FVec Ideal S35x64 .f32)
    (h : fn (F := Ideal) x0 x1 x2 x3 x4 x5 x6 = fun _ => 1#1) :
    (∀ i, Real' (x0 i)) ∧ (∀ i, Real' (x1 i)) ∧ (∀ i, Real' (x2 i)) ∧ (∀ i, Real' (x3 i)) ∧ (∀ i, Real' (x4 i)) ∧
      (∀ i, Real' (x5 i)) ∧ (∀ i, Real' (x6 i)) ∧
      ∀ f : Fin 32, 0 ≤ var (x3 (ValueIdx.ix3 0 0 f)) (x3 (ValueIdx.ix3 0 1 f)) := by
  have andi_one (a b : BitVec 1) : IntOp.andi a b = 1#1 ↔ a = 1#1 ∧ b = 1#1 := by revert a b; decide
  have e := congrFun h (fun i => i.elim0)
  simp only [fn, fn_part1, fn_part2, andi, andi_one] at e
  obtain ⟨⟨⟨⟨⟨⟨⟨e0, e1⟩, e2⟩, e3⟩, e4⟩, e5⟩, e6⟩, e7⟩ := e
  refine ⟨all_real x0 _ _ _ _ e0, all_real x1 _ _ _ _ e1, all_real x2 _ _ _ _ e2, all_real x3 _ _ _ _ e3,
    all_real x4 _ _ _ _ e4, all_real x5 _ _ _ _ e5, all_real x6 _ _ _ _ e6, fun f => ?_⟩
  have k := Host.reduce_andi_all _ _ _ _ _ e7 (ValueIdx.ix1 f)
  revert k
  pointwise
  intro k
  have andd (b : Bool) : BitVec.ofBool b = 1#1 → b = true := by cases b <;> decide
  exact of_decide_eq_true (andd _ k)

end Cert.Pre

end
-- ==== Proof.Trip.lean ====
/-
  One trip of the selection loop as a function on values, and the loop as that function iterated.
-/
module

public import proofs.«01_k».proof.Proof.Gen.KernelIdeal.Frame
public import Idealize.ShloMosaic.Lib.VecWindow

@[expose] public section

set_option maxRecDepth 16384

noncomputable section

namespace Cert.Trip

open Idealize.ShloMosaic Idealize.ShloMosaic.TcCoe Idealize.ShloMosaic.Tactic
open Cert.KernelIdeal Cert.KernelIdeal.Gen

variable {F : FTy → Type} [FloatOps F] [Named F]

/-- What the loop carries from trip to trip: the two running sums, the running maximum, the running minimum, and the
    distances with the points chosen so far masked. -/
abbrev St (F : FTy → Type) := (FVec F S1x64 .f32 × FVec F S1x64 .f32) × Vec F S1x512x64 .f32 × Vec F S1x512x64 .f32 × Vec F S512x2048 .f32

/-- One trip on values: `q` the centre's product, `io` the column numbers, `z` the stacked halves of the points' product. -/
def round (q : FVec F S512x64 .f32) (io : IVec S512x2048 32) (z : Vec F S2048x128 .f32) (s : St F) : St F :=
  ((k0_pay5 s.1.1 (k0_pay11 q io s.2.2.2 z), k0_pay6 s.1.2 (k0_pay11 q io s.2.2.2 z)),
    k0_pay12 q io s.2.2.2 z s.2.1, k0_pay4 (k0_pay13 q io s.2.2.2 z s.2.2.1), k0_pay10 io s.2.2.2)

variable (𝒱 : Variants) (c : Dev nD) (bd : Option 𝒱.V) (i : grid0.Coords)
  (a1 : Memref sig .tc .vmem S1x2048x3 .f32) (h1 : a1.IsWhole)
  (a2 : Memref sig .tc .vmem S1x3x2048 .f32) (h2 : a2.IsWhole)
  (a3 : Memref sig .tc .vmem S1x512x3 .f32) (h3 : a3.IsWhole)
  (a4 : Memref sig .tc .vmem S1x2048x32 .f32) (h4 : a4.IsWhole)
  (a5 : Memref sig .tc .vmem S1x2048x32 .f32) (h5 : a5.IsWhole)
  (a6 : Memref sig .tc .vmem S1x2x32 .f32) (h6 : a6.IsWhole)
  (a7 : Memref sig .tc .vmem S1x32 .f32) (h7 : a7.IsWhole)
  (a8 : Memref sig .tc .vmem S1x32 .f32) (h8 : a8.IsWhole)
  (a9 : Memref sig .tc .vmem S35x64 .f32) (h9 : a9.IsWhole)
  (a10 : Memref sig .tc .vmem S1x512x64 .f32) (h10 : a10.IsWhole)
  (a11 : Memref sig .tc .vmem S1x512x64 .f32) (h11 : a11.IsWhole)
  (a12 : Memref sig .tc .vmem S1x2x64 .f32) (h12 : a12.IsWhole)
  (a13 : Memref sig .tc .vmem S512x2048 .f32) (h13 : a13.IsWhole)
  (a14 : Memref sig .tc .vmem S2048x128 .f32) (h14 : a14.IsWhole)
  (q : FVec F S512x64 .f32) (io : IVec S512x2048 32) (X : BufTy.Contents (Elt F) a14.view.ty)

theorem trip_R (k : Fin k0_t1_loop.trips) (acc : FVec F S1x64 .f32 × FVec F S1x64 .f32) (f10 : BufTy.Contents (Elt F) a10.view.ty) (f11 : BufTy.Contents (Elt F) a11.view.ty)
    (f13 : BufTy.Contents (Elt F) a13.view.ty) :
    tripR_k0_t1 (F := F) 𝒱 c bd i a1 h1 a2 h2 a3 h3 a4 h4 a5 h5 a6 h6 a7 h7 a8 h8 a9 h9 a10 h10 a11 h11 a12 h12 a13 h13 a14 h14 q io X k acc f10 f11 f13
      = (round q io (a14.view.read (Elt F) X) (acc, a10.view.read (Elt F) f10, a11.view.read (Elt F) f11, a13.view.read (Elt F) f13)).1 := by
  unfold tripR_k0_t1 trip_k0_t1
  dsimp only
  sl_unfold_words
  rw [View.readAt_full, View.readAt_full]
  rfl

theorem trip_L10 (k : Fin k0_t1_loop.trips) (acc : FVec F S1x64 .f32 × FVec F S1x64 .f32) (f10 : BufTy.Contents (Elt F) a10.view.ty) (f11 : BufTy.Contents (Elt F) a11.view.ty)
    (f13 : BufTy.Contents (Elt F) a13.view.ty) (g : BufTy.Contents (Elt F) a10.view.ty) :
    a10.view.read (Elt F) (a10.view.writes (Elt F) g (tripL_k0_t1 (F := F) 𝒱 c bd i a1 h1 a2 h2 a3 h3 a4 h4 a5 h5 a6 h6 a7 h7 a8 h8 a9 h9 a10 h10 a11 h11 a12 h12 a13 h13 a14 h14 q io X k acc f10 f11 f13).1)
      = (round q io (a14.view.read (Elt F) X) (acc, a10.view.read (Elt F) f10, a11.view.read (Elt F) f11, a13.view.read (Elt F) f13)).2.1 := by
  unfold tripL_k0_t1 trip_k0_t1
  dsimp only
  sl_unfold_words
  rw [View.readAt_full, View.readAt_full, View.readAt_full]
  exact View.read_writes_full _ _ _ _ _

theorem trip_L11 (k : Fin k0_t1_loop.trips) (acc : FVec F S1x64 .f32 × FVec F S1x64 .f32) (f10 : BufTy.Contents (Elt F) a10.view.ty) (f11 : BufTy.Contents (Elt F) a11.view.ty)
    (f13 : BufTy.Contents (Elt F) a13.view.ty) (g : BufTy.Contents (Elt F) a11.view.ty) :
    a11.view.read (Elt F) (a11.view.writes (Elt F) g (tripL_k0_t1 (F := F) 𝒱 c bd i a1 h1 a2 h2 a3 h3 a4 h4 a5 h5 a6 h6 a7 h7 a8 h8 a9 h9 a10 h10 a11 h11 a12 h12 a13 h13 a14 h14 q io X k acc f10 f11 f13).2.1)
      = (round q io (a14.view.read (Elt F) X) (acc, a10.view.read (Elt F) f10, a11.view.read (Elt F) f11, a13.view.read (Elt F) f13)).2.2.1 := by
  unfold tripL_k0_t1 trip_k0_t1
  dsimp only
  sl_unfold_words
  rw [View.readAt_full, View.readAt_full, View.readAt_full]
  exact View.read_writes_full _ _ _ _ _

theorem trip_L13 (k : Fin k0_t1_loop.trips) (acc : FVec F S1x64 .f32 × FVec F S1x64 .f32) (f10 : BufTy.Contents (Elt F) a10.view.ty) (f11 : BufTy.Contents (Elt F) a11.view.ty)
    (f13 : BufTy.Contents (Elt F) a13.view.ty) (g : BufTy.Contents (Elt F) a13.view.ty) :
    a13.view.read (Elt F) (a13.view.writes (Elt F) g (tripL_k0_t1 (F := F) 𝒱 c bd i a1 h1 a2 h2 a3 h3 a4 h4 a5 h5 a6 h6 a7 h7 a8 h8 a9 h9 a10 h10 a11 h11 a12 h12 a13 h13 a14 h14 q io X k acc f10 f11 f13).2.2)
      = (round q io (a14.view.read (Elt F) X) (acc, a10.view.read (Elt F) f10, a11.view.read (Elt F) f11, a13.view.read (Elt F) f13)).2.2.2 := by
  unfold tripL_k0_t1 trip_k0_t1
  dsimp only
  sl_unfold_words
  refine (View.read_writes_full a13.view g inb_S512x2048_S512x2048_0_0 _ []).trans ?_
  unfold round
  dsimp only
  refine congrArg (k0_pay10 io) ?_
  exact View.readAt_full a13.view f13 inb_S512x2048_S512x2048_0_0

/-- After `k` trips the carried values and what the three buffers hold are `k` rounds of what they were at entry. -/
theorem st_eq (G10 : BufTy.Contents (Elt F) a10.view.ty) (G11 : BufTy.Contents (Elt F) a11.view.ty) (G13 : BufTy.Contents (Elt F) a13.view.ty)
    (init : FVec F S1x64 .f32 × FVec F S1x64 .f32) (k : ℕ) (hk : k ≤ k0_t1_loop.trips) :
    ((st_k0_t1 (F := F) 𝒱 c bd i a1 h1 a2 h2 a3 h3 a4 h4 a5 h5 a6 h6 a7 h7 a8 h8 a9 h9 a10 h10 a11 h11 a12 h12 a13 h13 a14 h14 q io X G10 G11 G13 init k).1,
      a10.view.read (Elt F) (a10.view.writes (Elt F) G10 (st_k0_t1 (F := F) 𝒱 c bd i a1 h1 a2 h2 a3 h3 a4 h4 a5 h5 a6 h6 a7 h7 a8 h8 a9 h9 a10 h10 a11 h11 a12 h12 a13 h13 a14 h14 q io X G10 G11 G13 init k).2.1),
      a11.view.read (Elt F) (a11.view.writes (Elt F) G11 (st_k0_t1 (F := F) 𝒱 c bd i a1 h1 a2 h2 a3 h3 a4 h4 a5 h5 a6 h6 a7 h7 a8 h8 a9 h9 a10 h10 a11 h11 a12 h12 a13 h13 a14 h14 q io X G10 G11 G13 init k).2.2.1),
      a13.view.read (Elt F) (a13.view.writes (Elt F) G13 (st_k0_t1 (F := F) 𝒱 c bd i a1 h1 a2 h2 a3 h3 a4 h4 a5 h5 a6 h6 a7 h7 a8 h8 a9 h9 a10 h10 a11 h11 a12 h12 a13 h13 a14 h14 q io X G10 G11 G13 init k).2.2.2))
      = (round q io (a14.view.read (Elt F) X))^[k] (init, a10.view.read (Elt F) G10, a11.view.read (Elt F) G11, a13.view.read (Elt F) G13) := by
  induction k with
  | zero => rfl
  | succ k ih =>
    rw [Function.iterate_succ_apply', ← ih (Nat.le_of_succ_le hk), st_k0_t1_succ (k := ⟨k, hk⟩)]
    simp only [View.writes_append]
    rw [trip_R, trip_L10, trip_L11, trip_L13]

end Cert.Trip

end
-- ==== Proof.Run.lean ====
/-
  What the body leaves in its three output blocks: sixteen rounds of the entry state.
-/
module

public import proofs.«01_k».proof.Proof.Trip
public import Idealize.ShloMosaic.Lib.Pipeline.ValueKit

@[expose] public section

set_option maxRecDepth 16384

noncomputable section

namespace Cert.Trip

open Idealize.ShloMosaic Idealize.ShloMosaic.TcCoe Idealize.ShloMosaic.Tactic
open Cert.KernelIdeal Cert.KernelIdeal.Gen

variable {F : FTy → Type} [FloatOps F] [Named F]

/-- The first three rows of the weights, which the coordinates meet. -/
def wp (x8 : Vec F S35x64 .f32) : Vec F S3x64 .f32 := View.ld x8 (Rect.unit ![0, 0] ![3, 64] inb_S35x64_S3x64_0_0)

/-- The other thirty-two, which the features meet. -/
def wx (x8 : Vec F S35x64 .f32) : Vec F S32x64 .f32 := View.ld x8 (Rect.unit ![3, 0] ![32, 64] inb_S35x64_S32x64_3_0)

/-- The features, normalised. -/
def xb (x3 : Vec F S1x2048x32 .f32) (x5 : Vec F S1x2x32 .f32) (x6 x7 : Vec F S1x32 .f32) : FVec F S2048x32 .f32 := k0_pay14 x3 x5 x6 x7

/-- The points' product as the scratch holds it: the rounded part in the first 64 columns, the rest of it in the others. -/
def zb (x0 : Vec F S1x2048x3 .f32) (x3 : Vec F S1x2048x32 .f32) (x5 : Vec F S1x2x32 .f32) (x6 x7 : Vec F S1x32 .f32) (x8 : Vec F S35x64 .f32) :
    Vec F S2048x128 .f32 := fun y =>
  if h : (y 1).val < 64 then k0_pay18 (xb x3 x5 x6 x7) (wp x8) (wx x8) x0 (ValueIdx.ix2 (y 0) ⟨(y 1).val, h⟩)
  else k0_pay19 (xb x3 x5 x6 x7) (wp x8) (wx x8) x0 (ValueIdx.ix2 (y 0) ⟨(y 1).val - 64, by have := (y 1).isLt; simp at this; omega⟩)

/-- The column numbers. -/
def io : IVec S512x2048 32 := iota Kind.tc S512x2048 32 [1] iota_S512x2048_d1_w32

/-- What the loop starts from. -/
def entry (x1 : Vec F S1x3x2048 .f32) (x2 : Vec F S1x512x3 .f32) : St F := ((k0_pay3, k0_pay3), k0_pay1, k0_pay2, k0_pay21 x2 x1)

/-- What it ends with. -/
def final (x0 : Vec F S1x2048x3 .f32) (x1 : Vec F S1x3x2048 .f32) (x2 : Vec F S1x512x3 .f32) (x3 : Vec F S1x2048x32 .f32) (x5 : Vec F S1x2x32 .f32) (x6 : Vec F S1x32 .f32) (x7 : Vec F S1x32 .f32) (x8 : Vec F S35x64 .f32) : St F :=
  (round (k0_pay20 (wp x8) x2) io (zb x0 x3 x5 x6 x7 x8))^[16] (entry x1 x2)

theorem read_z {sp : Space} (v : View sig .tc sp S2048x128 .f32) (f : v.ty.Contents (Elt F)) (lo hi : FVec F S2048x64 .f32) :
    v.read (Elt F) (v.writes (Elt F) f [⟨Rect.unit ![0, 64] ![2048, 64] inb_S2048x128_S2048x64_0_64, hi⟩, ⟨Rect.unit ![0, 0] ![2048, 64] inb_S2048x128_S2048x64_0_0, lo⟩])
      = fun y => if h : (y 1).val < 64 then lo (ValueIdx.ix2 (y 0) ⟨(y 1).val, h⟩)
        else hi (ValueIdx.ix2 (y 0) ⟨(y 1).val - 64, by have := (y 1).isLt; simp at this; omega⟩) := by
  funext y
  by_cases h : (y 1).val < 64
  · rw [dif_pos h]
    refine (View.read_writes_cons_unit_of_not_mem (off' := ![0, 64]) v f inb_S2048x128_S2048x64_0_64 hi _ y rfl (1 : Fin 2) (Or.inl h)).trans ?_
    refine View.read_writes_cons_unit_of_mem v f _ lo _ y (ValueIdx.ix2 (y 0) ⟨(y 1).val, h⟩) rfl fun a => ?_
    match a with
    | ⟨0, _⟩ => exact (Nat.zero_add _).symm
    | ⟨1, _⟩ => exact (Nat.zero_add _).symm
  · rw [dif_neg h]
    refine View.read_writes_cons_unit_of_mem v f _ hi _ y (ValueIdx.ix2 (y 0) ⟨(y 1).val - 64, by have := (y 1).isLt; simp at this; omega⟩) rfl fun a => ?_
    match a with
    | ⟨0, _⟩ => exact (Nat.zero_add _).symm
    | ⟨1, _⟩ => exact (Nat.add_sub_of_le (Nat.le_of_not_lt h)).symm

theorem off2 : (![0, 0] : Fin 2 → ℕ) = fun _ => 0 := by decide
theorem off3 : (![0, 0, 0] : Fin 3 → ℕ) = fun _ => 0 := by decide

variable (c : Dev nD) (i : grid0.Coords)
  (a1 : Memref sig .tc .vmem S1x2048x3 .f32) (h1 : a1.IsWhole)
  (a2 : Memref sig .tc .vmem S1x3x2048 .f32) (h2 : a2.IsWhole)
  (a3 : Memref sig .tc .vmem S1x512x3 .f32) (h3 : a3.IsWhole)
  (a4 : Memref sig .tc .vmem S1x2048x32 .f32) (h4 : a4.IsWhole)
  (a5 : Memref sig .tc .vmem S1x2048x32 .f32) (h5 : a5.IsWhole)
  (a6 : Memref sig .tc .vmem S1x2x32 .f32) (h6 : a6.IsWhole)
  (a7 : Memref sig .tc .vmem S1x32 .f32) (h7 : a7.IsWhole)
  (a8 : Memref sig .tc .vmem S1x32 .f32) (h8 : a8.IsWhole)
  (a9 : Memref sig .tc .vmem S35x64 .f32) (h9 : a9.IsWhole)
  (a10 : Memref sig .tc .vmem S1x512x64 .f32) (h10 : a10.IsWhole)
  (a11 : Memref sig .tc .vmem S1x512x64 .f32) (h11 : a11.IsWhole)
  (a12 : Memref sig .tc .vmem S1x2x64 .f32) (h12 : a12.IsWhole)
  (a13 : Memref sig .tc .vmem S512x2048 .f32) (h13 : a13.IsWhole)
  (a14 : Memref sig .tc .vmem S2048x128 .f32) (h14 : a14.IsWhole)
  (x0 : Vec F S1x2048x3 .f32) (x1 : Vec F S1x3x2048 .f32) (x2 : Vec F S1x512x3 .f32) (x3 : Vec F S1x2048x32 .f32) (x4 : Vec F S1x2048x32 .f32) (x5 : Vec F S1x2x32 .f32) (x6 : Vec F S1x32 .f32) (x7 : Vec F S1x32 .f32) (x8 : Vec F S35x64 .f32)

/-- The loop's last state, at the entry contents the body gives it. -/
abbrev last := st_k0_t1 (F := F) Variants.none c none i a1 h1 a2 h2 a3 h3 a4 h4 a5 h5 a6 h6 a7 h7 a8 h8 a9 h9 a10 h10 a11 h11 a12 h12 a13 h13 a14 h14 (k0_pay20 (wp x8) x2) io
      (a14.view.writes (Elt F) a14.view.junk [⟨Rect.unit ![0, 64] ![2048, 64] inb_S2048x128_S2048x64_0_64, k0_pay19 (xb x3 x5 x6 x7) (wp x8) (wx x8) x0⟩, ⟨Rect.unit ![0, 0] ![2048, 64] inb_S2048x128_S2048x64_0_0, k0_pay18 (xb x3 x5 x6 x7) (wp x8) (wx x8) x0⟩])
      (a10.view.writes (Elt F) a10.view.junk [⟨Rect.unit ![0, 0, 0] ![1, 512, 64] inb_S1x512x64_S1x512x64_0_0_0, k0_pay1⟩])
      (a11.view.writes (Elt F) a11.view.junk [⟨Rect.unit ![0, 0, 0] ![1, 512, 64] inb_S1x512x64_S1x512x64_0_0_0, k0_pay2⟩])
      (a13.view.writes (Elt F) a13.view.junk [⟨Rect.unit ![0, 0] ![512, 2048] inb_S512x2048_S512x2048_0_0, k0_pay21 x2 x1⟩])
      (k0_pay3, k0_pay3) 16

theorem last_eq :
    ((last c i a1 h1 a2 h2 a3 h3 a4 h4 a5 h5 a6 h6 a7 h7 a8 h8 a9 h9 a10 h10 a11 h11 a12 h12 a13 h13 a14 h14 x0 x1 x2 x3 x5 x6 x7 x8).1,
      a10.view.read (Elt F) (a10.view.writes (Elt F) (a10.view.writes (Elt F) a10.view.junk [⟨Rect.unit ![0, 0, 0] ![1, 512, 64] inb_S1x512x64_S1x512x64_0_0_0, k0_pay1⟩]) (last c i a1 h1 a2 h2 a3 h3 a4 h4 a5 h5 a6 h6 a7 h7 a8 h8 a9 h9 a10 h10 a11 h11 a12 h12 a13 h13 a14 h14 x0 x1 x2 x3 x5 x6 x7 x8).2.1),
      a11.view.read (Elt F) (a11.view.writes (Elt F) (a11.view.writes (Elt F) a11.view.junk [⟨Rect.unit ![0, 0, 0] ![1, 512, 64] inb_S1x512x64_S1x512x64_0_0_0, k0_pay2⟩]) (last c i a1 h1 a2 h2 a3 h3 a4 h4 a5 h5 a6 h6 a7 h7 a8 h8 a9 h9 a10 h10 a11 h11 a12 h12 a13 h13 a14 h14 x0 x1 x2 x3 x5 x6 x7 x8).2.2.1),
      a13.view.read (Elt F) (a13.view.writes (Elt F) (a13.view.writes (Elt F) a13.view.junk [⟨Rect.unit ![0, 0] ![512, 2048] inb_S512x2048_S512x2048_0_0, k0_pay21 x2 x1⟩]) (last c i a1 h1 a2 h2 a3 h3 a4 h4 a5 h5 a6 h6 a7 h7 a8 h8 a9 h9 a10 h10 a11 h11 a12 h12 a13 h13 a14 h14 x0 x1 x2 x3 x5 x6 x7 x8).2.2.2))
      = final x0 x1 x2 x3 x5 x6 x7 x8 := by
  refine (st_eq (F := F) Variants.none c none i a1 h1 a2 h2 a3 h3 a4 h4 a5 h5 a6 h6 a7 h7 a8 h8 a9 h9 a10 h10 a11 h11 a12 h12 a13 h13 a14 h14 _ _ _ _ _ _ _ 16 (by decide)).trans ?_
  unfold final entry
  refine congrArg₂ (fun z s => (round (k0_pay20 (wp x8) x2) io z)^[16] s) (read_z a14.view _ _ _) ?_
  refine congrArg (fun p => ((k0_pay3, k0_pay3), p)) ?_
  refine congrArg₂ Prod.mk (View.read_writes_full a10.view _ inb_S1x512x64_S1x512x64_0_0_0 _ []) ?_
  exact congrArg₂ Prod.mk (View.read_writes_full a11.view _ inb_S1x512x64_S1x512x64_0_0_0 _ []) (View.read_writes_full a13.view _ inb_S512x2048_S512x2048_0_0 _ [])

/-- The whole-block loads read the block. -/
theorem lds :
    View.ld x0 (Rect.unit ![0, 0, 0] ![1, 2048, 3] inb_S1x2048x3_S1x2048x3_0_0_0) = x0
    ∧ View.ld x1 (Rect.unit ![0, 0, 0] ![1, 3, 2048] inb_S1x3x2048_S1x3x2048_0_0_0) = x1
    ∧ View.ld x2 (Rect.unit ![0, 0, 0] ![1, 512, 3] inb_S1x512x3_S1x512x3_0_0_0) = x2
    ∧ View.ld x3 (Rect.unit ![0, 0, 0] ![1, 2048, 32] inb_S1x2048x32_S1x2048x32_0_0_0) = x3
    ∧ View.ld x5 (Rect.unit ![0, 0, 0] ![1, 2, 32] inb_S1x2x32_S1x2x32_0_0_0) = x5
    ∧ View.ld x6 (Rect.unit ![0, 0] ![1, 32] inb_S1x32_S1x32_0_0) = x6
    ∧ View.ld x7 (Rect.unit ![0, 0] ![1, 32] inb_S1x32_S1x32_0_0) = x7 :=
  ⟨View.ld_unit_zero (S := S1x2048x3) off3 _ _, View.ld_unit_zero (S := S1x3x2048) off3 _ _, View.ld_unit_zero (S := S1x512x3) off3 _ _,
    View.ld_unit_zero (S := S1x2048x32) off3 _ _, View.ld_unit_zero (S := S1x2x32) off3 _ _, View.ld_unit_zero (S := S1x32) off2 _ _, View.ld_unit_zero (S := S1x32) off2 _ _⟩

theorem out9_eq : out0_A_9 (F := F) c i a1 h1 a2 h2 a3 h3 a4 h4 a5 h5 a6 h6 a7 h7 a8 h8 a9 h9 a10 h10 a11 h11 a12 h12 a13 h13 a14 h14 x0 x1 x2 x3 x4 x5 x6 x7 x8 = (final x0 x1 x2 x3 x5 x6 x7 x8).2.1 := by
  obtain ⟨e0, e1, e2, e3, e5, e6, e7⟩ := lds x0 x1 x2 x3 x5 x6 x7
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 x0 x1 x2 x3 x4 x5 x6 x7 x8),
    ← View.read_writes_eq_canon a10.view a10.view.junk _ (cover0_A_9 c i a1 h1 a2 h2 a3 h3 a4 h4 a5 h5 a6 h6 a7 h7 a8 h8 a9 h9 a10 h10 a11 h11 a12 h12 a13 h13 a14 h14 x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread]
  rw [View.writes_append, e0, e1, e2, e3, e5, e6, e7]
  exact congrArg (fun s => s.2.1) (last_eq c i a1 h1 a2 h2 a3 h3 a4 h4 a5 h5 a6 h6 a7 h7 a8 h8 a9 h9 a10 h10 a11 h11 a12 h12 a13 h13 a14 h14 x0 x1 x2 x3 x5 x6 x7 x8)

theorem out10_eq : out0_A_10 (F := F) c i a1 h1 a2 h2 a3 h3 a4 h4 a5 h5 a6 h6 a7 h7 a8 h8 a9 h9 a10 h10 a11 h11 a12 h12 a13 h13 a14 h14 x0 x1 x2 x3 x4 x5 x6 x7 x8 = (final x0 x1 x2 x3 x5 x6 x7 x8).2.2.1 := by
  obtain ⟨e0, e1, e2, e3, e5, e6, e7⟩ := lds x0 x1 x2 x3 x5 x6 x7
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 x0 x1 x2 x3 x4 x5 x6 x7 x8),
    ← View.read_writes_eq_canon a11.view a11.view.junk _ (cover0_A_10 c i a1 h1 a2 h2 a3 h3 a4 h4 a5 h5 a6 h6 a7 h7 a8 h8 a9 h9 a10 h10 a11 h11 a12 h12 a13 h13 a14 h14 x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread]
  rw [View.writes_append, e0, e1, e2, e3, e5, e6, e7]
  exact congrArg (fun s => s.2.2.1) (last_eq c i a1 h1 a2 h2 a3 h3 a4 h4 a5 h5 a6 h6 a7 h7 a8 h8 a9 h9 a10 h10 a11 h11 a12 h12 a13 h13 a14 h14 x0 x1 x2 x3 x5 x6 x7 x8)

/-- The statistics block: row 0 the sums, row 1 the sums of squares. -/
theorem out11_eq : out0_A_11 (F := F) c i a1 h1 a2 h2 a3 h3 a4 h4 a5 h5 a6 h6 a7 h7 a8 h8 a9 h9 a10 h10 a11 h11 a12 h12 a13 h13 a14 h14 x0 x1 x2 x3 x4 x5 x6 x7 x8 = fun y =>
    if (y 1).val = 0 then k0_pay7 (final x0 x1 x2 x3 x5 x6 x7 x8).1.1 (ValueIdx.ix3 0 0 (y 2)) else k0_pay8 (final x0 x1 x2 x3 x5 x6 x7 x8).1.2 (ValueIdx.ix3 0 0 (y 2)) := by
  obtain ⟨e0, e1, e2, e3, e5, e6, e7⟩ := lds x0 x1 x2 x3 x5 x6 x7
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 x0 x1 x2 x3 x4 x5 x6 x7 x8),
    ← View.read_writes_eq_canon a12.view a12.view.junk _ (cover0_A_11 c i a1 h1 a2 h2 a3 h3 a4 h4 a5 h5 a6 h6 a7 h7 a8 h8 a9 h9 a10 h10 a11 h11 a12 h12 a13 h13 a14 h14 x0 x1 x2 x3 x4 x5 x6 x7 x8)]
  unfold kernelRun0_A
  dsimp only
  sl_unfold_words
  simp only [View.readAt_eq_ld, h1.read_unread, h2.read_unread, h3.read_unread, h4.read_unread, h5.read_unread, h6.read_unread, h7.read_unread, h8.read_unread, h9.read_unread]
  rw [e0, e1, e2, e3, e5, e6, e7]
  have h := congrArg (fun s => s.1) (last_eq c i a1 h1 a2 h2 a3 h3 a4 h4 a5 h5 a6 h6 a7 h7 a8 h8 a9 h9 a10 h10 a11 h11 a12 h12 a13 h13 a14 h14 x0 x1 x2 x3 x5 x6 x7 x8)
  dsimp only at h
  funext y
  have hy0 : (y 0).val = 0 := by have : (y 0).val < 1 := (y 0).isLt; omega
  by_cases hy : (y 1).val = 0
  · rw [if_pos hy]
    refine (View.read_writes_cons_unit_of_not_mem (off' := ![0, 1, 0]) a12.view _ inb_S1x2x64_S1x1x64_0_1_0 _ _ y rfl (1 : Fin 3) (Or.inl (by show (y 1).val < 1; omega))).trans ?_
    refine (View.read_writes_cons_unit_of_mem (off' := ![0, 0, 0]) a12.view _ inb_S1x2x64_S1x1x64_0_0_0 _ _ y (ValueIdx.ix3 0 0 (y 2)) rfl fun a => ?_).trans ?_
    · match a with
      | ⟨0, _⟩ => exact hy0
      | ⟨1, _⟩ => exact hy
      | ⟨2, _⟩ => exact (Nat.zero_add _).symm
    · rw [← h]; rfl
  · rw [if_neg hy]
    have hy1 : (y 1).val = 1 := by have : (y 1).val < 2 := (y 1).isLt; omega
    refine (View.read_writes_cons_unit_of_mem (off' := ![0, 1, 0]) a12.view _ inb_S1x2x64_S1x1x64_0_1_0 _ _ y (ValueIdx.ix3 0 0 (y 2)) rfl fun a => ?_).trans ?_
    · match a with
      | ⟨0, _⟩ => exact hy0
      | ⟨1, _⟩ => exact hy1
      | ⟨2, _⟩ => exact (Nat.zero_add _).symm
    · rw [← h]; rfl

end Cert.Trip

end
-- ==== Proof.Select.lean ====
/-
  Choosing the smallest entries of a row one at a time, the first of equal ones, each chosen entry masked before the next
  choice: the choices are the first positions of the stable sort of the row.
-/
module

public import Idealize.ShloMosaic.PureOps.Ideal
public import Idealize.ShloMosaic.Lib.SortPrefix

@[expose] public section

noncomputable section

namespace Cert.Select

open Idealize.ShloMosaic

/-- Two comparators that agree on every pair in list order sort the list alike. -/
theorem stableSort_congr_of_pairwise {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

variable {n : ℕ} (d : Fin n → EReal)

open Classical in
/-- The comparator on positions by the keys alone. -/
def before (k k' : Fin n) : Bool := decide (d k < d k')

open Classical in
/-- The keys, then the position. -/
def strict (k k' : Fin n) : Bool := decide (d k < d k') || (decide (d k = d k') && decide (k < k'))

theorem strict_total : StrictTotalBefore (strict d) := by
  classical
  have h := StrictTotalBefore.of_key_then_position (fun a b : EReal => decide (a < b)) d (by simp)
    (fun a b c hab hbc => by simp only [decide_eq_true_eq] at *; exact hab.trans hbc)
    (fun a b => by simpa using lt_trichotomy a b)
  have e : strict d = fun k k' : Fin n => decide (d k < d k') || (decide (d k = d k') && decide (k < k')) := by
    funext k k'; unfold strict; congr
  rw [e]
  convert h using 3

theorem sortPositions_before : sortPositions n (before d) = sortPositions n (strict d) := by
  unfold sortPositions
  refine stableSort_congr_of_pairwise _ _ _ ?_
  refine (List.pairwise_lt_finRange n).imp fun {a b} hab => ?_
  unfold before strict
  have : ¬ b < a := fun h => absurd (h.trans hab) (lt_irrefl _)
  simp [this]

/-- The position whose entry is the `r`-th of the sorted row. -/
def sel (r : Fin n) : Fin n := sortedFrom (before d) r

theorem sel_eq (r : Fin n) : sel d r = sortedFrom (strict d) r := by
  unfold sel sortedFrom
  rw [List.get_of_eq (sortPositions_before d)]
  rfl

theorem sel_injective : Function.Injective (sel d) := sortedFrom_injective _

theorem sel_surjective : Function.Surjective (sel d) := sortedFrom_surjective _

/-- Of the positions not chosen before, the `r`-th choice has the smallest entry, and is the first with it. -/
theorem sel_min (r j : Fin n) (hj : ∀ t, t < r → sel d t ≠ j) : d (sel d r) ≤ d j ∧ (d j = d (sel d r) → sel d r ≤ j) := by
  classical
  obtain ⟨t, rfl⟩ := sel_surjective d j
  have hB := strict_total d
  have hs : strict d (sel d t) (sel d r) = false := by
    rcases lt_trichotomy t r with h | h | h
    · exact absurd rfl (hj t h)
    · subst h; exact hB.irrefl _
    · rw [sel_eq, sel_eq]
      exact sortedFrom_noInversion (strict d) (strict d) (fun a b h => hB.asymm a b h) (fun _ _ h => h) hB.negTrans r t h
  unfold strict at hs
  simp only [Bool.or_eq_false_iff, decide_eq_false_iff_not, Bool.and_eq_false_iff, not_lt] at hs
  exact ⟨hs.1, fun e => hs.2.resolve_left (fun h => h e)⟩

open Classical in
/-- The row with the first `r` choices masked by the top element. -/
def mask (r : ℕ) (j : Fin n) : EReal := if ∃ t : Fin n, t.val < r ∧ sel d t = j then ⊤ else d j

theorem mask_zero : mask d 0 = d := by
  funext j; unfold mask; rw [if_neg]; rintro ⟨t, h, -⟩; exact absurd h (Nat.not_lt_zero _)

theorem mask_succ (r : Fin n) (j : Fin n) : mask d (r.val + 1) j = if j = sel d r then ⊤ else mask d r.val j := by
  unfold mask
  by_cases h : j = sel d r
  · rw [if_pos h, if_pos ⟨r, Nat.lt_succ_self _, h.symm⟩]
  · rw [if_neg h]
    congr 1
    refine propext ⟨fun ⟨t, ht, e⟩ => ⟨t, ?_, e⟩, fun ⟨t, ht, e⟩ => ⟨t, Nat.lt_succ_of_lt ht, e⟩⟩
    rcases Nat.lt_succ_iff_lt_or_eq.mp ht with h' | h'
    · exact h'
    · exact absurd (e.symm.trans (congrArg (sel d) (Fin.ext h'))) h

variable (hd : ∀ j, d j ≠ ⊤)
include hd

/-- The `r`-th choice is the first smallest entry of the row as masked before it. -/
theorem mask_first (r : Fin n) :
    (∀ j, mask d r.val (sel d r) ≤ mask d r.val j) ∧ ∀ j, mask d r.val j = mask d r.val (sel d r) → sel d r ≤ j := by
  have e : mask d r.val (sel d r) = d (sel d r) := by
    unfold mask; rw [if_neg]; rintro ⟨t, h, e⟩
    exact absurd (congrArg Fin.val (sel_injective d e)) (Nat.ne_of_lt h)
  rw [e]
  constructor
  · intro j
    unfold mask; split
    · exact le_top
    · rename_i h; exact (sel_min d r j fun t ht e => h ⟨t, ht, e⟩).1
  · intro j
    unfold mask; split
    · intro h; exact absurd h.symm (hd _)
    · rename_i h; exact (sel_min d r j fun t ht e => h ⟨t, ht, e⟩).2

end Cert.Select

end
-- ==== Proof.Spec.lean ====
/-
  The grouped feature both programs compute, for one centre and one channel: the `k`-th nearest point's offset and features,
  times the weights.
-/
module

public import proofs.«01_k».proof.Proof.Select
public import proofs.«01_k».proof.Proof.Arith

@[expose] public section

noncomputable section

namespace Cert.Select

open Idealize.ShloMosaic Cert.Arith

variable {N n m : ℕ} [NeZero N]

/-- The position of the `r`-th smallest entry. -/
def pick (d : Fin N → EReal) (r : ℕ) : Fin N := sel d (Fin.ofNat N r)

theorem pick_eq (d : Fin N → EReal) (r : ℕ) (hr : r < N) : pick d r = sel d ⟨r, hr⟩ :=
  congrArg (sel d) (Fin.ext (Nat.mod_eq_of_lt hr))

/-- The squared distance of a centre to every point. -/
def dist (P : Fin N → Fin n → EReal) (q : Fin n → EReal) (j : Fin N) : EReal := ∑ i, (q i - P j i) * (q i - P j i)

/-- The `k`-th nearest point's offset and features, times the weights. -/
def grp (P : Fin N → Fin n → EReal) (q : Fin n → EReal) (X : Fin N → Fin m → EReal) (w : Fin n → EReal) (w' : Fin m → EReal)
    (k : ℕ) : EReal :=
  ∑ i, (P (pick (dist P q) k) i - q i) * w i + ∑ i, X (pick (dist P q) k) i * w' i

theorem dist_real {P : Fin N → Fin n → EReal} {q : Fin n → EReal} (hP : ∀ j i, Real' (P j i)) (hq : ∀ i, Real' (q i)) (j : Fin N) :
    Real' (dist P q j) := Real'.sum fun i => ((hq i).sub (hP j i)).mul ((hq i).sub (hP j i))

end Cert.Select

end
-- ==== Proof.Round.lean ====
/-
  One round of the selection loop over the reals: the first smallest entry of every row of distances is found and masked, its
  row of the products is read, and the running maximum, minimum, sum and sum of squares take it in.
-/
module

public import proofs.«01_k».proof.Proof.Run
public import proofs.«01_k».proof.Proof.Spec
public import Idealize.ShloMosaic.Lib.Pointwise
public import Idealize.ShloMosaic.Lib.SortNet.Extract
public import Idealize.ShloMosaic.PureOps.IdealRules

@[expose] public section

set_option maxRecDepth 16384

noncomputable section

namespace Cert.Round

open Idealize.ShloMosaic Idealize.ShloMosaic.TcCoe Idealize.ShloMosaic.Tactic
open Cert.KernelIdeal Cert.KernelIdeal.Gen Cert.Select Cert.Trip Cert.Consts

theorem mask_big_top : Named.named (F := Ideal) (φ := .f32) κ "mask_big" 0x7149F2CA#32 = (⊤ : EReal) :=
  IdealRules.named_const.ideal_named_scalar _ _ _ _ rfl

theorem neg_big_bot : Named.named (F := Ideal) (φ := .f32) κ "neg_big" 0xFF61B1E6#32 = (⊥ : EReal) :=
  IdealRules.named_const.ideal_named_scalar _ _ _ _ rfl

theorem pos_big_top : Named.named (F := Ideal) (φ := .f32) κ "pos_big" 0x7F61B1E6#32 = (⊤ : EReal) :=
  IdealRules.named_const.ideal_named_scalar _ _ _ _ rfl

theorem fold_min_eq {n : ℕ} (x : Fin n → EReal) (p : Fin n) (h : ∀ j, x p ≤ x j) : Finset.univ.fold min ⊤ x = x p :=
  le_antisymm ((Finset.le_fold_min _).1 le_rfl |>.2 p (Finset.mem_univ _)) ((Finset.le_fold_min _).2 ⟨le_top, fun j _ => h j⟩)

theorem toInt_small (k : ℕ) (h : k ≤ 2048) : (BitVec.ofNat 32 k).toInt = k := by
  rw [BitVec.toInt_eq_toNat_of_lt] <;> rw [BitVec.toNat_ofNat] <;> omega

/-- The least position among those with the smallest entry. -/
theorem fold_minsi_eq (x : Fin 2048 → EReal) (p : Fin 2048) (h : ∀ j, x j = x p → p ≤ j) :
    Finset.univ.fold IntOp.minsi (2147483647#32) (fun k : Fin 2048 => if x k = x p then BitVec.ofNat 32 k.val else 2048#32) =
      BitVec.ofNat 32 p.val := by
  apply BitVec.eq_of_toInt_eq
  have hom := Finset.fold_hom (s := (Finset.univ : Finset (Fin 2048))) (op := (IntOp.minsi : BitVec 32 → BitVec 32 → BitVec 32))
    (op' := (min : ℤ → ℤ → ℤ)) (b := 2147483647#32) (m := BitVec.toInt)
    (f := fun k : Fin 2048 => if x k = x p then BitVec.ofNat 32 k.val else 2048#32) (fun a b => SortNet.toInt_minsi a b)
  rw [← hom, toInt_small _ p.isLt.le]
  refine le_antisymm ?_ ?_
  · refine ((Finset.le_fold_min _).1 le_rfl |>.2 p (Finset.mem_univ _)).trans ?_
    rw [if_pos rfl, toInt_small _ p.isLt.le]
  · refine (Finset.le_fold_min _).2 ⟨?_, fun j _ => ?_⟩
    · have : (2147483647#32).toInt = 2147483647 := by decide
      rw [this]; have := p.isLt; omega
    · split
      · rename_i e; rw [toInt_small _ j.isLt.le]; exact_mod_cast h j e
      · rw [toInt_small 2048 le_rfl]; have := p.isLt; omega

section Row

variable (v : FVec Ideal S512x2048 .f32) (a : Fin 512) (p : Fin 2048)
  (h1 : ∀ j, v (ix2 a p) ≤ v (ix2 a j)) (h2 : ∀ j, v (ix2 a j) = v (ix2 a p) → p ≤ j)

include h1 h2

/-- The one-hot row. -/
theorem hot (j : Fin 2048) : k0_pay9 (F := Ideal) io v (ix2 a j) = if j = p then 1#1 else 0#1 := by
  pointwise [k0_pay9, io]
  rw [top_bits, fold_min_eq (fun x => v (ix2 a x)) p h1, fold_minsi_eq (fun x => v (ix2 a x)) p h2]
  unfold IntOp.cmpi
  by_cases e : j = p
  · subst e; simp
  · rw [if_neg e]
    have : BitVec.ofNat 32 j.val ≠ BitVec.ofNat 32 p.val := fun h => e (Fin.ext (by
      have := congrArg BitVec.toInt h
      rw [toInt_small _ j.isLt.le, toInt_small _ p.isLt.le] at this
      exact_mod_cast this))
    rw [beq_eq_false_iff_ne.mpr this]; rfl

/-- The masked row. -/
theorem masked (j : Fin 2048) : k0_pay10 (F := Ideal) io v (ix2 a j) = if j = p then (⊤ : EReal) else v (ix2 a j) := by
  pointwise [k0_pay10]
  rw [hot v a p h1 h2 j, mask_big_top]
  by_cases e : j = p <;> simp [e, Scalar.select]

/-- The one-hot row's product with the table is the table's row. -/
theorem picked (q : FVec Ideal S512x64 .f32) (z : FVec Ideal S2048x128 .f32) (c : Fin 64) :
    k0_pay11 (F := Ideal) q io v z (ix2 a c) =
      (z (ix2 p ⟨c.val, by omega⟩) + z (ix2 p ⟨64 + c.val, by omega⟩) - q (ix2 a c) : EReal) := by
  have w : ∀ j, (FloatOps.sitofp (F := Ideal) FTy.f32 (BitVec.setWidth 32 (k0_pay9 (F := Ideal) io v (ix2 a j))) : EReal) =
      if j = p then 1 else 0 := by
    intro j
    rw [hot v a p h1 h2 j]
    show ((((BitVec.setWidth 32 (if j = p then 1#1 else 0#1)).toInt : ℝ)) : EReal) = _
    split <;> simp
  pointwise [k0_pay11, w]
  simp

end Row

/-- What round `r` reads for centre `a` and channel `c`. -/
def took (q : FVec Ideal S512x64 .f32) (z : FVec Ideal S2048x128 .f32) (D : FVec Ideal S512x2048 .f32) (r : ℕ) (a : Fin 512)
    (c : Fin 64) : EReal :=
  z (ix2 (pick (fun j => D (ix2 a j)) r) ⟨c.val, by omega⟩) + z (ix2 (pick (fun j => D (ix2 a j)) r) ⟨64 + c.val, by omega⟩) -
    q (ix2 a c)

/-- The loop's state after `r` rounds. -/
structure After (q : FVec Ideal S512x64 .f32) (z : FVec Ideal S2048x128 .f32) (D : FVec Ideal S512x2048 .f32) (r : ℕ)
    (s : St Ideal) : Prop where
  dist : ∀ a j, s.2.2.2 (ix2 a j) = mask (fun j => D (ix2 a j)) r j
  top : ∀ a c, s.2.1 (ix3 0 a c) = Finset.univ.fold max ⊥ fun k : Fin r => took q z D k.val a c
  low : ∀ a c, s.2.2.1 (ix3 0 a c) = Finset.univ.fold min ⊤ fun k : Fin r => took q z D k.val a c
  sum : ∀ c, s.1.1 (ix2 0 c) = ∑ k : Fin r, ∑ a, took q z D k.val a c
  sq : ∀ c, s.1.2 (ix2 0 c) = ∑ k : Fin r, ∑ a, took q z D k.val a c * took q z D k.val a c

theorem fold_last {β : Type} (op : β → β → β) [Std.Commutative op] [Std.Associative op] (b : β) {n : ℕ} (f : Fin (n + 1) → β) :
    Finset.univ.fold op b f = op (Finset.univ.fold op b fun k : Fin n => f k.castSucc) (f (Fin.last n)) := by
  rw [Fin.univ_castSuccEmb, Finset.fold_cons, Finset.fold_map, Std.Commutative.comm (op := op)]
  rfl

variable (q : FVec Ideal S512x64 .f32) (z : FVec Ideal S2048x128 .f32) (D : FVec Ideal S512x2048 .f32)

theorem after_succ (hD : ∀ a j, D (ix2 a j) ≠ (⊤ : EReal)) (r : ℕ) (hr : r < 2048) (s : St Ideal) (h : After q z D r s) :
    After q z D (r + 1) (round q io z s) := by
  have hp : ∀ a, pick (fun j => D (ix2 a j)) r = sel (fun j => D (ix2 a j)) ⟨r, hr⟩ := fun a => by
    exact pick_eq _ r hr
  have hm := fun a => mask_first (fun j => D (ix2 a j)) (hD a) ⟨r, hr⟩
  have h1 : ∀ a j, s.2.2.2 (ix2 a (pick (fun j => D (ix2 a j)) r)) ≤ (s.2.2.2 (ix2 a j) : EReal) := fun a j => by
    rw [h.dist, h.dist, hp]; exact (hm a).1 j
  have h2 : ∀ a j, s.2.2.2 (ix2 a j) = (s.2.2.2 (ix2 a (pick (fun j => D (ix2 a j)) r)) : EReal) →
      pick (fun j => D (ix2 a j)) r ≤ j := fun a j e => by
    rw [h.dist, h.dist, hp] at e; rw [hp]; exact (hm a).2 j e
  have ht : ∀ a c, k0_pay11 (F := Ideal) q io s.2.2.2 z (ix2 a c) = took q z D r a c := fun a c =>
    picked s.2.2.2 a _ (h1 a) (h2 a) q z c
  constructor
  · intro a j
    unfold Trip.round
    dsimp only
    rw [masked s.2.2.2 a _ (h1 a) (h2 a) j]
    refine Eq.trans ?_ (mask_succ (fun j => D (ix2 a j)) ⟨r, hr⟩ j).symm
    rw [hp, h.dist]
  · intro a c
    rw [fold_last]
    unfold Trip.round
    pointwise [k0_pay12, ht]
    exact congrArg (fun x => max x _) (h.top a c)
  · intro a c
    rw [fold_last]
    unfold Trip.round
    pointwise [k0_pay4, k0_pay13, ht]
    exact congrArg (fun x => min x _) (h.low a c)
  · intro c
    rw [Fin.sum_univ_castSucc]
    unfold Trip.round
    pointwise [k0_pay5, ht]
    exact congrArg (fun x : EReal => x + _) (h.sum c)
  · intro c
    rw [Fin.sum_univ_castSucc]
    unfold Trip.round
    pointwise [k0_pay6, ht]
    exact congrArg (fun x : EReal => x + _) (h.sq c)

theorem after_iterate (hD : ∀ a j, D (ix2 a j) ≠ (⊤ : EReal)) (s : St Ideal) (h : After q z D 0 s) (r : ℕ) (hr : r ≤ 2048) :
    After q z D r ((round q io z)^[r] s) := by
  induction r with
  | zero => exact h
  | succ r ih =>
    rw [Function.iterate_succ_apply']
    exact after_succ q z D hD r hr _ (ih (Nat.le_of_succ_le hr))

theorem after_entry (x1 : FVec Ideal S1x3x2048 .f32) (x2 : FVec Ideal S1x512x3 .f32) :
    After q z (k0_pay21 x2 x1) 0 (entry (F := Ideal) x1 x2) := by
  unfold entry
  constructor
  · intro a j; rw [mask_zero]
  · intro a c; pointwise [k0_pay1]; exact neg_big_bot
  · intro a c; pointwise [k0_pay2]; exact pos_big_top
  · intro c; pointwise [k0_pay3]; exact (Fin.sum_univ_zero _).symm
  · intro c; pointwise [k0_pay3]; exact (Fin.sum_univ_zero _).symm

end Cert.Round

end
-- ==== Proof.Block.lean ====
/-
  One grid point of the kernel over the reals: its three result blocks as the grouped maximum, minimum and sums.
-/
module

public import proofs.«01_k».proof.Proof.Round

@[expose] public section

set_option maxRecDepth 16384

noncomputable section

namespace Cert.Block

open Idealize.ShloMosaic Idealize.ShloMosaic.TcCoe Idealize.ShloMosaic.Tactic
open Cert.KernelIdeal Cert.KernelIdeal.Gen Cert.Select Cert.Trip Cert.Round Cert.Arith

variable (x0 : FVec Ideal S1x2048x3 .f32) (x1 : FVec Ideal S1x3x2048 .f32) (x2 : FVec Ideal S1x512x3 .f32)
  (x3 : FVec Ideal S1x2048x32 .f32) (x5 : FVec Ideal S1x2x32 .f32) (x6 x7 : FVec Ideal S1x32 .f32) (x8 : FVec Ideal S35x64 .f32)

/-- The points of the block. -/
def pts (j : Fin 2048) (i : Fin 3) : EReal := x0 (ix3 0 j i)

/-- A centre of the block. -/
def ctr (a : Fin 512) (i : Fin 3) : EReal := x2 (ix3 0 a i)

/-- The normalised features of the block. -/
def feat (j : Fin 2048) (f : Fin 32) : EReal :=
  bn (x3 (ix3 0 j f)) (x5 (ix3 0 0 f)) (x5 (ix3 0 1 f)) (x6 (ix2 0 f)) (x7 (ix2 0 f))

/-- The grouped feature of the block. -/
def blk (k : ℕ) (a : Fin 512) (c : Fin 64) : EReal :=
  grp (pts x0) (ctr x2 a) (feat x3 x5 x6 x7) (fun i => x8 (ix2 ⟨i.val, by omega⟩ c)) (fun f => x8 (ix2 ⟨3 + f.val, by omega⟩ c)) k

theorem ix2_same {n m : ℕ} (i : Fin n) (j : Fin m) : (ValueIdx.ix2 i j : (⟨2, ![n, m]⟩ : Shape).Idx) = ix2 i j := by
  funext e
  match e with
  | ⟨0, _⟩ => rfl
  | ⟨1, _⟩ => rfl

theorem ix3_same {n m l : ℕ} (i : Fin n) (j : Fin m) (k : Fin l) :
    (ValueIdx.ix3 i j k : (⟨3, ![n, m, l]⟩ : Shape).Idx) = ix3 i j k := by
  funext e
  match e with
  | ⟨0, _⟩ => rfl
  | ⟨1, _⟩ => rfl
  | ⟨2, _⟩ => rfl

section

variable (h3 : ∀ y, Real' (x3 y)) (h5 : ∀ y, Real' (x5 y)) (h6 : ∀ y, Real' (x6 y)) (h7 : ∀ y, Real' (x7 y))
  (hv : ∀ f, 0 ≤ var (x5 (ix3 0 0 f)) (x5 (ix3 0 1 f)))
include h3 h5 h6 h7 hv

theorem xb_eq (j : Fin 2048) (f : Fin 32) : xb (F := Ideal) x3 x5 x6 x7 (ix2 j f) = feat x3 x5 x6 x7 j f := by
  refine Eq.trans ?_ (bn_kernel (h3 _) (h5 _) (h5 _) (h6 _) (h7 _) (hv f))
  pointwise [xb, k0_pay14, mean, var]
  simp

theorem feat_real (j : Fin 2048) (f : Fin 32) : Real' (feat x3 x5 x6 x7 j f) := bn_real (h3 _) (h5 _) (h5 _) (h6 _) (h7 _) (hv f)

end

theorem zb_lo (p : Fin 2048) (c : Fin 64) : zb (F := Ideal) x0 x3 x5 x6 x7 x8 (ix2 p ⟨c.val, by omega⟩) =
    (∑ i : Fin 3, x0 (ix3 0 p i) * x8 (ix2 ⟨i.val, by omega⟩ c) +
      ∑ f : Fin 32, xb (F := Ideal) x3 x5 x6 x7 (ix2 p f) * x8 (ix2 ⟨3 + f.val, by omega⟩ c) : EReal) := by
  unfold zb
  refine (dif_pos (show c.val < 64 from c.isLt)).trans ?_
  refine (congrArg (k0_pay18 (F := Ideal) (xb x3 x5 x6 x7) (wp x8) (wx x8) x0) (ix2_same p c)).trans ?_
  pointwise [k0_pay18, k0_pay17, k0_pay16, wp, wx]

theorem zb_hi (p : Fin 2048) (c : Fin 64) : zb (F := Ideal) x0 x3 x5 x6 x7 x8 (ix2 p ⟨64 + c.val, by omega⟩) =
    ((∑ i : Fin 3, x0 (ix3 0 p i) * x8 (ix2 ⟨i.val, by omega⟩ c) +
      ∑ f : Fin 32, xb (F := Ideal) x3 x5 x6 x7 (ix2 p f) * x8 (ix2 ⟨3 + f.val, by omega⟩ c)) -
    (∑ i : Fin 3, x0 (ix3 0 p i) * x8 (ix2 ⟨i.val, by omega⟩ c) +
      ∑ f : Fin 32, xb (F := Ideal) x3 x5 x6 x7 (ix2 p f) * x8 (ix2 ⟨3 + f.val, by omega⟩ c)) : EReal) := by
  unfold zb
  refine (dif_neg (show ¬ 64 + c.val < 64 by omega)).trans ?_
  have e : (⟨64 + c.val - 64, by omega⟩ : Fin 64) = c := Fin.ext (by show 64 + c.val - 64 = c.val; omega)
  refine (congrArg (k0_pay19 (F := Ideal) (xb x3 x5 x6 x7) (wp x8) (wx x8) x0)
    ((ix2_same p _).trans (congrArg (ix2 p) e))).trans ?_
  pointwise [k0_pay19, k0_pay17, k0_pay16, wp, wx]

section

variable (h0 : ∀ y, Real' (x0 y)) (h2 : ∀ y, Real' (x2 y))
  (h3 : ∀ y, Real' (x3 y)) (h5 : ∀ y, Real' (x5 y)) (h6 : ∀ y, Real' (x6 y)) (h7 : ∀ y, Real' (x7 y))
  (h8 : ∀ y, Real' (x8 y)) (hv : ∀ f, 0 ≤ var (x5 (ix3 0 0 f)) (x5 (ix3 0 1 f)))
  (h10 : ∀ i j, x1 (ix3 0 i j) = x0 (ix3 0 j i))

include h10 in
theorem dist_eq (a : Fin 512) (j : Fin 2048) : k0_pay21 (F := Ideal) x2 x1 (ix2 a j) = dist (pts x0) (ctr x2 a) j := by
  pointwise [k0_pay21, k0_pay15]
  rw [h10, h10, h10]
  unfold Select.dist
  rw [Fin.sum_univ_three]
  rfl

include h0 h2 h3 h5 h6 h7 h8 hv h10

theorem took_eq (k : ℕ) (a : Fin 512) (c : Fin 64) :
    took (k0_pay20 (F := Ideal) (wp x8) x2) (zb (F := Ideal) x0 x3 x5 x6 x7 x8) (k0_pay21 (F := Ideal) x2 x1) k a c = blk x0 x2 x3 x5 x6 x7 x8 k a c := by
  have hd : (fun j => (k0_pay21 (F := Ideal) x2 x1 (ix2 a j) : EReal)) = dist (pts x0) (ctr x2 a) :=
    funext fun j => dist_eq x0 x1 x2 h10 a j
  unfold took
  rw [hd, zb_lo, zb_hi]
  simp only [xb_eq x3 x5 x6 x7 h3 h5 h6 h7 hv]
  have hq : k0_pay20 (F := Ideal) (wp x8) x2 (ix2 a c) = (∑ i : Fin 3, ctr x2 a i * x8 (ix2 ⟨i.val, by omega⟩ c) : EReal) := by
    unfold ctr
    pointwise [k0_pay20, k0_pay15, wp]
  rw [hq]
  exact regroup (P := fun i => pts x0 (pick (dist (pts x0) (ctr x2 a)) k) i) (Q := ctr x2 a)
    (X := fun f => feat x3 x5 x6 x7 (pick (dist (pts x0) (ctr x2 a)) k) f) (fun _ => h0 _) (fun _ => h2 _) (fun _ => h8 _)
    (fun f => feat_real x3 x5 x6 x7 h3 h5 h6 h7 hv _ f) (fun _ => h8 _)

theorem final_after : After (k0_pay20 (F := Ideal) (wp x8) x2) (zb (F := Ideal) x0 x3 x5 x6 x7 x8) (k0_pay21 (F := Ideal) x2 x1) 16
    (final (F := Ideal) x0 x1 x2 x3 x5 x6 x7 x8) :=
  after_iterate _ _ _ (fun a j => by
      rw [dist_eq x0 x1 x2 h10]; exact (dist_real (fun _ _ => h0 _) (fun _ => h2 _) j).ne_top) _
    (after_entry _ _ x1 x2) 16 (by norm_num)

theorem final_top (a : Fin 512) (c : Fin 64) : (final (F := Ideal) x0 x1 x2 x3 x5 x6 x7 x8).2.1 (ix3 0 a c) =
    Finset.univ.fold max ⊥ fun k : Fin 16 => blk x0 x2 x3 x5 x6 x7 x8 k.val a c := by
  rw [(final_after x0 x1 x2 x3 x5 x6 x7 x8 h0 h2 h3 h5 h6 h7 h8 hv h10).top]
  simp only [took_eq x0 x1 x2 x3 x5 x6 x7 x8 h0 h2 h3 h5 h6 h7 h8 hv h10]

theorem final_low (a : Fin 512) (c : Fin 64) : (final (F := Ideal) x0 x1 x2 x3 x5 x6 x7 x8).2.2.1 (ix3 0 a c) =
    Finset.univ.fold min ⊤ fun k : Fin 16 => blk x0 x2 x3 x5 x6 x7 x8 k.val a c := by
  rw [(final_after x0 x1 x2 x3 x5 x6 x7 x8 h0 h2 h3 h5 h6 h7 h8 hv h10).low]
  simp only [took_eq x0 x1 x2 x3 x5 x6 x7 x8 h0 h2 h3 h5 h6 h7 h8 hv h10]

theorem final_sum (c : Fin 64) : k0_pay7 (F := Ideal) (final (F := Ideal) x0 x1 x2 x3 x5 x6 x7 x8).1.1 (ix3 0 0 c) =
    (∑ k : Fin 16, ∑ a, blk x0 x2 x3 x5 x6 x7 x8 k.val a c : EReal) := by
  pointwise [k0_pay7]
  rw [(final_after x0 x1 x2 x3 x5 x6 x7 x8 h0 h2 h3 h5 h6 h7 h8 hv h10).sum]
  simp only [took_eq x0 x1 x2 x3 x5 x6 x7 x8 h0 h2 h3 h5 h6 h7 h8 hv h10]

theorem final_sq (c : Fin 64) : k0_pay8 (F := Ideal) (final (F := Ideal) x0 x1 x2 x3 x5 x6 x7 x8).1.2 (ix3 0 0 c) =
    (∑ k : Fin 16, ∑ a, blk x0 x2 x3 x5 x6 x7 x8 k.val a c * blk x0 x2 x3 x5 x6 x7 x8 k.val a c : EReal) := by
  pointwise [k0_pay8]
  rw [(final_after x0 x1 x2 x3 x5 x6 x7 x8 h0 h2 h3 h5 h6 h7 h8 hv h10).sq]
  simp only [took_eq x0 x1 x2 x3 x5 x6 x7 x8 h0 h2 h3 h5 h6 h7 h8 hv h10]

end

end Cert.Block

end
-- ==== Proof.TopK.lean ====
/-
  The host's `top_k` of negated keys over the reals: its indices are the positions of the smallest keys, in order.
-/
module

public import proofs.«01_k».proof.Proof.Select
public import Idealize.ShloMosaic.Lib.Pointwise

@[expose] public section

set_option maxRecDepth 16384

noncomputable section

namespace Cert.Select

open Idealize.ShloMosaic

/-- The `k`-th index of `top_k` along the last axis, of an operand that is the negated keys `d`. -/
theorem topK_index {B M N K : ℕ} (x : FVec Ideal ⟨3, ![B, M, N]⟩ .f32)
    (h : (⟨3, ![B, M, N]⟩ : Shape).Slices (fun _ => 0) ⟨3, ![B, M, K]⟩) (b : Fin B) (a : Fin M) (k : Fin K) (hk : k.val < N)
    (d : Fin N → EReal) (hd : ∀ j, (x (ix3 b a j) : EReal) = -d j) :
    (Host.topK ⟨3, ![B, M, K]⟩ 2 (FloatOps.cmpfTotal (F := Ideal) (φ := .f32) .gt) x h).2 (ix3 b a k) =
      BitVec.ofNat 32 (sel d ⟨k.val, hk⟩).val := by
  have hal : ∀ j : Fin N, Shape.Idx.along (s := ⟨3, ![B, M, N]⟩) (ix3 b a (⟨k.val, hk⟩ : Fin N)) (2 : Fin 3) j = ix3 b a j := by
    intro j
    funext e
    match e with
    | ⟨0, _⟩ => rfl
    | ⟨1, _⟩ => rfl
    | ⟨2, _⟩ => rfl
  have hi : (fun e : Fin 3 => (⟨0 + ((ix3 b a k : (⟨3, ![B, M, K]⟩ : Shape).Idx) (e.cast h.1.symm)).val,
      Nat.lt_of_lt_of_le (Nat.add_lt_add_left ((ix3 b a k : (⟨3, ![B, M, K]⟩ : Shape).Idx) _).isLt _) (h.2 e)⟩ :
        Fin ((⟨3, ![B, M, N]⟩ : Shape).size e))) = ix3 b a (⟨k.val, hk⟩ : Fin N) := by
    funext e
    apply Fin.ext
    match e with
    | ⟨0, _⟩ => exact Nat.zero_add _
    | ⟨1, _⟩ => exact Nat.zero_add _
    | ⟨2, _⟩ => exact Nat.zero_add _
  have hb : (fun k₁ k₂ : Fin N => FloatOps.cmpfTotal (F := Ideal) (φ := .f32) .gt
      (x (Shape.Idx.along (s := ⟨3, ![B, M, N]⟩) (ix3 b a (⟨k.val, hk⟩ : Fin N)) (2 : Fin 3) k₁))
      (x (Shape.Idx.along (s := ⟨3, ![B, M, N]⟩) (ix3 b a (⟨k.val, hk⟩ : Fin N)) (2 : Fin 3) k₂)) == 1#1) = before d := by
    funext k₁ k₂
    have e₁ := (congrArg x (hal k₁)).trans (hd k₁)
    have e₂ := (congrArg x (hal k₂)).trans (hd k₂)
    rw [e₁, e₂]
    unfold before
    show (BitVec.ofBool (decide (-d k₂ < -d k₁)) == 1#1) = _
    by_cases hlt : d k₁ < d k₂
    · rw [decide_eq_true hlt, decide_eq_true (EReal.neg_lt_neg_iff.mpr hlt)]; rfl
    · rw [decide_eq_false hlt, decide_eq_false (fun h => hlt (EReal.neg_lt_neg_iff.mp h))]; rfl
  have key : ∀ i : (⟨3, ![B, M, N]⟩ : Shape).Idx, i = ix3 b a (⟨k.val, hk⟩ : Fin N) →
      (Host.sort2 ⟨3, ![B, M, N]⟩ 2 (fun l r => FloatOps.cmpfTotal (F := Ideal) (φ := .f32) .gt l.1 r.1) x
        (fun i => if hd : 2 < 3 then iotaInDim ⟨3, ![B, M, N]⟩ 32 ⟨2, hd⟩ i else 0#32)).2 i = BitVec.ofNat 32 (sel d ⟨k.val, hk⟩).val := by
    intro i e
    subst e
    exact congrArg (fun R : Fin N → Fin N → Bool => BitVec.ofNat 32 (sortedFrom R ⟨k.val, hk⟩).val) hb
  exact key _ hi

end Cert.Select

end
-- ==== Proof.RefVal.lean ====
/-
  The reference's results over the reals, read at an index.
-/
module

public import proofs.«01_k».proof.Proof.Gen.ReferenceIdeal.Read
public import proofs.«01_k».proof.Proof.Spec
public import proofs.«01_k».proof.Proof.TopK

@[expose] public section

set_option maxRecDepth 16384

noncomputable section

namespace Cert.RefVal

open Idealize.ShloMosaic Idealize.ShloMosaic.TcCoe Idealize.ShloMosaic.Tactic
open Cert.ReferenceIdeal Cert.ReferenceIdeal.Gen Cert.ReferenceIdeal.Read
open Cert.Select Cert.Arith Cert.Consts

theorem small_toInt (p : Fin 2048) : (BitVec.ofNat 32 p.val).toInt = p.val := by
  rw [BitVec.toInt_eq_toNat_of_lt] <;> rw [BitVec.toNat_ofNat] <;> omega

/-- The first gather reads the point at its start index. -/
theorem gather_pts {α : Type} (x : S16x2048x3.Idx → α) (idx : IVec S16x512x16x1 32) (b : Fin 16) (a : Fin 512) (k : Fin 16) (i : Fin 3) (p : Fin 2048)
    (h : idx (ix4 b a k 0) = BitVec.ofNat 32 p.val) : Host.gather gather_S16x2048x3_S16x512x16x1_S16x512x16x3_3_1_0_0_1_3_113 x idx (ix4 b a k i) = x (ix3 b p i) := by
  have hs : gather_S16x2048x3_S16x512x16x1_S16x512x16x3_3_1_0_0_1_3_113.siIdx (ix4 b a k i) (0 : Fin 1) = ix4 b a k 0 := by
    funext e
    match e with
    | ⟨0, _⟩ => rfl
    | ⟨1, _⟩ => rfl
    | ⟨2, _⟩ => rfl
    | ⟨3, _⟩ => rfl
  have ht : (BitVec.ofNat 32 p.val).toInt.toNat = p.val := by rw [small_toInt]; rfl
  unfold Host.gather
  congr 1
  funext e
  apply Fin.ext
  match e with
  | ⟨0, _⟩ =>
    have h1 : gather_S16x2048x3_S16x512x16x1_S16x512x16x3_3_1_0_0_1_3_113.start (ix4 b a k i) idx (0 : Fin 3) = 0 := rfl
    have h2 : gather_S16x2048x3_S16x512x16x1_S16x512x16x3_3_1_0_0_1_3_113.batchCoord (ix4 b a k i) (0 : Fin 3) = b.val := rfl
    have h3 : gather_S16x2048x3_S16x512x16x1_S16x512x16x3_3_1_0_0_1_3_113.offCoord (ix4 b a k i) (0 : Fin 3) = 0 := rfl
    show gather_S16x2048x3_S16x512x16x1_S16x512x16x3_3_1_0_0_1_3_113.start (ix4 b a k i) idx (0 : Fin 3) + gather_S16x2048x3_S16x512x16x1_S16x512x16x3_3_1_0_0_1_3_113.batchCoord (ix4 b a k i) (0 : Fin 3) + gather_S16x2048x3_S16x512x16x1_S16x512x16x3_3_1_0_0_1_3_113.offCoord (ix4 b a k i) (0 : Fin 3) = b.val
    rw [h1, h2, h3]; omega
  | ⟨1, _⟩ =>
    have h1 : gather_S16x2048x3_S16x512x16x1_S16x512x16x3_3_1_0_0_1_3_113.start (ix4 b a k i) idx (1 : Fin 3) = min (idx (gather_S16x2048x3_S16x512x16x1_S16x512x16x3_3_1_0_0_1_3_113.siIdx (ix4 b a k i) (0 : Fin 1))).toInt.toNat 2047 := rfl
    have h2 : gather_S16x2048x3_S16x512x16x1_S16x512x16x3_3_1_0_0_1_3_113.batchCoord (ix4 b a k i) (1 : Fin 3) = 0 := rfl
    have h3 : gather_S16x2048x3_S16x512x16x1_S16x512x16x3_3_1_0_0_1_3_113.offCoord (ix4 b a k i) (1 : Fin 3) = 0 := rfl
    show gather_S16x2048x3_S16x512x16x1_S16x512x16x3_3_1_0_0_1_3_113.start (ix4 b a k i) idx (1 : Fin 3) + gather_S16x2048x3_S16x512x16x1_S16x512x16x3_3_1_0_0_1_3_113.batchCoord (ix4 b a k i) (1 : Fin 3) + gather_S16x2048x3_S16x512x16x1_S16x512x16x3_3_1_0_0_1_3_113.offCoord (ix4 b a k i) (1 : Fin 3) = p.val
    rw [h1, h2, h3, hs, h, ht]; omega
  | ⟨2, _⟩ =>
    have h1 : gather_S16x2048x3_S16x512x16x1_S16x512x16x3_3_1_0_0_1_3_113.start (ix4 b a k i) idx (2 : Fin 3) = 0 := rfl
    have h2 : gather_S16x2048x3_S16x512x16x1_S16x512x16x3_3_1_0_0_1_3_113.batchCoord (ix4 b a k i) (2 : Fin 3) = 0 := rfl
    have h3 : gather_S16x2048x3_S16x512x16x1_S16x512x16x3_3_1_0_0_1_3_113.offCoord (ix4 b a k i) (2 : Fin 3) = i.val := rfl
    show gather_S16x2048x3_S16x512x16x1_S16x512x16x3_3_1_0_0_1_3_113.start (ix4 b a k i) idx (2 : Fin 3) + gather_S16x2048x3_S16x512x16x1_S16x512x16x3_3_1_0_0_1_3_113.batchCoord (ix4 b a k i) (2 : Fin 3) + gather_S16x2048x3_S16x512x16x1_S16x512x16x3_3_1_0_0_1_3_113.offCoord (ix4 b a k i) (2 : Fin 3) = i.val
    rw [h1, h2, h3]; omega

/-- The second gather reads the features at its start index. -/
theorem gather_feat {α : Type} (x : S16x2048x32.Idx → α) (idx : IVec S16x512x16x1 32) (b : Fin 16) (a : Fin 512) (k : Fin 16) (i : Fin 32) (p : Fin 2048)
    (h : idx (ix4 b a k 0) = BitVec.ofNat 32 p.val) : Host.gather gather_S16x2048x32_S16x512x16x1_S16x512x16x32_3_1_0_0_1_3_1132 x idx (ix4 b a k i) = x (ix3 b p i) := by
  have hs : gather_S16x2048x32_S16x512x16x1_S16x512x16x32_3_1_0_0_1_3_1132.siIdx (ix4 b a k i) (0 : Fin 1) = ix4 b a k 0 := by
    funext e
    match e with
    | ⟨0, _⟩ => rfl
    | ⟨1, _⟩ => rfl
    | ⟨2, _⟩ => rfl
    | ⟨3, _⟩ => rfl
  have ht : (BitVec.ofNat 32 p.val).toInt.toNat = p.val := by rw [small_toInt]; rfl
  unfold Host.gather
  congr 1
  funext e
  apply Fin.ext
  match e with
  | ⟨0, _⟩ =>
    have h1 : gather_S16x2048x32_S16x512x16x1_S16x512x16x32_3_1_0_0_1_3_1132.start (ix4 b a k i) idx (0 : Fin 3) = 0 := rfl
    have h2 : gather_S16x2048x32_S16x512x16x1_S16x512x16x32_3_1_0_0_1_3_1132.batchCoord (ix4 b a k i) (0 : Fin 3) = b.val := rfl
    have h3 : gather_S16x2048x32_S16x512x16x1_S16x512x16x32_3_1_0_0_1_3_1132.offCoord (ix4 b a k i) (0 : Fin 3) = 0 := rfl
    show gather_S16x2048x32_S16x512x16x1_S16x512x16x32_3_1_0_0_1_3_1132.start (ix4 b a k i) idx (0 : Fin 3) + gather_S16x2048x32_S16x512x16x1_S16x512x16x32_3_1_0_0_1_3_1132.batchCoord (ix4 b a k i) (0 : Fin 3) + gather_S16x2048x32_S16x512x16x1_S16x512x16x32_3_1_0_0_1_3_1132.offCoord (ix4 b a k i) (0 : Fin 3) = b.val
    rw [h1, h2, h3]; omega
  | ⟨1, _⟩ =>
    have h1 : gather_S16x2048x32_S16x512x16x1_S16x512x16x32_3_1_0_0_1_3_1132.start (ix4 b a k i) idx (1 : Fin 3) = min (idx (gather_S16x2048x32_S16x512x16x1_S16x512x16x32_3_1_0_0_1_3_1132.siIdx (ix4 b a k i) (0 : Fin 1))).toInt.toNat 2047 := rfl
    have h2 : gather_S16x2048x32_S16x512x16x1_S16x512x16x32_3_1_0_0_1_3_1132.batchCoord (ix4 b a k i) (1 : Fin 3) = 0 := rfl
    have h3 : gather_S16x2048x32_S16x512x16x1_S16x512x16x32_3_1_0_0_1_3_1132.offCoord (ix4 b a k i) (1 : Fin 3) = 0 := rfl
    show gather_S16x2048x32_S16x512x16x1_S16x512x16x32_3_1_0_0_1_3_1132.start (ix4 b a k i) idx (1 : Fin 3) + gather_S16x2048x32_S16x512x16x1_S16x512x16x32_3_1_0_0_1_3_1132.batchCoord (ix4 b a k i) (1 : Fin 3) + gather_S16x2048x32_S16x512x16x1_S16x512x16x32_3_1_0_0_1_3_1132.offCoord (ix4 b a k i) (1 : Fin 3) = p.val
    rw [h1, h2, h3, hs, h, ht]; omega
  | ⟨2, _⟩ =>
    have h1 : gather_S16x2048x32_S16x512x16x1_S16x512x16x32_3_1_0_0_1_3_1132.start (ix4 b a k i) idx (2 : Fin 3) = 0 := rfl
    have h2 : gather_S16x2048x32_S16x512x16x1_S16x512x16x32_3_1_0_0_1_3_1132.batchCoord (ix4 b a k i) (2 : Fin 3) = 0 := rfl
    have h3 : gather_S16x2048x32_S16x512x16x1_S16x512x16x32_3_1_0_0_1_3_1132.offCoord (ix4 b a k i) (2 : Fin 3) = i.val := rfl
    show gather_S16x2048x32_S16x512x16x1_S16x512x16x32_3_1_0_0_1_3_1132.start (ix4 b a k i) idx (2 : Fin 3) + gather_S16x2048x32_S16x512x16x1_S16x512x16x32_3_1_0_0_1_3_1132.batchCoord (ix4 b a k i) (2 : Fin 3) + gather_S16x2048x32_S16x512x16x1_S16x512x16x32_3_1_0_0_1_3_1132.offCoord (ix4 b a k i) (2 : Fin 3) = i.val
    rw [h1, h2, h3]; omega

variable (x0 : FVec Ideal S32768x3 .f32) (x1 : FVec Ideal S16x3x512 .f32) (x2 : FVec Ideal S32768x32 .f32)
  (x3 : FVec Ideal S1x2x32 .f32) (x4 x5 : FVec Ideal S32 .f32) (x6 : FVec Ideal S35x64 .f32)

/-- The points of cloud `b`. -/
def pts (b : Fin 16) (j : Fin 2048) (i : Fin 3) : EReal := x0 (ix2 ⟨b.val * 2048 + j.val, by omega⟩ i)

/-- A centre of cloud `b`. -/
def ctr (b : Fin 16) (a : Fin 512) (i : Fin 3) : EReal := x1 (ix3 b i a)

/-- The normalised features of cloud `b`. -/
def feat (b : Fin 16) (j : Fin 2048) (f : Fin 32) : EReal :=
  bn (x2 (ix2 ⟨b.val * 2048 + j.val, by omega⟩ f)) (x3 (ix3 0 0 f)) (x3 (ix3 0 1 f)) (x4 (ix1 f)) (x5 (ix1 f))

/-- The grouped feature of cloud `b`. -/
def blk (b : Fin 16) (k : ℕ) (a : Fin 512) (c : Fin 64) : EReal :=
  grp (pts x0 b) (ctr x1 b a) (feat x2 x3 x4 x5 b) (fun i => x6 (ix2 ⟨i.val, by omega⟩ c))
    (fun f => x6 (ix2 ⟨3 + f.val, by omega⟩ c)) k

variable (b : Fin 16) (a : Fin 512) (k : Fin 16) (c : Fin 64) (p : Fin 2048) (f : Fin 32) (i : Fin 3)

theorem feat_eq : val_main_v28 (F := Ideal) x2 x3 x4 x5 (ix3 b p f) = feat x2 x3 x4 x5 b p f := by
  pointwise [val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_cst, val_main_cst_0, val_main_cst_1, val_main_call0_v0, val_main_call0_cst]
  rfl

theorem key_eq : val_main_v36 (F := Ideal) x0 x1 (ix3 b a p) = (-Select.dist (pts x0 b) (ctr x1 b a) p : EReal) := by
  pointwise [val_main_v36, val_main_v35, val_main_v34, val_main_v33, val_main_v32, val_main_v31, val_main_v30, val_main_v29,
    val_main_v1, val_main_v0, val_main_cst_2]
  rfl

/-- The chosen position. -/
def pos : Fin 2048 := pick (Select.dist (pts x0 b) (ctr x1 b a)) k.val

theorem index_eq : val_main_indices (F := Ideal) x0 x1 (ix3 b a k) = BitVec.ofNat 32 (pos x0 x1 b a k).val := by
  have hk : k.val < 2048 := by omega
  unfold val_main_indices pos
  rw [pick_eq _ _ hk]
  exact topK_index _ _ b a k hk _ fun j => key_eq x0 x1 b a j

theorem wrap (w : BitVec 32) (h : w.toInt = (pos x0 x1 b a k).val) :
    Scalar.select (IntOp.cmpi .slt w 0#32) (IntOp.addi w 2048#32) w = w := by
  have : ¬ w.toInt < 0 := by rw [h]; omega
  unfold IntOp.cmpi Scalar.select
  simp [BitVec.slt, this]

theorem start_eq : val_main_v42 (F := Ideal) x0 x1 (ix4 b a k 0) = BitVec.ofNat 32 (pos x0 x1 b a k).val := by
  pointwise [val_main_v42, val_main_v41, val_main_v40, val_main_v39, val_main_v38, val_main_v37, val_main_c, val_main_c_3]
  rw [index_eq, wrap x0 x1 b a k _ (small_toInt _)]

theorem start_eq' : val_main_v49 (F := Ideal) x0 x1 (ix4 b a k 0) = BitVec.ofNat 32 (pos x0 x1 b a k).val := by
  pointwise [val_main_v49, val_main_v48, val_main_v47, val_main_v46, val_main_v45, val_main_v44, val_main_c_4, val_main_c_5]
  rw [index_eq, wrap x0 x1 b a k _ (small_toInt _)]

theorem pts_read : val_main_v43 (F := Ideal) x0 x1 (ix4 b a k i) = pts x0 b (pos x0 x1 b a k) i := by
  unfold val_main_v43
  rw [gather_pts _ _ b a k i _ (start_eq x0 x1 b a k)]
  pointwise [val_main_v0]
  rfl

theorem feat_read : val_main_v50 (F := Ideal) x0 x1 x2 x3 x4 x5 (ix4 b a k f) = feat x2 x3 x4 x5 b (pos x0 x1 b a k) f := by
  unfold val_main_v50
  rw [gather_feat _ _ b a k f _ (start_eq' x0 x1 b a k)]
  exact feat_eq x2 x3 x4 x5 b _ f

theorem grouped_eq : val_main_v55 (F := Ideal) x0 x1 x2 x3 x4 x5 x6 (ix4 b a k c) = blk x0 x1 x2 x3 x4 x5 x6 b k.val a c := by
  pointwise [val_main_v55, val_main_v54, val_main_v53, val_main_v52, val_main_v51, val_main_v1, pts_read, feat_read]
  rfl

theorem top_eq : val_main_v62 (F := Ideal) x0 x1 x2 x3 x4 x5 x6 (ix3 b a c) =
    Finset.univ.fold max ⊥ fun k : Fin 16 => blk x0 x1 x2 x3 x4 x5 x6 b k.val a c := by
  pointwise [val_main_v62, val_main_cst_8, grouped_eq, bot_bits]

theorem low_eq : val_main_v63 (F := Ideal) x0 x1 x2 x3 x4 x5 x6 (ix3 b a c) =
    Finset.univ.fold min ⊤ fun k : Fin 16 => blk x0 x1 x2 x3 x4 x5 x6 b k.val a c := by
  pointwise [val_main_v63, val_main_cst_9, grouped_eq, top_bits]

theorem sums_eq (s : Fin 2) : val_main_v61 (F := Ideal) x0 x1 x2 x3 x4 x5 x6 (ix3 b s c) =
    if s.val < 1 then (∑ a : Fin 512, ∑ k : Fin 16, blk x0 x1 x2 x3 x4 x5 x6 b k.val a c : EReal)
    else ∑ a : Fin 512, ∑ k : Fin 16, blk x0 x1 x2 x3 x4 x5 x6 b k.val a c * blk x0 x1 x2 x3 x4 x5 x6 b k.val a c := by
  have hr : ∀ v : FVec Ideal S16x512x16x64 .f32, Ideal.hostReduceAdd reducesTo_S16x512x16x64_S16x64_d1_2 v 0 (ix2 b c) =
      (∑ a : Fin 512, ∑ k : Fin 16, v (ix4 b a k c) : EReal) := by
    intro v
    have hdrop : ∀ (b' : Fin 16) (a : Fin 512) (k : Fin 16) (c' : Fin 64),
        reducesTo_S16x512x16x64_S16x64_d1_2.drop (ix4 b' a k c') = ix2 b' c' := by
      intro b' a k c'
      funext e
      match e with
      | ⟨0, _⟩ => rfl
      | ⟨1, _⟩ => rfl
    unfold Ideal.hostReduceAdd
    rw [zero_add, ← Fintype.sum_prod_type' (f := fun (a : Fin 512) (k : Fin 16) => (v (ix4 b a k c) : EReal))]
    have hin : ∀ i : S16x512x16x64.Idx, reducesTo_S16x512x16x64_S16x64_d1_2.drop i = ix2 b c →
        ix4 b (i 1 : Fin 512) (i 2 : Fin 16) c = i := by
      intro i hi
      obtain ⟨b', a, k, c', rfl⟩ : ∃ (b' : Fin 16) (a : Fin 512) (k : Fin 16) (c' : Fin 64), i = ix4 b' a k c' :=
        ⟨i 0, i 1, i 2, i 3, eq_ix4 i⟩
      rw [hdrop] at hi
      have h0 : b' = b := congrFun hi 0
      have h1 : c' = c := congrFun hi 1
      subst h0; subst h1; rfl
    refine Finset.sum_nbij' (fun i => ((i 1 : Fin 512), (i 2 : Fin 16))) (fun q => ix4 b q.1 q.2 c) (fun _ _ => Finset.mem_univ _)
      (fun q _ => Finset.mem_filter.mpr ⟨Finset.mem_univ _, hdrop _ _ _ _⟩) (fun i hi => hin i (Finset.mem_filter.mp hi).2)
      (fun q _ => rfl) (fun i hi => congrArg v (hin i (Finset.mem_filter.mp hi).2).symm)
  pointwise [val_main_v61, val_main_v60, val_main_v59, val_main_v58, val_main_v57, val_main_v56, val_main_cst_6, val_main_cst_7,
    hr, grouped_eq]
  rfl

end Cert.RefVal

end
-- ==== Proof.Tie.lean ====
/-
  The kernel's arrays after the run against the reference's results: the input blocks of a grid point are the arguments' part
  of one cloud, so the block's closed form is the reference's at that cloud.
-/
module

public import proofs.«01_k».proof.Proof.Block
public import proofs.«01_k».proof.Proof.RefVal
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Tie

open Cert.KernelIdeal Cert.KernelIdeal.Gen Idealize.ShloMosaic Idealize.ShloMosaic.TcCoe Idealize.SL.Sem Cert.Arith
open Idealize.ShloMosaic.Pipeline (Dat)
open Cert.Trip (final)

variable (m : (ℓ : Loc nD τ sig) → Buf (Elt Ideal) ℓ) (c : Dev nD) (t : Fin cfg0.N)

/-- The index maps: the cloud's number on the first axis of every window over clouds, 0 elsewhere. -/
theorem idx : ∀ t : Fin grid0.N,
    (win0_0.index t 0 = t.val ∧ win0_0.index t 1 = 0 ∧ win0_0.index t 2 = 0) ∧
    (win0_1.index t 0 = t.val ∧ win0_1.index t 1 = 0 ∧ win0_1.index t 2 = 0) ∧
    (win0_2.index t 0 = t.val ∧ win0_2.index t 1 = 0 ∧ win0_2.index t 2 = 0) ∧
    (win0_3.index t 0 = t.val ∧ win0_3.index t 1 = 0 ∧ win0_3.index t 2 = 0) ∧
    (win0_5.index t 0 = 0 ∧ win0_5.index t 1 = 0 ∧ win0_5.index t 2 = 0) ∧
    (win0_6.index t 0 = 0 ∧ win0_6.index t 1 = 0) ∧
    (win0_7.index t 0 = 0 ∧ win0_7.index t 1 = 0) ∧
    (win0_8.index t 0 = 0 ∧ win0_8.index t 1 = 0) ∧
    (win0_9.index t 0 = t.val ∧ win0_9.index t 1 = 0 ∧ win0_9.index t 2 = 0) ∧
    (win0_10.index t 0 = t.val ∧ win0_10.index t 1 = 0 ∧ win0_10.index t 2 = 0) ∧
    (win0_11.index t 0 = t.val ∧ win0_11.index t 1 = 0 ∧ win0_11.index t 2 = 0) := by
  decide +kernel

/-- The cloud of a grid point. -/
abbrev cloud : Fin 16 := ⟨t.val, t.isLt⟩

theorem cloud_lt (j : Fin 2048) : t.val * 2048 + j.val < 32768 := by
  have h : t.val < 16 := t.isLt
  omega

theorem iblk0 (j : Fin 2048) (i : Fin 3) : iblk m c 0 t (ValueIdx.ix3 0 j i) =
    m ((c : Thread nD τ).loc main_arg0) (ValueIdx.ix2 ⟨t.val * 2048 + j.val, cloud_lt t j⟩ i) := by
  blk_simp [iblk, idx t]
  entry_read
  pointwise
  blk_ext [idx t]

theorem iblk1 (i : Fin 3) (j : Fin 2048) : iblk m c 1 t (ValueIdx.ix3 0 i j) =
    m ((c : Thread nD τ).loc main_arg0) (ValueIdx.ix2 ⟨t.val * 2048 + j.val, cloud_lt t j⟩ i) := by
  blk_simp [iblk, idx t]
  entry_read
  pointwise
  blk_ext [idx t]

theorem iblk2 (a : Fin 512) (i : Fin 3) : iblk m c 2 t (ValueIdx.ix3 0 a i) =
    m ((c : Thread nD τ).loc main_arg1) (ValueIdx.ix3 (cloud t) i a) := by
  blk_simp [iblk, idx t]
  entry_read
  pointwise
  blk_ext [idx t]

theorem iblk3 (j : Fin 2048) (f : Fin 32) : iblk m c 3 t (ValueIdx.ix3 0 j f) =
    m ((c : Thread nD τ).loc main_arg2) (ValueIdx.ix2 ⟨t.val * 2048 + j.val, cloud_lt t j⟩ f) := by
  blk_simp [iblk, idx t]
  entry_read
  pointwise
  blk_ext [idx t]

theorem iblk6 (f : Fin 32) : iblk m c 6 t (ValueIdx.ix2 0 f) = m ((c : Thread nD τ).loc main_arg4) (ValueIdx.ix1 f) := by
  blk_simp [iblk, idx t]
  entry_read
  pointwise
  blk_ext [idx t]

theorem iblk7 (f : Fin 32) : iblk m c 7 t (ValueIdx.ix2 0 f) = m ((c : Thread nD τ).loc main_arg5) (ValueIdx.ix1 f) := by
  blk_simp [iblk, idx t]
  entry_read
  pointwise
  blk_ext [idx t]

theorem iblk5 : iblk m c 5 t = m ((c : Thread nD τ).loc main_arg3) := by
  blk_ext! [iblk, V, idx t]

theorem iblk8 : iblk m c 8 t = m ((c : Thread nD τ).loc main_arg6) := by
  blk_ext! [iblk, V, idx t]

/-- The closed form of a grid point's block is the reference's at the point's cloud. -/
theorem blk_eq (k : ℕ) (a : Fin 512) (d : Fin 64) :
    Block.blk (iblk m c 0 t) (iblk m c 2 t) (iblk m c 3 t) (iblk m c 5 t) (iblk m c 6 t) (iblk m c 7 t) (iblk m c 8 t) k a d =
    RefVal.blk (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (cloud t) k a d := by
  have e0 : Block.pts (iblk m c 0 t) = RefVal.pts (m ((c : Thread nD τ).loc main_arg0)) (cloud t) :=
    funext fun j => funext fun i => iblk0 m c t j i
  have e2 : Block.ctr (iblk m c 2 t) a = RefVal.ctr (m ((c : Thread nD τ).loc main_arg1)) (cloud t) a :=
    funext fun i => iblk2 m c t a i
  have e3 : Block.feat (iblk m c 3 t) (iblk m c 5 t) (iblk m c 6 t) (iblk m c 7 t) =
      RefVal.feat (m ((c : Thread nD τ).loc main_arg2)) (m ((c : Thread nD τ).loc main_arg3)) (m ((c : Thread nD τ).loc main_arg4))
        (m ((c : Thread nD τ).loc main_arg5)) (cloud t) := by
    funext j f
    have k3 := iblk3 m c t j f
    have k5 := iblk5 m c t
    have k6 := iblk6 m c t f
    have k7 := iblk7 m c t f
    unfold Block.feat RefVal.feat
    rw [k5]
    exact congr (congr (congrFun (congrFun (congrArg bn k3) _) _) k6) k7
  unfold Block.blk RefVal.blk
  rw [e0, e2, e3, iblk8 m c t]

/-- Every argument is real and the variance is nonnegative. -/
structure Good : Prop where
  g0 : ∀ i, Real' (m ((c : Thread nD τ).loc main_arg0) i)
  g1 : ∀ i, Real' (m ((c : Thread nD τ).loc main_arg1) i)
  g2 : ∀ i, Real' (m ((c : Thread nD τ).loc main_arg2) i)
  g3 : ∀ i, Real' (m ((c : Thread nD τ).loc main_arg3) i)
  g4 : ∀ i, Real' (m ((c : Thread nD τ).loc main_arg4) i)
  g5 : ∀ i, Real' (m ((c : Thread nD τ).loc main_arg5) i)
  g6 : ∀ i, Real' (m ((c : Thread nD τ).loc main_arg6) i)
  gv : ∀ f : Fin 32, 0 ≤ var (m ((c : Thread nD τ).loc main_arg3) (ValueIdx.ix3 0 0 f)) (m ((c : Thread nD τ).loc main_arg3) (ValueIdx.ix3 0 1 f))

theorem all3 {n k : ℕ} {P : EReal → Prop} {x : (⟨3, ![1, n, k]⟩ : Shape).Idx → EReal} (h : ∀ i j, P (x (ValueIdx.ix3 0 i j))) (y) : P (x y) := by
  have e : y = ValueIdx.ix3 0 (y 1) (y 2) := by
    funext a
    match a with
    | ⟨0, _⟩ => exact Subsingleton.elim (α := Fin 1) _ _
    | ⟨1, _⟩ => rfl
    | ⟨2, _⟩ => rfl
  rw [e]; exact h _ _

theorem all2 {n : ℕ} {P : EReal → Prop} {x : (⟨2, ![1, n]⟩ : Shape).Idx → EReal} (h : ∀ i, P (x (ValueIdx.ix2 0 i))) (y) : P (x y) := by
  have e : y = ValueIdx.ix2 0 (y 1) := by
    funext a
    match a with
    | ⟨0, _⟩ => exact Subsingleton.elim (α := Fin 1) _ _
    | ⟨1, _⟩ => rfl
  rw [e]; exact h _

variable (g : Good m c)
include g

theorem real0 : ∀ y, Real' (iblk m c 0 t y) := all3 fun j i => by rw [iblk0]; exact g.g0 _
theorem real2 : ∀ y, Real' (iblk m c 2 t y) := all3 fun j i => by rw [iblk2]; exact g.g1 _
theorem real3 : ∀ y, Real' (iblk m c 3 t y) := all3 fun j i => by rw [iblk3]; exact g.g2 _
theorem real5 : ∀ y, Real' (iblk m c 5 t y) := fun y => by rw [iblk5]; exact g.g3 _
theorem real6 : ∀ y, Real' (iblk m c 6 t y) := all2 fun j => by rw [iblk6]; exact g.g4 _
theorem real7 : ∀ y, Real' (iblk m c 7 t y) := all2 fun j => by rw [iblk7]; exact g.g5 _
theorem real8 : ∀ y, Real' (iblk m c 8 t y) := fun y => by rw [iblk8]; exact g.g6 _
theorem spread : ∀ f : Fin 32, 0 ≤ var (iblk m c 5 t (ValueIdx.ix3 0 0 f)) (iblk m c 5 t (ValueIdx.ix3 0 1 f)) := fun f => by
  rw [iblk5]; exact g.gv f
omit g in
theorem turned (i : Fin 3) (j : Fin 2048) : iblk m c 1 t (ValueIdx.ix3 0 i j) = iblk m c 0 t (ValueIdx.ix3 0 j i) :=
  (iblk1 m c t i j).trans (iblk0 m c t j i).symm

/-- The reference's results over the kernel's arguments. -/
abbrev refTop := Cert.ReferenceIdeal.Read.val_main_v62 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))
abbrev refLow := Cert.ReferenceIdeal.Read.val_main_v63 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))
abbrev refSums := Cert.ReferenceIdeal.Read.val_main_v61 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))

theorem point9 (a : Fin 512) (d : Fin 64) : (outsAt0 m c t).1 (ValueIdx.ix3 0 a d) = refTop m c (ValueIdx.ix3 (cloud t) a d) := by
  unfold outsAt0
  dsimp only
  rw [Trip.out9_eq]
  refine (Block.final_top _ (iblk m c 1 t) _ _ _ _ _ _ (real0 m c t g) (real2 m c t g) (real3 m c t g) (real5 m c t g) (real6 m c t g) (real7 m c t g) (real8 m c t g)
    (spread m c t g) (turned m c t) a d).trans (Eq.trans ?_ (RefVal.top_eq _ _ _ _ _ _ _ (cloud t) a d).symm)
  simp only [blk_eq m c t]

theorem point10 (a : Fin 512) (d : Fin 64) : (outsAt0 m c t).2.1 (ValueIdx.ix3 0 a d) = refLow m c (ValueIdx.ix3 (cloud t) a d) := by
  unfold outsAt0
  dsimp only
  rw [Trip.out10_eq]
  refine (Block.final_low _ (iblk m c 1 t) _ _ _ _ _ _ (real0 m c t g) (real2 m c t g) (real3 m c t g) (real5 m c t g) (real6 m c t g) (real7 m c t g) (real8 m c t g)
    (spread m c t g) (turned m c t) a d).trans (Eq.trans ?_ (RefVal.low_eq _ _ _ _ _ _ _ (cloud t) a d).symm)
  simp only [blk_eq m c t]

theorem point11 (s : Fin 2) (d : Fin 64) : (outsAt0 m c t).2.2 (ValueIdx.ix3 0 s d) = refSums m c (ValueIdx.ix3 (cloud t) s d) := by
  unfold outsAt0
  dsimp only
  rw [Trip.out11_eq]
  refine Eq.trans ?_ (RefVal.sums_eq _ _ _ _ _ _ _ (cloud t) d s).symm
  have e : ∀ k a, _ := fun k a => blk_eq m c t k a d
  by_cases hs : s.val = 0
  · refine Eq.trans (if_pos hs) (Eq.trans ?_ (if_pos (by omega)).symm)
    refine (Block.final_sum _ (iblk m c 1 t) _ _ _ _ _ _ (real0 m c t g) (real2 m c t g) (real3 m c t g) (real5 m c t g) (real6 m c t g) (real7 m c t g) (real8 m c t g)
      (spread m c t g) (turned m c t) d).trans ?_
    rw [Finset.sum_comm]
    simp only [e]
  · refine Eq.trans (if_neg hs) (Eq.trans ?_ (if_neg (by omega)).symm)
    refine (Block.final_sq _ (iblk m c 1 t) _ _ _ _ _ _ (real0 m c t g) (real2 m c t g) (real3 m c t g) (real5 m c t g) (real6 m c t g) (real7 m c t g) (real8 m c t g)
      (spread m c t g) (turned m c t) d).trans ?_
    rw [Finset.sum_comm]
    simp only [e]

omit g in
theorem at3 {n k : ℕ} {T : Type} {x : (⟨3, ![1, n, k]⟩ : Shape).Idx → T} {G : (⟨3, ![16, n, k]⟩ : Shape).Idx → T} {b : Fin 16}
    (h : ∀ i j, x (ValueIdx.ix3 0 i j) = G (ValueIdx.ix3 b i j)) (y) : x y = G (ValueIdx.ix3 b (y 1) (y 2)) := by
  have e : y = ValueIdx.ix3 0 (y 1) (y 2) := by
    funext a
    match a with
    | ⟨0, _⟩ => exact Subsingleton.elim (α := Fin 1) _ _
    | ⟨1, _⟩ => rfl
    | ⟨2, _⟩ => rfl
  exact (congrArg x e).trans (h _ _)

theorem final9 : (dats m 0 c).arrAt 9 cfg0.N = refTop m c := by
  refine (dats m 0 c).arrAt_eq_of_covers 9 _ (by decide +kernel) fun t hf y => ?_
  blk_simp
  rw [after0_9]
  have e := at3 (G := refTop m c) (b := cloud t) (point9 m c t g) y
  refine e.trans ?_
  clear e
  generalize refTop m c = G
  blk_ext [idx t]

theorem final10 : (dats m 0 c).arrAt 10 cfg0.N = refLow m c := by
  refine (dats m 0 c).arrAt_eq_of_covers 10 _ (by decide +kernel) fun t hf y => ?_
  blk_simp
  rw [after0_10]
  have e := at3 (G := refLow m c) (b := cloud t) (point10 m c t g) y
  refine e.trans ?_
  clear e
  generalize refLow m c = G
  blk_ext [idx t]

theorem final11 : (dats m 0 c).arrAt 11 cfg0.N = refSums m c := by
  refine (dats m 0 c).arrAt_eq_of_covers 11 _ (by decide +kernel) fun t hf y => ?_
  blk_simp
  rw [after0_11]
  have e := at3 (G := refSums m c) (b := cloud t) (point11 m c t g) y
  refine e.trans ?_
  clear e
  generalize refSums m c = G
  blk_ext [idx t]

end Cert.Tie

end
-- ==== Proof.TailIdealLoops.lean ====
/-
  The tail's two round loops: each trip as a function on values, and the loop by the invariant that the buffers read that
  function iterated.
-/
module

public import proofs.«01_k».proof.Proof.Gen.TailIdeal.Frame
public import proofs.«01_k».proof.Proof.Gen.TailIdeal.Loops
public import Idealize.ShloMosaic.Lib.VecWindow
public import Idealize.ShloMosaic.Lib.Pipeline.ValueKit

@[expose] public section

set_option maxRecDepth 16384

noncomputable section

namespace Cert.TailIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.TailIdeal Cert.TailIdeal.Gen

variable {F : FTy → Type} [FloatOps F] [Named F]

/-- The frame's resource algebra. -/
local notation "𝕄G" => MT nD τ sig Unit (Elt F) ℕ (UR sig nD τ) ℕ

/-! ## Stage 4's rounds -/

/-- What the rounds carry: the two running sums, the running maximum and minimum, the distances left. -/
abbrev St4 (F : FTy → Type) := (FVec F S1x256 .f32 × FVec F S1x256 .f32) × Vec F S512x256 .f32 × Vec F S512x256 .f32 × Vec F S512x128 .f32

/-- The product of each cloud's 32 rows of `oh` with the cloud's 128 rows of `z`. -/
def gather4 (z : Vec F S2048x512 .f32) (oh : Vec F S512x128 .f32) : Vec F S512x512 .f32 := fun y =>
  have h0 : (y 0).val < 512 := (y 0).isLt
  k0_pay5 (fun i => oh (ValueIdx.ix2 ⟨32 * ((y 0).val / 32) + (i 0).val, by have : (i 0).val < 32 := (i 0).isLt; omega⟩ (i 1)))
    (fun i => z (ValueIdx.ix2 ⟨128 * ((y 0).val / 32) + (i 0).val, by have : (i 0).val < 128 := (i 0).isLt; omega⟩ (i 1)))
    (ValueIdx.ix2 ⟨(y 0).val % 32, Nat.mod_lt _ (by decide)⟩ (y 1))

/-- One round on values: `q` the centres' product, `io` the column numbers, `z` the stacked halves of the points' product. -/
def round4 (q : FVec F S512x256 .f32) (io : IVec S512x128 32) (z : Vec F S2048x512 .f32) (s : St4 F) : St4 F :=
  ((k0_pay28 s.1.1 (k0_pay6 q (gather4 z (k0_pay4 io s.2.2.2))), k0_pay29 s.1.2 (k0_pay6 q (gather4 z (k0_pay4 io s.2.2.2)))),
    k0_pay7 q (gather4 z (k0_pay4 io s.2.2.2)) s.2.1, k0_pay27 (k0_pay6 q (gather4 z (k0_pay4 io s.2.2.2))) s.2.2.1, k0_pay3 io s.2.2.2)

section
variable (𝒱 : Variants) (c : Dev nD) (bd : Option 𝒱.V)
  (arg0 : Memref sig .tc .vmem S2048x128 .f32) (harg0 : arg0.IsWhole)
  (arg1 : Memref sig .tc .vmem S2048x3 .f32) (harg1 : arg1.IsWhole)
  (arg2 : Memref sig .tc .vmem S16x3x128 .f32) (harg2 : arg2.IsWhole)
  (arg3 : Memref sig .tc .vmem S512x3 .f32) (harg3 : arg3.IsWhole)
  (arg4 : Memref sig .tc .vmem S16x3x32 .f32) (harg4 : arg4.IsWhole)
  (arg5 : Memref sig .tc .vmem S128x3 .f32) (harg5 : arg5.IsWhole)
  (arg6 : Memref sig .tc .vmem S131x256 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S259x512 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S512x512 .f32) (harg12 : arg12.IsWhole)
  (arg13 : Memref sig .tc .vmem S1x512 .f32) (harg13 : arg13.IsWhole)
  (arg14 : Memref sig .tc .vmem S512x6 .f32) (harg14 : arg14.IsWhole)
  (arg15 : Memref sig .tc .vmem S1x6 .f32) (harg15 : arg15.IsWhole)
  (arg16 : Memref sig .tc .vmem S16x6 .f32) (harg16 : arg16.IsWhole)
  (arg17 : Memref sig .tc .vmem S2048x512 .f32) (harg17 : arg17.IsWhole)
  (arg18 : Memref sig .tc .vmem S512x128 .f32) (harg18 : arg18.IsWhole)
  (arg19 : Memref sig .tc .vmem S512x128 .f32) (harg19 : arg19.IsWhole)
  (arg20 : Memref sig .tc .vmem S512x512 .f32) (harg20 : arg20.IsWhole)
  (arg21 : Memref sig .tc .vmem S512x256 .f32) (harg21 : arg21.IsWhole)
  (arg22 : Memref sig .tc .vmem S512x256 .f32) (harg22 : arg22.IsWhole)
  (arg23 : Memref sig .tc .vmem S512x1024 .f32) (harg23 : arg23.IsWhole)
  (arg24 : Memref sig .tc .vmem S128x32 .f32) (harg24 : arg24.IsWhole)
  (arg25 : Memref sig .tc .vmem S128x32 .f32) (harg25 : arg25.IsWhole)
  (arg26 : Memref sig .tc .vmem S128x1024 .f32) (harg26 : arg26.IsWhole)
  (arg27 : Memref sig .tc .vmem S128x512 .f32) (harg27 : arg27.IsWhole)
  (arg28 : Memref sig .tc .vmem S128x512 .f32) (harg28 : arg28.IsWhole)
  (v4 : FVec F S512x3 .f32) (v23 : FVec F S512x256 .f32) (v33 : FVec F S512x128 .f32) (v67 : IVec S512x128 32)

set_option maxHeartbeats 1600000 in
theorem pb4_read (k0_t1 : Fin k0_t1_loop.trips) (Xz : BufTy.Contents (Elt F) arg17.view.ty) (Xo : BufTy.Contents (Elt F) arg19.view.ty) (f : BufTy.Contents (Elt F) arg20.view.ty) (k : ℕ) (hk : k ≤ 16) (y : S512x512.Idx)
    (hy : (y 0).val < 32 * k) :
    arg20.view.read (Elt F) (arg20.view.writes (Elt F) f (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v23 v67 0#32 1#32 k0_t1 Xz Xo k)) y
      = gather4 (arg17.view.read (Elt F) Xz) (arg19.view.read (Elt F) Xo) y := by
  induction k with
  | zero => exact absurd hy (by omega)
  | succ k ih =>
    have hk' : k < k0_t2_loop.trips := hk
    rw [pb_k0_t2_succ (k := ⟨k, hk'⟩)]
    unfold tripL_k0_t2 trip_k0_t2
    dsimp only
    sl_unfold_words
    by_cases hm : (y 0).val < 32 * k
    · refine (View.read_writes_cons_unit_of_not_mem (off' := ![32 * k, 0]) arg20.view f _ _ _ y (k0_off3_eq ⟨k, hk'⟩) (0 : Fin 2) (Or.inl hm)).trans ?_
      exact ih (by omega) hm
    · have hq : (y 0).val / 32 = k := by omega
      refine (View.read_writes_cons_unit_of_mem (off' := ![32 * k, 0]) arg20.view f _ _ _ y (ValueIdx.ix2 ⟨(y 0).val % 32, Nat.mod_lt _ (by decide)⟩ (y 1)) (k0_off3_eq ⟨k, hk'⟩) fun a => ?_).trans ?_
      · match a with
        | ⟨0, _⟩ => show (y 0).val = 32 * k + (y 0).val % 32; omega
        | ⟨1, _⟩ => exact (Nat.zero_add _).symm
      · unfold gather4
        dsimp only
        refine congrArg₂ (fun a b => k0_pay5 a b (ValueIdx.ix2 ⟨(y 0).val % 32, Nat.mod_lt _ (by decide)⟩ (y 1))) (funext fun i => ?_) (funext fun i => ?_)
        · refine congrArg (arg19.view.read (Elt F) Xo) (funext fun a => Fin.ext ?_)
          match a with
          | ⟨0, _⟩ =>
            show k0_off1 ⟨k, hk'⟩ 0 + 1 * (i 0).val = 32 * ((y 0).val / 32) + (i 0).val
            rw [k0_off1_eq, hq, Nat.one_mul]; rfl
          | ⟨1, _⟩ =>
            show k0_off1 ⟨k, hk'⟩ 1 + 1 * (i 1).val = (i 1).val
            rw [k0_off1_eq, Nat.one_mul]; exact Nat.zero_add _
        · refine congrArg (arg17.view.read (Elt F) Xz) (funext fun a => Fin.ext ?_)
          match a with
          | ⟨0, _⟩ =>
            show k0_off2 ⟨k, hk'⟩ 0 + 1 * (i 0).val = 128 * ((y 0).val / 32) + (i 0).val
            rw [k0_off2_eq, hq, Nat.one_mul]; rfl
          | ⟨1, _⟩ =>
            show k0_off2 ⟨k, hk'⟩ 1 + 1 * (i 1).val = (i 1).val
            rw [k0_off2_eq, Nat.one_mul]; exact Nat.zero_add _

/-- After the clouds' loop the buffer reads the gathered rows, whatever it held. -/
theorem pb4_all (k0_t1 : Fin k0_t1_loop.trips) (Xz : BufTy.Contents (Elt F) arg17.view.ty) (Xo : BufTy.Contents (Elt F) arg19.view.ty) (f : BufTy.Contents (Elt F) arg20.view.ty) :
    arg20.view.read (Elt F) (arg20.view.writes (Elt F) f (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v23 v67 0#32 1#32 k0_t1 Xz Xo 16))
      = gather4 (arg17.view.read (Elt F) Xz) (arg19.view.read (Elt F) Xo) :=
  funext fun y => pb4_read 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v23 v67 k0_t1 Xz Xo f 16 le_rfl y (by have : (y 0).val < 512 := (y 0).isLt; omega)

/-- The buffer as the trip reads it back. -/
theorem ga4_eq (k0_t1 : Fin k0_t1_loop.trips) (Xz : BufTy.Contents (Elt F) arg17.view.ty) (fo : BufTy.Contents (Elt F) arg19.view.ty) (f : BufTy.Contents (Elt F) arg20.view.ty) (fd : BufTy.Contents (Elt F) arg18.view.ty) (x : Vec F S512x128 .f32)
    (hd : arg18.view.read (Elt F) fd = x) :
    arg20.view.readAt (Elt F) (Rect.unit ![0, 0] S512x512.size inb_S512x512_S512x512_0_0).toLoadRect (arg20.view.writes (Elt F) f (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v23 v67 0#32 1#32 k0_t1 Xz
        (arg19.view.writes (Elt F) fo [⟨Rect.unit ![0, 0] S512x128.size inb_S512x128_S512x128_0_0, k0_pay4 v67 (arg18.view.readAt (Elt F) (Rect.unit ![0, 0] S512x128.size inb_S512x128_S512x128_0_0).toLoadRect fd)⟩])
        (Scf.trips k0_t2_loop.lb k0_t2_loop.ub k0_t2_loop.st)))
      = gather4 (arg17.view.read (Elt F) Xz) (k0_pay4 v67 x) := by
  have ht : Scf.trips k0_t2_loop.lb k0_t2_loop.ub k0_t2_loop.st = 16 := by decide +kernel
  rw [ht]
  refine (View.readAt_full _ _ _).trans ((pb4_all 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v23 v67 k0_t1 Xz _ f).trans (congrArg (gather4 _) ?_))
  refine (View.read_writes_full _ _ _ _ _).trans (congrArg (k0_pay4 v67) ?_)
  exact (View.readAt_full _ _ _).trans hd

set_option maxHeartbeats 1600000 in
/-- One trip of the rounds' loop: the buffers end reading one round of what they read. -/
theorem trip4 (Xz : BufTy.Contents (Elt F) arg17.view.ty) (k : Fin k0_t1_loop.trips) (E : Set ℕ) (s : St4 F)
    (fd : BufTy.Contents (Elt F) arg18.view.ty) (fo : BufTy.Contents (Elt F) arg19.view.ty) (fg : BufTy.Contents (Elt F) arg20.view.ty) (fx : BufTy.Contents (Elt F) arg21.view.ty) (fn : BufTy.Contents (Elt F) arg22.view.ty)
    (hd : arg18.view.read (Elt F) fd = s.2.2.2) (hx : arg21.view.read (Elt F) fx = s.2.1) (hn : arg22.view.read (Elt F) fn = s.2.2.1) :
    iprop((arg17.view.loc (c : Thread nD τ) ↦[arg17.view.set]{fullShare} Xz) ∗ (arg18.view.loc (c : Thread nD τ) ↦[arg18.view.set]{fullShare} fd) ∗ (arg19.view.loc (c : Thread nD τ) ↦[arg19.view.set]{fullShare} fo) ∗ (arg20.view.loc (c : Thread nD τ) ↦[arg20.view.set]{fullShare} fg) ∗ (arg21.view.loc (c : Thread nD τ) ↦[arg21.view.set]{fullShare} fx) ∗ (arg22.view.loc (c : Thread nD τ) ↦[arg22.view.set]{fullShare} fn) : sProp 𝕄G)
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v4 v23 v33 v67 k s.1)
        (fun yld => iprop((arg17.view.loc (c : Thread nD τ) ↦[arg17.view.set]{fullShare} Xz) ∗ (∃ f, (arg18.view.loc (c : Thread nD τ) ↦[arg18.view.set]{fullShare} f) ∗ ⌜arg18.view.read (Elt F) f = (round4 v23 v67 (arg17.view.read (Elt F) Xz) s).2.2.2⌝) ∗ (∃ f, (arg19.view.loc (c : Thread nD τ) ↦[arg19.view.set]{fullShare} f)) ∗ (∃ f, (arg20.view.loc (c : Thread nD τ) ↦[arg20.view.set]{fullShare} f))
          ∗ (∃ f, (arg21.view.loc (c : Thread nD τ) ↦[arg21.view.set]{fullShare} f) ∗ ⌜arg21.view.read (Elt F) f = (round4 v23 v67 (arg17.view.read (Elt F) Xz) s).2.1⌝) ∗ (∃ f, (arg22.view.loc (c : Thread nD τ) ↦[arg22.view.set]{fullShare} f) ∗ ⌜arg22.view.read (Elt F) f = (round4 v23 v67 (arg17.view.read (Elt F) Xz) s).2.2.1⌝)
          ∗ ⌜yld = (round4 v23 v67 (arg17.view.read (Elt F) Xz) s).1⌝)) := by
  have hk : k.val < 16 := Nat.lt_of_lt_of_le k.isLt k0_t1_abs.2.1
  unfold k0_t1_body
  iintro ⟨HZ, HD, HO, HG, HX, HN⟩
  sl_exec
  sl_step
  isplitl [HZ]; · iexact HZ
  isplitl [HD]
  · iexists _; isplitl [HD]; · iexact HD
    ipureintro
    unfold round4
    dsimp only
    sl_unfold_words
    rw [← hd, ← View.readAt_full arg18.view fd inb_S512x128_S512x128_0_0]
    exact View.read_writes_full _ _ _ _ _
  isplitl [HO]; · iexists _; iexact HO
  isplitl [HG]; · iexists _; iexact HG
  isplitl [HX]
  · iexists _; isplitl [HX]; · iexact HX
    ipureintro
    sl_unfold_words
    exact (View.read_writes_full _ _ _ _ _).trans
      (congrArg₂ (k0_pay7 v23) (ga4_eq 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v23 v67 k Xz _ fg fd _ hd) ((View.readAt_full _ _ _).trans hx))
  isplitl [HN]
  · iexists _; isplitl [HN]; · iexact HN
    ipureintro
    sl_unfold_words
    exact (View.read_writes_full _ _ _ _ _).trans
      (congrArg₂ k0_pay27 (congrArg (k0_pay6 v23) (ga4_eq 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v23 v67 k Xz _ fg fd _ hd)) ((View.readAt_full _ _ _).trans hn))
  · ipureintro
    sl_unfold_words
    exact congrArg (fun g => (k0_pay28 s.1.1 (k0_pay6 v23 g), k0_pay29 s.1.2 (k0_pay6 v23 g))) (ga4_eq 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v23 v67 k Xz _ fg fd _ hd)

/-- The state before round `k`. -/
def st4 (Xz : BufTy.Contents (Elt F) arg17.view.ty) (s0 : St4 F) (k : ℕ) : St4 F := (round4 v23 v67 (arg17.view.read (Elt F) Xz))^[k] s0

/-- What a buffer has been given before round `k`: nothing, or the whole of `v`. -/
def pcd4 (v : ℕ → Vec F S512x128 .f32) : ℕ → List (View.Piece (Elt F) S512x128 .f32)
  | 0 => []
  | k + 1 => [⟨Rect.unit ![0, 0] S512x128.size inb_S512x128_S512x128_0_0, v (k + 1)⟩]

/-- The same for the running maximum and minimum. -/
def pch4 (v : ℕ → Vec F S512x256 .f32) : ℕ → List (View.Piece (Elt F) S512x256 .f32)
  | 0 => []
  | k + 1 => [⟨Rect.unit ![0, 0] S512x256.size inb_S512x256_S512x256_0_0, v (k + 1)⟩]

theorem read_pcd4 (G : BufTy.Contents (Elt F) arg18.view.ty) (v : ℕ → Vec F S512x128 .f32) (h0 : (arg18.view.read (Elt F) G) = v 0) (k : ℕ) :
    arg18.view.read (Elt F) (arg18.view.writes (Elt F) G (pcd4 v k)) = v k := by
  cases k with
  | zero => exact h0
  | succ k => exact View.read_writes_full _ _ _ _ _

theorem read_pch4 (m : Memref sig .tc .vmem S512x256 .f32) (G : BufTy.Contents (Elt F) m.view.ty) (v : ℕ → Vec F S512x256 .f32)
    (h0 : m.view.read (Elt F) G = v 0) (k : ℕ) :
    m.view.read (Elt F) (m.view.writes (Elt F) G (pch4 v k)) = v k := by
  cases k with
  | zero => exact h0
  | succ k => exact View.read_writes_full _ _ _ _ _

theorem eq_pcd4 (harg18 : arg18.IsWhole) (G f : BufTy.Contents (Elt F) arg18.view.ty) (v : ℕ → Vec F S512x128 .f32) (k : ℕ) (h : (arg18.view.read (Elt F) f) = v (k + 1)) :
    f = arg18.view.writes (Elt F) G (pcd4 v (k + 1)) :=
  harg18.read_bijective.1 (h.trans (View.read_writes_full _ _ _ _ _).symm)

theorem eq_pch4 (m : Memref sig .tc .vmem S512x256 .f32) (hm : m.IsWhole) (G f : BufTy.Contents (Elt F) m.view.ty) (v : ℕ → Vec F S512x256 .f32) (k : ℕ)
    (h : m.view.read (Elt F) f = v (k + 1)) : f = m.view.writes (Elt F) G (pch4 v (k + 1)) :=
  hm.read_bijective.1 (h.trans (View.read_writes_full _ _ _ _ _).symm)

/-- The state at the loop's entry, from what the buffers hold there. -/
abbrev ent4 (init : FVec F S1x256 .f32 × FVec F S1x256 .f32) (Gd : BufTy.Contents (Elt F) arg18.view.ty) (Gx : BufTy.Contents (Elt F) arg21.view.ty) (Gn : BufTy.Contents (Elt F) arg22.view.ty) : St4 F :=
  (init, (arg21.view.read (Elt F) Gx), (arg22.view.read (Elt F) Gn), (arg18.view.read (Elt F) Gd))

/-- Before round `k` the carried value and the three buffers are the state's. -/
abbrev inv4 (Xz : BufTy.Contents (Elt F) arg17.view.ty) (s0 : St4 F) (Gd : BufTy.Contents (Elt F) arg18.view.ty) (Gx : BufTy.Contents (Elt F) arg21.view.ty) (Gn : BufTy.Contents (Elt F) arg22.view.ty) (k : ℕ) (acc : FVec F S1x256 .f32 × FVec F S1x256 .f32) : sProp 𝕄G :=
  iprop((arg17.view.loc (c : Thread nD τ) ↦[arg17.view.set]{fullShare} Xz) ∗ (∃ f, (arg18.view.loc (c : Thread nD τ) ↦[arg18.view.set]{fullShare} f) ∗ ⌜f = arg18.view.writes (Elt F) Gd (pcd4 (fun k => (st4 arg17 v23 v67 Xz s0 k).2.2.2) k)⌝)
    ∗ (∃ f, (arg19.view.loc (c : Thread nD τ) ↦[arg19.view.set]{fullShare} f)) ∗ (∃ f, (arg20.view.loc (c : Thread nD τ) ↦[arg20.view.set]{fullShare} f))
    ∗ (∃ f, (arg21.view.loc (c : Thread nD τ) ↦[arg21.view.set]{fullShare} f) ∗ ⌜f = arg21.view.writes (Elt F) Gx (pch4 (fun k => (st4 arg17 v23 v67 Xz s0 k).2.1) k)⌝)
    ∗ (∃ f, (arg22.view.loc (c : Thread nD τ) ↦[arg22.view.set]{fullShare} f) ∗ ⌜f = arg22.view.writes (Elt F) Gn (pch4 (fun k => (st4 arg17 v23 v67 Xz s0 k).2.2.1) k)⌝)
    ∗ ⌜acc = (st4 arg17 v23 v67 Xz s0 k).1⌝)

set_option warn.classDefReducibility false in
/-- The rounds' loop by that invariant. -/
@[sl_loop] def loopInv4 (E : Set ℕ) (Xz : BufTy.Contents (Elt F) arg17.view.ty) (init : FVec F S1x256 .f32 × FVec F S1x256 .f32) (Gd : BufTy.Contents (Elt F) arg18.view.ty) (Gx : BufTy.Contents (Elt F) arg21.view.ty) (Gn : BufTy.Contents (Elt F) arg22.view.ty) :
    LoopInvTy_k0_t1 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v4 v23 v33 v67 init where
  inv := inv4 (F := F) c arg17 arg18 arg19 arg20 arg21 arg22 v23 v67 Xz (ent4 arg18 arg21 arg22 init Gd Gx Gn) Gd Gx Gn
  step k acc := by
    iintro ⟨HZ, ⟨%fd, HD, %hd⟩, ⟨%fo, HO⟩, ⟨%fg, HG⟩, ⟨%fx, HX, %hx⟩, ⟨%fn, HN, %hn⟩, %ha⟩
    subst ha
    have hs : st4 arg17 v23 v67 Xz (ent4 arg18 arg21 arg22 init Gd Gx Gn) (k.val + 1)
        = round4 v23 v67 (arg17.view.read (Elt F) Xz) (st4 arg17 v23 v67 Xz (ent4 arg18 arg21 arg22 init Gd Gx Gn) k.val) :=
      Function.iterate_succ_apply' _ _ _
    iapply (wp_wand_r Idealize.ShloMosaic.frame (wpE (defs₀ (F := F)) 𝒱 (c : Thread nD τ) bd) E)
    isplitl [HZ HD HO HG HX HN]
    · iapply (trip4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v4 v23 v33 v67 Xz k E _ fd fo fg fx fn
        ((congrArg _ hd).trans (read_pcd4 arg18 Gd _ rfl k.val)) ((congrArg _ hx).trans (read_pch4 arg21 Gx _ rfl k.val))
        ((congrArg _ hn).trans (read_pch4 arg22 Gn _ rfl k.val)))
      isplitl [HZ]; · iexact HZ
      isplitl [HD]; · iexact HD
      isplitl [HO]; · iexact HO
      isplitl [HG]; · iexact HG
      isplitl [HX]; · iexact HX
      iexact HN
    · iintro %yld ⟨HZ, ⟨%gd, HD, %ed⟩, HO, HG, ⟨%gx, HX, %ex⟩, ⟨%gn, HN, %en⟩, %ey⟩
      isplitl [HZ]; · iexact HZ
      isplitl [HD]
      · iexists gd; isplitl [HD]; · iexact HD
        ipureintro
        exact eq_pcd4 arg18 harg18 Gd gd (fun k => (st4 arg17 v23 v67 Xz (ent4 arg18 arg21 arg22 init Gd Gx Gn) k).2.2.2) k.val (ed.trans (congrArg (fun s : St4 F => s.2.2.2) hs.symm))
      isplitl [HO]; · iexact HO
      isplitl [HG]; · iexact HG
      isplitl [HX]
      · iexists gx; isplitl [HX]; · iexact HX
        ipureintro
        exact eq_pch4 arg21 harg21 Gx gx (fun k => (st4 arg17 v23 v67 Xz (ent4 arg18 arg21 arg22 init Gd Gx Gn) k).2.1) k.val (ex.trans (congrArg (fun s : St4 F => s.2.1) hs.symm))
      isplitl [HN]
      · iexists gn; isplitl [HN]; · iexact HN
        ipureintro
        exact eq_pch4 arg22 harg22 Gn gn (fun k => (st4 arg17 v23 v67 Xz (ent4 arg18 arg21 arg22 init Gd Gx Gn) k).2.2.1) k.val (en.trans (congrArg (fun s : St4 F => s.2.2.1) hs.symm))
      · ipureintro
        exact ey.trans (congrArg Prod.fst hs.symm)

end

/-! ## Stage 5's rounds -/

/-- What the rounds carry: the two running sums, the running maximum and minimum, the distances left. -/
abbrev St5 (F : FTy → Type) := (FVec F S1x512 .f32 × FVec F S1x512 .f32) × Vec F S128x512 .f32 × Vec F S128x512 .f32 × Vec F S128x32 .f32

/-- The product of each cloud's 8 rows of `oh` with the cloud's 32 rows of `z`. -/
def gather5 (z : Vec F S512x1024 .f32) (oh : Vec F S128x32 .f32) : Vec F S128x1024 .f32 := fun y =>
  have h0 : (y 0).val < 128 := (y 0).isLt
  k0_pay11 (fun i => oh (ValueIdx.ix2 ⟨8 * ((y 0).val / 8) + (i 0).val, by have : (i 0).val < 8 := (i 0).isLt; omega⟩ (i 1)))
    (fun i => z (ValueIdx.ix2 ⟨32 * ((y 0).val / 8) + (i 0).val, by have : (i 0).val < 32 := (i 0).isLt; omega⟩ (i 1)))
    (ValueIdx.ix2 ⟨(y 0).val % 8, Nat.mod_lt _ (by decide)⟩ (y 1))

/-- One round on values: `q` the centres' product, `io` the column numbers, `z` the stacked halves of the points' product. -/
def round5 (q : FVec F S128x512 .f32) (io : IVec S128x32 32) (z : Vec F S512x1024 .f32) (s : St5 F) : St5 F :=
  ((k0_pay45 s.1.1 (k0_pay12 q (gather5 z (k0_pay10 io s.2.2.2))), k0_pay46 s.1.2 (k0_pay12 q (gather5 z (k0_pay10 io s.2.2.2)))),
    k0_pay13 q (gather5 z (k0_pay10 io s.2.2.2)) s.2.1, k0_pay44 (k0_pay12 q (gather5 z (k0_pay10 io s.2.2.2))) s.2.2.1, k0_pay9 io s.2.2.2)

section
variable (𝒱 : Variants) (c : Dev nD) (bd : Option 𝒱.V)
  (arg0 : Memref sig .tc .vmem S2048x128 .f32) (harg0 : arg0.IsWhole)
  (arg1 : Memref sig .tc .vmem S2048x3 .f32) (harg1 : arg1.IsWhole)
  (arg2 : Memref sig .tc .vmem S16x3x128 .f32) (harg2 : arg2.IsWhole)
  (arg3 : Memref sig .tc .vmem S512x3 .f32) (harg3 : arg3.IsWhole)
  (arg4 : Memref sig .tc .vmem S16x3x32 .f32) (harg4 : arg4.IsWhole)
  (arg5 : Memref sig .tc .vmem S128x3 .f32) (harg5 : arg5.IsWhole)
  (arg6 : Memref sig .tc .vmem S131x256 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S259x512 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S512x512 .f32) (harg12 : arg12.IsWhole)
  (arg13 : Memref sig .tc .vmem S1x512 .f32) (harg13 : arg13.IsWhole)
  (arg14 : Memref sig .tc .vmem S512x6 .f32) (harg14 : arg14.IsWhole)
  (arg15 : Memref sig .tc .vmem S1x6 .f32) (harg15 : arg15.IsWhole)
  (arg16 : Memref sig .tc .vmem S16x6 .f32) (harg16 : arg16.IsWhole)
  (arg17 : Memref sig .tc .vmem S2048x512 .f32) (harg17 : arg17.IsWhole)
  (arg18 : Memref sig .tc .vmem S512x128 .f32) (harg18 : arg18.IsWhole)
  (arg19 : Memref sig .tc .vmem S512x128 .f32) (harg19 : arg19.IsWhole)
  (arg20 : Memref sig .tc .vmem S512x512 .f32) (harg20 : arg20.IsWhole)
  (arg21 : Memref sig .tc .vmem S512x256 .f32) (harg21 : arg21.IsWhole)
  (arg22 : Memref sig .tc .vmem S512x256 .f32) (harg22 : arg22.IsWhole)
  (arg23 : Memref sig .tc .vmem S512x1024 .f32) (harg23 : arg23.IsWhole)
  (arg24 : Memref sig .tc .vmem S128x32 .f32) (harg24 : arg24.IsWhole)
  (arg25 : Memref sig .tc .vmem S128x32 .f32) (harg25 : arg25.IsWhole)
  (arg26 : Memref sig .tc .vmem S128x1024 .f32) (harg26 : arg26.IsWhole)
  (arg27 : Memref sig .tc .vmem S128x512 .f32) (harg27 : arg27.IsWhole)
  (arg28 : Memref sig .tc .vmem S128x512 .f32) (harg28 : arg28.IsWhole)
  (v102 : FVec F S1x512 .f32) (v104 : FVec F S1x512 .f32) (v119 : FVec F S128x512 .f32) (v151 : FVec F S128x32 .f32) (v163 : IVec S128x32 32)

set_option maxHeartbeats 1600000 in
theorem pb5_read (k0_t3 : Fin k0_t3_loop.trips) (Xz : BufTy.Contents (Elt F) arg23.view.ty) (Xo : BufTy.Contents (Elt F) arg25.view.ty) (f : BufTy.Contents (Elt F) arg26.view.ty) (k : ℕ) (hk : k ≤ 16) (y : S128x1024.Idx)
    (hy : (y 0).val < 8 * k) :
    arg26.view.read (Elt F) (arg26.view.writes (Elt F) f (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v119 v163 0#32 1#32 k0_t3 Xz Xo k)) y
      = gather5 (arg23.view.read (Elt F) Xz) (arg25.view.read (Elt F) Xo) y := by
  induction k with
  | zero => exact absurd hy (by omega)
  | succ k ih =>
    have hk' : k < k0_t4_loop.trips := hk
    rw [pb_k0_t4_succ (k := ⟨k, hk'⟩)]
    unfold tripL_k0_t4 trip_k0_t4
    dsimp only
    sl_unfold_words
    by_cases hm : (y 0).val < 8 * k
    · refine (View.read_writes_cons_unit_of_not_mem (off' := ![8 * k, 0]) arg26.view f _ _ _ y (k0_off6_eq ⟨k, hk'⟩) (0 : Fin 2) (Or.inl hm)).trans ?_
      exact ih (by omega) hm
    · have hq : (y 0).val / 8 = k := by omega
      refine (View.read_writes_cons_unit_of_mem (off' := ![8 * k, 0]) arg26.view f _ _ _ y (ValueIdx.ix2 ⟨(y 0).val % 8, Nat.mod_lt _ (by decide)⟩ (y 1)) (k0_off6_eq ⟨k, hk'⟩) fun a => ?_).trans ?_
      · match a with
        | ⟨0, _⟩ => show (y 0).val = 8 * k + (y 0).val % 8; omega
        | ⟨1, _⟩ => exact (Nat.zero_add _).symm
      · unfold gather5
        dsimp only
        refine congrArg₂ (fun a b => k0_pay11 a b (ValueIdx.ix2 ⟨(y 0).val % 8, Nat.mod_lt _ (by decide)⟩ (y 1))) (funext fun i => ?_) (funext fun i => ?_)
        · refine congrArg (arg25.view.read (Elt F) Xo) (funext fun a => Fin.ext ?_)
          match a with
          | ⟨0, _⟩ =>
            show k0_off4 ⟨k, hk'⟩ 0 + 1 * (i 0).val = 8 * ((y 0).val / 8) + (i 0).val
            rw [k0_off4_eq, hq, Nat.one_mul]; rfl
          | ⟨1, _⟩ =>
            show k0_off4 ⟨k, hk'⟩ 1 + 1 * (i 1).val = (i 1).val
            rw [k0_off4_eq, Nat.one_mul]; exact Nat.zero_add _
        · refine congrArg (arg23.view.read (Elt F) Xz) (funext fun a => Fin.ext ?_)
          match a with
          | ⟨0, _⟩ =>
            show k0_off5 ⟨k, hk'⟩ 0 + 1 * (i 0).val = 32 * ((y 0).val / 8) + (i 0).val
            rw [k0_off5_eq, hq, Nat.one_mul]; rfl
          | ⟨1, _⟩ =>
            show k0_off5 ⟨k, hk'⟩ 1 + 1 * (i 1).val = (i 1).val
            rw [k0_off5_eq, Nat.one_mul]; exact Nat.zero_add _

/-- After the clouds' loop the buffer reads the gathered rows, whatever it held. -/
theorem pb5_all (k0_t3 : Fin k0_t3_loop.trips) (Xz : BufTy.Contents (Elt F) arg23.view.ty) (Xo : BufTy.Contents (Elt F) arg25.view.ty) (f : BufTy.Contents (Elt F) arg26.view.ty) :
    arg26.view.read (Elt F) (arg26.view.writes (Elt F) f (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v119 v163 0#32 1#32 k0_t3 Xz Xo 16))
      = gather5 (arg23.view.read (Elt F) Xz) (arg25.view.read (Elt F) Xo) :=
  funext fun y => pb5_read 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v119 v163 k0_t3 Xz Xo f 16 le_rfl y (by have : (y 0).val < 128 := (y 0).isLt; omega)

/-- The buffer as the trip reads it back. -/
theorem ga5_eq (k0_t3 : Fin k0_t3_loop.trips) (Xz : BufTy.Contents (Elt F) arg23.view.ty) (fo : BufTy.Contents (Elt F) arg25.view.ty) (f : BufTy.Contents (Elt F) arg26.view.ty) (fd : BufTy.Contents (Elt F) arg24.view.ty) (x : Vec F S128x32 .f32)
    (hd : arg24.view.read (Elt F) fd = x) :
    arg26.view.readAt (Elt F) (Rect.unit ![0, 0] S128x1024.size inb_S128x1024_S128x1024_0_0).toLoadRect (arg26.view.writes (Elt F) f (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v119 v163 0#32 1#32 k0_t3 Xz
        (arg25.view.writes (Elt F) fo [⟨Rect.unit ![0, 0] S128x32.size inb_S128x32_S128x32_0_0, k0_pay10 v163 (arg24.view.readAt (Elt F) (Rect.unit ![0, 0] S128x32.size inb_S128x32_S128x32_0_0).toLoadRect fd)⟩])
        (Scf.trips k0_t4_loop.lb k0_t4_loop.ub k0_t4_loop.st)))
      = gather5 (arg23.view.read (Elt F) Xz) (k0_pay10 v163 x) := by
  have ht : Scf.trips k0_t4_loop.lb k0_t4_loop.ub k0_t4_loop.st = 16 := by decide +kernel
  rw [ht]
  refine (View.readAt_full _ _ _).trans ((pb5_all 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v119 v163 k0_t3 Xz _ f).trans (congrArg (gather5 _) ?_))
  refine (View.read_writes_full _ _ _ _ _).trans (congrArg (k0_pay10 v163) ?_)
  exact (View.readAt_full _ _ _).trans hd

set_option maxHeartbeats 1600000 in
/-- One trip of the rounds' loop: the buffers end reading one round of what they read. -/
theorem trip5 (Xz : BufTy.Contents (Elt F) arg23.view.ty) (k : Fin k0_t3_loop.trips) (E : Set ℕ) (s : St5 F)
    (fd : BufTy.Contents (Elt F) arg24.view.ty) (fo : BufTy.Contents (Elt F) arg25.view.ty) (fg : BufTy.Contents (Elt F) arg26.view.ty) (fx : BufTy.Contents (Elt F) arg27.view.ty) (fn : BufTy.Contents (Elt F) arg28.view.ty)
    (hd : arg24.view.read (Elt F) fd = s.2.2.2) (hx : arg27.view.read (Elt F) fx = s.2.1) (hn : arg28.view.read (Elt F) fn = s.2.2.1) :
    iprop((arg23.view.loc (c : Thread nD τ) ↦[arg23.view.set]{fullShare} Xz) ∗ (arg24.view.loc (c : Thread nD τ) ↦[arg24.view.set]{fullShare} fd) ∗ (arg25.view.loc (c : Thread nD τ) ↦[arg25.view.set]{fullShare} fo) ∗ (arg26.view.loc (c : Thread nD τ) ↦[arg26.view.set]{fullShare} fg) ∗ (arg27.view.loc (c : Thread nD τ) ↦[arg27.view.set]{fullShare} fx) ∗ (arg28.view.loc (c : Thread nD τ) ↦[arg28.view.set]{fullShare} fn) : sProp 𝕄G)
      ⊢ wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v102 v104 v119 v151 v163 k s.1)
        (fun yld => iprop((arg23.view.loc (c : Thread nD τ) ↦[arg23.view.set]{fullShare} Xz) ∗ (∃ f, (arg24.view.loc (c : Thread nD τ) ↦[arg24.view.set]{fullShare} f) ∗ ⌜arg24.view.read (Elt F) f = (round5 v119 v163 (arg23.view.read (Elt F) Xz) s).2.2.2⌝) ∗ (∃ f, (arg25.view.loc (c : Thread nD τ) ↦[arg25.view.set]{fullShare} f)) ∗ (∃ f, (arg26.view.loc (c : Thread nD τ) ↦[arg26.view.set]{fullShare} f))
          ∗ (∃ f, (arg27.view.loc (c : Thread nD τ) ↦[arg27.view.set]{fullShare} f) ∗ ⌜arg27.view.read (Elt F) f = (round5 v119 v163 (arg23.view.read (Elt F) Xz) s).2.1⌝) ∗ (∃ f, (arg28.view.loc (c : Thread nD τ) ↦[arg28.view.set]{fullShare} f) ∗ ⌜arg28.view.read (Elt F) f = (round5 v119 v163 (arg23.view.read (Elt F) Xz) s).2.2.1⌝)
          ∗ ⌜yld = (round5 v119 v163 (arg23.view.read (Elt F) Xz) s).1⌝)) := by
  have hk : k.val < 16 := Nat.lt_of_lt_of_le k.isLt k0_t3_abs.2.1
  unfold k0_t3_body
  iintro ⟨HZ, HD, HO, HG, HX, HN⟩
  sl_exec
  sl_step
  isplitl [HZ]; · iexact HZ
  isplitl [HD]
  · iexists _; isplitl [HD]; · iexact HD
    ipureintro
    unfold round5
    dsimp only
    sl_unfold_words
    rw [← hd, ← View.readAt_full arg24.view fd inb_S128x32_S128x32_0_0]
    exact View.read_writes_full _ _ _ _ _
  isplitl [HO]; · iexists _; iexact HO
  isplitl [HG]; · iexists _; iexact HG
  isplitl [HX]
  · iexists _; isplitl [HX]; · iexact HX
    ipureintro
    sl_unfold_words
    exact (View.read_writes_full _ _ _ _ _).trans
      (congrArg₂ (k0_pay13 v119) (ga5_eq 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v119 v163 k Xz _ fg fd _ hd) ((View.readAt_full _ _ _).trans hx))
  isplitl [HN]
  · iexists _; isplitl [HN]; · iexact HN
    ipureintro
    sl_unfold_words
    exact (View.read_writes_full _ _ _ _ _).trans
      (congrArg₂ k0_pay44 (congrArg (k0_pay12 v119) (ga5_eq 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v119 v163 k Xz _ fg fd _ hd)) ((View.readAt_full _ _ _).trans hn))
  · ipureintro
    sl_unfold_words
    exact congrArg (fun g => (k0_pay45 s.1.1 (k0_pay12 v119 g), k0_pay46 s.1.2 (k0_pay12 v119 g))) (ga5_eq 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v119 v163 k Xz _ fg fd _ hd)

/-- The state before round `k`. -/
def st5 (Xz : BufTy.Contents (Elt F) arg23.view.ty) (s0 : St5 F) (k : ℕ) : St5 F := (round5 v119 v163 (arg23.view.read (Elt F) Xz))^[k] s0

/-- What a buffer has been given before round `k`: nothing, or the whole of `v`. -/
def pcd5 (v : ℕ → Vec F S128x32 .f32) : ℕ → List (View.Piece (Elt F) S128x32 .f32)
  | 0 => []
  | k + 1 => [⟨Rect.unit ![0, 0] S128x32.size inb_S128x32_S128x32_0_0, v (k + 1)⟩]

/-- The same for the running maximum and minimum. -/
def pch5 (v : ℕ → Vec F S128x512 .f32) : ℕ → List (View.Piece (Elt F) S128x512 .f32)
  | 0 => []
  | k + 1 => [⟨Rect.unit ![0, 0] S128x512.size inb_S128x512_S128x512_0_0, v (k + 1)⟩]

theorem read_pcd5 (G : BufTy.Contents (Elt F) arg24.view.ty) (v : ℕ → Vec F S128x32 .f32) (h0 : (arg24.view.read (Elt F) G) = v 0) (k : ℕ) :
    arg24.view.read (Elt F) (arg24.view.writes (Elt F) G (pcd5 v k)) = v k := by
  cases k with
  | zero => exact h0
  | succ k => exact View.read_writes_full _ _ _ _ _

theorem read_pch5 (m : Memref sig .tc .vmem S128x512 .f32) (G : BufTy.Contents (Elt F) m.view.ty) (v : ℕ → Vec F S128x512 .f32)
    (h0 : m.view.read (Elt F) G = v 0) (k : ℕ) :
    m.view.read (Elt F) (m.view.writes (Elt F) G (pch5 v k)) = v k := by
  cases k with
  | zero => exact h0
  | succ k => exact View.read_writes_full _ _ _ _ _

theorem eq_pcd5 (harg24 : arg24.IsWhole) (G f : BufTy.Contents (Elt F) arg24.view.ty) (v : ℕ → Vec F S128x32 .f32) (k : ℕ) (h : (arg24.view.read (Elt F) f) = v (k + 1)) :
    f = arg24.view.writes (Elt F) G (pcd5 v (k + 1)) :=
  harg24.read_bijective.1 (h.trans (View.read_writes_full _ _ _ _ _).symm)

theorem eq_pch5 (m : Memref sig .tc .vmem S128x512 .f32) (hm : m.IsWhole) (G f : BufTy.Contents (Elt F) m.view.ty) (v : ℕ → Vec F S128x512 .f32) (k : ℕ)
    (h : m.view.read (Elt F) f = v (k + 1)) : f = m.view.writes (Elt F) G (pch5 v (k + 1)) :=
  hm.read_bijective.1 (h.trans (View.read_writes_full _ _ _ _ _).symm)

/-- The state at the loop's entry, from what the buffers hold there. -/
abbrev ent5 (init : FVec F S1x512 .f32 × FVec F S1x512 .f32) (Gd : BufTy.Contents (Elt F) arg24.view.ty) (Gx : BufTy.Contents (Elt F) arg27.view.ty) (Gn : BufTy.Contents (Elt F) arg28.view.ty) : St5 F :=
  (init, (arg27.view.read (Elt F) Gx), (arg28.view.read (Elt F) Gn), (arg24.view.read (Elt F) Gd))

/-- Before round `k` the carried value and the three buffers are the state's. -/
abbrev inv5 (Xz : BufTy.Contents (Elt F) arg23.view.ty) (s0 : St5 F) (Gd : BufTy.Contents (Elt F) arg24.view.ty) (Gx : BufTy.Contents (Elt F) arg27.view.ty) (Gn : BufTy.Contents (Elt F) arg28.view.ty) (k : ℕ) (acc : FVec F S1x512 .f32 × FVec F S1x512 .f32) : sProp 𝕄G :=
  iprop((arg23.view.loc (c : Thread nD τ) ↦[arg23.view.set]{fullShare} Xz) ∗ (∃ f, (arg24.view.loc (c : Thread nD τ) ↦[arg24.view.set]{fullShare} f) ∗ ⌜f = arg24.view.writes (Elt F) Gd (pcd5 (fun k => (st5 arg23 v119 v163 Xz s0 k).2.2.2) k)⌝)
    ∗ (∃ f, (arg25.view.loc (c : Thread nD τ) ↦[arg25.view.set]{fullShare} f)) ∗ (∃ f, (arg26.view.loc (c : Thread nD τ) ↦[arg26.view.set]{fullShare} f))
    ∗ (∃ f, (arg27.view.loc (c : Thread nD τ) ↦[arg27.view.set]{fullShare} f) ∗ ⌜f = arg27.view.writes (Elt F) Gx (pch5 (fun k => (st5 arg23 v119 v163 Xz s0 k).2.1) k)⌝)
    ∗ (∃ f, (arg28.view.loc (c : Thread nD τ) ↦[arg28.view.set]{fullShare} f) ∗ ⌜f = arg28.view.writes (Elt F) Gn (pch5 (fun k => (st5 arg23 v119 v163 Xz s0 k).2.2.1) k)⌝)
    ∗ ⌜acc = (st5 arg23 v119 v163 Xz s0 k).1⌝)

set_option warn.classDefReducibility false in
/-- The rounds' loop by that invariant. -/
@[sl_loop] def loopInv5 (E : Set ℕ) (Xz : BufTy.Contents (Elt F) arg23.view.ty) (init : FVec F S1x512 .f32 × FVec F S1x512 .f32) (Gd : BufTy.Contents (Elt F) arg24.view.ty) (Gx : BufTy.Contents (Elt F) arg27.view.ty) (Gn : BufTy.Contents (Elt F) arg28.view.ty) :
    LoopInvTy_k0_t3 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v102 v104 v119 v151 v163 init where
  inv := inv5 (F := F) c arg23 arg24 arg25 arg26 arg27 arg28 v119 v163 Xz (ent5 arg24 arg27 arg28 init Gd Gx Gn) Gd Gx Gn
  step k acc := by
    iintro ⟨HZ, ⟨%fd, HD, %hd⟩, ⟨%fo, HO⟩, ⟨%fg, HG⟩, ⟨%fx, HX, %hx⟩, ⟨%fn, HN, %hn⟩, %ha⟩
    subst ha
    have hs : st5 arg23 v119 v163 Xz (ent5 arg24 arg27 arg28 init Gd Gx Gn) (k.val + 1)
        = round5 v119 v163 (arg23.view.read (Elt F) Xz) (st5 arg23 v119 v163 Xz (ent5 arg24 arg27 arg28 init Gd Gx Gn) k.val) :=
      Function.iterate_succ_apply' _ _ _
    iapply (wp_wand_r Idealize.ShloMosaic.frame (wpE (defs₀ (F := F)) 𝒱 (c : Thread nD τ) bd) E)
    isplitl [HZ HD HO HG HX HN]
    · iapply (trip5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v102 v104 v119 v151 v163 Xz k E _ fd fo fg fx fn
        ((congrArg _ hd).trans (read_pcd5 arg24 Gd _ rfl k.val)) ((congrArg _ hx).trans (read_pch5 arg27 Gx _ rfl k.val))
        ((congrArg _ hn).trans (read_pch5 arg28 Gn _ rfl k.val)))
      isplitl [HZ]; · iexact HZ
      isplitl [HD]; · iexact HD
      isplitl [HO]; · iexact HO
      isplitl [HG]; · iexact HG
      isplitl [HX]; · iexact HX
      iexact HN
    · iintro %yld ⟨HZ, ⟨%gd, HD, %ed⟩, HO, HG, ⟨%gx, HX, %ex⟩, ⟨%gn, HN, %en⟩, %ey⟩
      isplitl [HZ]; · iexact HZ
      isplitl [HD]
      · iexists gd; isplitl [HD]; · iexact HD
        ipureintro
        exact eq_pcd5 arg24 harg24 Gd gd (fun k => (st5 arg23 v119 v163 Xz (ent5 arg24 arg27 arg28 init Gd Gx Gn) k).2.2.2) k.val (ed.trans (congrArg (fun s : St5 F => s.2.2.2) hs.symm))
      isplitl [HO]; · iexact HO
      isplitl [HG]; · iexact HG
      isplitl [HX]
      · iexists gx; isplitl [HX]; · iexact HX
        ipureintro
        exact eq_pch5 arg27 harg27 Gx gx (fun k => (st5 arg23 v119 v163 Xz (ent5 arg24 arg27 arg28 init Gd Gx Gn) k).2.1) k.val (ex.trans (congrArg (fun s : St5 F => s.2.1) hs.symm))
      isplitl [HN]
      · iexists gn; isplitl [HN]; · iexact HN
        ipureintro
        exact eq_pch5 arg28 harg28 Gn gn (fun k => (st5 arg23 v119 v163 Xz (ent5 arg24 arg27 arg28 init Gd Gx Gn) k).2.2.1) k.val (en.trans (congrArg (fun s : St5 F => s.2.2.1) hs.symm))
      · ipureintro
        exact ey.trans (congrArg Prod.fst hs.symm)

end

end Cert.TailIdeal.Run

end
-- ==== Proof.TailIdealRun.lean ====
/-
  The tail's body as a function of its input blocks, and the body's run.
-/
module

public import proofs.«01_k».proof.Proof.TailIdealLoops

@[expose] public section

set_option maxRecDepth 16384

noncomputable section

namespace Cert.TailIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.TailIdeal Cert.TailIdeal.Gen

variable {F : FTy → Type} [FloatOps F] [Named F]

/-- The frame's resource algebra. -/
local notation "𝕄G" => MT nD τ sig Unit (Elt F) ℕ (UR sig nD τ) ℕ

/-- The rows of stage 4's weights that the coordinates meet, and the rows the features meet. -/
def wp4 (x6 : Vec F S131x256 .f32) : Vec F S3x256 .f32 := View.ld x6 (Rect.unit ![0, 0] S3x256.size inb_S131x256_S3x256_0_0)
def wx4 (x6 : Vec F S131x256 .f32) : Vec F S128x256 .f32 := View.ld x6 (Rect.unit ![3, 0] S128x256.size inb_S131x256_S128x256_3_0)
/-- The same of stage 5's. -/
def wp5 (x9 : Vec F S259x512 .f32) : Vec F S3x512 .f32 := View.ld x9 (Rect.unit ![0, 0] S3x512.size inb_S259x512_S3x512_0_0)
def wx5 (x9 : Vec F S259x512 .f32) : Vec F S256x512 .f32 := View.ld x9 (Rect.unit ![3, 0] S256x512.size inb_S259x512_S256x512_3_0)
/-- One coordinate of the points, cloud by cloud. -/
def ax4 (x2 : Vec F S16x3x128 .f32) : Vec F S16x1x128 .f32 := View.ld x2 (Rect.unit ![0, 0, 0] S16x1x128.size inb_S16x3x128_S16x1x128_0_0_0)
def ay4 (x2 : Vec F S16x3x128 .f32) : Vec F S16x1x128 .f32 := View.ld x2 (Rect.unit ![0, 1, 0] S16x1x128.size inb_S16x3x128_S16x1x128_0_1_0)
def az4 (x2 : Vec F S16x3x128 .f32) : Vec F S16x1x128 .f32 := View.ld x2 (Rect.unit ![0, 2, 0] S16x1x128.size inb_S16x3x128_S16x1x128_0_2_0)
def ax5 (x4 : Vec F S16x3x32 .f32) : Vec F S16x1x32 .f32 := View.ld x4 (Rect.unit ![0, 0, 0] S16x1x32.size inb_S16x3x32_S16x1x32_0_0_0)
def ay5 (x4 : Vec F S16x3x32 .f32) : Vec F S16x1x32 .f32 := View.ld x4 (Rect.unit ![0, 1, 0] S16x1x32.size inb_S16x3x32_S16x1x32_0_1_0)
def az5 (x4 : Vec F S16x3x32 .f32) : Vec F S16x1x32 .f32 := View.ld x4 (Rect.unit ![0, 2, 0] S16x1x32.size inb_S16x3x32_S16x1x32_0_2_0)

/-- Two halves side by side. -/
def halves4 (a b : Vec F S2048x256 .f32) : Vec F S2048x512 .f32 := fun y =>
  if h : (y 1).val < 256 then a (ValueIdx.ix2 (y 0) ⟨(y 1).val, h⟩)
  else b (ValueIdx.ix2 (y 0) ⟨(y 1).val - 256, by have : (y 1).val < 512 := (y 1).isLt; omega⟩)
def halves5 (a b : Vec F S512x512 .f32) : Vec F S512x1024 .f32 := fun y =>
  if h : (y 1).val < 512 then a (ValueIdx.ix2 (y 0) ⟨(y 1).val, h⟩)
  else b (ValueIdx.ix2 (y 0) ⟨(y 1).val - 512, by have : (y 1).val < 1024 := (y 1).isLt; omega⟩)

/-- The column numbers. -/
def io4 : IVec S512x128 32 := iota .tc S512x128 32 [1] iota_S512x128_d1_w32
def io5 : IVec S128x32 32 := iota .tc S128x32 32 [1] iota_S128x32_d1_w32

/-- Stage 4 before its rounds, and after them. -/
def ent4v (x2 : Vec F S16x3x128 .f32) (x3 : Vec F S512x3 .f32) : St4 F :=
  ((k0_pay26, k0_pay26), k0_pay24, k0_pay25, k0_pay23 (k0_pay14 x3) (k0_pay22 x3 (ax4 x2)) (ay4 x2) (az4 x2))
def fin4 (x0 : Vec F S2048x128 .f32) (x1 : Vec F S2048x3 .f32) (x2 : Vec F S16x3x128 .f32) (x3 : Vec F S512x3 .f32) (x6 : Vec F S131x256 .f32) : St4 F :=
  (round4 (k0_pay21 x3 (wp4 x6)) io4 (halves4 (k0_pay19 x0 x1 (wp4 x6) (wx4 x6)) (k0_pay20 x0 x1 (wp4 x6) (wx4 x6))))^[16] (ent4v x2 x3)

/-- Stage 5's product of the points with the weights, from stage 4's end. -/
def mid (x3 : Vec F S512x3 .f32) (x7 x8 : Vec F S1x256 .f32) (x9 : Vec F S259x512 .f32) (s : St4 F) : FVec F S512x512 .f32 :=
  k0_pay34 (k0_pay15 x7) (k0_pay16 x8) s.1.1 s.1.2 k0_pay30 s.2.1 s.2.2.1 x3 (wp5 x9) (wx5 x9)

/-- Stage 5 before its rounds, and after them. -/
def ent5v (x4 : Vec F S16x3x32 .f32) (x5 : Vec F S128x3 .f32) : St5 F :=
  ((k0_pay43, k0_pay43), k0_pay41, k0_pay42, k0_pay40 (k0_pay39 (k0_pay31 x5) (ax5 x4) (ay5 x4) (az5 x4)))
def fin5 (x4 : Vec F S16x3x32 .f32) (x5 : Vec F S128x3 .f32) (x9 : Vec F S259x512 .f32) (z : FVec F S512x512 .f32) : St5 F :=
  (round5 (k0_pay38 (k0_pay31 x5) (wp5 x9)) io5 (halves5 (k0_pay36 z) (k0_pay37 z)))^[16] (ent5v x4 x5)

/-- What the body leaves in its output block. -/
def outv (x0 : Vec F S2048x128 .f32) (x1 : Vec F S2048x3 .f32) (x2 : Vec F S16x3x128 .f32) (x3 : Vec F S512x3 .f32) (x4 : Vec F S16x3x32 .f32) (x5 : Vec F S128x3 .f32) (x6 : Vec F S131x256 .f32) (x7 : Vec F S1x256 .f32) (x8 : Vec F S1x256 .f32) (x9 : Vec F S259x512 .f32) (x10 : Vec F S1x512 .f32) (x11 : Vec F S1x512 .f32) (x12 : Vec F S512x512 .f32) (x13 : Vec F S1x512 .f32) (x14 : Vec F S512x6 .f32) (x15 : Vec F S1x6 .f32) : Vec F S16x6 .f32 :=
  have s := fin5 x4 x5 x9 (mid x3 x7 x8 x9 (fin4 x0 x1 x2 x3 x6))
  k0_pay1 (k0_pay47 (k0_pay32 x10) (k0_pay33 x11) s.1.1 s.1.2 s.2.1 s.2.2.1) x12 x13 x14 x15

theorem read_halves4 (m : Memref sig .tc .vmem S2048x512 .f32) (f : BufTy.Contents (Elt F) m.view.ty) (a b : Vec F S2048x256 .f32) :
    m.view.read (Elt F) (m.view.writes (Elt F) f [⟨Rect.unit ![0, 256] S2048x256.size inb_S2048x512_S2048x256_0_256, b⟩,
      ⟨Rect.unit ![0, 0] S2048x256.size inb_S2048x512_S2048x256_0_0, a⟩]) = halves4 a b := by
  funext y
  unfold halves4
  have hy : (y 1).val < 512 := (y 1).isLt
  by_cases h : (y 1).val < 256
  · rw [dif_pos h]
    refine (View.read_writes_cons_unit_of_not_mem (off' := ![0, 256]) m.view f _ _ _ y rfl (1 : Fin 2) (Or.inl h)).trans ?_
    refine View.read_writes_cons_unit_of_mem (off' := ![0, 0]) m.view f _ _ _ y (ValueIdx.ix2 (y 0) ⟨(y 1).val, h⟩) rfl fun q => ?_
    match q with
    | ⟨0, _⟩ => exact (Nat.zero_add _).symm
    | ⟨1, _⟩ => exact (Nat.zero_add _).symm
  · rw [dif_neg h]
    refine View.read_writes_cons_unit_of_mem (off' := ![0, 256]) m.view f _ _ _ y (ValueIdx.ix2 (y 0) ⟨(y 1).val - 256, by omega⟩) rfl fun q => ?_
    match q with
    | ⟨0, _⟩ => exact (Nat.zero_add _).symm
    | ⟨1, _⟩ => show (y 1).val = 256 + ((y 1).val - 256); omega

theorem read_halves5 (m : Memref sig .tc .vmem S512x1024 .f32) (f : BufTy.Contents (Elt F) m.view.ty) (a b : Vec F S512x512 .f32) :
    m.view.read (Elt F) (m.view.writes (Elt F) f [⟨Rect.unit ![0, 512] S512x512.size inb_S512x1024_S512x512_0_512, b⟩,
      ⟨Rect.unit ![0, 0] S512x512.size inb_S512x1024_S512x512_0_0, a⟩]) = halves5 a b := by
  funext y
  unfold halves5
  have hy : (y 1).val < 1024 := (y 1).isLt
  by_cases h : (y 1).val < 512
  · rw [dif_pos h]
    refine (View.read_writes_cons_unit_of_not_mem (off' := ![0, 512]) m.view f _ _ _ y rfl (1 : Fin 2) (Or.inl h)).trans ?_
    refine View.read_writes_cons_unit_of_mem (off' := ![0, 0]) m.view f _ _ _ y (ValueIdx.ix2 (y 0) ⟨(y 1).val, h⟩) rfl fun q => ?_
    match q with
    | ⟨0, _⟩ => exact (Nat.zero_add _).symm
    | ⟨1, _⟩ => exact (Nat.zero_add _).symm
  · rw [dif_neg h]
    refine View.read_writes_cons_unit_of_mem (off' := ![0, 512]) m.view f _ _ _ y (ValueIdx.ix2 (y 0) ⟨(y 1).val - 512, by omega⟩) rfl fun q => ?_
    match q with
    | ⟨0, _⟩ => exact (Nat.zero_add _).symm
    | ⟨1, _⟩ => show (y 1).val = 512 + ((y 1).val - 512); omega

theorem readCov_pch4 (m : Memref sig .tc .vmem S512x256 .f32) (v : ℕ → Vec F S512x256 .f32) (w : Vec F S512x256 .f32) (h0 : w = v 0) (n : ℕ) :
    m.view.readCov (pch4 v n ++ [⟨Rect.unit ![0, 0] S512x256.size inb_S512x256_S512x256_0_0, w⟩]) (Rect.unit ![0, 0] S512x256.size inb_S512x256_S512x256_0_0).toLoadRect = v n := by
  cases n with
  | zero => exact ((View.readAt_full _ _ _).trans (View.read_writes_full _ _ _ _ _)).trans h0
  | succ n => exact (View.readAt_full _ _ _).trans (View.read_writes_full _ _ _ _ _)

theorem readCov_pch5 (m : Memref sig .tc .vmem S128x512 .f32) (v : ℕ → Vec F S128x512 .f32) (w : Vec F S128x512 .f32) (h0 : w = v 0) (n : ℕ) :
    m.view.readCov (pch5 v n ++ [⟨Rect.unit ![0, 0] S128x512.size inb_S128x512_S128x512_0_0, w⟩]) (Rect.unit ![0, 0] S128x512.size inb_S128x512_S128x512_0_0).toLoadRect = v n := by
  cases n with
  | zero => exact ((View.readAt_full _ _ _).trans (View.read_writes_full _ _ _ _ _)).trans h0
  | succ n => exact (View.readAt_full _ _ _).trans (View.read_writes_full _ _ _ _ _)

theorem readCov_hx4 (a17 : Memref sig .tc .vmem S2048x512 .f32) (a18 : Memref sig .tc .vmem S512x128 .f32) (a21 a22 : Memref sig .tc .vmem S512x256 .f32)
    (q : FVec F S512x256 .f32) (io : IVec S512x128 32) (Xz : BufTy.Contents (Elt F) a17.view.ty) (i : FVec F S1x256 .f32 × FVec F S1x256 .f32)
    (Gd : BufTy.Contents (Elt F) a18.view.ty) (Gx : BufTy.Contents (Elt F) a21.view.ty) (Gn : BufTy.Contents (Elt F) a22.view.ty) (w : Vec F S512x256 .f32) (n : ℕ)
    (h0 : a21.view.read (Elt F) Gx = w) :
    a21.view.readCov (pch4 (fun k => (st4 a17 q io Xz (ent4 a18 a21 a22 i Gd Gx Gn) k).2.1) n ++ [⟨Rect.unit ![0, 0] S512x256.size inb_S512x256_S512x256_0_0, w⟩])
        (Rect.unit ![0, 0] S512x256.size inb_S512x256_S512x256_0_0).toLoadRect = (st4 a17 q io Xz (ent4 a18 a21 a22 i Gd Gx Gn) n).2.1 :=
  readCov_pch4 a21 (fun k => (st4 a17 q io Xz (ent4 a18 a21 a22 i Gd Gx Gn) k).2.1) w h0.symm n

theorem readCov_hn4 (a17 : Memref sig .tc .vmem S2048x512 .f32) (a18 : Memref sig .tc .vmem S512x128 .f32) (a21 a22 : Memref sig .tc .vmem S512x256 .f32)
    (q : FVec F S512x256 .f32) (io : IVec S512x128 32) (Xz : BufTy.Contents (Elt F) a17.view.ty) (i : FVec F S1x256 .f32 × FVec F S1x256 .f32)
    (Gd : BufTy.Contents (Elt F) a18.view.ty) (Gx : BufTy.Contents (Elt F) a21.view.ty) (Gn : BufTy.Contents (Elt F) a22.view.ty) (w : Vec F S512x256 .f32) (n : ℕ)
    (h0 : a22.view.read (Elt F) Gn = w) :
    a22.view.readCov (pch4 (fun k => (st4 a17 q io Xz (ent4 a18 a21 a22 i Gd Gx Gn) k).2.2.1) n ++ [⟨Rect.unit ![0, 0] S512x256.size inb_S512x256_S512x256_0_0, w⟩])
        (Rect.unit ![0, 0] S512x256.size inb_S512x256_S512x256_0_0).toLoadRect = (st4 a17 q io Xz (ent4 a18 a21 a22 i Gd Gx Gn) n).2.2.1 :=
  readCov_pch4 a22 (fun k => (st4 a17 q io Xz (ent4 a18 a21 a22 i Gd Gx Gn) k).2.2.1) w h0.symm n

theorem readCov_hx5 (a23 : Memref sig .tc .vmem S512x1024 .f32) (a24 : Memref sig .tc .vmem S128x32 .f32) (a27 a28 : Memref sig .tc .vmem S128x512 .f32)
    (q : FVec F S128x512 .f32) (io : IVec S128x32 32) (Xz : BufTy.Contents (Elt F) a23.view.ty) (i : FVec F S1x512 .f32 × FVec F S1x512 .f32)
    (Gd : BufTy.Contents (Elt F) a24.view.ty) (Gx : BufTy.Contents (Elt F) a27.view.ty) (Gn : BufTy.Contents (Elt F) a28.view.ty) (w : Vec F S128x512 .f32) (n : ℕ)
    (h0 : a27.view.read (Elt F) Gx = w) :
    a27.view.readCov (pch5 (fun k => (st5 a23 q io Xz (ent5 a24 a27 a28 i Gd Gx Gn) k).2.1) n ++ [⟨Rect.unit ![0, 0] S128x512.size inb_S128x512_S128x512_0_0, w⟩])
        (Rect.unit ![0, 0] S128x512.size inb_S128x512_S128x512_0_0).toLoadRect = (st5 a23 q io Xz (ent5 a24 a27 a28 i Gd Gx Gn) n).2.1 :=
  readCov_pch5 a27 (fun k => (st5 a23 q io Xz (ent5 a24 a27 a28 i Gd Gx Gn) k).2.1) w h0.symm n

theorem readCov_hn5 (a23 : Memref sig .tc .vmem S512x1024 .f32) (a24 : Memref sig .tc .vmem S128x32 .f32) (a27 a28 : Memref sig .tc .vmem S128x512 .f32)
    (q : FVec F S128x512 .f32) (io : IVec S128x32 32) (Xz : BufTy.Contents (Elt F) a23.view.ty) (i : FVec F S1x512 .f32 × FVec F S1x512 .f32)
    (Gd : BufTy.Contents (Elt F) a24.view.ty) (Gx : BufTy.Contents (Elt F) a27.view.ty) (Gn : BufTy.Contents (Elt F) a28.view.ty) (w : Vec F S128x512 .f32) (n : ℕ)
    (h0 : a28.view.read (Elt F) Gn = w) :
    a28.view.readCov (pch5 (fun k => (st5 a23 q io Xz (ent5 a24 a27 a28 i Gd Gx Gn) k).2.2.1) n ++ [⟨Rect.unit ![0, 0] S128x512.size inb_S128x512_S128x512_0_0, w⟩])
        (Rect.unit ![0, 0] S128x512.size inb_S128x512_S128x512_0_0).toLoadRect = (st5 a23 q io Xz (ent5 a24 a27 a28 i Gd Gx Gn) n).2.2.1 :=
  readCov_pch5 a28 (fun k => (st5 a23 q io Xz (ent5 a24 a27 a28 i Gd Gx Gn) k).2.2.1) w h0.symm n

theorem readAt_whole {s : Shape} (m : Memref sig .tc .vmem s .f32) (h : m.IsWhole) (x : Vec F s .f32) {off : Fin s.rank → ℕ} (inb : ∀ a, off a + s.size a ≤ s.size a) :
    m.view.readAt (Elt F) (Rect.unit off s.size inb).toLoadRect (h.unread x) = x :=
  (View.readAt_full _ _ _).trans (h.read_unread _)

theorem readAt_part {s : Shape} (m : Memref sig .tc .vmem s .f32) (h : m.IsWhole) (x : Vec F s .f32) (r : Rect s) :
    m.view.readAt (Elt F) r.toLoadRect (h.unread x) = View.ld x r :=
  congrArg (fun v => View.ld v r) (h.read_unread x)

theorem fin4_of (a17 : Memref sig .tc .vmem S2048x512 .f32) (a18 : Memref sig .tc .vmem S512x128 .f32) (a21 a22 : Memref sig .tc .vmem S512x256 .f32)
    {x0 : Vec F S2048x128 .f32} {x1 : Vec F S2048x3 .f32} {x2 : Vec F S16x3x128 .f32} {x3 X3 : Vec F S512x3 .f32} {x6 : Vec F S131x256 .f32} {W : Vec F S3x256 .f32}
    {Xz : BufTy.Contents (Elt F) a17.view.ty} {Gd : BufTy.Contents (Elt F) a18.view.ty} {Gx : BufTy.Contents (Elt F) a21.view.ty} {Gn : BufTy.Contents (Elt F) a22.view.ty} {T : ℕ}
    (h3 : X3 = x3) (hW : W = wp4 x6) (hz : a17.view.read (Elt F) Xz = halves4 (k0_pay19 x0 x1 (wp4 x6) (wx4 x6)) (k0_pay20 x0 x1 (wp4 x6) (wx4 x6)))
    (hd : a18.view.read (Elt F) Gd = (ent4v x2 x3).2.2.2) (hx : a21.view.read (Elt F) Gx = k0_pay24) (hn : a22.view.read (Elt F) Gn = k0_pay25) (hT : T = 16) :
    st4 a17 (k0_pay21 X3 W) (iota .tc S512x128 32 [1] iota_S512x128_d1_w32) Xz (ent4 a18 a21 a22 (k0_pay26, k0_pay26) Gd Gx Gn) T = fin4 x0 x1 x2 x3 x6 := by
  subst h3 hW hT
  unfold st4 fin4 ent4
  rw [hz, hd, hx, hn]
  rfl

theorem z4_of {x0 X0 : Vec F S2048x128 .f32} {x1 X1 : Vec F S2048x3 .f32} {x6 : Vec F S131x256 .f32} {W : Vec F S3x256 .f32} {WX : Vec F S128x256 .f32}
    (h0 : X0 = x0) (h1 : X1 = x1) (hW : W = wp4 x6) (hWX : WX = wx4 x6) :
    halves4 (k0_pay19 X0 X1 W WX) (k0_pay20 X0 X1 W WX) = halves4 (k0_pay19 x0 x1 (wp4 x6) (wx4 x6)) (k0_pay20 x0 x1 (wp4 x6) (wx4 x6)) := by
  subst h0 h1 hW hWX
  rfl

theorem d4_of {x2 : Vec F S16x3x128 .f32} {x3 X3 : Vec F S512x3 .f32} {A B C : Vec F S16x1x128 .f32} (h3 : X3 = x3) (hA : A = ax4 x2) (hB : B = ay4 x2)
    (hC : C = az4 x2) : k0_pay23 (k0_pay14 X3) (k0_pay22 X3 A) B C = (ent4v x2 x3).2.2.2 := by
  subst h3 hA hB hC
  rfl

theorem d5_of {x4 : Vec F S16x3x32 .f32} {x5 X5 : Vec F S128x3 .f32} {A B C : Vec F S16x1x32 .f32} (h5 : X5 = x5) (hA : A = ax5 x4) (hB : B = ay5 x4)
    (hC : C = az5 x4) : k0_pay40 (k0_pay39 (k0_pay31 X5) A B C) = (ent5v x4 x5).2.2.2 := by
  subst h5 hA hB hC
  rfl

theorem mid_of {x3 X3 : Vec F S512x3 .f32} {x7 X7 x8 X8 : Vec F S1x256 .f32} {x9 : Vec F S259x512 .f32} {W : Vec F S3x512 .f32} {WX : Vec F S256x512 .f32}
    {s S : St4 F} {HX HN : Vec F S512x256 .f32} (h3 : X3 = x3) (h7 : X7 = x7) (h8 : X8 = x8) (hW : W = wp5 x9) (hWX : WX = wx5 x9) (hS : S = s)
    (hHX : HX = S.2.1) (hHN : HN = S.2.2.1) :
    k0_pay34 (k0_pay15 X7) (k0_pay16 X8) S.1.1 S.1.2 k0_pay30 HX HN X3 W WX = mid x3 x7 x8 x9 s := by
  subst h3 h7 h8 hW hWX hS hHX hHN
  rfl

theorem fin5_of (a23 : Memref sig .tc .vmem S512x1024 .f32) (a24 : Memref sig .tc .vmem S128x32 .f32) (a27 a28 : Memref sig .tc .vmem S128x512 .f32)
    {x4 : Vec F S16x3x32 .f32} {x5 X5 : Vec F S128x3 .f32} {x9 : Vec F S259x512 .f32} {W : Vec F S3x512 .f32} {z : FVec F S512x512 .f32}
    {Xz : BufTy.Contents (Elt F) a23.view.ty} {Gd : BufTy.Contents (Elt F) a24.view.ty} {Gx : BufTy.Contents (Elt F) a27.view.ty} {Gn : BufTy.Contents (Elt F) a28.view.ty} {T : ℕ}
    (h5 : X5 = x5) (hW : W = wp5 x9) (hz : a23.view.read (Elt F) Xz = halves5 (k0_pay36 z) (k0_pay37 z))
    (hd : a24.view.read (Elt F) Gd = (ent5v x4 x5).2.2.2) (hx : a27.view.read (Elt F) Gx = k0_pay41) (hn : a28.view.read (Elt F) Gn = k0_pay42) (hT : T = 16) :
    st5 a23 (k0_pay38 (k0_pay31 X5) W) (iota .tc S128x32 32 [1] iota_S128x32_d1_w32) Xz (ent5 a24 a27 a28 (k0_pay43, k0_pay43) Gd Gx Gn) T = fin5 x4 x5 x9 z := by
  subst h5 hW hT
  unfold st5 fin5 ent5
  rw [hz, hd, hx, hn]
  rfl

theorem outv_of {x0 : Vec F S2048x128 .f32} {x1 : Vec F S2048x3 .f32} {x2 : Vec F S16x3x128 .f32} {x3 : Vec F S512x3 .f32} {x4 : Vec F S16x3x32 .f32} {x5 : Vec F S128x3 .f32} {x6 : Vec F S131x256 .f32} {x7 : Vec F S1x256 .f32} {x8 : Vec F S1x256 .f32} {x9 : Vec F S259x512 .f32} {x10 : Vec F S1x512 .f32} {x11 : Vec F S1x512 .f32} {x12 : Vec F S512x512 .f32} {x13 : Vec F S1x512 .f32} {x14 : Vec F S512x6 .f32} {x15 : Vec F S1x6 .f32} {X10 X11 : Vec F S1x512 .f32} {X12 : Vec F S512x512 .f32} {X13 : Vec F S1x512 .f32} {X14 : Vec F S512x6 .f32} {X15 : Vec F S1x6 .f32}
    {S : St5 F} {A B : FVec F S1x512 .f32} {HX HN : Vec F S128x512 .f32} (h10 : X10 = x10) (h11 : X11 = x11) (h12 : X12 = x12) (h13 : X13 = x13) (h14 : X14 = x14) (h15 : X15 = x15)
    (hS : S = fin5 x4 x5 x9 (mid x3 x7 x8 x9 (fin4 x0 x1 x2 x3 x6))) (hA : A = S.1.1) (hB : B = S.1.2) (hHX : HX = S.2.1) (hHN : HN = S.2.2.1) :
    k0_pay1 (k0_pay47 (k0_pay32 X10) (k0_pay33 X11) A B HX HN) X12 X13 X14 X15 = outv x0 x1 x2 x3 x4 x5 x6 x7 x8 x9 x10 x11 x12 x13 x14 x15 := by
  subst h10 h11 h12 h13 h14 h15 hA hB hHX hHN hS
  rfl

set_option maxHeartbeats 4000000 in
theorem kernel_run (c : Dev nD)
  (arg0 : Memref sig .tc .vmem S2048x128 .f32) (harg0 : arg0.IsWhole)
  (arg1 : Memref sig .tc .vmem S2048x3 .f32) (harg1 : arg1.IsWhole)
  (arg2 : Memref sig .tc .vmem S16x3x128 .f32) (harg2 : arg2.IsWhole)
  (arg3 : Memref sig .tc .vmem S512x3 .f32) (harg3 : arg3.IsWhole)
  (arg4 : Memref sig .tc .vmem S16x3x32 .f32) (harg4 : arg4.IsWhole)
  (arg5 : Memref sig .tc .vmem S128x3 .f32) (harg5 : arg5.IsWhole)
  (arg6 : Memref sig .tc .vmem S131x256 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S259x512 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S512x512 .f32) (harg12 : arg12.IsWhole)
  (arg13 : Memref sig .tc .vmem S1x512 .f32) (harg13 : arg13.IsWhole)
  (arg14 : Memref sig .tc .vmem S512x6 .f32) (harg14 : arg14.IsWhole)
  (arg15 : Memref sig .tc .vmem S1x6 .f32) (harg15 : arg15.IsWhole)
  (arg16 : Memref sig .tc .vmem S16x6 .f32) (harg16 : arg16.IsWhole)
  (arg17 : Memref sig .tc .vmem S2048x512 .f32) (harg17 : arg17.IsWhole)
  (arg18 : Memref sig .tc .vmem S512x128 .f32) (harg18 : arg18.IsWhole)
  (arg19 : Memref sig .tc .vmem S512x128 .f32) (harg19 : arg19.IsWhole)
  (arg20 : Memref sig .tc .vmem S512x512 .f32) (harg20 : arg20.IsWhole)
  (arg21 : Memref sig .tc .vmem S512x256 .f32) (harg21 : arg21.IsWhole)
  (arg22 : Memref sig .tc .vmem S512x256 .f32) (harg22 : arg22.IsWhole)
  (arg23 : Memref sig .tc .vmem S512x1024 .f32) (harg23 : arg23.IsWhole)
  (arg24 : Memref sig .tc .vmem S128x32 .f32) (harg24 : arg24.IsWhole)
  (arg25 : Memref sig .tc .vmem S128x32 .f32) (harg25 : arg25.IsWhole)
  (arg26 : Memref sig .tc .vmem S128x1024 .f32) (harg26 : arg26.IsWhole)
  (arg27 : Memref sig .tc .vmem S128x512 .f32) (harg27 : arg27.IsWhole)
  (arg28 : Memref sig .tc .vmem S128x512 .f32) (harg28 : arg28.IsWhole)
  (x0 : Vec F S2048x128 .f32) (x1 : Vec F S2048x3 .f32) (x2 : Vec F S16x3x128 .f32) (x3 : Vec F S512x3 .f32) (x4 : Vec F S16x3x32 .f32) (x5 : Vec F S128x3 .f32) (x6 : Vec F S131x256 .f32) (x7 : Vec F S1x256 .f32) (x8 : Vec F S1x256 .f32) (x9 : Vec F S259x512 .f32) (x10 : Vec F S1x512 .f32) (x11 : Vec F S1x512 .f32) (x12 : Vec F S512x512 .f32) (x13 : Vec F S1x512 .f32) (x14 : Vec F S512x6 .f32) (x15 : Vec F S1x6 .f32) (E : Set ℕ) (K : PUnit → sProp 𝕄G) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (outv x0 x1 x2 x3 x4 x5 x6 x7 x8 x9 x10 x11 x12 x13 x14 x15) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
      ⊢ wp frame (wpE (defs₀ (F := F)) Variants.none c none) E (cc0__tail_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__tail_kernel_eq_skeleton]; unfold cc0__tail_kernel_skel
  simp only [k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr
    swap; · iexact H16
    ipureintro
    have ht3 : Scf.trips k0_t3_loop.lb k0_t3_loop.ub k0_t3_loop.st = 16 := by decide +kernel
    have ht1 : Scf.trips k0_t1_loop.lb k0_t1_loop.ub k0_t1_loop.st = 16 := by decide +kernel
    have e5 : _root_.Cert.TailIdeal.Run.kernel_run.sl.r_5 c arg0 harg0 arg1 harg1 arg2 harg2 arg3 harg3 arg6 harg6 arg17 arg18 arg21 arg22 x0 x1 x2 x3 x6 = (fin4 x0 x1 x2 x3 x6).1.1 := by
      unfold _root_.Cert.TailIdeal.Run.kernel_run.sl.r_5 _root_.Cert.TailIdeal.Run.kernel_run.sl.r_3 _root_.Cert.TailIdeal.Run.kernel_run.sl.v67 _root_.Cert.TailIdeal.Run.kernel_run.sl.H17_2 _root_.Cert.TailIdeal.Run.kernel_run.sl.H18_1 _root_.Cert.TailIdeal.Run.kernel_run.sl.r_4 _root_.Cert.TailIdeal.Run.kernel_run.sl.r _root_.Cert.TailIdeal.Run.kernel_run.sl.H21_1 _root_.Cert.TailIdeal.Run.kernel_run.sl.H22_1
      exact congrArg (fun s : St4 F => s.1.1) (fin4_of arg17 arg18 arg21 arg22 (readAt_whole arg3 harg3 x3 _) (readAt_part arg6 harg6 x6 _) ((read_halves4 _ _ _ _).trans (z4_of (readAt_whole arg0 harg0 x0 _) (readAt_whole arg1 harg1 x1 _) (readAt_part arg6 harg6 x6 _) (readAt_part arg6 harg6 x6 _))) ((View.read_writes_full _ _ _ _ _).trans (d4_of (readAt_whole arg3 harg3 x3 _) (readAt_part arg2 harg2 x2 _) (readAt_part arg2 harg2 x2 _) (readAt_part arg2 harg2 x2 _))) (View.read_writes_full _ _ _ _ _) (View.read_writes_full _ _ _ _ _) ht1)
    have e6 : _root_.Cert.TailIdeal.Run.kernel_run.sl.r_6 c arg0 harg0 arg1 harg1 arg2 harg2 arg3 harg3 arg6 harg6 arg17 arg18 arg21 arg22 x0 x1 x2 x3 x6 = (fin4 x0 x1 x2 x3 x6).1.2 := by
      unfold _root_.Cert.TailIdeal.Run.kernel_run.sl.r_6 _root_.Cert.TailIdeal.Run.kernel_run.sl.r_3 _root_.Cert.TailIdeal.Run.kernel_run.sl.v67 _root_.Cert.TailIdeal.Run.kernel_run.sl.H17_2 _root_.Cert.TailIdeal.Run.kernel_run.sl.H18_1 _root_.Cert.TailIdeal.Run.kernel_run.sl.r_4 _root_.Cert.TailIdeal.Run.kernel_run.sl.r _root_.Cert.TailIdeal.Run.kernel_run.sl.H21_1 _root_.Cert.TailIdeal.Run.kernel_run.sl.H22_1
      exact congrArg (fun s : St4 F => s.1.2) (fin4_of arg17 arg18 arg21 arg22 (readAt_whole arg3 harg3 x3 _) (readAt_part arg6 harg6 x6 _) ((read_halves4 _ _ _ _).trans (z4_of (readAt_whole arg0 harg0 x0 _) (readAt_whole arg1 harg1 x1 _) (readAt_part arg6 harg6 x6 _) (readAt_part arg6 harg6 x6 _))) ((View.read_writes_full _ _ _ _ _).trans (d4_of (readAt_whole arg3 harg3 x3 _) (readAt_part arg2 harg2 x2 _) (readAt_part arg2 harg2 x2 _) (readAt_part arg2 harg2 x2 _))) (View.read_writes_full _ _ _ _ _) (View.read_writes_full _ _ _ _ _) ht1)
    have e82 : _root_.Cert.TailIdeal.Run.kernel_run.sl.v82 c arg0 harg0 arg1 harg1 arg2 harg2 arg3 harg3 arg6 harg6 arg17 arg18 arg21 arg22 x0 x1 x2 x3 x6 = (fin4 x0 x1 x2 x3 x6).2.1 := by
      unfold _root_.Cert.TailIdeal.Run.kernel_run.sl.v82 _root_.Cert.TailIdeal.Run.kernel_run.sl.r_3 _root_.Cert.TailIdeal.Run.kernel_run.sl.v67 _root_.Cert.TailIdeal.Run.kernel_run.sl.H17_2 _root_.Cert.TailIdeal.Run.kernel_run.sl.H18_1 _root_.Cert.TailIdeal.Run.kernel_run.sl.r_4 _root_.Cert.TailIdeal.Run.kernel_run.sl.r _root_.Cert.TailIdeal.Run.kernel_run.sl.H21_1 _root_.Cert.TailIdeal.Run.kernel_run.sl.H22_1
      exact (readCov_hx4 _ _ _ _ _ _ _ _ _ _ _ _ _ (View.read_writes_full _ _ _ _ _)).trans (congrArg (fun s : St4 F => s.2.1) (fin4_of arg17 arg18 arg21 arg22 (readAt_whole arg3 harg3 x3 _) (readAt_part arg6 harg6 x6 _) ((read_halves4 _ _ _ _).trans (z4_of (readAt_whole arg0 harg0 x0 _) (readAt_whole arg1 harg1 x1 _) (readAt_part arg6 harg6 x6 _) (readAt_part arg6 harg6 x6 _))) ((View.read_writes_full _ _ _ _ _).trans (d4_of (readAt_whole arg3 harg3 x3 _) (readAt_part arg2 harg2 x2 _) (readAt_part arg2 harg2 x2 _) (readAt_part arg2 harg2 x2 _))) (View.read_writes_full _ _ _ _ _) (View.read_writes_full _ _ _ _ _) ht1))
    have e83 : _root_.Cert.TailIdeal.Run.kernel_run.sl.v83 c arg0 harg0 arg1 harg1 arg2 harg2 arg3 harg3 arg6 harg6 arg17 arg18 arg21 arg22 x0 x1 x2 x3 x6 = (fin4 x0 x1 x2 x3 x6).2.2.1 := by
      unfold _root_.Cert.TailIdeal.Run.kernel_run.sl.v83 _root_.Cert.TailIdeal.Run.kernel_run.sl.r_3 _root_.Cert.TailIdeal.Run.kernel_run.sl.v67 _root_.Cert.TailIdeal.Run.kernel_run.sl.H17_2 _root_.Cert.TailIdeal.Run.kernel_run.sl.H18_1 _root_.Cert.TailIdeal.Run.kernel_run.sl.r_4 _root_.Cert.TailIdeal.Run.kernel_run.sl.r _root_.Cert.TailIdeal.Run.kernel_run.sl.H21_1 _root_.Cert.TailIdeal.Run.kernel_run.sl.H22_1
      exact (readCov_hn4 _ _ _ _ _ _ _ _ _ _ _ _ _ (View.read_writes_full _ _ _ _ _)).trans (congrArg (fun s : St4 F => s.2.2.1) (fin4_of arg17 arg18 arg21 arg22 (readAt_whole arg3 harg3 x3 _) (readAt_part arg6 harg6 x6 _) ((read_halves4 _ _ _ _).trans (z4_of (readAt_whole arg0 harg0 x0 _) (readAt_whole arg1 harg1 x1 _) (readAt_part arg6 harg6 x6 _) (readAt_part arg6 harg6 x6 _))) ((View.read_writes_full _ _ _ _ _).trans (d4_of (readAt_whole arg3 harg3 x3 _) (readAt_part arg2 harg2 x2 _) (readAt_part arg2 harg2 x2 _) (readAt_part arg2 harg2 x2 _))) (View.read_writes_full _ _ _ _ _) (View.read_writes_full _ _ _ _ _) ht1))
    have e11 : _root_.Cert.TailIdeal.Run.kernel_run.sl.r_11 c arg0 harg0 arg1 harg1 arg2 harg2 arg3 harg3 arg6 harg6 arg7 harg7 arg8 harg8 arg9 harg9 arg17 arg18 arg21 arg22 x0 x1 x2 x3 x6 x7 x8 x9 = mid x3 x7 x8 x9 (fin4 x0 x1 x2 x3 x6) := by
      unfold _root_.Cert.TailIdeal.Run.kernel_run.sl.r_11 _root_.Cert.TailIdeal.Run.kernel_run.sl.r_1 _root_.Cert.TailIdeal.Run.kernel_run.sl.r_2
      rw [e5, e6, e82, e83]
      exact mid_of (readAt_whole arg3 harg3 x3 _) (readAt_whole arg7 harg7 x7 _) (readAt_whole arg8 harg8 x8 _) (readAt_part arg9 harg9 x9 _) (readAt_part arg9 harg9 x9 _) rfl rfl rfl
    have z5 : arg23.view.read (Elt F) (arg23.view.writes (Elt F) arg23.view.junk (_root_.Cert.TailIdeal.Run.kernel_run.sl.H23_2 c arg0 harg0 arg1 harg1 arg2 harg2 arg3 harg3 arg6 harg6 arg7 harg7 arg8 harg8 arg9 harg9 arg17 arg18 arg21 arg22 x0 x1 x2 x3 x6 x7 x8 x9))
        = halves5 (k0_pay36 (mid x3 x7 x8 x9 (fin4 x0 x1 x2 x3 x6))) (k0_pay37 (mid x3 x7 x8 x9 (fin4 x0 x1 x2 x3 x6))) := by
      unfold _root_.Cert.TailIdeal.Run.kernel_run.sl.H23_2
      rw [e11]
      exact read_halves5 _ _ _ _
    have e178 : _root_.Cert.TailIdeal.Run.kernel_run.sl.v178 c arg0 harg0 arg1 harg1 arg2 harg2 arg3 harg3 arg4 harg4 arg5 harg5 arg6 harg6 arg7 harg7 arg8 harg8 arg9 harg9 arg17 arg18 arg21 arg22 arg23 arg24 arg27 arg28 x0 x1 x2 x3 x4 x5 x6 x7 x8 x9 = (fin5 x4 x5 x9 (mid x3 x7 x8 x9 (fin4 x0 x1 x2 x3 x6))).2.1 := by
      unfold _root_.Cert.TailIdeal.Run.kernel_run.sl.v178 _root_.Cert.TailIdeal.Run.kernel_run.sl.r_12 _root_.Cert.TailIdeal.Run.kernel_run.sl.r_7 _root_.Cert.TailIdeal.Run.kernel_run.sl.r_10 _root_.Cert.TailIdeal.Run.kernel_run.sl.v163 _root_.Cert.TailIdeal.Run.kernel_run.sl.H24_1 _root_.Cert.TailIdeal.Run.kernel_run.sl.r_13 _root_.Cert.TailIdeal.Run.kernel_run.sl.H27_1 _root_.Cert.TailIdeal.Run.kernel_run.sl.H28_1
      exact (readCov_hx5 _ _ _ _ _ _ _ _ _ _ _ _ _ (View.read_writes_full _ _ _ _ _)).trans (congrArg (fun s : St5 F => s.2.1)
        (fin5_of arg23 arg24 arg27 arg28 (readAt_whole arg5 harg5 x5 _) (readAt_part arg9 harg9 x9 _) z5 ((View.read_writes_full _ _ _ _ _).trans (d5_of (readAt_whole arg5 harg5 x5 _) (readAt_part arg4 harg4 x4 _) (readAt_part arg4 harg4 x4 _) (readAt_part arg4 harg4 x4 _))) (View.read_writes_full _ _ _ _ _) (View.read_writes_full _ _ _ _ _) ht3))
    have e179 : _root_.Cert.TailIdeal.Run.kernel_run.sl.v179 c arg0 harg0 arg1 harg1 arg2 harg2 arg3 harg3 arg4 harg4 arg5 harg5 arg6 harg6 arg7 harg7 arg8 harg8 arg9 harg9 arg17 arg18 arg21 arg22 arg23 arg24 arg27 arg28 x0 x1 x2 x3 x4 x5 x6 x7 x8 x9 = (fin5 x4 x5 x9 (mid x3 x7 x8 x9 (fin4 x0 x1 x2 x3 x6))).2.2.1 := by
      unfold _root_.Cert.TailIdeal.Run.kernel_run.sl.v179 _root_.Cert.TailIdeal.Run.kernel_run.sl.r_12 _root_.Cert.TailIdeal.Run.kernel_run.sl.r_7 _root_.Cert.TailIdeal.Run.kernel_run.sl.r_10 _root_.Cert.TailIdeal.Run.kernel_run.sl.v163 _root_.Cert.TailIdeal.Run.kernel_run.sl.H24_1 _root_.Cert.TailIdeal.Run.kernel_run.sl.r_13 _root_.Cert.TailIdeal.Run.kernel_run.sl.H27_1 _root_.Cert.TailIdeal.Run.kernel_run.sl.H28_1
      exact (readCov_hn5 _ _ _ _ _ _ _ _ _ _ _ _ _ (View.read_writes_full _ _ _ _ _)).trans (congrArg (fun s : St5 F => s.2.2.1)
        (fin5_of arg23 arg24 arg27 arg28 (readAt_whole arg5 harg5 x5 _) (readAt_part arg9 harg9 x9 _) z5 ((View.read_writes_full _ _ _ _ _).trans (d5_of (readAt_whole arg5 harg5 x5 _) (readAt_part arg4 harg4 x4 _) (readAt_part arg4 harg4 x4 _) (readAt_part arg4 harg4 x4 _))) (View.read_writes_full _ _ _ _ _) (View.read_writes_full _ _ _ _ _) ht3))
    refine (View.read_writes_full _ _ _ _ _).trans ?_
    unfold _root_.Cert.TailIdeal.Run.kernel_run.sl.r_14
    rw [e178, e179]
    unfold _root_.Cert.TailIdeal.Run.kernel_run.sl.r_8 _root_.Cert.TailIdeal.Run.kernel_run.sl.r_9 _root_.Cert.TailIdeal.Run.kernel_run.sl.r_12 _root_.Cert.TailIdeal.Run.kernel_run.sl.r_7 _root_.Cert.TailIdeal.Run.kernel_run.sl.r_10 _root_.Cert.TailIdeal.Run.kernel_run.sl.v163 _root_.Cert.TailIdeal.Run.kernel_run.sl.H24_1 _root_.Cert.TailIdeal.Run.kernel_run.sl.r_13 _root_.Cert.TailIdeal.Run.kernel_run.sl.H27_1 _root_.Cert.TailIdeal.Run.kernel_run.sl.H28_1
    exact outv_of (S := fin5 x4 x5 x9 (mid x3 x7 x8 x9 (fin4 x0 x1 x2 x3 x6))) (readAt_whole arg10 harg10 x10 _) (readAt_whole arg11 harg11 x11 _) (readAt_whole arg12 harg12 x12 _) (readAt_whole arg13 harg13 x13 _) (readAt_whole arg14 harg14 x14 _) (readAt_whole arg15 harg15 x15 _) rfl
      (congrArg (fun s : St5 F => s.1.1) (fin5_of arg23 arg24 arg27 arg28 (readAt_whole arg5 harg5 x5 _) (readAt_part arg9 harg9 x9 _) z5 ((View.read_writes_full _ _ _ _ _).trans (d5_of (readAt_whole arg5 harg5 x5 _) (readAt_part arg4 harg4 x4 _) (readAt_part arg4 harg4 x4 _) (readAt_part arg4 harg4 x4 _))) (View.read_writes_full _ _ _ _ _) (View.read_writes_full _ _ _ _ _) ht3))
      (congrArg (fun s : St5 F => s.1.2) (fin5_of arg23 arg24 arg27 arg28 (readAt_whole arg5 harg5 x5 _) (readAt_part arg9 harg9 x9 _) z5 ((View.read_writes_full _ _ _ _ _).trans (d5_of (readAt_whole arg5 harg5 x5 _) (readAt_part arg4 harg4 x4 _) (readAt_part arg4 harg4 x4 _) (readAt_part arg4 harg4 x4 _))) (View.read_writes_full _ _ _ _ _) (View.read_writes_full _ _ _ _ _) ht3)) rfl rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  iexists _, _; isplitr; swap; · iexact H28
  ipureintro; rfl

end Cert.TailIdeal.Run

end
-- ==== Proof.TailIdealFrame.lean ====
/-
  The tail's frame: its proof data, the body at the one grid point, the launch, and the frame claim.
-/
module

public import proofs.«01_k».proof.Proof.TailIdealRun
public import Idealize.ShloMosaic.Lib.Claim

@[expose] public section

set_option maxRecDepth 16384

noncomputable section

namespace Cert.TailIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TailIdeal Cert.TailIdeal.Gen

variable {F : FTy → Type} [FloatOps F] [Named F]

/-- The frame's resource algebra. -/
local notation "𝕄G" => MT nD τ sig Unit (Elt F) ℕ (UR sig nD τ) ℕ

variable (m : (ℓ : Loc nD τ sig) → Buf (Elt F) ℓ) (ρ : Dev nD → PrngReg)

/-- The windows' current buffers. -/
abbrev ms0_0 (t : Fin cfg0.N) : Memref sig .tc .vmem S2048x128 .f32 := win0_0.stage (cfg0.slots t 0)
abbrev ms0_1 (t : Fin cfg0.N) : Memref sig .tc .vmem S2048x3 .f32 := win0_1.stage (cfg0.slots t 1)
abbrev ms0_2 (t : Fin cfg0.N) : Memref sig .tc .vmem S16x3x128 .f32 := win0_2.stage (cfg0.slots t 2)
abbrev ms0_3 (t : Fin cfg0.N) : Memref sig .tc .vmem S512x3 .f32 := win0_3.stage (cfg0.slots t 3)
abbrev ms0_4 (t : Fin cfg0.N) : Memref sig .tc .vmem S16x3x32 .f32 := win0_4.stage (cfg0.slots t 4)
abbrev ms0_5 (t : Fin cfg0.N) : Memref sig .tc .vmem S128x3 .f32 := win0_5.stage (cfg0.slots t 5)
abbrev ms0_6 (t : Fin cfg0.N) : Memref sig .tc .vmem S131x256 .f32 := win0_6.stage (cfg0.slots t 6)
abbrev ms0_7 (t : Fin cfg0.N) : Memref sig .tc .vmem S1x256 .f32 := win0_7.stage (cfg0.slots t 7)
abbrev ms0_8 (t : Fin cfg0.N) : Memref sig .tc .vmem S1x256 .f32 := win0_8.stage (cfg0.slots t 8)
abbrev ms0_9 (t : Fin cfg0.N) : Memref sig .tc .vmem S259x512 .f32 := win0_9.stage (cfg0.slots t 9)
abbrev ms0_10 (t : Fin cfg0.N) : Memref sig .tc .vmem S1x512 .f32 := win0_10.stage (cfg0.slots t 10)
abbrev ms0_11 (t : Fin cfg0.N) : Memref sig .tc .vmem S1x512 .f32 := win0_11.stage (cfg0.slots t 11)
abbrev ms0_12 (t : Fin cfg0.N) : Memref sig .tc .vmem S512x512 .f32 := win0_12.stage (cfg0.slots t 12)
abbrev ms0_13 (t : Fin cfg0.N) : Memref sig .tc .vmem S1x512 .f32 := win0_13.stage (cfg0.slots t 13)
abbrev ms0_14 (t : Fin cfg0.N) : Memref sig .tc .vmem S512x6 .f32 := win0_14.stage (cfg0.slots t 14)
abbrev ms0_15 (t : Fin cfg0.N) : Memref sig .tc .vmem S1x6 .f32 := win0_15.stage (cfg0.slots t 15)
abbrev ms0_16 (t : Fin cfg0.N) : Memref sig .tc .vmem S16x6 .f32 := win0_16.stage (cfg0.slots t 16)

/-- The scratch buffers. -/
abbrev scM0_0 : Memref sig .tc .vmem S2048x512 .f32 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S512x512 .f32 := Memref.whole cc0_scratch3
abbrev scM0_4 : Memref sig .tc .vmem S512x256 .f32 := Memref.whole cc0_scratch4
abbrev scM0_5 : Memref sig .tc .vmem S512x256 .f32 := Memref.whole cc0_scratch5
abbrev scM0_6 : Memref sig .tc .vmem S512x1024 .f32 := Memref.whole cc0_scratch6
abbrev scM0_7 : Memref sig .tc .vmem S128x32 .f32 := Memref.whole cc0_scratch7
abbrev scM0_8 : Memref sig .tc .vmem S128x32 .f32 := Memref.whole cc0_scratch8
abbrev scM0_9 : Memref sig .tc .vmem S128x1024 .f32 := Memref.whole cc0_scratch9
abbrev scM0_10 : Memref sig .tc .vmem S128x512 .f32 := Memref.whole cc0_scratch10
abbrev scM0_11 : Memref sig .tc .vmem S128x512 .f32 := Memref.whole cc0_scratch11

/-- The invariant, the scratch buffers one by one. -/
theorem PhiA0_eq (c : Dev nD) :
    (Pipeline.ΦA spec0 c : sProp 𝕄G)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, owns_whole]; try rfl

/-- What the output's buffer holds after the body. -/
def outAt (c : Dev nD) (t : Fin cfg0.N) : Vec F S16x6 .f32 := outv (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The proof data: the arrays as the region finds them, each input's block, the output's function of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outAt m c t
    | ⟨n + 17, h⟩ => absurd h (Nat.not_lt.2 (Nat.le_add_left 17 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- What the body is called with, -/
def bodyPre (c : Dev nD) (t : Fin cfg0.N) : sProp 𝕄G :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄G :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, PhiA0_eq]
  unfold outAt
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (kernel_run c _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, H5, H6, H7, H8, H9, H10, H11, H12, H13, H14, H15, H16, HS0, HS1, HS2, HS3, HS4, HS5, HS6, HS7, HS8, HS9, HS10, HS11⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iexact HS11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array at what the proof data computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, every counter at zero. -/
theorem tail_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.TailIdeal.Run

end
-- ==== Proof.TailPre.lean ====
/-
  What the tail's precondition says at the extended reals: every element of the first ten arguments is a real.
-/
module

public import proofs.«01_k».proof.Pre_finite
public import proofs.«01_k».proof.Proof.Pre

@[expose] public section

set_option maxRecDepth 16384

noncomputable section

namespace Cert.TailPre

open Idealize.ShloMosaic Cert.Pre_finite Cert.Arith

/-- The shape relations of the precondition. -/
theorem facts : Cert.Pre_finite.Facts where
  bcast_S_S2048x128 := by decide
  reducesTo_S2048x128_S_d0_1 := by decide
  h_S_ := by decide
  bcast_S_S16x3x128 := by decide
  reducesTo_S16x3x128_S_d0_1_2 := by decide
  bcast_S_S16x3x32 := by decide
  reducesTo_S16x3x32_S_d0_1_2 := by decide
  bcast_S_S16x3x8 := by decide
  reducesTo_S16x3x8_S_d0_1_2 := by decide
  bcast_S_S131x256 := by decide
  reducesTo_S131x256_S_d0_1 := by decide
  bcast_S_S256 := by decide
  reducesTo_S256_S_d0 := by decide
  bcast_S_S259x512 := by decide
  reducesTo_S259x512_S_d0_1 := by decide
  bcast_S_S512 := by decide
  reducesTo_S512_S_d0 := by decide

variable [Cert.Pre_finite.Facts]

/-- The precondition, read. -/
theorem read (x0 : FVec Ideal S2048x128 .f32) (x1 : FVec Ideal S16x3x128 .f32) (x2 : FVec Ideal S16x3x32 .f32) (x3 : FVec Ideal S16x3x8 .f32) (x4 : FVec Ideal S131x256 .f32) (x5 : FVec Ideal S256 .f32) (x6 : FVec Ideal S256 .f32) (x7 : FVec Ideal S259x512 .f32) (x8 : FVec Ideal S512 .f32) (x9 : FVec Ideal S512 .f32) (x10 : FVec Ideal S512x512 .f32) (x11 : FVec Ideal S512 .f32) (x12 : FVec Ideal S512x6 .f32) (x13 : FVec Ideal S6 .f32)
    (h : fn (F := Ideal) x0 x1 x2 x3 x4 x5 x6 x7 x8 x9 x10 x11 x12 x13 = fun _ => 1#1) :
    (∀ i, Real' (x0 i)) ∧ (∀ i, Real' (x1 i)) ∧ (∀ i, Real' (x2 i)) ∧ (∀ i, Real' (x3 i)) ∧ (∀ i, Real' (x4 i)) ∧ (∀ i, Real' (x5 i)) ∧ (∀ i, Real' (x6 i)) ∧ (∀ i, Real' (x7 i)) ∧ (∀ i, Real' (x8 i)) ∧ (∀ i, Real' (x9 i)) := by
  have andi_one (a b : BitVec 1) : IntOp.andi a b = 1#1 ↔ a = 1#1 ∧ b = 1#1 := by revert a b; decide
  have e := congrFun h (fun i => i.elim0)
  simp only [fn, fn_part2, fn_part1, andi, andi_one] at e
  obtain ⟨⟨⟨⟨⟨⟨⟨⟨⟨e0, e1⟩, e2⟩, e3⟩, e4⟩, e5⟩, e6⟩, e7⟩, e8⟩, e9⟩ := e
  exact ⟨Cert.Pre.all_real x0 _ _ _ _ e0, Cert.Pre.all_real x1 _ _ _ _ e1, Cert.Pre.all_real x2 _ _ _ _ e2, Cert.Pre.all_real x3 _ _ _ _ e3, Cert.Pre.all_real x4 _ _ _ _ e4, Cert.Pre.all_real x5 _ _ _ _ e5, Cert.Pre.all_real x6 _ _ _ _ e6, Cert.Pre.all_real x7 _ _ _ _ e7, Cert.Pre.all_real x8 _ _ _ _ e8, Cert.Pre.all_real x9 _ _ _ _ e9⟩

end Cert.TailPre

end
-- ==== Proof.Norm.lean ====
/-
  Batch norm over a whole stage, rectified and pooled over the neighbours: with the variance as the mean of squares less the
  square of the mean, and the pooling before the normalisation (the maximum where the scale is not negative, the minimum where it
  is), the result is that of the usual order.
-/
module

public import proofs.«01_k».proof.Proof.Arith

@[expose] public section

noncomputable section

namespace Cert.Norm

open Idealize.ShloMosaic Cert.Arith Cert.Consts

/-- The mean over clouds, centres and neighbours. -/
def mean {m : ℕ} (H : Fin 16 → Fin m → Fin 16 → EReal) (M : EReal) : EReal :=
  Ideal.div (∑ q : Fin 16 × Fin m × Fin 16, H q.1 q.2.1 q.2.2) M

/-- The variance. -/
def vr {m : ℕ} (H : Fin 16 → Fin m → Fin 16 → EReal) (M : EReal) : EReal :=
  Ideal.div (∑ q : Fin 16 × Fin m × Fin 16, (H q.1 q.2.1 q.2.2 - mean H M) * (H q.1 q.2.1 q.2.2 - mean H M)) M

/-- Normalised, rectified, and the maximum over the neighbours. -/
def nrm {m : ℕ} (H : Fin 16 → Fin m → Fin 16 → EReal) (M g β : EReal) (b : Fin 16) (a : Fin m) : EReal :=
  Finset.univ.fold max ⊥ fun k : Fin 16 =>
    max (Ideal.div (H b a k - mean H M) (Ideal.sqrt (vr H M + Ideal.ofBits .f32 0x3727C5AC#32)) * g + β) 0

theorem fold_max_eq (f : Fin 16 → EReal) (k : Fin 16) (h : ∀ j, f j ≤ f k) : Finset.univ.fold max ⊥ f = f k :=
  le_antisymm ((Finset.fold_max_le _).2 ⟨bot_le, fun j _ => h j⟩) ((Finset.le_fold_max _).2 (.inr ⟨k, Finset.mem_univ _, le_rfl⟩))

theorem fold_min_eq (f : Fin 16 → EReal) (k : Fin 16) (h : ∀ j, f k ≤ f j) : Finset.univ.fold min ⊤ f = f k :=
  le_antisymm ((Finset.fold_min_le _).2 (.inr ⟨k, Finset.mem_univ _, le_rfl⟩)) ((Finset.le_fold_min _).2 ⟨le_top, fun j _ => h j⟩)

/-- The two variances agree. -/
theorem var_two {ι : Type} [Fintype ι] (h : ι → ℝ) (M : ℝ) (hM : M = Fintype.card ι) (h0 : M ≠ 0) :
    (∑ i, (h i - (∑ i, h i) / M) * (h i - (∑ i, h i) / M)) / M = (∑ i, h i * h i) / M - (∑ i, h i) / M * ((∑ i, h i) / M) := by
  have e : ∑ i, (h i - (∑ i, h i) / M) * (h i - (∑ i, h i) / M) =
      (∑ i, h i * h i) - 2 * ((∑ i, h i) / M) * (∑ i, h i) + M * ((∑ i, h i) / M * ((∑ i, h i) / M)) := by
    generalize (∑ i, h i) / M = μ
    rw [Finset.sum_congr rfl (fun i _ => show (h i - μ) * (h i - μ) = h i * h i - 2 * μ * h i + μ * μ by ring),
      Finset.sum_add_distrib, Finset.sum_sub_distrib, ← Finset.mul_sum, Finset.sum_const, Finset.card_univ, nsmul_eq_mul, ← hM]
  rw [e]
  field_simp
  ring

variable {m : ℕ} (H : Fin 16 → Fin m → Fin 16 → EReal) (hH : ∀ b a k, Real' (H b a k)) (M : ℝ) (hM : M = 16 * (m * 16)) (h0 : 0 < M)
  {g β : EReal} (hg : Real' g) (hβ : Real' β) (b : Fin 16) (a : Fin m)
include hH hM h0 hg hβ

theorem both : max (g * ((if 0 ≤ g then Finset.univ.fold max ⊥ fun k => H b a k else Finset.univ.fold min ⊤ fun k => H b a k)
      - Ideal.div (∑ q : Fin 16 × Fin m × Fin 16, H q.1 q.2.1 q.2.2) M) *
      Ideal.rsqrt (Ideal.div (∑ q : Fin 16 × Fin m × Fin 16, H q.1 q.2.1 q.2.2 * H q.1 q.2.1 q.2.2) M -
        Ideal.div (∑ q : Fin 16 × Fin m × Fin 16, H q.1 q.2.1 q.2.2) M *
          Ideal.div (∑ q : Fin 16 × Fin m × Fin 16, H q.1 q.2.1 q.2.2) M + Ideal.ofBits .f32 0x3727C5AC#32) + β) 0 = nrm H M g β b a ∧
    Real' (nrm H M g β b a) := by
  obtain ⟨e, he, heq⟩ := eps_bits
  choose h hh using hH
  obtain rfl : H = fun b a k => ((h b a k : ℝ) : EReal) := by funext b a k; exact hh b a k
  obtain ⟨g, rfl⟩ := hg
  obtain ⟨β, rfl⟩ := hβ
  have hM0 : M ≠ 0 := h0.ne'
  have hcard : M = Fintype.card (Fin 16 × Fin m × Fin 16) := by
    rw [hM]; simp
  have hv := var_two (fun q : Fin 16 × Fin m × Fin 16 => h q.1 q.2.1 q.2.2) M hcard hM0
  have hvn : 0 ≤ (∑ q : Fin 16 × Fin m × Fin 16, (h q.1 q.2.1 q.2.2 - (∑ q : Fin 16 × Fin m × Fin 16, h q.1 q.2.1 q.2.2) / M) *
      (h q.1 q.2.1 q.2.2 - (∑ q : Fin 16 × Fin m × Fin 16, h q.1 q.2.1 q.2.2) / M)) / M :=
    div_nonneg (Finset.sum_nonneg fun q _ => mul_self_nonneg _) h0.le
  have hmean : mean (fun b a k => ((h b a k : ℝ) : EReal)) M = (((∑ q : Fin 16 × Fin m × Fin 16, h q.1 q.2.1 q.2.2) / M : ℝ) : EReal) := by
    unfold mean
    rw [← coe_sum, Ideal.div_coe hM0, ← EReal.coe_mul, mul_one_div]
  have hvr : vr (fun b a k => ((h b a k : ℝ) : EReal)) M = (((∑ q : Fin 16 × Fin m × Fin 16, h q.1 q.2.1 q.2.2 * h q.1 q.2.1 q.2.2) / M -
      (∑ q : Fin 16 × Fin m × Fin 16, h q.1 q.2.1 q.2.2) / M * ((∑ q : Fin 16 × Fin m × Fin 16, h q.1 q.2.1 q.2.2) / M) : ℝ) : EReal) := by
    unfold vr
    rw [hmean, ← hv]
    simp only [← EReal.coe_sub, ← EReal.coe_mul]
    rw [← coe_sum, Ideal.div_coe hM0, ← EReal.coe_mul, mul_one_div]
  have hS : Ideal.div (∑ q : Fin 16 × Fin m × Fin 16, ((h q.1 q.2.1 q.2.2 : ℝ) : EReal)) M =
      (((∑ q : Fin 16 × Fin m × Fin 16, h q.1 q.2.1 q.2.2) / M : ℝ) : EReal) := hmean
  have hQ : Ideal.div (∑ q : Fin 16 × Fin m × Fin 16, ((h q.1 q.2.1 q.2.2 : ℝ) : EReal) * ((h q.1 q.2.1 q.2.2 : ℝ) : EReal)) M =
      (((∑ q : Fin 16 × Fin m × Fin 16, h q.1 q.2.1 q.2.2 * h q.1 q.2.1 q.2.2) / M : ℝ) : EReal) := by
    simp only [← EReal.coe_mul]
    rw [← coe_sum, Ideal.div_coe hM0, ← EReal.coe_mul, mul_one_div]
  rw [hv] at hvn
  unfold nrm
  dsimp only
  rw [hS, hQ, hmean, hvr, heq]
  generalize (∑ q : Fin 16 × Fin m × Fin 16, h q.1 q.2.1 q.2.2) / M = μ at *
  generalize (∑ q : Fin 16 × Fin m × Fin 16, h q.1 q.2.1 q.2.2 * h q.1 q.2.1 q.2.2) / M = σ at *
  have hpos : 0 < σ - μ * μ + e := by linarith
  have hsq : Real.sqrt (σ - μ * μ + e) ≠ 0 := (Real.sqrt_pos.mpr hpos).ne'
  have hr : 0 ≤ (Real.sqrt (σ - μ * μ + e))⁻¹ := inv_nonneg.mpr (Real.sqrt_nonneg _)
  simp only [← EReal.coe_sub, ← EReal.coe_mul, ← EReal.coe_add]
  rw [Ideal.rsqrt_coe, if_neg hpos.le.not_gt, if_neg hpos.ne', Ideal.sqrt_coe, if_neg hpos.le.not_gt]
  simp only [Ideal.div_coe hsq, one_div]
  generalize (Real.sqrt (σ - μ * μ + e))⁻¹ = r at hr ⊢
  by_cases hg : (0 : ℝ) ≤ g
  · obtain ⟨k, -, hk⟩ := Finset.exists_max_image Finset.univ (fun k => h b a k) ⟨(0 : Fin 16), Finset.mem_univ _⟩
    rw [if_pos (by exact_mod_cast hg), fold_max_eq (fun k => ((h b a k : ℝ) : EReal)) k
      (fun j => EReal.coe_le_coe_iff.mpr (hk j (Finset.mem_univ _)))]
    rw [fold_max_eq _ k fun j => ?_]
    · simp only [← EReal.coe_sub, ← EReal.coe_mul, ← EReal.coe_add]
      refine ⟨?_, Real'.max ⟨_, rfl⟩ Real'.zero⟩
      congr 2; ring
    · simp only [← EReal.coe_sub, ← EReal.coe_mul, ← EReal.coe_add]
      refine max_le_max (EReal.coe_le_coe_iff.mpr ?_) le_rfl
      have := mul_le_mul_of_nonneg_right (mul_le_mul_of_nonneg_right (sub_le_sub_right (hk j (Finset.mem_univ _)) μ) hr) hg
      linarith
  · obtain ⟨k, -, hk⟩ := Finset.exists_min_image Finset.univ (fun k => h b a k) ⟨(0 : Fin 16), Finset.mem_univ _⟩
    rw [if_neg (by exact_mod_cast hg), fold_min_eq (fun k => ((h b a k : ℝ) : EReal)) k
      (fun j => EReal.coe_le_coe_iff.mpr (hk j (Finset.mem_univ _)))]
    rw [fold_max_eq _ k fun j => ?_]
    · simp only [← EReal.coe_sub, ← EReal.coe_mul, ← EReal.coe_add]
      refine ⟨?_, Real'.max ⟨_, rfl⟩ Real'.zero⟩
      congr 2; ring
    · simp only [← EReal.coe_sub, ← EReal.coe_mul, ← EReal.coe_add]
      refine max_le_max (EReal.coe_le_coe_iff.mpr ?_) le_rfl
      have := mul_le_mul_of_nonpos_right (mul_le_mul_of_nonneg_right (sub_le_sub_right (hk j (Finset.mem_univ _)) μ) hr) (not_le.mp hg).le
      linarith

end Cert.Norm

end
-- ==== Proof.TailRound.lean ====
/-
  One round of each selection loop of the tail over the reals: the first smallest entry of every row of distances is found and
  masked, its row of the products is read cloud by cloud, and the running maximum, minimum, sum and sum of squares take it in.
-/
module

public import proofs.«01_k».proof.Proof.TailIdealRun
public import proofs.«01_k».proof.Proof.Round
public import proofs.«01_k».proof.Proof.Norm

@[expose] public section

set_option maxRecDepth 16384

noncomputable section

namespace Cert.TailRound

open Idealize.ShloMosaic Idealize.ShloMosaic.TcCoe Idealize.ShloMosaic.Tactic
open Cert.TailIdeal Cert.TailIdeal.Gen Cert.TailIdeal.Run Cert.Select Cert.Consts

theorem mask_big_top : Named.named (F := Ideal) (φ := .f32) κ "mask_big" 0x7149F2CA#32 = (⊤ : EReal) :=
  IdealRules.named_const.ideal_named_scalar _ _ _ _ rfl

theorem neg_big_bot : Named.named (F := Ideal) (φ := .f32) κ "neg_big" 0xFF61B1E6#32 = (⊥ : EReal) :=
  IdealRules.named_const.ideal_named_scalar _ _ _ _ rfl

theorem pos_big_top : Named.named (F := Ideal) (φ := .f32) κ "pos_big" 0x7F61B1E6#32 = (⊤ : EReal) :=
  IdealRules.named_const.ideal_named_scalar _ _ _ _ rfl

/-- The least position among those with the smallest entry. -/
theorem fold_minsi_eq {N : ℕ} (hN : N ≤ 2048) (x : Fin N → EReal) (p : Fin N) (h : ∀ j, x j = x p → p ≤ j) :
    Finset.univ.fold IntOp.minsi (2147483647#32) (fun k : Fin N => if x k = x p then BitVec.ofNat 32 k.val else BitVec.ofNat 32 N) =
      BitVec.ofNat 32 p.val := by
  apply BitVec.eq_of_toInt_eq
  have hom := Finset.fold_hom (s := (Finset.univ : Finset (Fin N))) (op := (IntOp.minsi : BitVec 32 → BitVec 32 → BitVec 32))
    (op' := (min : ℤ → ℤ → ℤ)) (b := 2147483647#32) (m := BitVec.toInt)
    (f := fun k : Fin N => if x k = x p then BitVec.ofNat 32 k.val else BitVec.ofNat 32 N) (fun a b => SortNet.toInt_minsi a b)
  have hp : p.val ≤ 2048 := p.isLt.le.trans hN
  rw [← hom, Round.toInt_small _ hp]
  refine le_antisymm ?_ ?_
  · refine ((Finset.le_fold_min _).1 le_rfl |>.2 p (Finset.mem_univ _)).trans ?_
    rw [if_pos rfl, Round.toInt_small _ hp]
  · refine (Finset.le_fold_min _).2 ⟨?_, fun j _ => ?_⟩
    · have : (2147483647#32 : BitVec 32).toInt = 2147483647 := by decide
      rw [this]; omega
    · split
      · rename_i e; rw [Round.toInt_small _ (j.isLt.le.trans hN)]; exact_mod_cast h j e
      · rw [Round.toInt_small N hN]; exact_mod_cast p.isLt.le

/-- A sum over neighbours and stacked rows, cloud by cloud. -/
theorem sum_rows {m n : ℕ} (hn : 16 * m = n) (f : Fin n → Fin 16 → EReal) :
    ∑ k, ∑ A, f A k = ∑ q : Fin 16 × Fin m × Fin 16, f ⟨q.2.1.val + m * q.1.val, by
      have h1 := q.1.isLt; have h2 := q.2.1.isLt; subst hn; nlinarith⟩ q.2.2 := by
  subst hn
  rw [Finset.sum_comm, ← Equiv.sum_comp finProdFinEquiv, Fintype.sum_prod_type, Fintype.sum_prod_type]
  simp only [Fintype.sum_prod_type]
  rfl

/-! ## Stage 4 -/

section Row

variable (v : FVec Ideal S512x128 .f32) (a : Fin 512) (p : Fin 128)
  (h1 : ∀ j, v (ix2 a p) ≤ v (ix2 a j)) (h2 : ∀ j, v (ix2 a j) = v (ix2 a p) → p ≤ j)

theorem rowlt4 (a : Fin 512) (p : Fin 128) : 128 * (a.val / 32) + p.val < 2048 := by omega

include h1 h2

/-- The one-hot row. -/
theorem hot4 (j : Fin 128) : k0_pay2 (F := Ideal) io4 v (ix2 a j) = if j = p then 1#1 else 0#1 := by
  pointwise [k0_pay2, io4]
  rw [top_bits, Round.fold_min_eq (fun x => v (ix2 a x)) p h1, fold_minsi_eq (by norm_num) (fun x => v (ix2 a x)) p h2]
  unfold IntOp.cmpi
  by_cases e : j = p
  · subst e; simp
  · rw [if_neg e]
    have : BitVec.ofNat 32 j.val ≠ BitVec.ofNat 32 p.val := fun h => e (Fin.ext (by
      have := congrArg BitVec.toInt h
      rw [Round.toInt_small _ (by omega), Round.toInt_small _ (by omega)] at this
      exact_mod_cast this))
    rw [beq_eq_false_iff_ne.mpr this]; rfl

/-- The masked row. -/
theorem masked4 (j : Fin 128) : k0_pay3 (F := Ideal) io4 v (ix2 a j) = if j = p then (⊤ : EReal) else v (ix2 a j) := by
  pointwise [k0_pay3]
  rw [hot4 v a p h1 h2 j, mask_big_top]
  by_cases e : j = p <;> simp [e, Scalar.select]

/-- The one-hot row as numbers. -/
theorem num4 (j : Fin 128) : k0_pay4 (F := Ideal) io4 v (ix2 a j) = if j = p then (1 : EReal) else 0 := by
  pointwise [k0_pay4]
  rw [hot4 v a p h1 h2 j]
  show ((((BitVec.setWidth 32 (if j = p then 1#1 else 0#1)).toInt : ℝ)) : EReal) = _
  split <;> simp

/-- The one-hot row's product with the cloud's part of the table is the table's row. -/
theorem gather_row4 (z : FVec Ideal S2048x512 .f32) (c : Fin 512) :
    gather4 (F := Ideal) z (k0_pay4 (F := Ideal) io4 v) (ix2 a c) = (z (ix2 ⟨128 * (a.val / 32) + p.val, rowlt4 a p⟩ c) : EReal) := by
  have e : ∀ j : Fin 128, (k0_pay4 (F := Ideal) io4 v (ix2 ⟨32 * (a.val / 32) + a.val % 32, by omega⟩ j) : EReal) =
      if j = p then 1 else 0 := by
    intro j
    have : (⟨32 * (a.val / 32) + a.val % 32, by omega⟩ : Fin 512) = a := Fin.ext (Nat.div_add_mod a.val 32)
    rw [this]
    exact num4 v a p h1 h2 j
  unfold gather4
  generalize k0_pay4 (F := Ideal) io4 v = oh at e
  pointwise [k0_pay5]
  refine (Finset.sum_congr rfl fun j _ => congrArg (fun x : EReal => x * _) (e j)).trans ?_
  simp only [ite_mul, one_mul, zero_mul, Finset.sum_ite_eq', Finset.mem_univ, if_true]
  rfl

theorem picked4 (q : FVec Ideal S512x256 .f32) (z : FVec Ideal S2048x512 .f32) (c : Fin 256) :
    k0_pay6 (F := Ideal) q (gather4 (F := Ideal) z (k0_pay4 (F := Ideal) io4 v)) (ix2 a c) =
      (z (ix2 ⟨128 * (a.val / 32) + p.val, rowlt4 a p⟩ ⟨c.val, by omega⟩) + z (ix2 ⟨128 * (a.val / 32) + p.val, rowlt4 a p⟩ ⟨256 + c.val, by omega⟩)
        - q (ix2 a c) : EReal) := by
  pointwise [k0_pay6]
  rw [gather_row4 v a p h1 h2, gather_row4 v a p h1 h2]

end Row

/-- What round `r` reads for centre `a` and channel `c`. -/
def took4 (q : FVec Ideal S512x256 .f32) (z : FVec Ideal S2048x512 .f32) (D : FVec Ideal S512x128 .f32) (r : ℕ) (a : Fin 512)
    (c : Fin 256) : EReal :=
  z (ix2 ⟨128 * (a.val / 32) + (pick (fun j => D (ix2 a j)) r).val, rowlt4 a _⟩ ⟨c.val, by omega⟩)
    + z (ix2 ⟨128 * (a.val / 32) + (pick (fun j => D (ix2 a j)) r).val, rowlt4 a _⟩ ⟨256 + c.val, by omega⟩) - q (ix2 a c)

/-- The loop's state after `r` rounds. -/
structure After4 (q : FVec Ideal S512x256 .f32) (z : FVec Ideal S2048x512 .f32) (D : FVec Ideal S512x128 .f32) (r : ℕ)
    (s : St4 Ideal) : Prop where
  dist : ∀ a j, s.2.2.2 (ix2 a j) = mask (fun j => D (ix2 a j)) r j
  top : ∀ a c, s.2.1 (ix2 a c) = Finset.univ.fold max ⊥ fun k : Fin r => took4 q z D k.val a c
  low : ∀ a c, s.2.2.1 (ix2 a c) = Finset.univ.fold min ⊤ fun k : Fin r => took4 q z D k.val a c
  sum : ∀ c, s.1.1 (ix2 0 c) = ∑ k : Fin r, ∑ a, took4 q z D k.val a c
  sq : ∀ c, s.1.2 (ix2 0 c) = ∑ k : Fin r, ∑ a, took4 q z D k.val a c * took4 q z D k.val a c

section

variable (q : FVec Ideal S512x256 .f32) (z : FVec Ideal S2048x512 .f32) (D : FVec Ideal S512x128 .f32)

theorem after_succ4 (hD : ∀ a j, D (ix2 a j) ≠ (⊤ : EReal)) (r : ℕ) (hr : r < 128) (s : St4 Ideal) (h : After4 q z D r s) :
    After4 q z D (r + 1) (round4 q io4 z s) := by
  have hp : ∀ a, pick (fun j => D (ix2 a j)) r = sel (fun j => D (ix2 a j)) ⟨r, hr⟩ := fun a => by
    exact pick_eq _ r hr
  have hm := fun a => mask_first (fun j => D (ix2 a j)) (hD a) ⟨r, hr⟩
  have h1 : ∀ a j, s.2.2.2 (ix2 a (pick (fun j => D (ix2 a j)) r)) ≤ (s.2.2.2 (ix2 a j) : EReal) := fun a j => by
    rw [h.dist, h.dist, hp]; exact (hm a).1 j
  have h2 : ∀ a j, s.2.2.2 (ix2 a j) = (s.2.2.2 (ix2 a (pick (fun j => D (ix2 a j)) r)) : EReal) →
      pick (fun j => D (ix2 a j)) r ≤ j := fun a j e => by
    rw [h.dist, h.dist, hp] at e; rw [hp]; exact (hm a).2 j e
  have ht : ∀ a c, k0_pay6 (F := Ideal) q (gather4 (F := Ideal) z (k0_pay4 (F := Ideal) io4 s.2.2.2)) (ix2 a c) = took4 q z D r a c :=
    fun a c => picked4 s.2.2.2 a _ (h1 a) (h2 a) q z c
  constructor
  · intro a j
    unfold round4
    dsimp only
    rw [masked4 s.2.2.2 a _ (h1 a) (h2 a) j]
    refine Eq.trans ?_ (mask_succ (fun j => D (ix2 a j)) ⟨r, hr⟩ j).symm
    rw [hp, h.dist]
  · intro a c
    rw [Round.fold_last]
    unfold round4
    pointwise [k0_pay7, ht]
    exact congrArg (fun x => max x _) (h.top a c)
  · intro a c
    rw [Round.fold_last]
    unfold round4
    pointwise [k0_pay27, ht]
    exact congrArg (fun x => min x _) (h.low a c)
  · intro c
    rw [Fin.sum_univ_castSucc]
    unfold round4
    pointwise [k0_pay28, ht]
    exact congrArg (fun x : EReal => x + _) (h.sum c)
  · intro c
    rw [Fin.sum_univ_castSucc]
    unfold round4
    pointwise [k0_pay29, ht]
    exact congrArg (fun x : EReal => x + _) (h.sq c)

theorem after_iterate4 (hD : ∀ a j, D (ix2 a j) ≠ (⊤ : EReal)) (s : St4 Ideal) (h : After4 q z D 0 s) (r : ℕ) (hr : r ≤ 128) :
    After4 q z D r ((round4 q io4 z)^[r] s) := by
  induction r with
  | zero => exact h
  | succ r ih =>
    rw [Function.iterate_succ_apply']
    exact after_succ4 q z D hD r hr _ (ih (Nat.le_of_succ_le hr))

end

theorem after_entry4 (q : FVec Ideal S512x256 .f32) (z : FVec Ideal S2048x512 .f32) (x2 : FVec Ideal S16x3x128 .f32) (x3 : FVec Ideal S512x3 .f32) :
    After4 q z (ent4v (F := Ideal) x2 x3).2.2.2 0 (ent4v (F := Ideal) x2 x3) := by
  constructor
  · intro a j; rw [mask_zero]
  · intro a c; unfold ent4v; pointwise [k0_pay24]; exact neg_big_bot
  · intro a c; unfold ent4v; pointwise [k0_pay25]; exact pos_big_top
  · intro c; unfold ent4v; pointwise [k0_pay26]; exact (Fin.sum_univ_zero _).symm
  · intro c; unfold ent4v; pointwise [k0_pay26]; exact (Fin.sum_univ_zero _).symm

/-! ## Stage 5 -/

section Row

variable (v : FVec Ideal S128x32 .f32) (a : Fin 128) (p : Fin 32)
  (h1 : ∀ j, v (ix2 a p) ≤ v (ix2 a j)) (h2 : ∀ j, v (ix2 a j) = v (ix2 a p) → p ≤ j)

theorem rowlt5 (a : Fin 128) (p : Fin 32) : 32 * (a.val / 8) + p.val < 512 := by omega

include h1 h2

/-- The one-hot row. -/
theorem hot5 (j : Fin 32) : k0_pay8 (F := Ideal) io5 v (ix2 a j) = if j = p then 1#1 else 0#1 := by
  pointwise [k0_pay8, io5]
  rw [top_bits, Round.fold_min_eq (fun x => v (ix2 a x)) p h1, fold_minsi_eq (by norm_num) (fun x => v (ix2 a x)) p h2]
  unfold IntOp.cmpi
  by_cases e : j = p
  · subst e; simp
  · rw [if_neg e]
    have : BitVec.ofNat 32 j.val ≠ BitVec.ofNat 32 p.val := fun h => e (Fin.ext (by
      have := congrArg BitVec.toInt h
      rw [Round.toInt_small _ (by omega), Round.toInt_small _ (by omega)] at this
      exact_mod_cast this))
    rw [beq_eq_false_iff_ne.mpr this]; rfl

/-- The masked row. -/
theorem masked5 (j : Fin 32) : k0_pay9 (F := Ideal) io5 v (ix2 a j) = if j = p then (⊤ : EReal) else v (ix2 a j) := by
  pointwise [k0_pay9]
  rw [hot5 v a p h1 h2 j, mask_big_top]
  by_cases e : j = p <;> simp [e, Scalar.select]

/-- The one-hot row as numbers. -/
theorem num5 (j : Fin 32) : k0_pay10 (F := Ideal) io5 v (ix2 a j) = if j = p then (1 : EReal) else 0 := by
  pointwise [k0_pay10]
  rw [hot5 v a p h1 h2 j]
  show ((((BitVec.setWidth 32 (if j = p then 1#1 else 0#1)).toInt : ℝ)) : EReal) = _
  split <;> simp

/-- The one-hot row's product with the cloud's part of the table is the table's row. -/
theorem gather_row5 (z : FVec Ideal S512x1024 .f32) (c : Fin 1024) :
    gather5 (F := Ideal) z (k0_pay10 (F := Ideal) io5 v) (ix2 a c) = (z (ix2 ⟨32 * (a.val / 8) + p.val, rowlt5 a p⟩ c) : EReal) := by
  have e : ∀ j : Fin 32, (k0_pay10 (F := Ideal) io5 v (ix2 ⟨8 * (a.val / 8) + a.val % 8, by omega⟩ j) : EReal) =
      if j = p then 1 else 0 := by
    intro j
    have : (⟨8 * (a.val / 8) + a.val % 8, by omega⟩ : Fin 128) = a := Fin.ext (Nat.div_add_mod a.val 8)
    rw [this]
    exact num5 v a p h1 h2 j
  unfold gather5
  generalize k0_pay10 (F := Ideal) io5 v = oh at e
  pointwise [k0_pay11]
  refine (Finset.sum_congr rfl fun j _ => congrArg (fun x : EReal => x * _) (e j)).trans ?_
  simp only [ite_mul, one_mul, zero_mul, Finset.sum_ite_eq', Finset.mem_univ, if_true]
  rfl

theorem picked5 (q : FVec Ideal S128x512 .f32) (z : FVec Ideal S512x1024 .f32) (c : Fin 512) :
    k0_pay12 (F := Ideal) q (gather5 (F := Ideal) z (k0_pay10 (F := Ideal) io5 v)) (ix2 a c) =
      (z (ix2 ⟨32 * (a.val / 8) + p.val, rowlt5 a p⟩ ⟨c.val, by omega⟩) + z (ix2 ⟨32 * (a.val / 8) + p.val, rowlt5 a p⟩ ⟨512 + c.val, by omega⟩)
        - q (ix2 a c) : EReal) := by
  pointwise [k0_pay12]
  rw [gather_row5 v a p h1 h2, gather_row5 v a p h1 h2]

end Row

/-- What round `r` reads for centre `a` and channel `c`. -/
def took5 (q : FVec Ideal S128x512 .f32) (z : FVec Ideal S512x1024 .f32) (D : FVec Ideal S128x32 .f32) (r : ℕ) (a : Fin 128)
    (c : Fin 512) : EReal :=
  z (ix2 ⟨32 * (a.val / 8) + (pick (fun j => D (ix2 a j)) r).val, rowlt5 a _⟩ ⟨c.val, by omega⟩)
    + z (ix2 ⟨32 * (a.val / 8) + (pick (fun j => D (ix2 a j)) r).val, rowlt5 a _⟩ ⟨512 + c.val, by omega⟩) - q (ix2 a c)

/-- The loop's state after `r` rounds. -/
structure After5 (q : FVec Ideal S128x512 .f32) (z : FVec Ideal S512x1024 .f32) (D : FVec Ideal S128x32 .f32) (r : ℕ)
    (s : St5 Ideal) : Prop where
  dist : ∀ a j, s.2.2.2 (ix2 a j) = mask (fun j => D (ix2 a j)) r j
  top : ∀ a c, s.2.1 (ix2 a c) = Finset.univ.fold max ⊥ fun k : Fin r => took5 q z D k.val a c
  low : ∀ a c, s.2.2.1 (ix2 a c) = Finset.univ.fold min ⊤ fun k : Fin r => took5 q z D k.val a c
  sum : ∀ c, s.1.1 (ix2 0 c) = ∑ k : Fin r, ∑ a, took5 q z D k.val a c
  sq : ∀ c, s.1.2 (ix2 0 c) = ∑ k : Fin r, ∑ a, took5 q z D k.val a c * took5 q z D k.val a c

section

variable (q : FVec Ideal S128x512 .f32) (z : FVec Ideal S512x1024 .f32) (D : FVec Ideal S128x32 .f32)

theorem after_succ5 (hD : ∀ a j, D (ix2 a j) ≠ (⊤ : EReal)) (r : ℕ) (hr : r < 32) (s : St5 Ideal) (h : After5 q z D r s) :
    After5 q z D (r + 1) (round5 q io5 z s) := by
  have hp : ∀ a, pick (fun j => D (ix2 a j)) r = sel (fun j => D (ix2 a j)) ⟨r, hr⟩ := fun a => by
    exact pick_eq _ r hr
  have hm := fun a => mask_first (fun j => D (ix2 a j)) (hD a) ⟨r, hr⟩
  have h1 : ∀ a j, s.2.2.2 (ix2 a (pick (fun j => D (ix2 a j)) r)) ≤ (s.2.2.2 (ix2 a j) : EReal) := fun a j => by
    rw [h.dist, h.dist, hp]; exact (hm a).1 j
  have h2 : ∀ a j, s.2.2.2 (ix2 a j) = (s.2.2.2 (ix2 a (pick (fun j => D (ix2 a j)) r)) : EReal) →
      pick (fun j => D (ix2 a j)) r ≤ j := fun a j e => by
    rw [h.dist, h.dist, hp] at e; rw [hp]; exact (hm a).2 j e
  have ht : ∀ a c, k0_pay12 (F := Ideal) q (gather5 (F := Ideal) z (k0_pay10 (F := Ideal) io5 s.2.2.2)) (ix2 a c) = took5 q z D r a c :=
    fun a c => picked5 s.2.2.2 a _ (h1 a) (h2 a) q z c
  constructor
  · intro a j
    unfold round5
    dsimp only
    rw [masked5 s.2.2.2 a _ (h1 a) (h2 a) j]
    refine Eq.trans ?_ (mask_succ (fun j => D (ix2 a j)) ⟨r, hr⟩ j).symm
    rw [hp, h.dist]
  · intro a c
    rw [Round.fold_last]
    unfold round5
    pointwise [k0_pay13, ht]
    exact congrArg (fun x => max x _) (h.top a c)
  · intro a c
    rw [Round.fold_last]
    unfold round5
    pointwise [k0_pay44, ht]
    exact congrArg (fun x => min x _) (h.low a c)
  · intro c
    rw [Fin.sum_univ_castSucc]
    unfold round5
    pointwise [k0_pay45, ht]
    exact congrArg (fun x : EReal => x + _) (h.sum c)
  · intro c
    rw [Fin.sum_univ_castSucc]
    unfold round5
    pointwise [k0_pay46, ht]
    exact congrArg (fun x : EReal => x + _) (h.sq c)

theorem after_iterate5 (hD : ∀ a j, D (ix2 a j) ≠ (⊤ : EReal)) (s : St5 Ideal) (h : After5 q z D 0 s) (r : ℕ) (hr : r ≤ 32) :
    After5 q z D r ((round5 q io5 z)^[r] s) := by
  induction r with
  | zero => exact h
  | succ r ih =>
    rw [Function.iterate_succ_apply']
    exact after_succ5 q z D hD r hr _ (ih (Nat.le_of_succ_le hr))

end

theorem after_entry5 (q : FVec Ideal S128x512 .f32) (z : FVec Ideal S512x1024 .f32) (x2 : FVec Ideal S16x3x32 .f32) (x3 : FVec Ideal S128x3 .f32) :
    After5 q z (ent5v (F := Ideal) x2 x3).2.2.2 0 (ent5v (F := Ideal) x2 x3) := by
  constructor
  · intro a j; rw [mask_zero]
  · intro a c; unfold ent5v; pointwise [k0_pay41]; exact neg_big_bot
  · intro a c; unfold ent5v; pointwise [k0_pay42]; exact pos_big_top
  · intro c; unfold ent5v; pointwise [k0_pay43]; exact (Fin.sum_univ_zero _).symm
  · intro c; unfold ent5v; pointwise [k0_pay43]; exact (Fin.sum_univ_zero _).symm

end Cert.TailRound

end
-- ==== Proof.TailSpec.lean ====
/-
  The tail in closed form: two stages of grouping, linear layer, batch norm and maximum over the neighbours, and the head.
-/
module

public import proofs.«01_k».proof.Proof.Spec
public import proofs.«01_k».proof.Proof.Norm

@[expose] public section

noncomputable section

namespace Cert.TailSpec

open Idealize.ShloMosaic
open Cert.Select Cert.Arith Cert.Norm

/-- The tail's operands: features and points cloud by cloud, sampled points, weights. -/
structure In where
  feats : Fin 16 → Fin 128 → Fin 128 → EReal
  p3 : Fin 16 → Fin 128 → Fin 3 → EReal
  p4 : Fin 16 → Fin 32 → Fin 3 → EReal
  p5 : Fin 16 → Fin 8 → Fin 3 → EReal
  w4 : Fin 131 → Fin 256 → EReal
  g4 : Fin 256 → EReal
  b4 : Fin 256 → EReal
  w5 : Fin 259 → Fin 512 → EReal
  g5 : Fin 512 → EReal
  b5 : Fin 512 → EReal
  wo1 : Fin 512 → Fin 512 → EReal
  bo1 : Fin 512 → EReal
  wo2 : Fin 512 → Fin 6 → EReal
  bo2 : Fin 6 → EReal

/-- Every operand the two stages read is a real. -/
structure In.Real (I : In) : Prop where
  feats : ∀ b j f, Real' (I.feats b j f)
  p3 : ∀ b j f, Real' (I.p3 b j f)
  p4 : ∀ b j f, Real' (I.p4 b j f)
  p5 : ∀ b j f, Real' (I.p5 b j f)
  w4 : ∀ b j, Real' (I.w4 b j)
  g4 : ∀ b, Real' (I.g4 b)
  b4 : ∀ b, Real' (I.b4 b)
  w5 : ∀ b j, Real' (I.w5 b j)
  g5 : ∀ b, Real' (I.g5 b)
  b5 : ∀ b, Real' (I.b5 b)

variable (I : In)

/-- Stage 4's grouped layer. -/
def H4 (c : Fin 256) (b : Fin 16) (a : Fin 32) (k : Fin 16) : EReal :=
  grp (I.p3 b) (I.p4 b a) (I.feats b) (fun i => I.w4 ⟨i.val, by omega⟩ c) (fun f => I.w4 ⟨3 + f.val, by omega⟩ c) k.val

/-- Stage 4's features. -/
def X4 (b : Fin 16) (a : Fin 32) (c : Fin 256) : EReal := nrm (H4 I c) ((8192 : ℝ) : EReal) (I.g4 c) (I.b4 c) b a

/-- Stage 5's grouped layer. -/
def H5 (c : Fin 512) (b : Fin 16) (a : Fin 8) (k : Fin 16) : EReal :=
  grp (I.p4 b) (I.p5 b a) (X4 I b) (fun i => I.w5 ⟨i.val, by omega⟩ c) (fun f => I.w5 ⟨3 + f.val, by omega⟩ c) k.val

/-- Stage 5's features. -/
def X5 (b : Fin 16) (a : Fin 8) (c : Fin 512) : EReal := nrm (H5 I c) ((2048 : ℝ) : EReal) (I.g5 c) (I.b5 c) b a

/-- Their mean over a cloud's centres. -/
def pool (b : Fin 16) (c : Fin 512) : EReal := Ideal.div (∑ a : Fin 8, X5 I b a c) (Ideal.ofBits .f32 0x41000000#32)

/-- The head. -/
def out (b : Fin 16) (o : Fin 6) : EReal :=
  ∑ c, (max (∑ d, pool I b d * I.wo1 d c + I.bo1 c) 0 + pool I b c) * I.wo2 c o + I.bo2 o

theorem bits_8192 : Ideal.ofBits .f32 0x46000000#32 = ((8192 : ℝ) : EReal) := by
  simp [Ideal.ofBits, Ideal.ieee, -EReal.coe_mul]; norm_num

theorem bits_2048 : Ideal.ofBits .f32 0x45000000#32 = ((2048 : ℝ) : EReal) := by
  simp [Ideal.ofBits, Ideal.ieee, -EReal.coe_mul]; norm_num

variable {I} (h : I.Real)
include h

theorem H4_real (c : Fin 256) (b : Fin 16) (a : Fin 32) (k : Fin 16) : Real' (H4 I c b a k) :=
  regroup_real (fun _ => h.p3 _ _ _) (fun _ => h.p4 _ _ _) (fun _ => h.w4 _ _) (fun _ => h.feats _ _ _) (fun _ => h.w4 _ _)

theorem X4_both (b : Fin 16) (a : Fin 32) (c : Fin 256) :
    max (I.g4 c * ((if 0 ≤ I.g4 c then Finset.univ.fold max ⊥ fun k => H4 I c b a k else Finset.univ.fold min ⊤ fun k => H4 I c b a k) -
      Ideal.div (∑ q : Fin 16 × Fin 32 × Fin 16, H4 I c q.1 q.2.1 q.2.2) ((8192 : ℝ) : EReal)) *
      Ideal.rsqrt (Ideal.div (∑ q : Fin 16 × Fin 32 × Fin 16, H4 I c q.1 q.2.1 q.2.2 * H4 I c q.1 q.2.1 q.2.2) ((8192 : ℝ) : EReal) -
        Ideal.div (∑ q : Fin 16 × Fin 32 × Fin 16, H4 I c q.1 q.2.1 q.2.2) ((8192 : ℝ) : EReal) *
        Ideal.div (∑ q : Fin 16 × Fin 32 × Fin 16, H4 I c q.1 q.2.1 q.2.2) ((8192 : ℝ) : EReal) +
        Ideal.ofBits .f32 0x3727C5AC#32) + I.b4 c) 0 = X4 I b a c ∧ Real' (X4 I b a c) :=
  both (H4 I c) (H4_real h c) 8192 (by norm_num) (by norm_num) (h.g4 c) (h.b4 c) b a

theorem X4_real (b : Fin 16) (a : Fin 32) (c : Fin 256) : Real' (X4 I b a c) := (X4_both h b a c).2

theorem H5_real (c : Fin 512) (b : Fin 16) (a : Fin 8) (k : Fin 16) : Real' (H5 I c b a k) :=
  regroup_real (fun _ => h.p4 _ _ _) (fun _ => h.p5 _ _ _) (fun _ => h.w5 _ _) (fun _ => X4_real h _ _ _) (fun _ => h.w5 _ _)

theorem X5_both (b : Fin 16) (a : Fin 8) (c : Fin 512) :
    max (I.g5 c * ((if 0 ≤ I.g5 c then Finset.univ.fold max ⊥ fun k => H5 I c b a k else Finset.univ.fold min ⊤ fun k => H5 I c b a k) -
      Ideal.div (∑ q : Fin 16 × Fin 8 × Fin 16, H5 I c q.1 q.2.1 q.2.2) ((2048 : ℝ) : EReal)) *
      Ideal.rsqrt (Ideal.div (∑ q : Fin 16 × Fin 8 × Fin 16, H5 I c q.1 q.2.1 q.2.2 * H5 I c q.1 q.2.1 q.2.2) ((2048 : ℝ) : EReal) -
        Ideal.div (∑ q : Fin 16 × Fin 8 × Fin 16, H5 I c q.1 q.2.1 q.2.2) ((2048 : ℝ) : EReal) *
        Ideal.div (∑ q : Fin 16 × Fin 8 × Fin 16, H5 I c q.1 q.2.1 q.2.2) ((2048 : ℝ) : EReal) +
        Ideal.ofBits .f32 0x3727C5AC#32) + I.b5 c) 0 = X5 I b a c ∧ Real' (X5 I b a c) :=
  both (H5 I c) (H5_real h c) 2048 (by norm_num) (by norm_num) (h.g5 c) (h.b5 c) b a

end Cert.TailSpec

end
-- ==== Proof.TailBlock.lean ====
/-
  The tail's output block over the reals.
-/
module

public import proofs.«01_k».proof.Proof.TailRound
public import proofs.«01_k».proof.Proof.TailSpec

@[expose] public section

set_option maxRecDepth 16384

noncomputable section

namespace Cert.TailBlock

open Idealize.ShloMosaic Idealize.ShloMosaic.TcCoe Idealize.ShloMosaic.Tactic
open Cert.TailIdeal Cert.TailIdeal.Gen Cert.TailIdeal.Run Cert.Select Cert.Arith Cert.TailRound Cert.TailSpec

theorem ix2_same {n m : ℕ} (i : Fin n) (j : Fin m) : (ValueIdx.ix2 i j : (⟨2, ![n, m]⟩ : Shape).Idx) = ix2 i j := by
  funext e
  match e with
  | ⟨0, _⟩ => rfl
  | ⟨1, _⟩ => rfl

/-! ## The tables and the distances -/

theorem halves4_lo (a b : FVec Ideal S2048x256 .f32) (r : Fin 2048) (c : Fin 256) :
    halves4 (F := Ideal) a b (ix2 r ⟨c.val, by omega⟩) = a (ix2 r c) := by
  unfold halves4
  refine (dif_pos (show c.val < 256 from c.isLt)).trans ?_
  exact congrArg a (ix2_same r c)

theorem halves4_hi (a b : FVec Ideal S2048x256 .f32) (r : Fin 2048) (c : Fin 256) :
    halves4 (F := Ideal) a b (ix2 r ⟨256 + c.val, by omega⟩) = b (ix2 r c) := by
  unfold halves4
  refine (dif_neg (show ¬ 256 + c.val < 256 by omega)).trans ?_
  have e : (⟨256 + c.val - 256, by omega⟩ : Fin 256) = c := Fin.ext (by show 256 + c.val - 256 = c.val; omega)
  exact congrArg b ((ix2_same r _).trans (congrArg (ix2 r) e))

theorem halves5_lo (a b : FVec Ideal S512x512 .f32) (r : Fin 512) (c : Fin 512) :
    halves5 (F := Ideal) a b (ix2 r ⟨c.val, by omega⟩) = a (ix2 r c) := by
  unfold halves5
  refine (dif_pos (show c.val < 512 from c.isLt)).trans ?_
  exact congrArg a (ix2_same r c)

theorem halves5_hi (a b : FVec Ideal S512x512 .f32) (r : Fin 512) (c : Fin 512) :
    halves5 (F := Ideal) a b (ix2 r ⟨512 + c.val, by omega⟩) = b (ix2 r c) := by
  unfold halves5
  refine (dif_neg (show ¬ 512 + c.val < 512 by omega)).trans ?_
  have e : (⟨512 + c.val - 512, by omega⟩ : Fin 512) = c := Fin.ext (by show 512 + c.val - 512 = c.val; omega)
  exact congrArg b ((ix2_same r _).trans (congrArg (ix2 r) e))

variable (x0 : FVec Ideal S2048x128 .f32) (x1 : FVec Ideal S2048x3 .f32) (x2 : FVec Ideal S16x3x128 .f32) (x3 : FVec Ideal S512x3 .f32)
  (x4 : FVec Ideal S16x3x32 .f32) (x5 : FVec Ideal S128x3 .f32) (x6 : FVec Ideal S131x256 .f32) (x7 x8 : FVec Ideal S1x256 .f32)
  (x9 : FVec Ideal S259x512 .f32) (x10 x11 : FVec Ideal S1x512 .f32) (x12 : FVec Ideal S512x512 .f32) (x13 : FVec Ideal S1x512 .f32)
  (x14 : FVec Ideal S512x6 .f32) (x15 : FVec Ideal S1x6 .f32)

theorem table4 (r : Fin 2048) (c : Fin 256) : k0_pay17 (F := Ideal) x0 x1 (wp4 x6) (wx4 x6) (ix2 r c) =
    (∑ i : Fin 3, x1 (ix2 r i) * x6 (ix2 ⟨i.val, by omega⟩ c) + ∑ f : Fin 128, x0 (ix2 r f) * x6 (ix2 ⟨3 + f.val, by omega⟩ c) : EReal) := by
  pointwise [k0_pay17, wp4, wx4]

theorem dist4 (a : Fin 512) (j : Fin 128) :
    k0_pay23 (F := Ideal) (k0_pay14 x3) (k0_pay22 x3 (ax4 x2)) (ay4 x2) (az4 x2) (ix2 a j) =
      (∑ i : Fin 3, (x3 (ix2 a i) - x2 (ix3 ⟨a.val / 32, by omega⟩ i j)) * (x3 (ix2 a i) - x2 (ix3 ⟨a.val / 32, by omega⟩ i j)) : EReal) := by
  rw [Fin.sum_univ_three]
  pointwise [k0_pay23, k0_pay22, k0_pay14, ax4, ay4, az4]

theorem dist5 (a : Fin 128) (j : Fin 32) :
    k0_pay40 (F := Ideal) (k0_pay39 (k0_pay31 x5) (ax5 x4) (ay5 x4) (az5 x4)) (ix2 a j) =
      (∑ i : Fin 3, (x5 (ix2 a i) - x4 (ix3 ⟨a.val / 8, by omega⟩ i j)) * (x5 (ix2 a i) - x4 (ix3 ⟨a.val / 8, by omega⟩ i j)) : EReal) := by
  rw [Fin.sum_univ_three]
  pointwise [k0_pay40, k0_pay39, k0_pay31, ax5, ay5, az5]

/-- A table of products in two parts, the second the first's remainder. -/
theorem took4_of (q : FVec Ideal S512x256 .f32) (Z0 Z1 : FVec Ideal S2048x256 .f32) (D : FVec Ideal S512x128 .f32) (k : ℕ) (b : Fin 16)
    (a : Fin 32) (c : Fin 256) (d : Fin 128 → EReal)
    (hD : ∀ j, D (ix2 ⟨a.val + 32 * b.val, by omega⟩ j) = d j) :
    took4 q (halves4 (F := Ideal) Z0 Z1) D k ⟨a.val + 32 * b.val, by omega⟩ c =
      (Z0 (ix2 ⟨(pick d k).val + 128 * b.val, by omega⟩ c) + Z1 (ix2 ⟨(pick d k).val + 128 * b.val, by omega⟩ c)
        - q (ix2 ⟨a.val + 32 * b.val, by omega⟩ c) : EReal) := by
  unfold took4
  have hd : (fun j => (D (ix2 ⟨a.val + 32 * b.val, by omega⟩ j) : EReal)) = d := funext hD
  have e : (⟨128 * ((a.val + 32 * b.val) / 32) + (pick d k).val, by omega⟩ : Fin 2048) = ⟨(pick d k).val + 128 * b.val, by omega⟩ :=
    Fin.ext (by show 128 * ((a.val + 32 * b.val) / 32) + (pick d k).val = (pick d k).val + 128 * b.val; omega)
  simp only [hd]
  rw [halves4_lo, halves4_hi, e]

theorem took5_of (q : FVec Ideal S128x512 .f32) (Z0 Z1 : FVec Ideal S512x512 .f32) (D : FVec Ideal S128x32 .f32) (k : ℕ) (b : Fin 16)
    (a : Fin 8) (c : Fin 512) (d : Fin 32 → EReal)
    (hD : ∀ j, D (ix2 ⟨a.val + 8 * b.val, by omega⟩ j) = d j) :
    took5 q (halves5 (F := Ideal) Z0 Z1) D k ⟨a.val + 8 * b.val, by omega⟩ c =
      (Z0 (ix2 ⟨(pick d k).val + 32 * b.val, by omega⟩ c) + Z1 (ix2 ⟨(pick d k).val + 32 * b.val, by omega⟩ c)
        - q (ix2 ⟨a.val + 8 * b.val, by omega⟩ c) : EReal) := by
  unfold took5
  have hd : (fun j => (D (ix2 ⟨a.val + 8 * b.val, by omega⟩ j) : EReal)) = d := funext hD
  have e : (⟨32 * ((a.val + 8 * b.val) / 8) + (pick d k).val, by omega⟩ : Fin 512) = ⟨(pick d k).val + 32 * b.val, by omega⟩ :=
    Fin.ext (by show 32 * ((a.val + 8 * b.val) / 8) + (pick d k).val = (pick d k).val + 32 * b.val; omega)
  simp only [hd]
  rw [halves5_lo, halves5_hi, e]

/-! ## The normalised values -/

/-- The normalised value from the loop's results. -/
def kn (g β S Q M T L : EReal) : EReal :=
  g * ((if 0 ≤ g then T else L) - Ideal.div S M) * Ideal.rsqrt (Ideal.div Q M - Ideal.div S M * Ideal.div S M + Ideal.ofBits .f32 0x3727C5AC#32) + β

theorem mid_eq (s : St4 Ideal) (r : Fin 512) (c : Fin 512) : mid (F := Ideal) x3 x7 x8 x9 s (ix2 r c) =
    (∑ i : Fin 3, x3 (ix2 r i) * x9 (ix2 ⟨i.val, by omega⟩ c) +
      ∑ f : Fin 256, max (kn (x7 (ix2 0 f)) (x8 (ix2 0 f)) (s.1.1 (ix2 0 f)) (s.1.2 (ix2 0 f)) (Ideal.ofBits .f32 0x46000000#32) (s.2.1 (ix2 r f)) (s.2.2.1 (ix2 r f))) 0
        * x9 (ix2 ⟨3 + f.val, by omega⟩ c) : EReal) := by
  unfold mid
  generalize s.1.1 = S
  generalize s.1.2 = Q
  generalize s.2.1 = T
  generalize s.2.2.1 = L
  pointwise [k0_pay34, k0_pay15, k0_pay16, k0_pay30, wp5, wx5]
  unfold kn
  rfl

theorem norm5_eq (S Q : FVec Ideal S1x512 .f32) (T L : FVec Ideal S128x512 .f32) (r : Fin 128) (c : Fin 512) :
    k0_pay47 (F := Ideal) (k0_pay32 x10) (k0_pay33 x11) S Q T L (ix2 r c) =
      kn (x10 (ix2 0 c)) (x11 (ix2 0 c)) (S (ix2 0 c)) (Q (ix2 0 c)) (Ideal.ofBits .f32 0x45000000#32) (T (ix2 r c)) (L (ix2 r c)) := by
  pointwise [k0_pay47, k0_pay32, k0_pay33]
  unfold kn
  rfl

theorem head_eq (Y : FVec Ideal S128x512 .f32) (b : Fin 16) (o : Fin 6) (m : Fin 512 → EReal)
    (hm : ∀ c, m c = Ideal.div (∑ a : Fin 8, max (Y (ix2 ⟨b.val * 8 + a.val, by omega⟩ c) : EReal) 0) (Ideal.ofBits .f32 0x41000000#32)) :
    k0_pay1 (F := Ideal) Y x12 x13 x14 x15 (ix2 b o) =
      (∑ c, (max (∑ d, m d * x12 (ix2 d c) + x13 (ix2 0 c)) 0 + m c) * x14 (ix2 c o) + x15 (ix2 0 o) : EReal) := by
  simp only [hm]
  pointwise [k0_pay1]

/-! ## The whole block -/

/-- The operands the blocks hold. -/
def inK : In where
  feats b j f := x0 (ix2 ⟨j.val + 128 * b.val, by omega⟩ f)
  p3 b j i := x1 (ix2 ⟨j.val + 128 * b.val, by omega⟩ i)
  p4 b j i := x3 (ix2 ⟨j.val + 32 * b.val, by omega⟩ i)
  p5 b j i := x5 (ix2 ⟨j.val + 8 * b.val, by omega⟩ i)
  w4 j c := x6 (ix2 j c)
  g4 c := x7 (ix2 0 c)
  b4 c := x8 (ix2 0 c)
  w5 j c := x9 (ix2 j c)
  g5 c := x10 (ix2 0 c)
  b5 c := x11 (ix2 0 c)
  wo1 j c := x12 (ix2 j c)
  bo1 c := x13 (ix2 0 c)
  wo2 j c := x14 (ix2 j c)
  bo2 c := x15 (ix2 0 c)

section

variable (h : In.Real (inK x0 x1 x3 x5 x6 x7 x8 x9 x10 x11 x12 x13 x14 x15)) (h2 : ∀ b i j, x2 (ix3 b i j) = x1 (ix2 ⟨j.val + 128 * b.val, by omega⟩ i))
  (h4 : ∀ b i j, x4 (ix3 b i j) = x3 (ix2 ⟨j.val + 32 * b.val, by omega⟩ i))

theorem split4 (A : Fin 512) : ∃ (b : Fin 16) (a : Fin 32), A = ⟨a.val + 32 * b.val, by omega⟩ :=
  ⟨⟨A.val / 32, by omega⟩, ⟨A.val % 32, by omega⟩, Fin.ext (by show A.val = A.val % 32 + 32 * (A.val / 32); omega)⟩

theorem split5 (A : Fin 128) : ∃ (b : Fin 16) (a : Fin 8), A = ⟨a.val + 8 * b.val, by omega⟩ :=
  ⟨⟨A.val / 8, by omega⟩, ⟨A.val % 8, by omega⟩, Fin.ext (by show A.val = A.val % 8 + 8 * (A.val / 8); omega)⟩

include h2 in
theorem dist4_eq (b : Fin 16) (a : Fin 32) (j : Fin 128) : (ent4v (F := Ideal) x2 x3).2.2.2 (ix2 ⟨a.val + 32 * b.val, by omega⟩ j) =
    dist ((inK x0 x1 x3 x5 x6 x7 x8 x9 x10 x11 x12 x13 x14 x15).p3 b) ((inK x0 x1 x3 x5 x6 x7 x8 x9 x10 x11 x12 x13 x14 x15).p4 b a) j := by
  refine (dist4 x2 x3 _ j).trans ?_
  have e : (⟨(a.val + 32 * b.val) / 32, by omega⟩ : Fin 16) = b := Fin.ext (by show (a.val + 32 * b.val) / 32 = b.val; omega)
  simp only [e, h2]
  rfl

include h4 in
theorem dist5_eq (b : Fin 16) (a : Fin 8) (j : Fin 32) : (ent5v (F := Ideal) x4 x5).2.2.2 (ix2 ⟨a.val + 8 * b.val, by omega⟩ j) =
    dist ((inK x0 x1 x3 x5 x6 x7 x8 x9 x10 x11 x12 x13 x14 x15).p4 b) ((inK x0 x1 x3 x5 x6 x7 x8 x9 x10 x11 x12 x13 x14 x15).p5 b a) j := by
  refine (dist5 x4 x5 _ j).trans ?_
  have e : (⟨(a.val + 8 * b.val) / 8, by omega⟩ : Fin 16) = b := Fin.ext (by show (a.val + 8 * b.val) / 8 = b.val; omega)
  simp only [e, h4]
  rfl

include h h2

theorem rounds4 (q : FVec Ideal S512x256 .f32) (z : FVec Ideal S2048x512 .f32) :
    After4 q z (ent4v (F := Ideal) x2 x3).2.2.2 16 ((round4 (F := Ideal) q io4 z)^[16] (ent4v (F := Ideal) x2 x3)) :=
  after_iterate4 q z (ent4v (F := Ideal) x2 x3).2.2.2 (fun A j => by
      obtain ⟨b, a, rfl⟩ := split4 A
      rw [dist4_eq x0 x1 x2 x3 x5 x6 x7 x8 x9 x10 x11 x12 x13 x14 x15 h2]
      exact (dist_real (fun _ _ => h.p3 _ _ _) (fun _ => h.p4 _ _ _) j).ne_top) (ent4v (F := Ideal) x2 x3)
    (after_entry4 q z x2 x3) 16 (by norm_num)

theorem fin4_after : After4 (k0_pay21 (F := Ideal) x3 (wp4 x6)) (halves4 (F := Ideal) (k0_pay19 (F := Ideal) x0 x1 (wp4 x6) (wx4 x6)) (k0_pay20 (F := Ideal) x0 x1 (wp4 x6) (wx4 x6)))
    (ent4v (F := Ideal) x2 x3).2.2.2 16 (fin4 (F := Ideal) x0 x1 x2 x3 x6) := by
  unfold fin4
  exact rounds4 x0 x1 x2 x3 x5 x6 x7 x8 x9 x10 x11 x12 x13 x14 x15 h h2 _ _

theorem took4_abs (q : FVec Ideal S512x256 .f32) (Z0 Z1 : FVec Ideal S2048x256 .f32) (D : FVec Ideal S512x128 .f32) (k : Fin 16) (b : Fin 16)
    (a : Fin 32) (c : Fin 256) (Zv : Fin 128 → EReal)
    (hD : ∀ j, D (ix2 ⟨a.val + 32 * b.val, by omega⟩ j) = dist ((inK x0 x1 x3 x5 x6 x7 x8 x9 x10 x11 x12 x13 x14 x15).p3 b) ((inK x0 x1 x3 x5 x6 x7 x8 x9 x10 x11 x12 x13 x14 x15).p4 b a) j)
    (h0 : ∀ p : Fin 128, Z0 (ix2 ⟨p.val + 128 * b.val, by omega⟩ c) = Zv p)
    (h1 : ∀ p : Fin 128, Z1 (ix2 ⟨p.val + 128 * b.val, by omega⟩ c) = Zv p - Zv p)
    (hZ : ∀ p, Zv p = (∑ i : Fin 3, (inK x0 x1 x3 x5 x6 x7 x8 x9 x10 x11 x12 x13 x14 x15).p3 b p i * (inK x0 x1 x3 x5 x6 x7 x8 x9 x10 x11 x12 x13 x14 x15).w4 ⟨i.val, by omega⟩ c +
      ∑ f : Fin 128, (inK x0 x1 x3 x5 x6 x7 x8 x9 x10 x11 x12 x13 x14 x15).feats b p f * (inK x0 x1 x3 x5 x6 x7 x8 x9 x10 x11 x12 x13 x14 x15).w4 ⟨3 + f.val, by omega⟩ c : EReal))
    (hq : q (ix2 ⟨a.val + 32 * b.val, by omega⟩ c) = (∑ i : Fin 3, (inK x0 x1 x3 x5 x6 x7 x8 x9 x10 x11 x12 x13 x14 x15).p4 b a i * (inK x0 x1 x3 x5 x6 x7 x8 x9 x10 x11 x12 x13 x14 x15).w4 ⟨i.val, by omega⟩ c : EReal)) :
    took4 q (halves4 (F := Ideal) Z0 Z1) D k.val ⟨a.val + 32 * b.val, by omega⟩ c = H4 (inK x0 x1 x3 x5 x6 x7 x8 x9 x10 x11 x12 x13 x14 x15) c b a k := by
  rw [took4_of q Z0 Z1 D k.val b a c _ hD, h0, h1, hZ, hq]
  exact regroup (fun _ => h.p3 _ _ _) (fun _ => h.p4 _ _ _) (fun _ => h.w4 _ _) (fun _ => h.feats _ _ _) (fun _ => h.w4 _ _)

theorem took4_eq (k : Fin 16) (b : Fin 16) (a : Fin 32) (c : Fin 256) :
    took4 (k0_pay21 (F := Ideal) x3 (wp4 x6)) (halves4 (F := Ideal) (k0_pay19 (F := Ideal) x0 x1 (wp4 x6) (wx4 x6)) (k0_pay20 (F := Ideal) x0 x1 (wp4 x6) (wx4 x6)))
      (ent4v (F := Ideal) x2 x3).2.2.2 k.val ⟨a.val + 32 * b.val, by omega⟩ c = H4 (inK x0 x1 x3 x5 x6 x7 x8 x9 x10 x11 x12 x13 x14 x15) c b a k := by
  refine took4_abs x0 x1 x2 x3 x5 x6 x7 x8 x9 x10 x11 x12 x13 x14 x15 h h2 _ _ _ _ k b a c
    (fun p => k0_pay17 (F := Ideal) x0 x1 (wp4 x6) (wx4 x6) (ix2 ⟨p.val + 128 * b.val, by omega⟩ c))
    (fun j => dist4_eq x0 x1 x2 x3 x5 x6 x7 x8 x9 x10 x11 x12 x13 x14 x15 h2 b a j) (fun p => ?_) (fun p => ?_) (fun p => ?_) ?_
  · pointwise [k0_pay19, k0_pay18]
  · pointwise [k0_pay20, k0_pay18]
  · exact table4 x0 x1 x6 _ c
  · have hq : k0_pay21 (F := Ideal) x3 (wp4 x6) (ix2 ⟨a.val + 32 * b.val, by omega⟩ c) =
        (∑ i : Fin 3, x3 (ix2 ⟨a.val + 32 * b.val, by omega⟩ i) * x6 (ix2 ⟨i.val, by omega⟩ c) : EReal) := by
      pointwise [k0_pay21, k0_pay14, wp4]
    exact hq

theorem x4_eq (b : Fin 16) (a : Fin 32) (c : Fin 256) :
    max (kn (x7 (ix2 0 c)) (x8 (ix2 0 c)) ((fin4 (F := Ideal) x0 x1 x2 x3 x6).1.1 (ix2 0 c)) ((fin4 (F := Ideal) x0 x1 x2 x3 x6).1.2 (ix2 0 c))
      (Ideal.ofBits .f32 0x46000000#32) ((fin4 (F := Ideal) x0 x1 x2 x3 x6).2.1 (ix2 ⟨a.val + 32 * b.val, by omega⟩ c))
      ((fin4 (F := Ideal) x0 x1 x2 x3 x6).2.2.1 (ix2 ⟨a.val + 32 * b.val, by omega⟩ c))) 0 = X4 (inK x0 x1 x3 x5 x6 x7 x8 x9 x10 x11 x12 x13 x14 x15) b a c := by
  have F := fin4_after x0 x1 x2 x3 x5 x6 x7 x8 x9 x10 x11 x12 x13 x14 x15 h h2
  rw [F.sum, F.sq, F.top, F.low, bits_8192, sum_rows (m := 32) rfl, sum_rows (m := 32) rfl]
  simp only [took4_eq x0 x1 x2 x3 x5 x6 x7 x8 x9 x10 x11 x12 x13 x14 x15 h h2]
  exact (X4_both h b a c).1

theorem mid_row (b : Fin 16) (a : Fin 32) (c : Fin 512) :
    mid (F := Ideal) x3 x7 x8 x9 (fin4 (F := Ideal) x0 x1 x2 x3 x6) (ix2 ⟨a.val + 32 * b.val, by omega⟩ c) =
    (∑ i : Fin 3, (inK x0 x1 x3 x5 x6 x7 x8 x9 x10 x11 x12 x13 x14 x15).p4 b a i * (inK x0 x1 x3 x5 x6 x7 x8 x9 x10 x11 x12 x13 x14 x15).w5 ⟨i.val, by omega⟩ c + ∑ f : Fin 256, X4 (inK x0 x1 x3 x5 x6 x7 x8 x9 x10 x11 x12 x13 x14 x15) b a f * (inK x0 x1 x3 x5 x6 x7 x8 x9 x10 x11 x12 x13 x14 x15).w5 ⟨3 + f.val, by omega⟩ c : EReal) := by
  rw [mid_eq]
  simp only [x4_eq x0 x1 x2 x3 x5 x6 x7 x8 x9 x10 x11 x12 x13 x14 x15 h h2]
  rfl

include h4

theorem rounds5 (q : FVec Ideal S128x512 .f32) (z : FVec Ideal S512x1024 .f32) :
    After5 q z (ent5v (F := Ideal) x4 x5).2.2.2 16 ((round5 (F := Ideal) q io5 z)^[16] (ent5v (F := Ideal) x4 x5)) :=
  after_iterate5 q z (ent5v (F := Ideal) x4 x5).2.2.2 (fun A j => by
      obtain ⟨b, a, rfl⟩ := split5 A
      rw [dist5_eq x0 x1 x3 x4 x5 x6 x7 x8 x9 x10 x11 x12 x13 x14 x15 h4]
      exact (dist_real (fun _ _ => h.p4 _ _ _) (fun _ => h.p5 _ _ _) j).ne_top) (ent5v (F := Ideal) x4 x5)
    (after_entry5 q z x4 x5) 16 (by norm_num)

theorem fin5_after (z : FVec Ideal S512x512 .f32) : After5 (k0_pay38 (F := Ideal) (k0_pay31 x5) (wp5 x9)) (halves5 (F := Ideal) (k0_pay36 (F := Ideal) z) (k0_pay37 (F := Ideal) z))
    (ent5v (F := Ideal) x4 x5).2.2.2 16 (fin5 (F := Ideal) x4 x5 x9 z) := by
  unfold fin5
  exact rounds5 x0 x1 x2 x3 x4 x5 x6 x7 x8 x9 x10 x11 x12 x13 x14 x15 h h2 h4 _ _

theorem took5_abs (q : FVec Ideal S128x512 .f32) (Z0 Z1 : FVec Ideal S512x512 .f32) (D : FVec Ideal S128x32 .f32) (k : Fin 16) (b : Fin 16)
    (a : Fin 8) (c : Fin 512) (Zv : Fin 32 → EReal)
    (hD : ∀ j, D (ix2 ⟨a.val + 8 * b.val, by omega⟩ j) = dist ((inK x0 x1 x3 x5 x6 x7 x8 x9 x10 x11 x12 x13 x14 x15).p4 b) ((inK x0 x1 x3 x5 x6 x7 x8 x9 x10 x11 x12 x13 x14 x15).p5 b a) j)
    (h0 : ∀ p : Fin 32, Z0 (ix2 ⟨p.val + 32 * b.val, by omega⟩ c) = Zv p)
    (h1 : ∀ p : Fin 32, Z1 (ix2 ⟨p.val + 32 * b.val, by omega⟩ c) = Zv p - Zv p)
    (hZ : ∀ p, Zv p = (∑ i : Fin 3, (inK x0 x1 x3 x5 x6 x7 x8 x9 x10 x11 x12 x13 x14 x15).p4 b p i * (inK x0 x1 x3 x5 x6 x7 x8 x9 x10 x11 x12 x13 x14 x15).w5 ⟨i.val, by omega⟩ c +
      ∑ f : Fin 256, X4 (inK x0 x1 x3 x5 x6 x7 x8 x9 x10 x11 x12 x13 x14 x15) b p f * (inK x0 x1 x3 x5 x6 x7 x8 x9 x10 x11 x12 x13 x14 x15).w5 ⟨3 + f.val, by omega⟩ c : EReal))
    (hq : q (ix2 ⟨a.val + 8 * b.val, by omega⟩ c) = (∑ i : Fin 3, (inK x0 x1 x3 x5 x6 x7 x8 x9 x10 x11 x12 x13 x14 x15).p5 b a i * (inK x0 x1 x3 x5 x6 x7 x8 x9 x10 x11 x12 x13 x14 x15).w5 ⟨i.val, by omega⟩ c : EReal)) :
    took5 q (halves5 (F := Ideal) Z0 Z1) D k.val ⟨a.val + 8 * b.val, by omega⟩ c = H5 (inK x0 x1 x3 x5 x6 x7 x8 x9 x10 x11 x12 x13 x14 x15) c b a k := by
  rw [took5_of q Z0 Z1 D k.val b a c _ hD, h0, h1, hZ, hq]
  exact regroup (fun _ => h.p4 _ _ _) (fun _ => h.p5 _ _ _) (fun _ => h.w5 _ _) (fun _ => X4_real h _ _ _) (fun _ => h.w5 _ _)

theorem took5_z (z : FVec Ideal S512x512 .f32) (k : Fin 16) (b : Fin 16) (a : Fin 8) (c : Fin 512)
    (hz : ∀ p : Fin 32, z (ix2 ⟨p.val + 32 * b.val, by omega⟩ c) = (∑ i : Fin 3, (inK x0 x1 x3 x5 x6 x7 x8 x9 x10 x11 x12 x13 x14 x15).p4 b p i * (inK x0 x1 x3 x5 x6 x7 x8 x9 x10 x11 x12 x13 x14 x15).w5 ⟨i.val, by omega⟩ c +
      ∑ f : Fin 256, X4 (inK x0 x1 x3 x5 x6 x7 x8 x9 x10 x11 x12 x13 x14 x15) b p f * (inK x0 x1 x3 x5 x6 x7 x8 x9 x10 x11 x12 x13 x14 x15).w5 ⟨3 + f.val, by omega⟩ c : EReal)) :
    took5 (k0_pay38 (F := Ideal) (k0_pay31 x5) (wp5 x9)) (halves5 (F := Ideal) (k0_pay36 (F := Ideal) z) (k0_pay37 (F := Ideal) z))
      (ent5v (F := Ideal) x4 x5).2.2.2 k.val ⟨a.val + 8 * b.val, by omega⟩ c = H5 (inK x0 x1 x3 x5 x6 x7 x8 x9 x10 x11 x12 x13 x14 x15) c b a k := by
  refine took5_abs x0 x1 x2 x3 x4 x5 x6 x7 x8 x9 x10 x11 x12 x13 x14 x15 h h2 h4 _ _ _ _ k b a c
    (fun p => z (ix2 ⟨p.val + 32 * b.val, by omega⟩ c))
    (fun j => dist5_eq x0 x1 x3 x4 x5 x6 x7 x8 x9 x10 x11 x12 x13 x14 x15 h4 b a j) (fun p => ?_) (fun p => ?_) hz ?_
  · pointwise [k0_pay36, k0_pay35]
  · pointwise [k0_pay37, k0_pay35]
  · have hq : k0_pay38 (F := Ideal) (k0_pay31 x5) (wp5 x9) (ix2 ⟨a.val + 8 * b.val, by omega⟩ c) =
        (∑ i : Fin 3, x5 (ix2 ⟨a.val + 8 * b.val, by omega⟩ i) * x9 (ix2 ⟨i.val, by omega⟩ c) : EReal) := by
      pointwise [k0_pay38, k0_pay31, wp5]
    exact hq

theorem took5_eq (k : Fin 16) (b : Fin 16) (a : Fin 8) (c : Fin 512) :
    took5 (k0_pay38 (F := Ideal) (k0_pay31 x5) (wp5 x9)) (halves5 (F := Ideal) (k0_pay36 (F := Ideal) (mid (F := Ideal) x3 x7 x8 x9 (fin4 (F := Ideal) x0 x1 x2 x3 x6)))
        (k0_pay37 (F := Ideal) (mid (F := Ideal) x3 x7 x8 x9 (fin4 (F := Ideal) x0 x1 x2 x3 x6))))
      (ent5v (F := Ideal) x4 x5).2.2.2 k.val ⟨a.val + 8 * b.val, by omega⟩ c = H5 (inK x0 x1 x3 x5 x6 x7 x8 x9 x10 x11 x12 x13 x14 x15) c b a k :=
  took5_z x0 x1 x2 x3 x4 x5 x6 x7 x8 x9 x10 x11 x12 x13 x14 x15 h h2 h4 _ k b a c
    fun p => mid_row x0 x1 x2 x3 x5 x6 x7 x8 x9 x10 x11 x12 x13 x14 x15 h h2 b p c

theorem x5_eq (b : Fin 16) (a : Fin 8) (c : Fin 512) (s : St5 Ideal)
    (hs : s = fin5 (F := Ideal) x4 x5 x9 (mid (F := Ideal) x3 x7 x8 x9 (fin4 (F := Ideal) x0 x1 x2 x3 x6))) :
    max (kn (x10 (ix2 0 c)) (x11 (ix2 0 c)) (s.1.1 (ix2 0 c)) (s.1.2 (ix2 0 c))
      (Ideal.ofBits .f32 0x45000000#32) (s.2.1 (ix2 ⟨a.val + 8 * b.val, by omega⟩ c))
      (s.2.2.1 (ix2 ⟨a.val + 8 * b.val, by omega⟩ c))) 0 = X5 (inK x0 x1 x3 x5 x6 x7 x8 x9 x10 x11 x12 x13 x14 x15) b a c := by
  have F := fin5_after x0 x1 x2 x3 x4 x5 x6 x7 x8 x9 x10 x11 x12 x13 x14 x15 h h2 h4
    (mid (F := Ideal) x3 x7 x8 x9 (fin4 (F := Ideal) x0 x1 x2 x3 x6))
  rw [← hs] at F
  rw [F.sum, F.sq, F.top, F.low, bits_2048, sum_rows (m := 8) rfl, sum_rows (m := 8) rfl]
  simp only [took5_eq x0 x1 x2 x3 x4 x5 x6 x7 x8 x9 x10 x11 x12 x13 x14 x15 h h2 h4]
  exact (X5_both h b a c).1

theorem outv_eq (b : Fin 16) (o : Fin 6) :
    outv (F := Ideal) x0 x1 x2 x3 x4 x5 x6 x7 x8 x9 x10 x11 x12 x13 x14 x15 (ix2 b o) = out (inK x0 x1 x3 x5 x6 x7 x8 x9 x10 x11 x12 x13 x14 x15) b o := by
  unfold outv
  have hx := fun a c => x5_eq x0 x1 x2 x3 x4 x5 x6 x7 x8 x9 x10 x11 x12 x13 x14 x15 h h2 h4 b a c _ rfl
  generalize fin5 (F := Ideal) x4 x5 x9 (mid (F := Ideal) x3 x7 x8 x9 (fin4 (F := Ideal) x0 x1 x2 x3 x6)) = s at hx
  refine head_eq x12 x13 x14 x15 _ b o (TailSpec.pool (inK x0 x1 x3 x5 x6 x7 x8 x9 x10 x11 x12 x13 x14 x15) b) fun c => ?_
  unfold TailSpec.pool
  refine congrArg (fun e => Ideal.div e _) (Finset.sum_congr rfl fun a _ => ?_)
  rw [norm5_eq]
  have e : (⟨b.val * 8 + a.val, by omega⟩ : Fin 128) = ⟨a.val + 8 * b.val, by omega⟩ :=
    Fin.ext (by show b.val * 8 + a.val = a.val + 8 * b.val; omega)
  rw [e]
  exact (hx a c).symm

end

end Cert.TailBlock

end
-- ==== Proof.TailRefVal.lean ====
/-
  The tail's reference over the reals, read at an index.
-/
module

public import proofs.«01_k».proof.Proof.Gen.TailReferenceIdeal.Read
public import proofs.«01_k».proof.Proof.TailSpec
public import proofs.«01_k».proof.Proof.TopK
public import Idealize.ShloMosaic.Lib.Pointwise

@[expose] public section

set_option maxRecDepth 16384

noncomputable section

namespace Cert.TailRefVal

open Idealize.ShloMosaic Idealize.ShloMosaic.TcCoe Idealize.ShloMosaic.Tactic
open Cert.TailReferenceIdeal Cert.TailReferenceIdeal.Gen Cert.TailReferenceIdeal.Read
open Cert.Select Cert.Arith Cert.Consts Cert.TailSpec Cert.Norm

theorem small_toInt {N : ℕ} (hN : N ≤ 2048) (p : Fin N) : (BitVec.ofNat 32 p.val).toInt = p.val := by
  have := p.isLt
  rw [BitVec.toInt_eq_toNat_of_lt] <;> rw [BitVec.toNat_ofNat] <;> omega

theorem wrap {N : ℕ} (hN : N ≤ 2048) (p : Fin N) (u : BitVec 32) :
    Scalar.select (IntOp.cmpi .slt (BitVec.ofNat 32 p.val) 0#32) (IntOp.addi (BitVec.ofNat 32 p.val) u) (BitVec.ofNat 32 p.val) =
      BitVec.ofNat 32 p.val := by
  have : ¬ (BitVec.ofNat 32 p.val).toInt < 0 := by rw [small_toInt hN]; omega
  unfold IntOp.cmpi Scalar.select
  simp [BitVec.slt, this]

/-- Stage 4's gather of the points reads the point at its start index. -/
theorem gather_pts4 {α : Type} (x : S16x128x3.Idx → α) (idx : IVec S16x32x16x1 32) (b : Fin 16) (a : Fin 32) (k : Fin 16) (i : Fin 3) (p : Fin 128)
    (h : idx (ix4 b a k 0) = BitVec.ofNat 32 p.val) : Host.gather gather_S16x128x3_S16x32x16x1_S16x32x16x3_3_1_0_0_1_3_113 x idx (ix4 b a k i) = x (ix3 b p i) := by
  have hs : gather_S16x128x3_S16x32x16x1_S16x32x16x3_3_1_0_0_1_3_113.siIdx (ix4 b a k i) (0 : Fin 1) = ix4 b a k 0 := by
    funext e
    match e with
    | ⟨0, _⟩ => rfl
    | ⟨1, _⟩ => rfl
    | ⟨2, _⟩ => rfl
    | ⟨3, _⟩ => rfl
  have ht : (BitVec.ofNat 32 p.val).toInt.toNat = p.val := by rw [small_toInt (by norm_num)]; rfl
  unfold Host.gather
  congr 1
  funext e
  apply Fin.ext
  match e with
  | ⟨0, _⟩ =>
    have h1 : gather_S16x128x3_S16x32x16x1_S16x32x16x3_3_1_0_0_1_3_113.start (ix4 b a k i) idx (0 : Fin 3) = 0 := rfl
    have h2 : gather_S16x128x3_S16x32x16x1_S16x32x16x3_3_1_0_0_1_3_113.batchCoord (ix4 b a k i) (0 : Fin 3) = b.val := rfl
    have h3 : gather_S16x128x3_S16x32x16x1_S16x32x16x3_3_1_0_0_1_3_113.offCoord (ix4 b a k i) (0 : Fin 3) = 0 := rfl
    show gather_S16x128x3_S16x32x16x1_S16x32x16x3_3_1_0_0_1_3_113.start (ix4 b a k i) idx (0 : Fin 3) + gather_S16x128x3_S16x32x16x1_S16x32x16x3_3_1_0_0_1_3_113.batchCoord (ix4 b a k i) (0 : Fin 3) + gather_S16x128x3_S16x32x16x1_S16x32x16x3_3_1_0_0_1_3_113.offCoord (ix4 b a k i) (0 : Fin 3) = b.val
    rw [h1, h2, h3]; omega
  | ⟨1, _⟩ =>
    have h1 : gather_S16x128x3_S16x32x16x1_S16x32x16x3_3_1_0_0_1_3_113.start (ix4 b a k i) idx (1 : Fin 3) = min (idx (gather_S16x128x3_S16x32x16x1_S16x32x16x3_3_1_0_0_1_3_113.siIdx (ix4 b a k i) (0 : Fin 1))).toInt.toNat 127 := rfl
    have h2 : gather_S16x128x3_S16x32x16x1_S16x32x16x3_3_1_0_0_1_3_113.batchCoord (ix4 b a k i) (1 : Fin 3) = 0 := rfl
    have h3 : gather_S16x128x3_S16x32x16x1_S16x32x16x3_3_1_0_0_1_3_113.offCoord (ix4 b a k i) (1 : Fin 3) = 0 := rfl
    show gather_S16x128x3_S16x32x16x1_S16x32x16x3_3_1_0_0_1_3_113.start (ix4 b a k i) idx (1 : Fin 3) + gather_S16x128x3_S16x32x16x1_S16x32x16x3_3_1_0_0_1_3_113.batchCoord (ix4 b a k i) (1 : Fin 3) + gather_S16x128x3_S16x32x16x1_S16x32x16x3_3_1_0_0_1_3_113.offCoord (ix4 b a k i) (1 : Fin 3) = p.val
    rw [h1, h2, h3, hs, h, ht]; omega
  | ⟨2, _⟩ =>
    have h1 : gather_S16x128x3_S16x32x16x1_S16x32x16x3_3_1_0_0_1_3_113.start (ix4 b a k i) idx (2 : Fin 3) = 0 := rfl
    have h2 : gather_S16x128x3_S16x32x16x1_S16x32x16x3_3_1_0_0_1_3_113.batchCoord (ix4 b a k i) (2 : Fin 3) = 0 := rfl
    have h3 : gather_S16x128x3_S16x32x16x1_S16x32x16x3_3_1_0_0_1_3_113.offCoord (ix4 b a k i) (2 : Fin 3) = i.val := rfl
    show gather_S16x128x3_S16x32x16x1_S16x32x16x3_3_1_0_0_1_3_113.start (ix4 b a k i) idx (2 : Fin 3) + gather_S16x128x3_S16x32x16x1_S16x32x16x3_3_1_0_0_1_3_113.batchCoord (ix4 b a k i) (2 : Fin 3) + gather_S16x128x3_S16x32x16x1_S16x32x16x3_3_1_0_0_1_3_113.offCoord (ix4 b a k i) (2 : Fin 3) = i.val
    rw [h1, h2, h3]; omega

/-- Stage 4's gather of the features. -/
theorem gather_feat4 {α : Type} (x : S16x128x128.Idx → α) (idx : IVec S16x32x16x1 32) (b : Fin 16) (a : Fin 32) (k : Fin 16) (i : Fin 128) (p : Fin 128)
    (h : idx (ix4 b a k 0) = BitVec.ofNat 32 p.val) : Host.gather gather_S16x128x128_S16x32x16x1_S16x32x16x128_3_1_0_0_1_3_11128 x idx (ix4 b a k i) = x (ix3 b p i) := by
  have hs : gather_S16x128x128_S16x32x16x1_S16x32x16x128_3_1_0_0_1_3_11128.siIdx (ix4 b a k i) (0 : Fin 1) = ix4 b a k 0 := by
    funext e
    match e with
    | ⟨0, _⟩ => rfl
    | ⟨1, _⟩ => rfl
    | ⟨2, _⟩ => rfl
    | ⟨3, _⟩ => rfl
  have ht : (BitVec.ofNat 32 p.val).toInt.toNat = p.val := by rw [small_toInt (by norm_num)]; rfl
  unfold Host.gather
  congr 1
  funext e
  apply Fin.ext
  match e with
  | ⟨0, _⟩ =>
    have h1 : gather_S16x128x128_S16x32x16x1_S16x32x16x128_3_1_0_0_1_3_11128.start (ix4 b a k i) idx (0 : Fin 3) = 0 := rfl
    have h2 : gather_S16x128x128_S16x32x16x1_S16x32x16x128_3_1_0_0_1_3_11128.batchCoord (ix4 b a k i) (0 : Fin 3) = b.val := rfl
    have h3 : gather_S16x128x128_S16x32x16x1_S16x32x16x128_3_1_0_0_1_3_11128.offCoord (ix4 b a k i) (0 : Fin 3) = 0 := rfl
    show gather_S16x128x128_S16x32x16x1_S16x32x16x128_3_1_0_0_1_3_11128.start (ix4 b a k i) idx (0 : Fin 3) + gather_S16x128x128_S16x32x16x1_S16x32x16x128_3_1_0_0_1_3_11128.batchCoord (ix4 b a k i) (0 : Fin 3) + gather_S16x128x128_S16x32x16x1_S16x32x16x128_3_1_0_0_1_3_11128.offCoord (ix4 b a k i) (0 : Fin 3) = b.val
    rw [h1, h2, h3]; omega
  | ⟨1, _⟩ =>
    have h1 : gather_S16x128x128_S16x32x16x1_S16x32x16x128_3_1_0_0_1_3_11128.start (ix4 b a k i) idx (1 : Fin 3) = min (idx (gather_S16x128x128_S16x32x16x1_S16x32x16x128_3_1_0_0_1_3_11128.siIdx (ix4 b a k i) (0 : Fin 1))).toInt.toNat 127 := rfl
    have h2 : gather_S16x128x128_S16x32x16x1_S16x32x16x128_3_1_0_0_1_3_11128.batchCoord (ix4 b a k i) (1 : Fin 3) = 0 := rfl
    have h3 : gather_S16x128x128_S16x32x16x1_S16x32x16x128_3_1_0_0_1_3_11128.offCoord (ix4 b a k i) (1 : Fin 3) = 0 := rfl
    show gather_S16x128x128_S16x32x16x1_S16x32x16x128_3_1_0_0_1_3_11128.start (ix4 b a k i) idx (1 : Fin 3) + gather_S16x128x128_S16x32x16x1_S16x32x16x128_3_1_0_0_1_3_11128.batchCoord (ix4 b a k i) (1 : Fin 3) + gather_S16x128x128_S16x32x16x1_S16x32x16x128_3_1_0_0_1_3_11128.offCoord (ix4 b a k i) (1 : Fin 3) = p.val
    rw [h1, h2, h3, hs, h, ht]; omega
  | ⟨2, _⟩ =>
    have h1 : gather_S16x128x128_S16x32x16x1_S16x32x16x128_3_1_0_0_1_3_11128.start (ix4 b a k i) idx (2 : Fin 3) = 0 := rfl
    have h2 : gather_S16x128x128_S16x32x16x1_S16x32x16x128_3_1_0_0_1_3_11128.batchCoord (ix4 b a k i) (2 : Fin 3) = 0 := rfl
    have h3 : gather_S16x128x128_S16x32x16x1_S16x32x16x128_3_1_0_0_1_3_11128.offCoord (ix4 b a k i) (2 : Fin 3) = i.val := rfl
    show gather_S16x128x128_S16x32x16x1_S16x32x16x128_3_1_0_0_1_3_11128.start (ix4 b a k i) idx (2 : Fin 3) + gather_S16x128x128_S16x32x16x1_S16x32x16x128_3_1_0_0_1_3_11128.batchCoord (ix4 b a k i) (2 : Fin 3) + gather_S16x128x128_S16x32x16x1_S16x32x16x128_3_1_0_0_1_3_11128.offCoord (ix4 b a k i) (2 : Fin 3) = i.val
    rw [h1, h2, h3]; omega

/-- Stage 5's gather of the points. -/
theorem gather_pts5 {α : Type} (x : S16x32x3.Idx → α) (idx : IVec S16x8x16x1 32) (b : Fin 16) (a : Fin 8) (k : Fin 16) (i : Fin 3) (p : Fin 32)
    (h : idx (ix4 b a k 0) = BitVec.ofNat 32 p.val) : Host.gather gather_S16x32x3_S16x8x16x1_S16x8x16x3_3_1_0_0_1_3_113 x idx (ix4 b a k i) = x (ix3 b p i) := by
  have hs : gather_S16x32x3_S16x8x16x1_S16x8x16x3_3_1_0_0_1_3_113.siIdx (ix4 b a k i) (0 : Fin 1) = ix4 b a k 0 := by
    funext e
    match e with
    | ⟨0, _⟩ => rfl
    | ⟨1, _⟩ => rfl
    | ⟨2, _⟩ => rfl
    | ⟨3, _⟩ => rfl
  have ht : (BitVec.ofNat 32 p.val).toInt.toNat = p.val := by rw [small_toInt (by norm_num)]; rfl
  unfold Host.gather
  congr 1
  funext e
  apply Fin.ext
  match e with
  | ⟨0, _⟩ =>
    have h1 : gather_S16x32x3_S16x8x16x1_S16x8x16x3_3_1_0_0_1_3_113.start (ix4 b a k i) idx (0 : Fin 3) = 0 := rfl
    have h2 : gather_S16x32x3_S16x8x16x1_S16x8x16x3_3_1_0_0_1_3_113.batchCoord (ix4 b a k i) (0 : Fin 3) = b.val := rfl
    have h3 : gather_S16x32x3_S16x8x16x1_S16x8x16x3_3_1_0_0_1_3_113.offCoord (ix4 b a k i) (0 : Fin 3) = 0 := rfl
    show gather_S16x32x3_S16x8x16x1_S16x8x16x3_3_1_0_0_1_3_113.start (ix4 b a k i) idx (0 : Fin 3) + gather_S16x32x3_S16x8x16x1_S16x8x16x3_3_1_0_0_1_3_113.batchCoord (ix4 b a k i) (0 : Fin 3) + gather_S16x32x3_S16x8x16x1_S16x8x16x3_3_1_0_0_1_3_113.offCoord (ix4 b a k i) (0 : Fin 3) = b.val
    rw [h1, h2, h3]; omega
  | ⟨1, _⟩ =>
    have h1 : gather_S16x32x3_S16x8x16x1_S16x8x16x3_3_1_0_0_1_3_113.start (ix4 b a k i) idx (1 : Fin 3) = min (idx (gather_S16x32x3_S16x8x16x1_S16x8x16x3_3_1_0_0_1_3_113.siIdx (ix4 b a k i) (0 : Fin 1))).toInt.toNat 31 := rfl
    have h2 : gather_S16x32x3_S16x8x16x1_S16x8x16x3_3_1_0_0_1_3_113.batchCoord (ix4 b a k i) (1 : Fin 3) = 0 := rfl
    have h3 : gather_S16x32x3_S16x8x16x1_S16x8x16x3_3_1_0_0_1_3_113.offCoord (ix4 b a k i) (1 : Fin 3) = 0 := rfl
    show gather_S16x32x3_S16x8x16x1_S16x8x16x3_3_1_0_0_1_3_113.start (ix4 b a k i) idx (1 : Fin 3) + gather_S16x32x3_S16x8x16x1_S16x8x16x3_3_1_0_0_1_3_113.batchCoord (ix4 b a k i) (1 : Fin 3) + gather_S16x32x3_S16x8x16x1_S16x8x16x3_3_1_0_0_1_3_113.offCoord (ix4 b a k i) (1 : Fin 3) = p.val
    rw [h1, h2, h3, hs, h, ht]; omega
  | ⟨2, _⟩ =>
    have h1 : gather_S16x32x3_S16x8x16x1_S16x8x16x3_3_1_0_0_1_3_113.start (ix4 b a k i) idx (2 : Fin 3) = 0 := rfl
    have h2 : gather_S16x32x3_S16x8x16x1_S16x8x16x3_3_1_0_0_1_3_113.batchCoord (ix4 b a k i) (2 : Fin 3) = 0 := rfl
    have h3 : gather_S16x32x3_S16x8x16x1_S16x8x16x3_3_1_0_0_1_3_113.offCoord (ix4 b a k i) (2 : Fin 3) = i.val := rfl
    show gather_S16x32x3_S16x8x16x1_S16x8x16x3_3_1_0_0_1_3_113.start (ix4 b a k i) idx (2 : Fin 3) + gather_S16x32x3_S16x8x16x1_S16x8x16x3_3_1_0_0_1_3_113.batchCoord (ix4 b a k i) (2 : Fin 3) + gather_S16x32x3_S16x8x16x1_S16x8x16x3_3_1_0_0_1_3_113.offCoord (ix4 b a k i) (2 : Fin 3) = i.val
    rw [h1, h2, h3]; omega

/-- Stage 5's gather of the features. -/
theorem gather_feat5 {α : Type} (x : S16x32x256.Idx → α) (idx : IVec S16x8x16x1 32) (b : Fin 16) (a : Fin 8) (k : Fin 16) (i : Fin 256) (p : Fin 32)
    (h : idx (ix4 b a k 0) = BitVec.ofNat 32 p.val) : Host.gather gather_S16x32x256_S16x8x16x1_S16x8x16x256_3_1_0_0_1_3_11256 x idx (ix4 b a k i) = x (ix3 b p i) := by
  have hs : gather_S16x32x256_S16x8x16x1_S16x8x16x256_3_1_0_0_1_3_11256.siIdx (ix4 b a k i) (0 : Fin 1) = ix4 b a k 0 := by
    funext e
    match e with
    | ⟨0, _⟩ => rfl
    | ⟨1, _⟩ => rfl
    | ⟨2, _⟩ => rfl
    | ⟨3, _⟩ => rfl
  have ht : (BitVec.ofNat 32 p.val).toInt.toNat = p.val := by rw [small_toInt (by norm_num)]; rfl
  unfold Host.gather
  congr 1
  funext e
  apply Fin.ext
  match e with
  | ⟨0, _⟩ =>
    have h1 : gather_S16x32x256_S16x8x16x1_S16x8x16x256_3_1_0_0_1_3_11256.start (ix4 b a k i) idx (0 : Fin 3) = 0 := rfl
    have h2 : gather_S16x32x256_S16x8x16x1_S16x8x16x256_3_1_0_0_1_3_11256.batchCoord (ix4 b a k i) (0 : Fin 3) = b.val := rfl
    have h3 : gather_S16x32x256_S16x8x16x1_S16x8x16x256_3_1_0_0_1_3_11256.offCoord (ix4 b a k i) (0 : Fin 3) = 0 := rfl
    show gather_S16x32x256_S16x8x16x1_S16x8x16x256_3_1_0_0_1_3_11256.start (ix4 b a k i) idx (0 : Fin 3) + gather_S16x32x256_S16x8x16x1_S16x8x16x256_3_1_0_0_1_3_11256.batchCoord (ix4 b a k i) (0 : Fin 3) + gather_S16x32x256_S16x8x16x1_S16x8x16x256_3_1_0_0_1_3_11256.offCoord (ix4 b a k i) (0 : Fin 3) = b.val
    rw [h1, h2, h3]; omega
  | ⟨1, _⟩ =>
    have h1 : gather_S16x32x256_S16x8x16x1_S16x8x16x256_3_1_0_0_1_3_11256.start (ix4 b a k i) idx (1 : Fin 3) = min (idx (gather_S16x32x256_S16x8x16x1_S16x8x16x256_3_1_0_0_1_3_11256.siIdx (ix4 b a k i) (0 : Fin 1))).toInt.toNat 31 := rfl
    have h2 : gather_S16x32x256_S16x8x16x1_S16x8x16x256_3_1_0_0_1_3_11256.batchCoord (ix4 b a k i) (1 : Fin 3) = 0 := rfl
    have h3 : gather_S16x32x256_S16x8x16x1_S16x8x16x256_3_1_0_0_1_3_11256.offCoord (ix4 b a k i) (1 : Fin 3) = 0 := rfl
    show gather_S16x32x256_S16x8x16x1_S16x8x16x256_3_1_0_0_1_3_11256.start (ix4 b a k i) idx (1 : Fin 3) + gather_S16x32x256_S16x8x16x1_S16x8x16x256_3_1_0_0_1_3_11256.batchCoord (ix4 b a k i) (1 : Fin 3) + gather_S16x32x256_S16x8x16x1_S16x8x16x256_3_1_0_0_1_3_11256.offCoord (ix4 b a k i) (1 : Fin 3) = p.val
    rw [h1, h2, h3, hs, h, ht]; omega
  | ⟨2, _⟩ =>
    have h1 : gather_S16x32x256_S16x8x16x1_S16x8x16x256_3_1_0_0_1_3_11256.start (ix4 b a k i) idx (2 : Fin 3) = 0 := rfl
    have h2 : gather_S16x32x256_S16x8x16x1_S16x8x16x256_3_1_0_0_1_3_11256.batchCoord (ix4 b a k i) (2 : Fin 3) = 0 := rfl
    have h3 : gather_S16x32x256_S16x8x16x1_S16x8x16x256_3_1_0_0_1_3_11256.offCoord (ix4 b a k i) (2 : Fin 3) = i.val := rfl
    show gather_S16x32x256_S16x8x16x1_S16x8x16x256_3_1_0_0_1_3_11256.start (ix4 b a k i) idx (2 : Fin 3) + gather_S16x32x256_S16x8x16x1_S16x8x16x256_3_1_0_0_1_3_11256.batchCoord (ix4 b a k i) (2 : Fin 3) + gather_S16x32x256_S16x8x16x1_S16x8x16x256_3_1_0_0_1_3_11256.offCoord (ix4 b a k i) (2 : Fin 3) = i.val
    rw [h1, h2, h3]; omega

variable (x0 : FVec Ideal S2048x128 .f32) (x1 : FVec Ideal S16x3x128 .f32) (x2 : FVec Ideal S16x3x32 .f32) (x3 : FVec Ideal S16x3x8 .f32)
  (x4 : FVec Ideal S131x256 .f32) (x5 x6 : FVec Ideal S256 .f32) (x7 : FVec Ideal S259x512 .f32) (x8 x9 : FVec Ideal S512 .f32)
  (x10 : FVec Ideal S512x512 .f32) (x11 : FVec Ideal S512 .f32) (x12 : FVec Ideal S512x6 .f32) (x13 : FVec Ideal S6 .f32)

/-- The operands the arguments hold. -/
def inR : In where
  feats b j f := x0 (ix2 ⟨j.val + 128 * b.val, by omega⟩ f)
  p3 b j i := x1 (ix3 b i j)
  p4 b j i := x2 (ix3 b i j)
  p5 b j i := x3 (ix3 b i j)
  w4 j c := x4 (ix2 j c)
  g4 c := x5 (ix1 c)
  b4 c := x6 (ix1 c)
  w5 j c := x7 (ix2 j c)
  g5 c := x8 (ix1 c)
  b5 c := x9 (ix1 c)
  wo1 j c := x10 (ix2 j c)
  bo1 c := x11 (ix1 c)
  wo2 j c := x12 (ix2 j c)
  bo2 c := x13 (ix1 c)

theorem int_zero : FloatOps.sitofp (F := Ideal) .f32 (0#32) = (0 : EReal) := by
  show (((0#32 : BitVec 32).toInt : ℝ) : EReal) = 0
  simp

theorem table4 (b : Fin 16) (p : Fin 128) (f : Fin 128) : val_main_v3 (F := Ideal) x0 (ix3 b p f) = (inR x0 x1 x2 x3 x4 x5 x6 x7 x8 x9 x10 x11 x12 x13).feats b p f := by
  have e : (⟨b.val * 128 + p.val, by omega⟩ : Fin 2048) = ⟨p.val + 128 * b.val, by omega⟩ :=
    Fin.ext (by show b.val * 128 + p.val = p.val + 128 * b.val; omega)
  pointwise [val_main_v3]
  exact congrArg (fun r => x0 (ix2 r f)) e

/-! ## Stage 4 -/

section

variable (b : Fin 16) (a : Fin 32) (k : Fin 16) (c : Fin 256) (p : Fin 128) (i : Fin 3)

theorem key4 : val_main_v11 (F := Ideal) x1 x2 (ix3 b a p) = (-Select.dist ((inR x0 x1 x2 x3 x4 x5 x6 x7 x8 x9 x10 x11 x12 x13).p3 b) ((inR x0 x1 x2 x3 x4 x5 x6 x7 x8 x9 x10 x11 x12 x13).p4 b a) p : EReal) := by
  pointwise [val_main_v11, val_main_v10, val_main_v9, val_main_v8, val_main_v7, val_main_v6, val_main_v5, val_main_v4, val_main_v1, val_main_v0, val_main_cst]
  rfl

/-- The chosen position. -/
def pos4 : Fin 128 := pick (Select.dist ((inR x0 x1 x2 x3 x4 x5 x6 x7 x8 x9 x10 x11 x12 x13).p3 b) ((inR x0 x1 x2 x3 x4 x5 x6 x7 x8 x9 x10 x11 x12 x13).p4 b a)) k.val

theorem index4 : val_main_indices (F := Ideal) x1 x2 (ix3 b a k) = BitVec.ofNat 32 (pos4 x0 x1 x2 x3 x4 x5 x6 x7 x8 x9 x10 x11 x12 x13 b a k).val := by
  have hk : k.val < 128 := by omega
  unfold val_main_indices pos4
  rw [pick_eq _ _ hk]
  exact topK_index _ _ b a k hk _ fun j => key4 x0 x1 x2 x3 x4 x5 x6 x7 x8 x9 x10 x11 x12 x13 b a j

theorem start4 : val_main_v17 (F := Ideal) x1 x2 (ix4 b a k 0) = BitVec.ofNat 32 (pos4 x0 x1 x2 x3 x4 x5 x6 x7 x8 x9 x10 x11 x12 x13 b a k).val := by
  pointwise [val_main_v17, val_main_v16, val_main_v15, val_main_v14, val_main_v13, val_main_v12, val_main_c, val_main_c_0]
  rw [index4 x0 x1 x2 x3 x4 x5 x6 x7 x8 x9 x10 x11 x12 x13, wrap (by norm_num)]

theorem starts4 : val_main_v24 (F := Ideal) x1 x2 (ix4 b a k 0) = BitVec.ofNat 32 (pos4 x0 x1 x2 x3 x4 x5 x6 x7 x8 x9 x10 x11 x12 x13 b a k).val := by
  pointwise [val_main_v24, val_main_v23, val_main_v22, val_main_v21, val_main_v20, val_main_v19, val_main_c_1, val_main_c_2]
  rw [index4 x0 x1 x2 x3 x4 x5 x6 x7 x8 x9 x10 x11 x12 x13, wrap (by norm_num)]

theorem pts4 : val_main_v18 (F := Ideal) x1 x2 (ix4 b a k i) = (inR x0 x1 x2 x3 x4 x5 x6 x7 x8 x9 x10 x11 x12 x13).p3 b (pos4 x0 x1 x2 x3 x4 x5 x6 x7 x8 x9 x10 x11 x12 x13 b a k) i := by
  unfold val_main_v18
  rw [gather_pts4 _ _ b a k i _ (start4 x0 x1 x2 x3 x4 x5 x6 x7 x8 x9 x10 x11 x12 x13 b a k)]
  pointwise [val_main_v0]
  rfl

theorem feat4 (f : Fin 128) : val_main_v25 (F := Ideal) x0 x1 x2 (ix4 b a k f) = (inR x0 x1 x2 x3 x4 x5 x6 x7 x8 x9 x10 x11 x12 x13).feats b (pos4 x0 x1 x2 x3 x4 x5 x6 x7 x8 x9 x10 x11 x12 x13 b a k) f := by
  unfold val_main_v25
  rw [gather_feat4 _ _ b a k f _ (starts4 x0 x1 x2 x3 x4 x5 x6 x7 x8 x9 x10 x11 x12 x13 b a k)]
  exact table4 x0 x1 x2 x3 x4 x5 x6 x7 x8 x9 x10 x11 x12 x13 b _ f

theorem grouped4 : val_main_v30 (F := Ideal) x0 x1 x2 x4 (ix4 b a k c) = H4 (inR x0 x1 x2 x3 x4 x5 x6 x7 x8 x9 x10 x11 x12 x13) c b a k := by
  have e1 := fun i => pts4 x0 x1 x2 x3 x4 x5 x6 x7 x8 x9 x10 x11 x12 x13 b a k i
  have e2 := fun f => feat4 x0 x1 x2 x3 x4 x5 x6 x7 x8 x9 x10 x11 x12 x13 b a k f
  pointwise [val_main_v30, val_main_v29, val_main_v28, val_main_v27, val_main_v26, val_main_v1, e1, e2]
  rfl

theorem total4 (v : FVec Ideal S16x32x16x256 .f32) : Ideal.hostReduceAdd reducesTo_S16x32x16x256_S256_d0_1_2 v 0 (ix1 c) =
    (∑ q : Fin 16 × Fin 32 × Fin 16, v (ix4 q.1 q.2.1 q.2.2 c) : EReal) := by
  have hdrop : ∀ (b : Fin 16) (a : Fin 32) (k : Fin 16) (d : Fin 256),
      reducesTo_S16x32x16x256_S256_d0_1_2.drop (ix4 b a k d) = ix1 d := by
    intro b a k d
    funext e
    match e with
    | ⟨0, _⟩ => rfl
  unfold Ideal.hostReduceAdd
  rw [zero_add]
  have hin : ∀ i : S16x32x16x256.Idx, reducesTo_S16x32x16x256_S256_d0_1_2.drop i = ix1 c →
      ix4 (i 0 : Fin 16) (i 1 : Fin 32) (i 2 : Fin 16) c = i := by
    intro i hi
    obtain ⟨b, a, k, d, rfl⟩ : ∃ (b : Fin 16) (a : Fin 32) (k : Fin 16) (d : Fin 256), i = ix4 b a k d :=
      ⟨i 0, i 1, i 2, i 3, eq_ix4 i⟩
    rw [hdrop] at hi
    have h1 : d = c := congrFun hi 0
    subst h1; rfl
  refine Finset.sum_nbij' (fun i => ((i 0 : Fin 16), (i 1 : Fin 32), (i 2 : Fin 16))) (fun q => ix4 q.1 q.2.1 q.2.2 c) (fun _ _ => Finset.mem_univ _)
    (fun q _ => Finset.mem_filter.mpr ⟨Finset.mem_univ _, hdrop _ _ _ _⟩) (fun i hi => hin i (Finset.mem_filter.mp hi).2)
    (fun q _ => rfl) (fun i hi => congrArg v (hin i (Finset.mem_filter.mp hi).2).symm)

theorem mean4 : val_main_v33 (F := Ideal) x0 x1 x2 x4 (ix1 c) = mean (H4 (inR x0 x1 x2 x3 x4 x5 x6 x7 x8 x9 x10 x11 x12 x13) c) ((8192 : ℝ) : EReal) := by
  have e := fun b a k => grouped4 x0 x1 x2 x3 x4 x5 x6 x7 x8 x9 x10 x11 x12 x13 b a k c
  pointwise [val_main_v33, val_main_v32, val_main_v31, val_main_cst_3, val_main_cst_4, total4, e, bits_8192]
  rfl

theorem var4 : val_main_v34 (F := Ideal) x0 x1 x2 x4 (ix1 c) = vr (H4 (inR x0 x1 x2 x3 x4 x5 x6 x7 x8 x9 x10 x11 x12 x13) c) ((8192 : ℝ) : EReal) := by
  have e := fun b a k => grouped4 x0 x1 x2 x3 x4 x5 x6 x7 x8 x9 x10 x11 x12 x13 b a k c
  pointwise [val_main_v34, val_main_call0_v12, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_call0_cst_0, val_main_call0_cst_1, val_main_call0_cst_2, val_main_call0_cst_3, val_main_call0_cst_4, val_main_call0_call0_v0, val_main_call0_call0_v1, val_main_c_5, total4, e]
  rw [int_zero, sub_zero, bits_8192, if_pos (by exact_mod_cast (by norm_num : (0 : ℝ) < 8192))]
  rfl

theorem norm4 : val_main_v51 (F := Ideal) x0 x1 x2 x4 x5 x6 (ix3 b a c) = X4 (inR x0 x1 x2 x3 x4 x5 x6 x7 x8 x9 x10 x11 x12 x13) b a c := by
  have e := fun k => grouped4 x0 x1 x2 x3 x4 x5 x6 x7 x8 x9 x10 x11 x12 x13 b a k c
  have e1 := mean4 x0 x1 x2 x3 x4 x5 x6 x7 x8 x9 x10 x11 x12 x13 c
  have e2 := var4 x0 x1 x2 x3 x4 x5 x6 x7 x8 x9 x10 x11 x12 x13 c
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_call1_v0, val_main_call1_cst, val_main_cst_6, val_main_cst_7, e, e1, e2, bot_bits]
  rfl

end

/-! ## Stage 5 -/

section

variable (b : Fin 16) (a : Fin 8) (k : Fin 16) (c : Fin 512) (p : Fin 32) (i : Fin 3)

theorem key5 : val_main_v59 (F := Ideal) x2 x3 (ix3 b a p) = (-Select.dist ((inR x0 x1 x2 x3 x4 x5 x6 x7 x8 x9 x10 x11 x12 x13).p4 b) ((inR x0 x1 x2 x3 x4 x5 x6 x7 x8 x9 x10 x11 x12 x13).p5 b a) p : EReal) := by
  pointwise [val_main_v59, val_main_v58, val_main_v57, val_main_v56, val_main_v55, val_main_v54, val_main_v53, val_main_v52, val_main_v2, val_main_v1, val_main_cst_8]
  rfl

/-- The chosen position. -/
def pos5 : Fin 32 := pick (Select.dist ((inR x0 x1 x2 x3 x4 x5 x6 x7 x8 x9 x10 x11 x12 x13).p4 b) ((inR x0 x1 x2 x3 x4 x5 x6 x7 x8 x9 x10 x11 x12 x13).p5 b a)) k.val

theorem index5 : val_main_indices_10 (F := Ideal) x2 x3 (ix3 b a k) = BitVec.ofNat 32 (pos5 x0 x1 x2 x3 x4 x5 x6 x7 x8 x9 x10 x11 x12 x13 b a k).val := by
  have hk : k.val < 32 := by omega
  unfold val_main_indices_10 pos5
  rw [pick_eq _ _ hk]
  exact topK_index _ _ b a k hk _ fun j => key5 x0 x1 x2 x3 x4 x5 x6 x7 x8 x9 x10 x11 x12 x13 b a j

theorem start5 : val_main_v65 (F := Ideal) x2 x3 (ix4 b a k 0) = BitVec.ofNat 32 (pos5 x0 x1 x2 x3 x4 x5 x6 x7 x8 x9 x10 x11 x12 x13 b a k).val := by
  pointwise [val_main_v65, val_main_v64, val_main_v63, val_main_v62, val_main_v61, val_main_v60, val_main_c_11, val_main_c_12]
  rw [index5 x0 x1 x2 x3 x4 x5 x6 x7 x8 x9 x10 x11 x12 x13, wrap (by norm_num)]

theorem starts5 : val_main_v72 (F := Ideal) x2 x3 (ix4 b a k 0) = BitVec.ofNat 32 (pos5 x0 x1 x2 x3 x4 x5 x6 x7 x8 x9 x10 x11 x12 x13 b a k).val := by
  pointwise [val_main_v72, val_main_v71, val_main_v70, val_main_v69, val_main_v68, val_main_v67, val_main_c_13, val_main_c_14]
  rw [index5 x0 x1 x2 x3 x4 x5 x6 x7 x8 x9 x10 x11 x12 x13, wrap (by norm_num)]

theorem pts5 : val_main_v66 (F := Ideal) x2 x3 (ix4 b a k i) = (inR x0 x1 x2 x3 x4 x5 x6 x7 x8 x9 x10 x11 x12 x13).p4 b (pos5 x0 x1 x2 x3 x4 x5 x6 x7 x8 x9 x10 x11 x12 x13 b a k) i := by
  unfold val_main_v66
  rw [gather_pts5 _ _ b a k i _ (start5 x0 x1 x2 x3 x4 x5 x6 x7 x8 x9 x10 x11 x12 x13 b a k)]
  pointwise [val_main_v1]
  rfl

theorem feat5 (f : Fin 256) : val_main_v73 (F := Ideal) x0 x1 x2 x3 x4 x5 x6 (ix4 b a k f) = X4 (inR x0 x1 x2 x3 x4 x5 x6 x7 x8 x9 x10 x11 x12 x13) b (pos5 x0 x1 x2 x3 x4 x5 x6 x7 x8 x9 x10 x11 x12 x13 b a k) f := by
  unfold val_main_v73
  rw [gather_feat5 _ _ b a k f _ (starts5 x0 x1 x2 x3 x4 x5 x6 x7 x8 x9 x10 x11 x12 x13 b a k)]
  exact norm4 x0 x1 x2 x3 x4 x5 x6 x7 x8 x9 x10 x11 x12 x13 b _ f

theorem grouped5 : val_main_v78 (F := Ideal) x0 x1 x2 x3 x4 x5 x6 x7 (ix4 b a k c) = H5 (inR x0 x1 x2 x3 x4 x5 x6 x7 x8 x9 x10 x11 x12 x13) c b a k := by
  have e1 := fun i => pts5 x0 x1 x2 x3 x4 x5 x6 x7 x8 x9 x10 x11 x12 x13 b a k i
  have e2 := fun f => feat5 x0 x1 x2 x3 x4 x5 x6 x7 x8 x9 x10 x11 x12 x13 b a k f
  pointwise [val_main_v78, val_main_v77, val_main_v76, val_main_v75, val_main_v74, val_main_v2, e1, e2]
  rfl

theorem total5 (v : FVec Ideal S16x8x16x512 .f32) : Ideal.hostReduceAdd reducesTo_S16x8x16x512_S512_d0_1_2 v 0 (ix1 c) =
    (∑ q : Fin 16 × Fin 8 × Fin 16, v (ix4 q.1 q.2.1 q.2.2 c) : EReal) := by
  have hdrop : ∀ (b : Fin 16) (a : Fin 8) (k : Fin 16) (d : Fin 512),
      reducesTo_S16x8x16x512_S512_d0_1_2.drop (ix4 b a k d) = ix1 d := by
    intro b a k d
    funext e
    match e with
    | ⟨0, _⟩ => rfl
  unfold Ideal.hostReduceAdd
  rw [zero_add]
  have hin : ∀ i : S16x8x16x512.Idx, reducesTo_S16x8x16x512_S512_d0_1_2.drop i = ix1 c →
      ix4 (i 0 : Fin 16) (i 1 : Fin 8) (i 2 : Fin 16) c = i := by
    intro i hi
    obtain ⟨b, a, k, d, rfl⟩ : ∃ (b : Fin 16) (a : Fin 8) (k : Fin 16) (d : Fin 512), i = ix4 b a k d :=
      ⟨i 0, i 1, i 2, i 3, eq_ix4 i⟩
    rw [hdrop] at hi
    have h1 : d = c := congrFun hi 0
    subst h1; rfl
  refine Finset.sum_nbij' (fun i => ((i 0 : Fin 16), (i 1 : Fin 8), (i 2 : Fin 16))) (fun q => ix4 q.1 q.2.1 q.2.2 c) (fun _ _ => Finset.mem_univ _)
    (fun q _ => Finset.mem_filter.mpr ⟨Finset.mem_univ _, hdrop _ _ _ _⟩) (fun i hi => hin i (Finset.mem_filter.mp hi).2)
    (fun q _ => rfl) (fun i hi => congrArg v (hin i (Finset.mem_filter.mp hi).2).symm)

theorem mean5 : val_main_v81 (F := Ideal) x0 x1 x2 x3 x4 x5 x6 x7 (ix1 c) = mean (H5 (inR x0 x1 x2 x3 x4 x5 x6 x7 x8 x9 x10 x11 x12 x13) c) ((2048 : ℝ) : EReal) := by
  have e := fun b a k => grouped5 x0 x1 x2 x3 x4 x5 x6 x7 x8 x9 x10 x11 x12 x13 b a k c
  pointwise [val_main_v81, val_main_v80, val_main_v79, val_main_cst_15, val_main_cst_16, total5, e, bits_2048]
  rfl

theorem var5 : val_main_v82 (F := Ideal) x0 x1 x2 x3 x4 x5 x6 x7 (ix1 c) = vr (H5 (inR x0 x1 x2 x3 x4 x5 x6 x7 x8 x9 x10 x11 x12 x13) c) ((2048 : ℝ) : EReal) := by
  have e := fun b a k => grouped5 x0 x1 x2 x3 x4 x5 x6 x7 x8 x9 x10 x11 x12 x13 b a k c
  pointwise [val_main_v82, val_main_call2_v12, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_cst, val_main_call2_cst_0, val_main_call2_cst_1, val_main_call2_cst_2, val_main_call2_cst_3, val_main_call2_cst_4, val_main_call2_call0_v0, val_main_call2_call0_v1, val_main_c_17, total5, e]
  rw [int_zero, sub_zero, bits_2048, if_pos (by exact_mod_cast (by norm_num : (0 : ℝ) < 2048))]
  rfl

theorem norm5 : val_main_v99 (F := Ideal) x0 x1 x2 x3 x4 x5 x6 x7 x8 x9 (ix3 b a c) = X5 (inR x0 x1 x2 x3 x4 x5 x6 x7 x8 x9 x10 x11 x12 x13) b a c := by
  have e := fun k => grouped5 x0 x1 x2 x3 x4 x5 x6 x7 x8 x9 x10 x11 x12 x13 b a k c
  have e1 := mean5 x0 x1 x2 x3 x4 x5 x6 x7 x8 x9 x10 x11 x12 x13 c
  have e2 := var5 x0 x1 x2 x3 x4 x5 x6 x7 x8 x9 x10 x11 x12 x13 c
  pointwise [val_main_v99, val_main_v98, val_main_v97, val_main_v96, val_main_v95, val_main_v94, val_main_v93, val_main_v92, val_main_v91, val_main_v90, val_main_v89, val_main_v88, val_main_v87, val_main_v86, val_main_v85, val_main_v84, val_main_v83, val_main_call3_v0, val_main_call3_cst, val_main_cst_18, val_main_cst_19, e, e1, e2, bot_bits]
  rfl

end

/-! ## The head -/

theorem out_eq (b : Fin 16) (o : Fin 6) : val_main_v112 (F := Ideal) x0 x1 x2 x3 x4 x5 x6 x7 x8 x9 x10 x11 x12 x13 (ix2 b o) = out (inR x0 x1 x2 x3 x4 x5 x6 x7 x8 x9 x10 x11 x12 x13) b o := by
  have e := fun a c => norm5 x0 x1 x2 x3 x4 x5 x6 x7 x8 x9 x10 x11 x12 x13 b a c
  pointwise [val_main_v112, val_main_v111, val_main_v110, val_main_v109, val_main_v108, val_main_v107, val_main_v106, val_main_v105, val_main_v104, val_main_v103, val_main_v102, val_main_v101, val_main_v100, val_main_call4_v0, val_main_call4_cst, val_main_cst_20, val_main_cst_21, e]
  rfl

end Cert.TailRefVal

end
-- ==== Proof.TailTie.lean ====
/-
  The tail's result array after the run against the reference's result.
-/
module

public import proofs.«01_k».proof.Proof.TailBlock
public import proofs.«01_k».proof.Proof.TailRefVal
public import proofs.«01_k».proof.Proof.TailIdealFrame
public import Idealize.ShloMosaic.Lib.Pipeline.Value
public import Idealize.ShloMosaic.Lib.Pipeline.ValueKit
public import Idealize.ShloMosaic.Lib.Claim

@[expose] public section

set_option maxRecDepth 16384

noncomputable section

namespace Cert.TailTie

open Cert.TailSpec Cert.TailBlock Cert.TailRefVal Cert.TailIdeal Cert.TailIdeal.Gen Cert.TailIdeal.Run Idealize.ShloMosaic Idealize.ShloMosaic.TcCoe Idealize.SL.Sem Cert.Arith
open Idealize.ShloMosaic.Pipeline (Dat)

theorem idx : ∀ t : Fin grid0.N,
    (win0_0.index t 0 = 0 ∧ win0_0.index t 1 = 0) ∧
    (win0_1.index t 0 = 0 ∧ win0_1.index t 1 = 0) ∧
    (win0_2.index t 0 = 0 ∧ win0_2.index t 1 = 0 ∧ win0_2.index t 2 = 0) ∧
    (win0_3.index t 0 = 0 ∧ win0_3.index t 1 = 0) ∧
    (win0_4.index t 0 = 0 ∧ win0_4.index t 1 = 0 ∧ win0_4.index t 2 = 0) ∧
    (win0_5.index t 0 = 0 ∧ win0_5.index t 1 = 0) ∧
    (win0_6.index t 0 = 0 ∧ win0_6.index t 1 = 0) ∧
    (win0_7.index t 0 = 0 ∧ win0_7.index t 1 = 0) ∧
    (win0_8.index t 0 = 0 ∧ win0_8.index t 1 = 0) ∧
    (win0_9.index t 0 = 0 ∧ win0_9.index t 1 = 0) ∧
    (win0_10.index t 0 = 0 ∧ win0_10.index t 1 = 0) ∧
    (win0_11.index t 0 = 0 ∧ win0_11.index t 1 = 0) ∧
    (win0_12.index t 0 = 0 ∧ win0_12.index t 1 = 0) ∧
    (win0_13.index t 0 = 0 ∧ win0_13.index t 1 = 0) ∧
    (win0_14.index t 0 = 0 ∧ win0_14.index t 1 = 0) ∧
    (win0_15.index t 0 = 0 ∧ win0_15.index t 1 = 0) ∧
    (win0_16.index t 0 = 0 ∧ win0_16.index t 1 = 0) := by
  decide +kernel

variable (m : (ℓ : Loc nD τ sig) → Buf (Elt Ideal) ℓ) (c : Dev nD) (t : Fin cfg0.N)

theorem iblk0 : iblk m c 0 t = m ((c : Thread nD τ).loc main_arg0) := by
  blk_ext! [iblk, V, idx t]

theorem iblk2 : iblk m c 2 t = m ((c : Thread nD τ).loc main_arg1) := by
  blk_ext! [iblk, V, idx t]

theorem iblk4 : iblk m c 4 t = m ((c : Thread nD τ).loc main_arg2) := by
  blk_ext! [iblk, V, idx t]

theorem iblk6 : iblk m c 6 t = m ((c : Thread nD τ).loc main_arg4) := by
  blk_ext! [iblk, V, idx t]

theorem iblk9 : iblk m c 9 t = m ((c : Thread nD τ).loc main_arg7) := by
  blk_ext! [iblk, V, idx t]

theorem iblk12 : iblk m c 12 t = m ((c : Thread nD τ).loc main_arg10) := by
  blk_ext! [iblk, V, idx t]

theorem iblk14 : iblk m c 14 t = m ((c : Thread nD τ).loc main_arg12) := by
  blk_ext! [iblk, V, idx t]

theorem iblk1 (b : Fin 16) (j : Fin 128) (i : Fin 3) : iblk m c 1 t (ix2 ⟨j.val + 128 * b.val, by omega⟩ i) =
    m ((c : Thread nD τ).loc main_arg1) (ix3 b i j) := by
  have e1 : (⟨(j.val + 128 * b.val) / 128, by omega⟩ : Fin 16) = b := Fin.ext (by show (j.val + 128 * b.val) / 128 = b.val; omega)
  have e2 : (⟨(j.val + 128 * b.val) % 128, by omega⟩ : Fin 128) = j := Fin.ext (by show (j.val + 128 * b.val) % 128 = j.val; omega)
  blk_simp [iblk, idx t]
  entry_read
  pointwise
  blk_ext [idx t]

theorem iblk3 (b : Fin 16) (j : Fin 32) (i : Fin 3) : iblk m c 3 t (ix2 ⟨j.val + 32 * b.val, by omega⟩ i) =
    m ((c : Thread nD τ).loc main_arg2) (ix3 b i j) := by
  have e1 : (⟨(j.val + 32 * b.val) / 32, by omega⟩ : Fin 16) = b := Fin.ext (by show (j.val + 32 * b.val) / 32 = b.val; omega)
  have e2 : (⟨(j.val + 32 * b.val) % 32, by omega⟩ : Fin 32) = j := Fin.ext (by show (j.val + 32 * b.val) % 32 = j.val; omega)
  blk_simp [iblk, idx t]
  entry_read
  pointwise
  blk_ext [idx t]

theorem iblk5 (b : Fin 16) (j : Fin 8) (i : Fin 3) : iblk m c 5 t (ix2 ⟨j.val + 8 * b.val, by omega⟩ i) =
    m ((c : Thread nD τ).loc main_arg3) (ix3 b i j) := by
  have e1 : (⟨(j.val + 8 * b.val) / 8, by omega⟩ : Fin 16) = b := Fin.ext (by show (j.val + 8 * b.val) / 8 = b.val; omega)
  have e2 : (⟨(j.val + 8 * b.val) % 8, by omega⟩ : Fin 8) = j := Fin.ext (by show (j.val + 8 * b.val) % 8 = j.val; omega)
  blk_simp [iblk, idx t]
  entry_read
  pointwise
  blk_ext [idx t]

theorem iblk7 (f : Fin 256) : iblk m c 7 t (ix2 0 f) = m ((c : Thread nD τ).loc main_arg5) (ix1 f) := by
  blk_simp [iblk, idx t]
  entry_read
  pointwise
  blk_ext [idx t]

theorem iblk8 (f : Fin 256) : iblk m c 8 t (ix2 0 f) = m ((c : Thread nD τ).loc main_arg6) (ix1 f) := by
  blk_simp [iblk, idx t]
  entry_read
  pointwise
  blk_ext [idx t]

theorem iblk10 (f : Fin 512) : iblk m c 10 t (ix2 0 f) = m ((c : Thread nD τ).loc main_arg8) (ix1 f) := by
  blk_simp [iblk, idx t]
  entry_read
  pointwise
  blk_ext [idx t]

theorem iblk11 (f : Fin 512) : iblk m c 11 t (ix2 0 f) = m ((c : Thread nD τ).loc main_arg9) (ix1 f) := by
  blk_simp [iblk, idx t]
  entry_read
  pointwise
  blk_ext [idx t]

theorem iblk13 (f : Fin 512) : iblk m c 13 t (ix2 0 f) = m ((c : Thread nD τ).loc main_arg11) (ix1 f) := by
  blk_simp [iblk, idx t]
  entry_read
  pointwise
  blk_ext [idx t]

theorem iblk15 (f : Fin 6) : iblk m c 15 t (ix2 0 f) = m ((c : Thread nD τ).loc main_arg13) (ix1 f) := by
  blk_simp [iblk, idx t]
  entry_read
  pointwise
  blk_ext [idx t]

/-! ## The blocks against the arguments, over any contents -/

section

variable {x0 : FVec Ideal S2048x128 .f32} {x1 : FVec Ideal S2048x3 .f32} {x2 : FVec Ideal S16x3x128 .f32} {x3 : FVec Ideal S512x3 .f32}
  {x4 : FVec Ideal S16x3x32 .f32} {x5 : FVec Ideal S128x3 .f32} {x6 : FVec Ideal S131x256 .f32} {x7 x8 : FVec Ideal S1x256 .f32}
  {x9 : FVec Ideal S259x512 .f32} {x10 x11 : FVec Ideal S1x512 .f32} {x12 : FVec Ideal S512x512 .f32} {x13 : FVec Ideal S1x512 .f32}
  {x14 : FVec Ideal S512x6 .f32} {x15 : FVec Ideal S1x6 .f32}
  {y0 : FVec Ideal S2048x128 .f32} {y1 : FVec Ideal S16x3x128 .f32} {y2 : FVec Ideal S16x3x32 .f32} {y3 : FVec Ideal S16x3x8 .f32}
  {y4 : FVec Ideal S131x256 .f32} {y5 y6 : FVec Ideal S256 .f32} {y7 : FVec Ideal S259x512 .f32} {y8 y9 : FVec Ideal S512 .f32}
  {y10 : FVec Ideal S512x512 .f32} {y11 : FVec Ideal S512 .f32} {y12 : FVec Ideal S512x6 .f32} {y13 : FVec Ideal S6 .f32}

theorem in_eq
    (h0 : x0 = y0) (h1 : ∀ (b : Fin 16) (j : Fin 128) (i : Fin 3), x1 (ix2 ⟨j.val + 128 * b.val, by omega⟩ i) = y1 (ix3 b i j))
    (h3 : ∀ (b : Fin 16) (j : Fin 32) (i : Fin 3), x3 (ix2 ⟨j.val + 32 * b.val, by omega⟩ i) = y2 (ix3 b i j))
    (h5 : ∀ (b : Fin 16) (j : Fin 8) (i : Fin 3), x5 (ix2 ⟨j.val + 8 * b.val, by omega⟩ i) = y3 (ix3 b i j))
    (h6 : x6 = y4) (h7 : ∀ f : Fin 256, x7 (ix2 0 f) = y5 (ix1 f)) (h8 : ∀ f : Fin 256, x8 (ix2 0 f) = y6 (ix1 f))
    (h9 : x9 = y7) (h10 : ∀ f : Fin 512, x10 (ix2 0 f) = y8 (ix1 f)) (h11 : ∀ f : Fin 512, x11 (ix2 0 f) = y9 (ix1 f))
    (h12 : x12 = y10) (h13 : ∀ f : Fin 512, x13 (ix2 0 f) = y11 (ix1 f)) (h14 : x14 = y12) (h15 : ∀ f : Fin 6, x15 (ix2 0 f) = y13 (ix1 f)) :
    inK x0 x1 x3 x5 x6 x7 x8 x9 x10 x11 x12 x13 x14 x15 = inR y0 y1 y2 y3 y4 y5 y6 y7 y8 y9 y10 y11 y12 y13 := by
  subst h0 h6 h9 h12 h14
  simp only [inK, inR, In.mk.injEq]
  exact ⟨trivial, funext fun b => funext fun j => funext fun i => h1 b j i, funext fun b => funext fun j => funext fun i => h3 b j i,
    funext fun b => funext fun j => funext fun i => h5 b j i, trivial, funext h7, funext h8, trivial, funext h10, funext h11, trivial, funext h13,
    trivial, funext h15⟩

theorem real_in (g0 : ∀ i, Real' (y0 i)) (g1 : ∀ i, Real' (y1 i)) (g2 : ∀ i, Real' (y2 i)) (g3 : ∀ i, Real' (y3 i)) (g4 : ∀ i, Real' (y4 i))
    (g5 : ∀ i, Real' (y5 i)) (g6 : ∀ i, Real' (y6 i)) (g7 : ∀ i, Real' (y7 i)) (g8 : ∀ i, Real' (y8 i)) (g9 : ∀ i, Real' (y9 i)) :
    In.Real (inR y0 y1 y2 y3 y4 y5 y6 y7 y8 y9 y10 y11 y12 y13) :=
  ⟨fun _ _ _ => g0 _, fun _ _ _ => g1 _, fun _ _ _ => g2 _, fun _ _ _ => g3 _, fun _ _ => g4 _, fun _ => g5 _, fun _ => g6 _, fun _ _ => g7 _,
    fun _ => g8 _, fun _ => g9 _⟩

theorem point_abs
    (h0 : x0 = y0) (h1 : ∀ (b : Fin 16) (j : Fin 128) (i : Fin 3), x1 (ix2 ⟨j.val + 128 * b.val, by omega⟩ i) = y1 (ix3 b i j))
    (h2 : x2 = y1) (h3 : ∀ (b : Fin 16) (j : Fin 32) (i : Fin 3), x3 (ix2 ⟨j.val + 32 * b.val, by omega⟩ i) = y2 (ix3 b i j))
    (h4 : x4 = y2) (h5 : ∀ (b : Fin 16) (j : Fin 8) (i : Fin 3), x5 (ix2 ⟨j.val + 8 * b.val, by omega⟩ i) = y3 (ix3 b i j))
    (h6 : x6 = y4) (h7 : ∀ f : Fin 256, x7 (ix2 0 f) = y5 (ix1 f)) (h8 : ∀ f : Fin 256, x8 (ix2 0 f) = y6 (ix1 f))
    (h9 : x9 = y7) (h10 : ∀ f : Fin 512, x10 (ix2 0 f) = y8 (ix1 f)) (h11 : ∀ f : Fin 512, x11 (ix2 0 f) = y9 (ix1 f))
    (h12 : x12 = y10) (h13 : ∀ f : Fin 512, x13 (ix2 0 f) = y11 (ix1 f)) (h14 : x14 = y12) (h15 : ∀ f : Fin 6, x15 (ix2 0 f) = y13 (ix1 f))
    (hr : In.Real (inR y0 y1 y2 y3 y4 y5 y6 y7 y8 y9 y10 y11 y12 y13)) (b : Fin 16) (o : Fin 6) :
    outv (F := Ideal) x0 x1 x2 x3 x4 x5 x6 x7 x8 x9 x10 x11 x12 x13 x14 x15 (ix2 b o) = Cert.TailReferenceIdeal.Read.val_main_v112 (F := Ideal) y0 y1 y2 y3 y4 y5 y6 y7 y8 y9 y10 y11 y12 y13 (ix2 b o) := by
  have e := in_eq h0 h1 h3 h5 h6 h7 h8 h9 h10 h11 h12 h13 h14 h15
  rw [outv_eq x0 x1 x2 x3 x4 x5 x6 x7 x8 x9 x10 x11 x12 x13 x14 x15 (e ▸ hr) (fun b i j => (congrFun h2 _).trans (h1 b j i).symm)
    (fun b i j => (congrFun h4 _).trans (h3 b j i).symm) b o, out_eq y0 y1 y2 y3 y4 y5 y6 y7 y8 y9 y10 y11 y12 y13 b o, e]

end

/-! ## The result array -/

/-- What the proof takes of the arguments: all but the head's are reals. -/
structure Good : Prop where
  g0 : ∀ i, Real' (m ((c : Thread nD τ).loc main_arg0) i)
  g1 : ∀ i, Real' (m ((c : Thread nD τ).loc main_arg1) i)
  g2 : ∀ i, Real' (m ((c : Thread nD τ).loc main_arg2) i)
  g3 : ∀ i, Real' (m ((c : Thread nD τ).loc main_arg3) i)
  g4 : ∀ i, Real' (m ((c : Thread nD τ).loc main_arg4) i)
  g5 : ∀ i, Real' (m ((c : Thread nD τ).loc main_arg5) i)
  g6 : ∀ i, Real' (m ((c : Thread nD τ).loc main_arg6) i)
  g7 : ∀ i, Real' (m ((c : Thread nD τ).loc main_arg7) i)
  g8 : ∀ i, Real' (m ((c : Thread nD τ).loc main_arg8) i)
  g9 : ∀ i, Real' (m ((c : Thread nD τ).loc main_arg9) i)

/-- The reference's result over the kernel's arguments. -/
def refOut (c : Dev nD) : Buf (Elt Ideal) ((c : Thread nD τ).loc main_v12) :=
  Cert.TailReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

variable (g : Good m c)
include g

theorem point (b : Fin 16) (o : Fin 6) : outAt m c t (ix2 b o) = refOut m c (ix2 b o) :=
  point_abs (iblk0 m c t) (iblk1 m c t) (iblk2 m c t) (iblk3 m c t) (iblk4 m c t) (iblk5 m c t) (iblk6 m c t) (iblk7 m c t) (iblk8 m c t)
    (iblk9 m c t) (iblk10 m c t) (iblk11 m c t) (iblk12 m c t) (iblk13 m c t) (iblk14 m c t) (iblk15 m c t)
    (real_in g.g0 g.g1 g.g2 g.g3 g.g4 g.g5 g.g6 g.g7 g.g8 g.g9) b o

omit g in
theorem at2 {x G : FVec Ideal S16x6 .f32} (h : ∀ b o, x (ix2 b o) = G (ix2 b o)) : x = G := by
  funext y
  have e : y = ix2 (y 0) (y 1) := by
    funext a
    match a with
    | ⟨0, _⟩ => rfl
    | ⟨1, _⟩ => rfl
  rw [e]
  exact h _ _

theorem final16 : (dats m 0 c).arrAt 16 cfg0.N = refOut m c := by
  refine (dats m 0 c).arrAt_eq_of_covers 16 _ (by decide +kernel) fun t hf y => ?_
  blk_simp
  rw [after0_16]
  have e : outAt m c t = refOut m c := at2 (point m c t g)
  rw [e]
  clear e
  generalize refOut m c = G
  blk_ext [idx t]

omit g in
/-- The run, the result array named and the arguments kept. -/
theorem run_blocks (ρ : Dev nD → PrngReg) : θ_run defs (onTc (τ := τ) (main (F := Ideal))) ⟨m, fun _ => 0, ρ⟩ fun r =>
    (∀ c : Dev nD, r.2.mem ((c.tc : Thread nD τ).loc main_v12) = (dats m 0 c).arrAt 16 cfg0.N)
    ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  θ_run_and ((θ_run defs _ _).mono (fun _ h c => (h c).1 16) (run_main m ρ)) (frame_of m ρ (dats m) (A_eq m) (run_main m ρ))

end Cert.TailTie

end
-- ==== Proof.MidIdealLoops.lean ====
/-
  Stage 3's round loop: each trip as a function on values, and the loop by the invariant that the buffers read that
  function iterated.
-/
module

public import proofs.«01_k».proof.Proof.Gen.MidIdeal.Frame
public import proofs.«01_k».proof.Proof.Gen.MidIdeal.Loops
public import Idealize.ShloMosaic.Lib.VecWindow
public import Idealize.ShloMosaic.Lib.Pipeline.ValueKit

@[expose] public section

set_option maxRecDepth 16384

noncomputable section

namespace Cert.MidIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MidIdeal Cert.MidIdeal.Gen

variable {F : FTy → Type} [FloatOps F] [Named F]

/-- The frame's resource algebra. -/
local notation "𝕄G" => MT nD τ sig Unit (Elt F) ℕ (UR sig nD τ) ℕ

/-! ## Stage 3's rounds -/

/-- What the rounds carry: the two running sums, the running maximum and minimum, the distances left. -/
abbrev St3 (F : FTy → Type) := (FVec F S1x128 .f32 × FVec F S1x128 .f32) × Vec F S2048x128 .f32 × Vec F S2048x128 .f32 × Vec F S2048x512 .f32

/-- The product of each cloud's 128 rows of `oh` with the cloud's 512 rows of `z`. -/
def gather3 (z : Vec F S8192x256 .f32) (oh : Vec F S2048x512 .f32) : Vec F S2048x256 .f32 := fun y =>
  have h0 : (y 0).val < 2048 := (y 0).isLt
  k0_pay5 (fun i => oh (ValueIdx.ix2 ⟨128 * ((y 0).val / 128) + (i 0).val, by have : (i 0).val < 128 := (i 0).isLt; omega⟩ (i 1)))
    (fun i => z (ValueIdx.ix2 ⟨512 * ((y 0).val / 128) + (i 0).val, by have : (i 0).val < 512 := (i 0).isLt; omega⟩ (i 1)))
    (ValueIdx.ix2 ⟨(y 0).val % 128, Nat.mod_lt _ (by decide)⟩ (y 1))

/-- One round on values: `q` the centres' product, `io` the column numbers, `z` the stacked halves of the points' product. -/
def round3 (q : FVec F S2048x128 .f32) (io : IVec S2048x512 32) (z : Vec F S8192x256 .f32) (s : St3 F) : St3 F :=
  ((k0_pay23 s.1.1 (k0_pay6 q (gather3 z (k0_pay4 io s.2.2.2))), k0_pay24 s.1.2 (k0_pay6 q (gather3 z (k0_pay4 io s.2.2.2)))),
    k0_pay7 q (gather3 z (k0_pay4 io s.2.2.2)) s.2.1, k0_pay22 (k0_pay6 q (gather3 z (k0_pay4 io s.2.2.2))) s.2.2.1, k0_pay3 io s.2.2.2)

section
variable (𝒱 : Variants) (c : Dev nD) (bd : Option 𝒱.V)
  (arg0 : Memref sig .tc .vmem S8192x3 .f32) (harg0 : arg0.IsWhole)
  (arg1 : Memref sig .tc .vmem S16x3x512 .f32) (harg1 : arg1.IsWhole)
  (arg2 : Memref sig .tc .vmem S2048x3 .f32) (harg2 : arg2.IsWhole)
  (arg3 : Memref sig .tc .vmem S8192x64 .f32) (harg3 : arg3.IsWhole)
  (arg4 : Memref sig .tc .vmem S8192x64 .f32) (harg4 : arg4.IsWhole)
  (arg5 : Memref sig .tc .vmem S16x2x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S67x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S2048x128 .f32) (harg11 : arg11.IsWhole)
  (arg12 : Memref sig .tc .vmem S8192x256 .f32) (harg12 : arg12.IsWhole)
  (arg13 : Memref sig .tc .vmem S2048x512 .f32) (harg13 : arg13.IsWhole)
  (arg14 : Memref sig .tc .vmem S2048x512 .f32) (harg14 : arg14.IsWhole)
  (arg15 : Memref sig .tc .vmem S2048x256 .f32) (harg15 : arg15.IsWhole)
  (arg16 : Memref sig .tc .vmem S2048x128 .f32) (harg16 : arg16.IsWhole)
  (arg17 : Memref sig .tc .vmem S2048x128 .f32) (harg17 : arg17.IsWhole)
  (v44 : FVec F S2048x3 .f32) (v63 : FVec F S2048x128 .f32) (v73 : FVec F S2048x512 .f32) (v74 : Vec F S16x1x512 .f32) (v107 : IVec S2048x512 32)

set_option maxHeartbeats 1600000 in
theorem pb3_read (k0_t1 : Fin k0_t1_loop.trips) (Xz : BufTy.Contents (Elt F) arg12.view.ty) (Xo : BufTy.Contents (Elt F) arg14.view.ty) (f : BufTy.Contents (Elt F) arg15.view.ty) (k : ℕ) (hk : k ≤ 16) (y : S2048x256.Idx)
    (hy : (y 0).val < 128 * k) :
    arg15.view.read (Elt F) (arg15.view.writes (Elt F) f (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v63 v107 0#32 1#32 k0_t1 Xz Xo k)) y
      = gather3 (arg12.view.read (Elt F) Xz) (arg14.view.read (Elt F) Xo) y := by
  induction k with
  | zero => exact absurd hy (by omega)
  | succ k ih =>
    have hk' : k < k0_t2_loop.trips := hk
    rw [pb_k0_t2_succ (k := ⟨k, hk'⟩)]
    unfold tripL_k0_t2 trip_k0_t2
    dsimp only
    sl_unfold_words
    by_cases hm : (y 0).val < 128 * k
    · refine (View.read_writes_cons_unit_of_not_mem (off' := ![128 * k, 0]) arg15.view f _ _ _ y (k0_off3_eq ⟨k, hk'⟩) (0 : Fin 2) (Or.inl hm)).trans ?_
      exact ih (by omega) hm
    · have hq : (y 0).val / 128 = k := by omega
      refine (View.read_writes_cons_unit_of_mem (off' := ![128 * k, 0]) arg15.view f _ _ _ y (ValueIdx.ix2 ⟨(y 0).val % 128, Nat.mod_lt _ (by decide)⟩ (y 1)) (k0_off3_eq ⟨k, hk'⟩) fun a => ?_).trans ?_
      · match a with
        | ⟨0, _⟩ => show (y 0).val = 128 * k + (y 0).val % 128; omega
        | ⟨1, _⟩ => exact (Nat.zero_add _).symm
      · unfold gather3
        dsimp only
        refine congrArg₂ (fun a b => k0_pay5 a b (ValueIdx.ix2 ⟨(y 0).val % 128, Nat.mod_lt _ (by decide)⟩ (y 1))) (funext fun i => ?_) (funext fun i => ?_)
        · refine congrArg (arg14.view.read (Elt F) Xo) (funext fun a => Fin.ext ?_)
          match a with
          | ⟨0, _⟩ =>
            show k0_off1 ⟨k, hk'⟩ 0 + 1 * (i 0).val = 128 * ((y 0).val / 128) + (i 0).val
            rw [k0_off1_eq, hq, Nat.one_mul]; rfl
          | ⟨1, _⟩ =>
            show k0_off1 ⟨k, hk'⟩ 1 + 1 * (i 1).val = (i 1).val
            rw [k0_off1_eq, Nat.one_mul]; exact Nat.zero_add _
        · refine congrArg (arg12.view.read (Elt F) Xz) (funext fun a => Fin.ext ?_)
          match a with
          | ⟨0, _⟩ =>
            show k0_off2 ⟨k, hk'⟩ 0 + 1 * (i 0).val = 512 * ((y 0).val / 128) + (i 0).val
            rw [k0_off2_eq, hq, Nat.one_mul]; rfl
          | ⟨1, _⟩ =>
            show k0_off2 ⟨k, hk'⟩ 1 + 1 * (i 1).val = (i 1).val
            rw [k0_off2_eq, Nat.one_mul]; exact Nat.zero_add _

/-- After the clouds' loop the buffer reads the gathered rows, whatever it held. -/
theorem pb3_all (k0_t1 : Fin k0_t1_loop.trips) (Xz : BufTy.Contents (Elt F) arg12.view.ty) (Xo : BufTy.Contents (Elt F) arg14.view.ty) (f : BufTy.Contents (Elt F) arg15.view.ty) :
    arg15.view.read (Elt F) (arg15.view.writes (Elt F) f (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v63 v107 0#32 1#32 k0_t1 Xz Xo 16))
      = gather3 (arg12.view.read (Elt F) Xz) (arg14.view.read (Elt F) Xo) :=
  funext fun y => pb3_read 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v63 v107 k0_t1 Xz Xo f 16 le_rfl y (by have : (y 0).val < 2048 := (y 0).isLt; omega)

/-- The buffer as the trip reads it back. -/
theorem ga3_eq (k0_t1 : Fin k0_t1_loop.trips) (Xz : BufTy.Contents (Elt F) arg12.view.ty) (fo : BufTy.Contents (Elt F) arg14.view.ty) (f : BufTy.Contents (Elt F) arg15.view.ty) (fd : BufTy.Contents (Elt F) arg13.view.ty) (x : Vec F S2048x512 .f32)
    (hd : arg13.view.read (Elt F) fd = x) :
    arg15.view.readAt (Elt F) (Rect.unit ![0, 0] S2048x256.size inb_S2048x256_S2048x256_0_0).toLoadRect (arg15.view.writes (Elt F) f (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v63 v107 0#32 1#32 k0_t1 Xz
        (arg14.view.writes (Elt F) fo [⟨Rect.unit ![0, 0] S2048x512.size inb_S2048x512_S2048x512_0_0, k0_pay4 v107 (arg13.view.readAt (Elt F) (Rect.unit ![0, 0] S2048x512.size inb_S2048x512_S2048x512_0_0).toLoadRect fd)⟩])
        (Scf.trips k0_t2_loop.lb k0_t2_loop.ub k0_t2_loop.st)))
      = gather3 (arg12.view.read (Elt F) Xz) (k0_pay4 v107 x) := by
  have ht : Scf.trips k0_t2_loop.lb k0_t2_loop.ub k0_t2_loop.st = 16 := by decide +kernel
  rw [ht]
  refine (View.readAt_full _ _ _).trans ((pb3_all 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v63 v107 k0_t1 Xz _ f).trans (congrArg (gather3 _) ?_))
  refine (View.read_writes_full _ _ _ _ _).trans (congrArg (k0_pay4 v107) ?_)
  exact (View.readAt_full _ _ _).trans hd

set_option maxHeartbeats 1600000 in
/-- One trip of the rounds' loop: the buffers end reading one round of what they read. -/
theorem trip3 (Xz : BufTy.Contents (Elt F) arg12.view.ty) (k : Fin k0_t1_loop.trips) (E : Set ℕ) (s : St3 F)
    (fd : BufTy.Contents (Elt F) arg13.view.ty) (fo : BufTy.Contents (Elt F) arg14.view.ty) (fg : BufTy.Contents (Elt F) arg15.view.ty) (fx : BufTy.Contents (Elt F) arg16.view.ty) (fn : BufTy.Contents (Elt F) arg17.view.ty)
    (hd : arg13.view.read (Elt F) fd = s.2.2.2) (hx : arg16.view.read (Elt F) fx = s.2.1) (hn : arg17.view.read (Elt F) fn = s.2.2.1) :
    iprop((arg12.view.loc (c : Thread nD τ) ↦[arg12.view.set]{fullShare} Xz) ∗ (arg13.view.loc (c : Thread nD τ) ↦[arg13.view.set]{fullShare} fd) ∗ (arg14.view.loc (c : Thread nD τ) ↦[arg14.view.set]{fullShare} fo) ∗ (arg15.view.loc (c : Thread nD τ) ↦[arg15.view.set]{fullShare} fg) ∗ (arg16.view.loc (c : Thread nD τ) ↦[arg16.view.set]{fullShare} fx) ∗ (arg17.view.loc (c : Thread nD τ) ↦[arg17.view.set]{fullShare} fn) : sProp 𝕄G)
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v63 v73 v74 v107 k s.1)
        (fun yld => iprop((arg12.view.loc (c : Thread nD τ) ↦[arg12.view.set]{fullShare} Xz) ∗ (∃ f, (arg13.view.loc (c : Thread nD τ) ↦[arg13.view.set]{fullShare} f) ∗ ⌜arg13.view.read (Elt F) f = (round3 v63 v107 (arg12.view.read (Elt F) Xz) s).2.2.2⌝) ∗ (∃ f, (arg14.view.loc (c : Thread nD τ) ↦[arg14.view.set]{fullShare} f)) ∗ (∃ f, (arg15.view.loc (c : Thread nD τ) ↦[arg15.view.set]{fullShare} f))
          ∗ (∃ f, (arg16.view.loc (c : Thread nD τ) ↦[arg16.view.set]{fullShare} f) ∗ ⌜arg16.view.read (Elt F) f = (round3 v63 v107 (arg12.view.read (Elt F) Xz) s).2.1⌝) ∗ (∃ f, (arg17.view.loc (c : Thread nD τ) ↦[arg17.view.set]{fullShare} f) ∗ ⌜arg17.view.read (Elt F) f = (round3 v63 v107 (arg12.view.read (Elt F) Xz) s).2.2.1⌝)
          ∗ ⌜yld = (round3 v63 v107 (arg12.view.read (Elt F) Xz) s).1⌝)) := by
  have hk : k.val < 16 := Nat.lt_of_lt_of_le k.isLt k0_t1_abs.2.1
  unfold k0_t1_body
  iintro ⟨HZ, HD, HO, HG, HX, HN⟩
  sl_exec
  sl_step
  isplitl [HZ]; · iexact HZ
  isplitl [HD]
  · iexists _; isplitl [HD]; · iexact HD
    ipureintro
    unfold round3
    dsimp only
    sl_unfold_words
    rw [← hd, ← View.readAt_full arg13.view fd inb_S2048x512_S2048x512_0_0]
    exact View.read_writes_full _ _ _ _ _
  isplitl [HO]; · iexists _; iexact HO
  isplitl [HG]; · iexists _; iexact HG
  isplitl [HX]
  · iexists _; isplitl [HX]; · iexact HX
    ipureintro
    sl_unfold_words
    exact (View.read_writes_full _ _ _ _ _).trans
      (congrArg₂ (k0_pay7 v63) (ga3_eq 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v63 v107 k Xz _ fg fd _ hd) ((View.readAt_full _ _ _).trans hx))
  isplitl [HN]
  · iexists _; isplitl [HN]; · iexact HN
    ipureintro
    sl_unfold_words
    exact (View.read_writes_full _ _ _ _ _).trans
      (congrArg₂ k0_pay22 (congrArg (k0_pay6 v63) (ga3_eq 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v63 v107 k Xz _ fg fd _ hd)) ((View.readAt_full _ _ _).trans hn))
  · ipureintro
    sl_unfold_words
    exact congrArg (fun g => (k0_pay23 s.1.1 (k0_pay6 v63 g), k0_pay24 s.1.2 (k0_pay6 v63 g))) (ga3_eq 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v63 v107 k Xz _ fg fd _ hd)

/-- The state before round `k`. -/
def st3 (Xz : BufTy.Contents (Elt F) arg12.view.ty) (s0 : St3 F) (k : ℕ) : St3 F := (round3 v63 v107 (arg12.view.read (Elt F) Xz))^[k] s0

/-- What a buffer has been given before round `k`: nothing, or the whole of `v`. -/
def pcd3 (v : ℕ → Vec F S2048x512 .f32) : ℕ → List (View.Piece (Elt F) S2048x512 .f32)
  | 0 => []
  | k + 1 => [⟨Rect.unit ![0, 0] S2048x512.size inb_S2048x512_S2048x512_0_0, v (k + 1)⟩]

/-- The same for the running maximum and minimum. -/
def pch3 (v : ℕ → Vec F S2048x128 .f32) : ℕ → List (View.Piece (Elt F) S2048x128 .f32)
  | 0 => []
  | k + 1 => [⟨Rect.unit ![0, 0] S2048x128.size inb_S2048x128_S2048x128_0_0, v (k + 1)⟩]

theorem read_pcd3 (G : BufTy.Contents (Elt F) arg13.view.ty) (v : ℕ → Vec F S2048x512 .f32) (h0 : (arg13.view.read (Elt F) G) = v 0) (k : ℕ) :
    arg13.view.read (Elt F) (arg13.view.writes (Elt F) G (pcd3 v k)) = v k := by
  cases k with
  | zero => exact h0
  | succ k => exact View.read_writes_full _ _ _ _ _

theorem read_pch3 (m : Memref sig .tc .vmem S2048x128 .f32) (G : BufTy.Contents (Elt F) m.view.ty) (v : ℕ → Vec F S2048x128 .f32)
    (h0 : m.view.read (Elt F) G = v 0) (k : ℕ) :
    m.view.read (Elt F) (m.view.writes (Elt F) G (pch3 v k)) = v k := by
  cases k with
  | zero => exact h0
  | succ k => exact View.read_writes_full _ _ _ _ _

theorem eq_pcd3 (harg13 : arg13.IsWhole) (G f : BufTy.Contents (Elt F) arg13.view.ty) (v : ℕ → Vec F S2048x512 .f32) (k : ℕ) (h : (arg13.view.read (Elt F) f) = v (k + 1)) :
    f = arg13.view.writes (Elt F) G (pcd3 v (k + 1)) :=
  harg13.read_bijective.1 (h.trans (View.read_writes_full _ _ _ _ _).symm)

theorem eq_pch3 (m : Memref sig .tc .vmem S2048x128 .f32) (hm : m.IsWhole) (G f : BufTy.Contents (Elt F) m.view.ty) (v : ℕ → Vec F S2048x128 .f32) (k : ℕ)
    (h : m.view.read (Elt F) f = v (k + 1)) : f = m.view.writes (Elt F) G (pch3 v (k + 1)) :=
  hm.read_bijective.1 (h.trans (View.read_writes_full _ _ _ _ _).symm)

/-- The state at the loop's entry, from what the buffers hold there. -/
abbrev ent3 (init : FVec F S1x128 .f32 × FVec F S1x128 .f32) (Gd : BufTy.Contents (Elt F) arg13.view.ty) (Gx : BufTy.Contents (Elt F) arg16.view.ty) (Gn : BufTy.Contents (Elt F) arg17.view.ty) : St3 F :=
  (init, (arg16.view.read (Elt F) Gx), (arg17.view.read (Elt F) Gn), (arg13.view.read (Elt F) Gd))

/-- Before round `k` the carried value and the three buffers are the state's. -/
abbrev inv3 (Xz : BufTy.Contents (Elt F) arg12.view.ty) (s0 : St3 F) (Gd : BufTy.Contents (Elt F) arg13.view.ty) (Gx : BufTy.Contents (Elt F) arg16.view.ty) (Gn : BufTy.Contents (Elt F) arg17.view.ty) (k : ℕ) (acc : FVec F S1x128 .f32 × FVec F S1x128 .f32) : sProp 𝕄G :=
  iprop((arg12.view.loc (c : Thread nD τ) ↦[arg12.view.set]{fullShare} Xz) ∗ (∃ f, (arg13.view.loc (c : Thread nD τ) ↦[arg13.view.set]{fullShare} f) ∗ ⌜f = arg13.view.writes (Elt F) Gd (pcd3 (fun k => (st3 arg12 v63 v107 Xz s0 k).2.2.2) k)⌝)
    ∗ (∃ f, (arg14.view.loc (c : Thread nD τ) ↦[arg14.view.set]{fullShare} f)) ∗ (∃ f, (arg15.view.loc (c : Thread nD τ) ↦[arg15.view.set]{fullShare} f))
    ∗ (∃ f, (arg16.view.loc (c : Thread nD τ) ↦[arg16.view.set]{fullShare} f) ∗ ⌜f = arg16.view.writes (Elt F) Gx (pch3 (fun k => (st3 arg12 v63 v107 Xz s0 k).2.1) k)⌝)
    ∗ (∃ f, (arg17.view.loc (c : Thread nD τ) ↦[arg17.view.set]{fullShare} f) ∗ ⌜f = arg17.view.writes (Elt F) Gn (pch3 (fun k => (st3 arg12 v63 v107 Xz s0 k).2.2.1) k)⌝)
    ∗ ⌜acc = (st3 arg12 v63 v107 Xz s0 k).1⌝)

set_option warn.classDefReducibility false in
/-- The rounds' loop by that invariant. -/
@[sl_loop] def loopInv3 (E : Set ℕ) (Xz : BufTy.Contents (Elt F) arg12.view.ty) (init : FVec F S1x128 .f32 × FVec F S1x128 .f32) (Gd : BufTy.Contents (Elt F) arg13.view.ty) (Gx : BufTy.Contents (Elt F) arg16.view.ty) (Gn : BufTy.Contents (Elt F) arg17.view.ty) :
    LoopInvTy_k0_t1 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v63 v73 v74 v107 init where
  inv := inv3 (F := F) c arg12 arg13 arg14 arg15 arg16 arg17 v63 v107 Xz (ent3 arg13 arg16 arg17 init Gd Gx Gn) Gd Gx Gn
  step k acc := by
    iintro ⟨HZ, ⟨%fd, HD, %hd⟩, ⟨%fo, HO⟩, ⟨%fg, HG⟩, ⟨%fx, HX, %hx⟩, ⟨%fn, HN, %hn⟩, %ha⟩
    subst ha
    have hs : st3 arg12 v63 v107 Xz (ent3 arg13 arg16 arg17 init Gd Gx Gn) (k.val + 1)
        = round3 v63 v107 (arg12.view.read (Elt F) Xz) (st3 arg12 v63 v107 Xz (ent3 arg13 arg16 arg17 init Gd Gx Gn) k.val) :=
      Function.iterate_succ_apply' _ _ _
    iapply (wp_wand_r Idealize.ShloMosaic.frame (wpE (defs₀ (F := F)) 𝒱 (c : Thread nD τ) bd) E)
    isplitl [HZ HD HO HG HX HN]
    · iapply (trip3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v63 v73 v74 v107 Xz k E _ fd fo fg fx fn
        ((congrArg _ hd).trans (read_pcd3 arg13 Gd _ rfl k.val)) ((congrArg _ hx).trans (read_pch3 arg16 Gx _ rfl k.val))
        ((congrArg _ hn).trans (read_pch3 arg17 Gn _ rfl k.val)))
      isplitl [HZ]; · iexact HZ
      isplitl [HD]; · iexact HD
      isplitl [HO]; · iexact HO
      isplitl [HG]; · iexact HG
      isplitl [HX]; · iexact HX
      iexact HN
    · iintro %yld ⟨HZ, ⟨%gd, HD, %ed⟩, HO, HG, ⟨%gx, HX, %ex⟩, ⟨%gn, HN, %en⟩, %ey⟩
      isplitl [HZ]; · iexact HZ
      isplitl [HD]
      · iexists gd; isplitl [HD]; · iexact HD
        ipureintro
        exact eq_pcd3 arg13 harg13 Gd gd (fun k => (st3 arg12 v63 v107 Xz (ent3 arg13 arg16 arg17 init Gd Gx Gn) k).2.2.2) k.val (ed.trans (congrArg (fun s : St3 F => s.2.2.2) hs.symm))
      isplitl [HO]; · iexact HO
      isplitl [HG]; · iexact HG
      isplitl [HX]
      · iexists gx; isplitl [HX]; · iexact HX
        ipureintro
        exact eq_pch3 arg16 harg16 Gx gx (fun k => (st3 arg12 v63 v107 Xz (ent3 arg13 arg16 arg17 init Gd Gx Gn) k).2.1) k.val (ex.trans (congrArg (fun s : St3 F => s.2.1) hs.symm))
      isplitl [HN]
      · iexists gn; isplitl [HN]; · iexact HN
        ipureintro
        exact eq_pch3 arg17 harg17 Gn gn (fun k => (st3 arg12 v63 v107 Xz (ent3 arg13 arg16 arg17 init Gd Gx Gn) k).2.2.1) k.val (en.trans (congrArg (fun s : St3 F => s.2.2.1) hs.symm))
      · ipureintro
        exact ey.trans (congrArg Prod.fst hs.symm)

end

end Cert.MidIdeal.Run

end
-- ==== Proof.MidIdealRun.lean ====
/-
  Stage 3's body as a function of its input blocks, and the body's run.
-/
module

public import proofs.«01_k».proof.Proof.MidIdealLoops

@[expose] public section

set_option maxRecDepth 16384

noncomputable section

namespace Cert.MidIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MidIdeal Cert.MidIdeal.Gen

variable {F : FTy → Type} [FloatOps F] [Named F]

/-- The frame's resource algebra. -/
local notation "𝕄G" => MT nD τ sig Unit (Elt F) ℕ (UR sig nD τ) ℕ

/-- The rows of the weights that the coordinates meet, and the rows the features meet. -/
def wp3 (x8 : Vec F S67x128 .f32) : Vec F S3x128 .f32 := View.ld x8 (Rect.unit ![0, 0] S3x128.size inb_S67x128_S3x128_0_0)
def wx3 (x8 : Vec F S67x128 .f32) : Vec F S64x128 .f32 := View.ld x8 (Rect.unit ![3, 0] S64x128.size inb_S67x128_S64x128_3_0)
/-- One coordinate of the points, cloud by cloud. -/
def ax3 (x1 : Vec F S16x3x512 .f32) : Vec F S16x1x512 .f32 := View.ld x1 (Rect.unit ![0, 0, 0] S16x1x512.size inb_S16x3x512_S16x1x512_0_0_0)
def ay3 (x1 : Vec F S16x3x512 .f32) : Vec F S16x1x512 .f32 := View.ld x1 (Rect.unit ![0, 1, 0] S16x1x512.size inb_S16x3x512_S16x1x512_0_1_0)
def az3 (x1 : Vec F S16x3x512 .f32) : Vec F S16x1x512 .f32 := View.ld x1 (Rect.unit ![0, 2, 0] S16x1x512.size inb_S16x3x512_S16x1x512_0_2_0)

/-- Two halves side by side. -/
def halves3 (a b : Vec F S8192x128 .f32) : Vec F S8192x256 .f32 := fun y =>
  if h : (y 1).val < 128 then a (ValueIdx.ix2 (y 0) ⟨(y 1).val, h⟩)
  else b (ValueIdx.ix2 (y 0) ⟨(y 1).val - 128, by have : (y 1).val < 256 := (y 1).isLt; omega⟩)

/-- The column numbers. -/
def io3 : IVec S2048x512 32 := iota .tc S2048x512 32 [1] iota_S2048x512_d1_w32

/-- Stage 2's features, normalized. -/
def feat (x3 x4 : Vec F S8192x64 .f32) (x5 : Vec F S16x2x64 .f32) (x6 x7 : Vec F S1x64 .f32) : FVec F S8192x64 .f32 := k0_pay8 x6 x3 x4 x5 x7

/-- Stage 3 before its rounds, and after them, of the features `v`. -/
def ent3v (x1 : Vec F S16x3x512 .f32) (x2 : Vec F S2048x3 .f32) : St3 F :=
  ((k0_pay21, k0_pay21), k0_pay19, k0_pay20, k0_pay18 (k0_pay9 x2) (k0_pay17 x2 (ax3 x1)) (ay3 x1) (az3 x1))
def fin3 (v : FVec F S8192x64 .f32) (x0 : Vec F S8192x3 .f32) (x1 : Vec F S16x3x512 .f32) (x2 : Vec F S2048x3 .f32) (x8 : Vec F S67x128 .f32) : St3 F :=
  (round3 (k0_pay16 x2 (wp3 x8)) io3 (halves3 (k0_pay14 v x0 (wp3 x8) (wx3 x8)) (k0_pay15 v x0 (wp3 x8) (wx3 x8))))^[16] (ent3v x1 x2)

/-- What the body leaves in its output block. -/
def outv (x0 : Vec F S8192x3 .f32) (x1 : Vec F S16x3x512 .f32) (x2 : Vec F S2048x3 .f32) (x3 : Vec F S8192x64 .f32) (x4 : Vec F S8192x64 .f32) (x5 : Vec F S16x2x64 .f32) (x6 : Vec F S1x64 .f32) (x7 : Vec F S1x64 .f32) (x8 : Vec F S67x128 .f32) (x9 : Vec F S1x128 .f32) (x10 : Vec F S1x128 .f32) : Vec F S2048x128 .f32 :=
  have s := fin3 (feat x3 x4 x5 x6 x7) x0 x1 x2 x8
  k0_pay1 (k0_pay10 x9) (k0_pay11 x10) (k0_pay25 s.1.1) (k0_pay26 s.1.2) s.2.1 s.2.2.1

theorem read_halves3 (m : Memref sig .tc .vmem S8192x256 .f32) (f : BufTy.Contents (Elt F) m.view.ty) (a b : Vec F S8192x128 .f32) :
    m.view.read (Elt F) (m.view.writes (Elt F) f [⟨Rect.unit ![0, 128] S8192x128.size inb_S8192x256_S8192x128_0_128, b⟩,
      ⟨Rect.unit ![0, 0] S8192x128.size inb_S8192x256_S8192x128_0_0, a⟩]) = halves3 a b := by
  funext y
  unfold halves3
  have hy : (y 1).val < 256 := (y 1).isLt
  by_cases h : (y 1).val < 128
  · rw [dif_pos h]
    refine (View.read_writes_cons_unit_of_not_mem (off' := ![0, 128]) m.view f _ _ _ y rfl (1 : Fin 2) (Or.inl h)).trans ?_
    refine View.read_writes_cons_unit_of_mem (off' := ![0, 0]) m.view f _ _ _ y (ValueIdx.ix2 (y 0) ⟨(y 1).val, h⟩) rfl fun q => ?_
    match q with
    | ⟨0, _⟩ => exact (Nat.zero_add _).symm
    | ⟨1, _⟩ => exact (Nat.zero_add _).symm
  · rw [dif_neg h]
    refine View.read_writes_cons_unit_of_mem (off' := ![0, 128]) m.view f _ _ _ y (ValueIdx.ix2 (y 0) ⟨(y 1).val - 128, by omega⟩) rfl fun q => ?_
    match q with
    | ⟨0, _⟩ => exact (Nat.zero_add _).symm
    | ⟨1, _⟩ => show (y 1).val = 128 + ((y 1).val - 128); omega

theorem readCov_pch3 (m : Memref sig .tc .vmem S2048x128 .f32) (v : ℕ → Vec F S2048x128 .f32) (w : Vec F S2048x128 .f32) (h0 : w = v 0) (n : ℕ) :
    m.view.readCov (pch3 v n ++ [⟨Rect.unit ![0, 0] S2048x128.size inb_S2048x128_S2048x128_0_0, w⟩]) (Rect.unit ![0, 0] S2048x128.size inb_S2048x128_S2048x128_0_0).toLoadRect = v n := by
  cases n with
  | zero => exact ((View.readAt_full _ _ _).trans (View.read_writes_full _ _ _ _ _)).trans h0
  | succ n => exact (View.readAt_full _ _ _).trans (View.read_writes_full _ _ _ _ _)

theorem readCov_hx3 (a12 : Memref sig .tc .vmem S8192x256 .f32) (a13 : Memref sig .tc .vmem S2048x512 .f32) (a16 a17 : Memref sig .tc .vmem S2048x128 .f32)
    (q : FVec F S2048x128 .f32) (io : IVec S2048x512 32) (Xz : BufTy.Contents (Elt F) a12.view.ty) (i : FVec F S1x128 .f32 × FVec F S1x128 .f32)
    (Gd : BufTy.Contents (Elt F) a13.view.ty) (Gx : BufTy.Contents (Elt F) a16.view.ty) (Gn : BufTy.Contents (Elt F) a17.view.ty) (w : Vec F S2048x128 .f32) (n : ℕ)
    (h0 : a16.view.read (Elt F) Gx = w) :
    a16.view.readCov (pch3 (fun k => (st3 a12 q io Xz (ent3 a13 a16 a17 i Gd Gx Gn) k).2.1) n ++ [⟨Rect.unit ![0, 0] S2048x128.size inb_S2048x128_S2048x128_0_0, w⟩])
        (Rect.unit ![0, 0] S2048x128.size inb_S2048x128_S2048x128_0_0).toLoadRect = (st3 a12 q io Xz (ent3 a13 a16 a17 i Gd Gx Gn) n).2.1 :=
  readCov_pch3 a16 (fun k => (st3 a12 q io Xz (ent3 a13 a16 a17 i Gd Gx Gn) k).2.1) w h0.symm n

theorem readCov_hn3 (a12 : Memref sig .tc .vmem S8192x256 .f32) (a13 : Memref sig .tc .vmem S2048x512 .f32) (a16 a17 : Memref sig .tc .vmem S2048x128 .f32)
    (q : FVec F S2048x128 .f32) (io : IVec S2048x512 32) (Xz : BufTy.Contents (Elt F) a12.view.ty) (i : FVec F S1x128 .f32 × FVec F S1x128 .f32)
    (Gd : BufTy.Contents (Elt F) a13.view.ty) (Gx : BufTy.Contents (Elt F) a16.view.ty) (Gn : BufTy.Contents (Elt F) a17.view.ty) (w : Vec F S2048x128 .f32) (n : ℕ)
    (h0 : a17.view.read (Elt F) Gn = w) :
    a17.view.readCov (pch3 (fun k => (st3 a12 q io Xz (ent3 a13 a16 a17 i Gd Gx Gn) k).2.2.1) n ++ [⟨Rect.unit ![0, 0] S2048x128.size inb_S2048x128_S2048x128_0_0, w⟩])
        (Rect.unit ![0, 0] S2048x128.size inb_S2048x128_S2048x128_0_0).toLoadRect = (st3 a12 q io Xz (ent3 a13 a16 a17 i Gd Gx Gn) n).2.2.1 :=
  readCov_pch3 a17 (fun k => (st3 a12 q io Xz (ent3 a13 a16 a17 i Gd Gx Gn) k).2.2.1) w h0.symm n

theorem readAt_whole {s : Shape} (m : Memref sig .tc .vmem s .f32) (h : m.IsWhole) (x : Vec F s .f32) {off : Fin s.rank → ℕ} (inb : ∀ a, off a + s.size a ≤ s.size a) :
    m.view.readAt (Elt F) (Rect.unit off s.size inb).toLoadRect (h.unread x) = x :=
  (View.readAt_full _ _ _).trans (h.read_unread _)

theorem readAt_part {s : Shape} (m : Memref sig .tc .vmem s .f32) (h : m.IsWhole) (x : Vec F s .f32) (r : Rect s) :
    m.view.readAt (Elt F) r.toLoadRect (h.unread x) = View.ld x r :=
  congrArg (fun v => View.ld v r) (h.read_unread x)

theorem feat_of {x3 x4 X3 X4 : Vec F S8192x64 .f32} {x5 X5 : Vec F S16x2x64 .f32} {x6 x7 X6 X7 : Vec F S1x64 .f32}
    (h3 : X3 = x3) (h4 : X4 = x4) (h5 : X5 = x5) (h6 : X6 = x6) (h7 : X7 = x7) : k0_pay8 X6 X3 X4 X5 X7 = feat x3 x4 x5 x6 x7 := by
  subst h3 h4 h5 h6 h7
  rfl

theorem fin3_of (a12 : Memref sig .tc .vmem S8192x256 .f32) (a13 : Memref sig .tc .vmem S2048x512 .f32) (a16 a17 : Memref sig .tc .vmem S2048x128 .f32)
    {v : FVec F S8192x64 .f32} {x0 : Vec F S8192x3 .f32} {x1 : Vec F S16x3x512 .f32} {x2 X2 : Vec F S2048x3 .f32} {x8 : Vec F S67x128 .f32} {W : Vec F S3x128 .f32}
    {Xz : BufTy.Contents (Elt F) a12.view.ty} {Gd : BufTy.Contents (Elt F) a13.view.ty} {Gx : BufTy.Contents (Elt F) a16.view.ty} {Gn : BufTy.Contents (Elt F) a17.view.ty} {T : ℕ}
    (h2 : X2 = x2) (hW : W = wp3 x8) (hz : a12.view.read (Elt F) Xz = halves3 (k0_pay14 v x0 (wp3 x8) (wx3 x8)) (k0_pay15 v x0 (wp3 x8) (wx3 x8)))
    (hd : a13.view.read (Elt F) Gd = (ent3v x1 x2).2.2.2) (hx : a16.view.read (Elt F) Gx = k0_pay19) (hn : a17.view.read (Elt F) Gn = k0_pay20) (hT : T = 16) :
    st3 a12 (k0_pay16 X2 W) (iota .tc S2048x512 32 [1] iota_S2048x512_d1_w32) Xz (ent3 a13 a16 a17 (k0_pay21, k0_pay21) Gd Gx Gn) T = fin3 v x0 x1 x2 x8 := by
  subst h2 hW hT
  unfold st3 fin3 ent3
  rw [hz, hd, hx, hn]
  rfl

theorem z3_of {v V : FVec F S8192x64 .f32} {x0 X0 : Vec F S8192x3 .f32} {x8 : Vec F S67x128 .f32} {W : Vec F S3x128 .f32} {WX : Vec F S64x128 .f32}
    (hv : V = v) (h0 : X0 = x0) (hW : W = wp3 x8) (hWX : WX = wx3 x8) :
    halves3 (k0_pay14 V X0 W WX) (k0_pay15 V X0 W WX) = halves3 (k0_pay14 v x0 (wp3 x8) (wx3 x8)) (k0_pay15 v x0 (wp3 x8) (wx3 x8)) := by
  subst hv h0 hW hWX
  rfl

theorem d3_of {x1 : Vec F S16x3x512 .f32} {x2 X2 : Vec F S2048x3 .f32} {A B C : Vec F S16x1x512 .f32} (h2 : X2 = x2) (hA : A = ax3 x1) (hB : B = ay3 x1)
    (hC : C = az3 x1) : k0_pay18 (k0_pay9 X2) (k0_pay17 X2 A) B C = (ent3v x1 x2).2.2.2 := by
  subst h2 hA hB hC
  rfl

theorem outv_of {x0 : Vec F S8192x3 .f32} {x1 : Vec F S16x3x512 .f32} {x2 : Vec F S2048x3 .f32} {x3 : Vec F S8192x64 .f32} {x4 : Vec F S8192x64 .f32} {x5 : Vec F S16x2x64 .f32} {x6 : Vec F S1x64 .f32} {x7 : Vec F S1x64 .f32} {x8 : Vec F S67x128 .f32} {x9 : Vec F S1x128 .f32} {x10 : Vec F S1x128 .f32} {X9 X10 : Vec F S1x128 .f32}
    {S : St3 F} {A B : FVec F S1x128 .f32} {HX HN : Vec F S2048x128 .f32} (h9 : X9 = x9) (h10 : X10 = x10)
    (hS : S = fin3 (feat x3 x4 x5 x6 x7) x0 x1 x2 x8) (hA : A = S.1.1) (hB : B = S.1.2) (hHX : HX = S.2.1) (hHN : HN = S.2.2.1) :
    k0_pay1 (k0_pay10 X9) (k0_pay11 X10) (k0_pay25 A) (k0_pay26 B) HX HN = outv x0 x1 x2 x3 x4 x5 x6 x7 x8 x9 x10 := by
  subst h9 h10 hA hB hHX hHN hS
  rfl

set_option maxHeartbeats 4000000 in
theorem kernel_run (c : Dev nD)
  (arg0 : Memref sig .tc .vmem S8192x3 .f32) (harg0 : arg0.IsWhole)
  (arg1 : Memref sig .tc .vmem S16x3x512 .f32) (harg1 : arg1.IsWhole)
  (arg2 : Memref sig .tc .vmem S2048x3 .f32) (harg2 : arg2.IsWhole)
  (arg3 : Memref sig .tc .vmem S8192x64 .f32) (harg3 : arg3.IsWhole)
  (arg4 : Memref sig .tc .vmem S8192x64 .f32) (harg4 : arg4.IsWhole)
  (arg5 : Memref sig .tc .vmem S16x2x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S67x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S2048x128 .f32) (harg11 : arg11.IsWhole)
  (arg12 : Memref sig .tc .vmem S8192x256 .f32) (harg12 : arg12.IsWhole)
  (arg13 : Memref sig .tc .vmem S2048x512 .f32) (harg13 : arg13.IsWhole)
  (arg14 : Memref sig .tc .vmem S2048x512 .f32) (harg14 : arg14.IsWhole)
  (arg15 : Memref sig .tc .vmem S2048x256 .f32) (harg15 : arg15.IsWhole)
  (arg16 : Memref sig .tc .vmem S2048x128 .f32) (harg16 : arg16.IsWhole)
  (arg17 : Memref sig .tc .vmem S2048x128 .f32) (harg17 : arg17.IsWhole)
  (x0 : Vec F S8192x3 .f32) (x1 : Vec F S16x3x512 .f32) (x2 : Vec F S2048x3 .f32) (x3 : Vec F S8192x64 .f32) (x4 : Vec F S8192x64 .f32) (x5 : Vec F S16x2x64 .f32) (x6 : Vec F S1x64 .f32) (x7 : Vec F S1x64 .f32) (x8 : Vec F S67x128 .f32) (x9 : Vec F S1x128 .f32) (x10 : Vec F S1x128 .f32) (E : Set ℕ) (K : PUnit → sProp 𝕄G) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outv x0 x1 x2 x3 x4 x5 x6 x7 x8 x9 x10) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0__stage3_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__stage3_kernel_eq_skeleton]; unfold cc0__stage3_kernel_skel
  simp only [k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    have ht : Scf.trips k0_t1_loop.lb k0_t1_loop.ub k0_t1_loop.st = 16 := by decide +kernel
    refine (View.read_writes_full _ _ _ _ _).trans ?_
    try unfold _root_.Cert.MidIdeal.Run.kernel_run.sl.r_2
    try unfold _root_.Cert.MidIdeal.Run.kernel_run.sl.r_3
    try unfold _root_.Cert.MidIdeal.Run.kernel_run.sl.r_7
    try unfold _root_.Cert.MidIdeal.Run.kernel_run.sl.r_8
    try unfold _root_.Cert.MidIdeal.Run.kernel_run.sl.v122
    try unfold _root_.Cert.MidIdeal.Run.kernel_run.sl.v123
    try unfold _root_.Cert.MidIdeal.Run.kernel_run.sl.H12_2
    try unfold _root_.Cert.MidIdeal.Run.kernel_run.sl.H13_1
    try unfold _root_.Cert.MidIdeal.Run.kernel_run.sl.H16_1
    try unfold _root_.Cert.MidIdeal.Run.kernel_run.sl.H17_1
    try unfold _root_.Cert.MidIdeal.Run.kernel_run.sl.r
    try unfold _root_.Cert.MidIdeal.Run.kernel_run.sl.r_1
    try unfold _root_.Cert.MidIdeal.Run.kernel_run.sl.r_4
    try unfold _root_.Cert.MidIdeal.Run.kernel_run.sl.r_5
    try unfold _root_.Cert.MidIdeal.Run.kernel_run.sl.v107
    try unfold _root_.Cert.MidIdeal.Run.kernel_run.sl.v74
    try unfold _root_.Cert.MidIdeal.Run.kernel_run.sl.r_6
    exact outv_of (S := fin3 (feat x3 x4 x5 x6 x7) x0 x1 x2 x8) (readAt_whole arg9 harg9 x9 _) (readAt_whole arg10 harg10 x10 _) rfl
      (congrArg (fun s : St3 F => s.1.1) (fin3_of arg12 arg13 arg16 arg17 (readAt_whole arg2 harg2 x2 _) (readAt_part arg8 harg8 x8 _) ((read_halves3 _ _ _ _).trans (z3_of (feat_of (readAt_whole arg3 harg3 x3 _) (readAt_whole arg4 harg4 x4 _) (readAt_whole arg5 harg5 x5 _) (readAt_whole arg6 harg6 x6 _) (readAt_whole arg7 harg7 x7 _)) (readAt_whole arg0 harg0 x0 _) (readAt_part arg8 harg8 x8 _) (readAt_part arg8 harg8 x8 _))) ((View.read_writes_full _ _ _ _ _).trans (d3_of (readAt_whole arg2 harg2 x2 _) (readAt_part arg1 harg1 x1 _) (readAt_part arg1 harg1 x1 _) (readAt_part arg1 harg1 x1 _))) (View.read_writes_full _ _ _ _ _) (View.read_writes_full _ _ _ _ _) ht))
      (congrArg (fun s : St3 F => s.1.2) (fin3_of arg12 arg13 arg16 arg17 (readAt_whole arg2 harg2 x2 _) (readAt_part arg8 harg8 x8 _) ((read_halves3 _ _ _ _).trans (z3_of (feat_of (readAt_whole arg3 harg3 x3 _) (readAt_whole arg4 harg4 x4 _) (readAt_whole arg5 harg5 x5 _) (readAt_whole arg6 harg6 x6 _) (readAt_whole arg7 harg7 x7 _)) (readAt_whole arg0 harg0 x0 _) (readAt_part arg8 harg8 x8 _) (readAt_part arg8 harg8 x8 _))) ((View.read_writes_full _ _ _ _ _).trans (d3_of (readAt_whole arg2 harg2 x2 _) (readAt_part arg1 harg1 x1 _) (readAt_part arg1 harg1 x1 _) (readAt_part arg1 harg1 x1 _))) (View.read_writes_full _ _ _ _ _) (View.read_writes_full _ _ _ _ _) ht))
      ((readCov_hx3 _ _ _ _ _ _ _ _ _ _ _ _ _ (View.read_writes_full _ _ _ _ _)).trans (congrArg (fun s : St3 F => s.2.1) (fin3_of arg12 arg13 arg16 arg17 (readAt_whole arg2 harg2 x2 _) (readAt_part arg8 harg8 x8 _) ((read_halves3 _ _ _ _).trans (z3_of (feat_of (readAt_whole arg3 harg3 x3 _) (readAt_whole arg4 harg4 x4 _) (readAt_whole arg5 harg5 x5 _) (readAt_whole arg6 harg6 x6 _) (readAt_whole arg7 harg7 x7 _)) (readAt_whole arg0 harg0 x0 _) (readAt_part arg8 harg8 x8 _) (readAt_part arg8 harg8 x8 _))) ((View.read_writes_full _ _ _ _ _).trans (d3_of (readAt_whole arg2 harg2 x2 _) (readAt_part arg1 harg1 x1 _) (readAt_part arg1 harg1 x1 _) (readAt_part arg1 harg1 x1 _))) (View.read_writes_full _ _ _ _ _) (View.read_writes_full _ _ _ _ _) ht)))
      ((readCov_hn3 _ _ _ _ _ _ _ _ _ _ _ _ _ (View.read_writes_full _ _ _ _ _)).trans (congrArg (fun s : St3 F => s.2.2.1) (fin3_of arg12 arg13 arg16 arg17 (readAt_whole arg2 harg2 x2 _) (readAt_part arg8 harg8 x8 _) ((read_halves3 _ _ _ _).trans (z3_of (feat_of (readAt_whole arg3 harg3 x3 _) (readAt_whole arg4 harg4 x4 _) (readAt_whole arg5 harg5 x5 _) (readAt_whole arg6 harg6 x6 _) (readAt_whole arg7 harg7 x7 _)) (readAt_whole arg0 harg0 x0 _) (readAt_part arg8 harg8 x8 _) (readAt_part arg8 harg8 x8 _))) ((View.read_writes_full _ _ _ _ _).trans (d3_of (readAt_whole arg2 harg2 x2 _) (readAt_part arg1 harg1 x1 _) (readAt_part arg1 harg1 x1 _) (readAt_part arg1 harg1 x1 _))) (View.read_writes_full _ _ _ _ _) (View.read_writes_full _ _ _ _ _) ht)))
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.MidIdeal.Run

end
-- ==== Proof.MidIdealFrame.lean ====
/-
  Stage 3's frame: its proof data, the body at the one grid point, the launch, and the frame claim.
-/
module

public import proofs.«01_k».proof.Proof.MidIdealRun
public import Idealize.ShloMosaic.Lib.Claim

@[expose] public section

set_option maxRecDepth 16384

noncomputable section

namespace Cert.MidIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MidIdeal Cert.MidIdeal.Gen

variable {F : FTy → Type} [FloatOps F] [Named F]

/-- The frame's resource algebra. -/
local notation "𝕄G" => MT nD τ sig Unit (Elt F) ℕ (UR sig nD τ) ℕ

variable (m : (ℓ : Loc nD τ sig) → Buf (Elt F) ℓ) (ρ : Dev nD → PrngReg)

/-- The windows' current buffers. -/
abbrev ms0_0 (t : Fin cfg0.N) : Memref sig .tc .vmem S8192x3 .f32 := win0_0.stage (cfg0.slots t 0)
abbrev ms0_1 (t : Fin cfg0.N) : Memref sig .tc .vmem S16x3x512 .f32 := win0_1.stage (cfg0.slots t 1)
abbrev ms0_2 (t : Fin cfg0.N) : Memref sig .tc .vmem S2048x3 .f32 := win0_2.stage (cfg0.slots t 2)
abbrev ms0_3 (t : Fin cfg0.N) : Memref sig .tc .vmem S8192x64 .f32 := win0_3.stage (cfg0.slots t 3)
abbrev ms0_4 (t : Fin cfg0.N) : Memref sig .tc .vmem S8192x64 .f32 := win0_4.stage (cfg0.slots t 4)
abbrev ms0_5 (t : Fin cfg0.N) : Memref sig .tc .vmem S16x2x64 .f32 := win0_5.stage (cfg0.slots t 5)
abbrev ms0_6 (t : Fin cfg0.N) : Memref sig .tc .vmem S1x64 .f32 := win0_6.stage (cfg0.slots t 6)
abbrev ms0_7 (t : Fin cfg0.N) : Memref sig .tc .vmem S1x64 .f32 := win0_7.stage (cfg0.slots t 7)
abbrev ms0_8 (t : Fin cfg0.N) : Memref sig .tc .vmem S67x128 .f32 := win0_8.stage (cfg0.slots t 8)
abbrev ms0_9 (t : Fin cfg0.N) : Memref sig .tc .vmem S1x128 .f32 := win0_9.stage (cfg0.slots t 9)
abbrev ms0_10 (t : Fin cfg0.N) : Memref sig .tc .vmem S1x128 .f32 := win0_10.stage (cfg0.slots t 10)
abbrev ms0_11 (t : Fin cfg0.N) : Memref sig .tc .vmem S2048x128 .f32 := win0_11.stage (cfg0.slots t 11)

/-- The scratch buffers. -/
abbrev scM0_0 : Memref sig .tc .vmem S8192x256 .f32 := Memref.whole cc0_scratch0
abbrev scM0_1 : Memref sig .tc .vmem S2048x512 .f32 := Memref.whole cc0_scratch1
abbrev scM0_2 : Memref sig .tc .vmem S2048x512 .f32 := Memref.whole cc0_scratch2
abbrev scM0_3 : Memref sig .tc .vmem S2048x256 .f32 := Memref.whole cc0_scratch3
abbrev scM0_4 : Memref sig .tc .vmem S2048x128 .f32 := Memref.whole cc0_scratch4
abbrev scM0_5 : Memref sig .tc .vmem S2048x128 .f32 := Memref.whole cc0_scratch5

/-- The invariant, the scratch buffers one by one. -/
theorem PhiA0_eq (c : Dev nD) :
    (Pipeline.ΦA spec0 c : sProp 𝕄G)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- What the output's buffer holds after the body. -/
def outAt (c : Dev nD) (t : Fin cfg0.N) : Vec F S2048x128 .f32 := outv (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The proof data: the arrays as the region finds them, each input's block, the output's function of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
    | ⟨n + 12, h⟩ => absurd h (Nat.not_lt.2 (Nat.le_add_left 12 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with, -/
def bodyPre (c : Dev nD) (t : Fin cfg0.N) : sProp 𝕄G :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄G :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  unfold outAt
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (kernel_run c _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array at what the proof data computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, every counter at zero. -/
theorem mid_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.MidIdeal.Run

end
-- ==== Proof.MidPre.lean ====
/-
  What the precondition of stage 3's claim says at the extended reals: every element of every argument is a real, and the
  variance stage 2's sums give is nonnegative in each channel.
-/
module

public import proofs.«01_k».proof.Pre_finite_and_spread2
public import proofs.«01_k».proof.Proof.Pre

@[expose] public section

set_option maxRecDepth 16384

noncomputable section

namespace Cert.MidPre

open Idealize.ShloMosaic Cert.Pre_finite_and_spread2 Cert.Arith

/-- The shape relations of the precondition. -/
theorem facts : Cert.Pre_finite_and_spread2.Facts where
  slices_S16x2x64_S16x1x64_0_0_0 := by decide
  shapeCasts_S16x1x64_S16x64 := by decide
  reducesTo_S16x64_S64_d0 := by decide
  h_S_ := by decide
  bcast_S_S64 := by decide
  bcast_S_S16x3x512 := by decide
  reducesTo_S16x3x512_S_d0_1_2 := by decide
  bcast_S_S16x3x128 := by decide
  reducesTo_S16x3x128_S_d0_1_2 := by decide
  bcast_S_S16x512x64 := by decide
  reducesTo_S16x512x64_S_d0_1_2 := by decide
  bcast_S_S16x2x64 := by decide
  reducesTo_S16x2x64_S_d0_1_2 := by decide
  reducesTo_S64_S_d0 := by decide
  bcast_S_S67x128 := by decide
  reducesTo_S67x128_S_d0_1 := by decide
  bcast_S_S128 := by decide
  reducesTo_S128_S_d0 := by decide
  slices_S16x2x64_S16x1x64_0_1_0 := by decide

variable [Cert.Pre_finite_and_spread2.Facts]

/-- The precondition, read. -/
theorem read (x0 : FVec Ideal S16x3x512 .f32) (x1 : FVec Ideal S16x3x128 .f32) (x2 : FVec Ideal S16x512x64 .f32) (x3 : FVec Ideal S16x512x64 .f32) (x4 : FVec Ideal S16x2x64 .f32) (x5 : FVec Ideal S64 .f32) (x6 : FVec Ideal S64 .f32) (x7 : FVec Ideal S67x128 .f32) (x8 : FVec Ideal S128 .f32) (x9 : FVec Ideal S128 .f32)
    (h : fn (F := Ideal) x0 x1 x2 x3 x4 x5 x6 x7 x8 x9 = fun _ => 1#1) :
    (∀ i, Real' (x0 i)) ∧ (∀ i, Real' (x1 i)) ∧ (∀ i, Real' (x2 i)) ∧ (∀ i, Real' (x3 i)) ∧ (∀ i, Real' (x4 i)) ∧ (∀ i, Real' (x5 i)) ∧ (∀ i, Real' (x6 i)) ∧ (∀ i, Real' (x7 i)) ∧ (∀ i, Real' (x8 i)) ∧ (∀ i, Real' (x9 i)) ∧ ∀ f : Fin 64, (0 : EReal) ≤
      Ideal.div (∑ b : Fin 16, x4 (ValueIdx.ix3 b 1 f)) (Ideal.ofBits .f32 0x48000000#32) -
        Ideal.div (∑ b : Fin 16, x4 (ValueIdx.ix3 b 0 f)) (Ideal.ofBits .f32 0x48000000#32) *
        Ideal.div (∑ b : Fin 16, x4 (ValueIdx.ix3 b 0 f)) (Ideal.ofBits .f32 0x48000000#32) := by
  have andi_one (a b : BitVec 1) : IntOp.andi a b = 1#1 ↔ a = 1#1 ∧ b = 1#1 := by revert a b; decide
  have e := congrFun h (fun i => i.elim0)
  simp only [fn, fn_part3, fn_part2, fn_part1, andi, andi_one] at e
  obtain ⟨⟨⟨⟨⟨⟨⟨⟨⟨⟨e0, e1⟩, e2⟩, e3⟩, e4⟩, e5⟩, e6⟩, e7⟩, e8⟩, e9⟩, e10⟩ := e
  refine ⟨Cert.Pre.all_real x0 _ _ _ _ e0, Cert.Pre.all_real x1 _ _ _ _ e1, Cert.Pre.all_real x2 _ _ _ _ e2, Cert.Pre.all_real x3 _ _ _ _ e3, Cert.Pre.all_real x4 _ _ _ _ e4, Cert.Pre.all_real x5 _ _ _ _ e5, Cert.Pre.all_real x6 _ _ _ _ e6, Cert.Pre.all_real x7 _ _ _ _ e7, Cert.Pre.all_real x8 _ _ _ _ e8, Cert.Pre.all_real x9 _ _ _ _ e9, fun f => ?_⟩
  have k := Host.reduce_andi_all _ _ _ _ _ e10 (ValueIdx.ix1 f)
  revert k
  pointwise
  intro k
  have andd (b : Bool) : BitVec.ofBool b = 1#1 → b = true := by cases b <;> decide
  exact of_decide_eq_true (andd _ k)

end Cert.MidPre

end
-- ==== Proof.MidRound.lean ====
/-
  One round of stage 3's selection loop over the reals: the first smallest entry of every row of distances is found and
  masked, its row of the products is read cloud by cloud, and the running maximum, minimum, sum and sum of squares take it in.
-/
module

public import proofs.«01_k».proof.Proof.MidIdealRun
public import proofs.«01_k».proof.Proof.TailRound
public import proofs.«01_k».proof.Proof.Norm

@[expose] public section

set_option maxRecDepth 16384

noncomputable section

namespace Cert.MidRound

open Idealize.ShloMosaic Idealize.ShloMosaic.TcCoe Idealize.ShloMosaic.Tactic
open Cert.MidIdeal Cert.MidIdeal.Gen Cert.MidIdeal.Run Cert.Select Cert.Consts
open Cert.TailRound (fold_minsi_eq sum_rows)

theorem mask_big_top : Named.named (F := Ideal) (φ := .f32) κ "mask_big" 0x7149F2CA#32 = (⊤ : EReal) :=
  IdealRules.named_const.ideal_named_scalar _ _ _ _ rfl

theorem neg_big_bot : Named.named (F := Ideal) (φ := .f32) κ "neg_big" 0xFF61B1E6#32 = (⊥ : EReal) :=
  IdealRules.named_const.ideal_named_scalar _ _ _ _ rfl

theorem pos_big_top : Named.named (F := Ideal) (φ := .f32) κ "pos_big" 0x7F61B1E6#32 = (⊤ : EReal) :=
  IdealRules.named_const.ideal_named_scalar _ _ _ _ rfl

/-! ## The rounds -/

section Row

variable (v : FVec Ideal S2048x512 .f32) (a : Fin 2048) (p : Fin 512)
  (h1 : ∀ j, v (ix2 a p) ≤ v (ix2 a j)) (h2 : ∀ j, v (ix2 a j) = v (ix2 a p) → p ≤ j)

theorem rowlt3 (a : Fin 2048) (p : Fin 512) : 512 * (a.val / 128) + p.val < 8192 := by omega

include h1 h2

/-- The one-hot row. -/
theorem hot3 (j : Fin 512) : k0_pay2 (F := Ideal) io3 v (ix2 a j) = if j = p then 1#1 else 0#1 := by
  pointwise [k0_pay2, io3]
  rw [top_bits, Round.fold_min_eq (fun x => v (ix2 a x)) p h1, fold_minsi_eq (by norm_num) (fun x => v (ix2 a x)) p h2]
  unfold IntOp.cmpi
  by_cases e : j = p
  · subst e; simp
  · rw [if_neg e]
    have : BitVec.ofNat 32 j.val ≠ BitVec.ofNat 32 p.val := fun h => e (Fin.ext (by
      have := congrArg BitVec.toInt h
      rw [Round.toInt_small _ (by omega), Round.toInt_small _ (by omega)] at this
      exact_mod_cast this))
    rw [beq_eq_false_iff_ne.mpr this]; rfl

/-- The masked row. -/
theorem masked3 (j : Fin 512) : k0_pay3 (F := Ideal) io3 v (ix2 a j) = if j = p then (⊤ : EReal) else v (ix2 a j) := by
  pointwise [k0_pay3]
  rw [hot3 v a p h1 h2 j, mask_big_top]
  by_cases e : j = p <;> simp [e, Scalar.select]

/-- The one-hot row as numbers. -/
theorem num3 (j : Fin 512) : k0_pay4 (F := Ideal) io3 v (ix2 a j) = if j = p then (1 : EReal) else 0 := by
  pointwise [k0_pay4]
  rw [hot3 v a p h1 h2 j]
  show ((((BitVec.setWidth 32 (if j = p then 1#1 else 0#1)).toInt : ℝ)) : EReal) = _
  split <;> simp

/-- The one-hot row's product with the cloud's part of the table is the table's row. -/
theorem gather_row3 (z : FVec Ideal S8192x256 .f32) (c : Fin 256) :
    gather3 (F := Ideal) z (k0_pay4 (F := Ideal) io3 v) (ix2 a c) = (z (ix2 ⟨512 * (a.val / 128) + p.val, rowlt3 a p⟩ c) : EReal) := by
  have e : ∀ j : Fin 512, (k0_pay4 (F := Ideal) io3 v (ix2 ⟨128 * (a.val / 128) + a.val % 128, by omega⟩ j) : EReal) =
      if j = p then 1 else 0 := by
    intro j
    have : (⟨128 * (a.val / 128) + a.val % 128, by omega⟩ : Fin 2048) = a := Fin.ext (Nat.div_add_mod a.val 128)
    rw [this]
    exact num3 v a p h1 h2 j
  unfold gather3
  generalize k0_pay4 (F := Ideal) io3 v = oh at e
  pointwise [k0_pay5]
  refine (Finset.sum_congr rfl fun j _ => congrArg (fun x : EReal => x * _) (e j)).trans ?_
  simp only [ite_mul, one_mul, zero_mul, Finset.sum_ite_eq', Finset.mem_univ, if_true]
  rfl

theorem picked3 (q : FVec Ideal S2048x128 .f32) (z : FVec Ideal S8192x256 .f32) (c : Fin 128) :
    k0_pay6 (F := Ideal) q (gather3 (F := Ideal) z (k0_pay4 (F := Ideal) io3 v)) (ix2 a c) =
      (z (ix2 ⟨512 * (a.val / 128) + p.val, rowlt3 a p⟩ ⟨c.val, by omega⟩) + z (ix2 ⟨512 * (a.val / 128) + p.val, rowlt3 a p⟩ ⟨128 + c.val, by omega⟩)
        - q (ix2 a c) : EReal) := by
  pointwise [k0_pay6]
  rw [gather_row3 v a p h1 h2, gather_row3 v a p h1 h2]

end Row

/-- What round `r` reads for centre `a` and channel `c`. -/
def took3 (q : FVec Ideal S2048x128 .f32) (z : FVec Ideal S8192x256 .f32) (D : FVec Ideal S2048x512 .f32) (r : ℕ) (a : Fin 2048)
    (c : Fin 128) : EReal :=
  z (ix2 ⟨512 * (a.val / 128) + (pick (fun j => D (ix2 a j)) r).val, rowlt3 a _⟩ ⟨c.val, by omega⟩)
    + z (ix2 ⟨512 * (a.val / 128) + (pick (fun j => D (ix2 a j)) r).val, rowlt3 a _⟩ ⟨128 + c.val, by omega⟩) - q (ix2 a c)

/-- The loop's state after `r` rounds. -/
structure After3 (q : FVec Ideal S2048x128 .f32) (z : FVec Ideal S8192x256 .f32) (D : FVec Ideal S2048x512 .f32) (r : ℕ)
    (s : St3 Ideal) : Prop where
  dist : ∀ a j, s.2.2.2 (ix2 a j) = mask (fun j => D (ix2 a j)) r j
  top : ∀ a c, s.2.1 (ix2 a c) = Finset.univ.fold max ⊥ fun k : Fin r => took3 q z D k.val a c
  low : ∀ a c, s.2.2.1 (ix2 a c) = Finset.univ.fold min ⊤ fun k : Fin r => took3 q z D k.val a c
  sum : ∀ c, s.1.1 (ix2 0 c) = ∑ k : Fin r, ∑ a, took3 q z D k.val a c
  sq : ∀ c, s.1.2 (ix2 0 c) = ∑ k : Fin r, ∑ a, took3 q z D k.val a c * took3 q z D k.val a c

section

variable (q : FVec Ideal S2048x128 .f32) (z : FVec Ideal S8192x256 .f32) (D : FVec Ideal S2048x512 .f32)

theorem after_succ3 (hD : ∀ a j, D (ix2 a j) ≠ (⊤ : EReal)) (r : ℕ) (hr : r < 512) (s : St3 Ideal) (h : After3 q z D r s) :
    After3 q z D (r + 1) (round3 q io3 z s) := by
  have hp : ∀ a, pick (fun j => D (ix2 a j)) r = sel (fun j => D (ix2 a j)) ⟨r, hr⟩ := fun a => by
    exact pick_eq _ r hr
  have hm := fun a => mask_first (fun j => D (ix2 a j)) (hD a) ⟨r, hr⟩
  have h1 : ∀ a j, s.2.2.2 (ix2 a (pick (fun j => D (ix2 a j)) r)) ≤ (s.2.2.2 (ix2 a j) : EReal) := fun a j => by
    rw [h.dist, h.dist, hp]; exact (hm a).1 j
  have h2 : ∀ a j, s.2.2.2 (ix2 a j) = (s.2.2.2 (ix2 a (pick (fun j => D (ix2 a j)) r)) : EReal) →
      pick (fun j => D (ix2 a j)) r ≤ j := fun a j e => by
    rw [h.dist, h.dist, hp] at e; rw [hp]; exact (hm a).2 j e
  have ht : ∀ a c, k0_pay6 (F := Ideal) q (gather3 (F := Ideal) z (k0_pay4 (F := Ideal) io3 s.2.2.2)) (ix2 a c) = took3 q z D r a c :=
    fun a c => picked3 s.2.2.2 a _ (h1 a) (h2 a) q z c
  constructor
  · intro a j
    unfold round3
    dsimp only
    rw [masked3 s.2.2.2 a _ (h1 a) (h2 a) j]
    refine Eq.trans ?_ (mask_succ (fun j => D (ix2 a j)) ⟨r, hr⟩ j).symm
    rw [hp, h.dist]
  · intro a c
    rw [Round.fold_last]
    unfold round3
    pointwise [k0_pay7, ht]
    exact congrArg (fun x => max x _) (h.top a c)
  · intro a c
    rw [Round.fold_last]
    unfold round3
    pointwise [k0_pay22, ht]
    exact congrArg (fun x => min x _) (h.low a c)
  · intro c
    rw [Fin.sum_univ_castSucc]
    unfold round3
    pointwise [k0_pay23, ht]
    exact congrArg (fun x : EReal => x + _) (h.sum c)
  · intro c
    rw [Fin.sum_univ_castSucc]
    unfold round3
    pointwise [k0_pay24, ht]
    exact congrArg (fun x : EReal => x + _) (h.sq c)

theorem after_iterate3 (hD : ∀ a j, D (ix2 a j) ≠ (⊤ : EReal)) (s : St3 Ideal) (h : After3 q z D 0 s) (r : ℕ) (hr : r ≤ 512) :
    After3 q z D r ((round3 q io3 z)^[r] s) := by
  induction r with
  | zero => exact h
  | succ r ih =>
    rw [Function.iterate_succ_apply']
    exact after_succ3 q z D hD r hr _ (ih (Nat.le_of_succ_le hr))

end

theorem after_entry3 (q : FVec Ideal S2048x128 .f32) (z : FVec Ideal S8192x256 .f32) (x1 : FVec Ideal S16x3x512 .f32) (x2 : FVec Ideal S2048x3 .f32) :
    After3 q z (ent3v (F := Ideal) x1 x2).2.2.2 0 (ent3v (F := Ideal) x1 x2) := by
  constructor
  · intro a j; rw [mask_zero]
  · intro a c; unfold ent3v; pointwise [k0_pay19]; exact neg_big_bot
  · intro a c; unfold ent3v; pointwise [k0_pay20]; exact pos_big_top
  · intro c; unfold ent3v; pointwise [k0_pay21]; exact (Fin.sum_univ_zero _).symm
  · intro c; unfold ent3v; pointwise [k0_pay21]; exact (Fin.sum_univ_zero _).symm

end Cert.MidRound

end
-- ==== Proof.MidSpec.lean ====
/-
  Stage 3 in closed form: stage 2's features normalised from its sums, then grouping, linear layer, batch norm and maximum over
  the neighbours.
-/
module

public import proofs.«01_k».proof.Proof.Spec
public import proofs.«01_k».proof.Proof.Norm

@[expose] public section

noncomputable section

namespace Cert.MidSpec

open Idealize.ShloMosaic
open Cert.Select Cert.Arith Cert.Norm Cert.Consts

/-- Stage 3's operands: the points, the sampled points, stage 2's maxima and minima, its sums cloud by cloud, weights. -/
structure In where
  p2 : Fin 16 → Fin 512 → Fin 3 → EReal
  p3 : Fin 16 → Fin 128 → Fin 3 → EReal
  hmax : Fin 16 → Fin 512 → Fin 64 → EReal
  hmin : Fin 16 → Fin 512 → Fin 64 → EReal
  st : Fin 16 → Fin 2 → Fin 64 → EReal
  g2 : Fin 64 → EReal
  b2 : Fin 64 → EReal
  w3 : Fin 67 → Fin 128 → EReal
  g3 : Fin 128 → EReal
  b3 : Fin 128 → EReal

variable (I : In)

/-- Stage 2's mean from its sums. -/
def pm (f : Fin 64) : EReal := Ideal.div (∑ b, I.st b 0 f) ((131072 : ℝ) : EReal)

/-- Stage 2's variance from its sums. -/
def pv (f : Fin 64) : EReal := Ideal.div (∑ b, I.st b 1 f) ((131072 : ℝ) : EReal) - pm I f * pm I f

/-- Every operand is a real, and stage 2's variances are nonnegative. -/
structure In.Real (I : In) : Prop where
  p2 : ∀ b j f, Real' (I.p2 b j f)
  p3 : ∀ b j f, Real' (I.p3 b j f)
  hmax : ∀ b j f, Real' (I.hmax b j f)
  hmin : ∀ b j f, Real' (I.hmin b j f)
  st : ∀ b e f, Real' (I.st b e f)
  g2 : ∀ b, Real' (I.g2 b)
  b2 : ∀ b, Real' (I.b2 b)
  w3 : ∀ b j, Real' (I.w3 b j)
  g3 : ∀ b, Real' (I.g3 b)
  b3 : ∀ b, Real' (I.b3 b)
  pv : ∀ f, 0 ≤ pv I f

/-- Stage 2's features. -/
def F2 (b : Fin 16) (j : Fin 512) (f : Fin 64) : EReal :=
  max (Ideal.div ((if 0 ≤ I.g2 f then I.hmax b j f else I.hmin b j f) - pm I f) (Ideal.sqrt (pv I f + Ideal.ofBits .f32 0x3727C5AC#32)) *
    I.g2 f + I.b2 f) 0

/-- Stage 3's grouped layer. -/
def H3 (c : Fin 128) (b : Fin 16) (a : Fin 128) (k : Fin 16) : EReal :=
  grp (I.p2 b) (I.p3 b a) (F2 I b) (fun i => I.w3 ⟨i.val, by omega⟩ c) (fun f => I.w3 ⟨3 + f.val, by omega⟩ c) k.val

/-- Stage 3's features. -/
def X3 (b : Fin 16) (a : Fin 128) (c : Fin 128) : EReal := nrm (H3 I c) ((32768 : ℝ) : EReal) (I.g3 c) (I.b3 c) b a

theorem bits_131072 : Ideal.ofBits .f32 0x48000000#32 = ((131072 : ℝ) : EReal) := by
  simp [Ideal.ofBits, Ideal.ieee, -EReal.coe_mul]; norm_num

theorem bits_32768 : Ideal.ofBits .f32 0x47000000#32 = ((32768 : ℝ) : EReal) := by
  simp [Ideal.ofBits, Ideal.ieee, -EReal.coe_mul]; norm_num

/-- The normalisation with a reciprocal square root, over reals. -/
theorem norm_both {h m v g b : EReal} (hh : Real' h) (hm : Real' m) (hv : Real' v) (hg : Real' g) (hb : Real' b) (h0 : 0 ≤ v) :
    max (g * (h - m) * Ideal.rsqrt (v + Ideal.ofBits .f32 0x3727C5AC#32) + b) 0 =
        max (Ideal.div (h - m) (Ideal.sqrt (v + Ideal.ofBits .f32 0x3727C5AC#32)) * g + b) 0 ∧
      Real' (max (Ideal.div (h - m) (Ideal.sqrt (v + Ideal.ofBits .f32 0x3727C5AC#32)) * g + b) 0) := by
  obtain ⟨e, he, heq⟩ := eps_bits
  obtain ⟨v, rfl⟩ := hv
  obtain ⟨m, rfl⟩ := hm
  obtain ⟨h, rfl⟩ := hh
  obtain ⟨g, rfl⟩ := hg
  obtain ⟨b, rfl⟩ := hb
  have hv0 : (0 : ℝ) ≤ v := by exact_mod_cast h0
  have hpos : 0 < v + e := by linarith
  have hsq : Real.sqrt (v + e) ≠ 0 := (Real.sqrt_pos.mpr hpos).ne'
  rw [heq, ← EReal.coe_add, Ideal.rsqrt_coe, if_neg hpos.le.not_gt, if_neg hpos.ne', Ideal.sqrt_coe,
    if_neg hpos.le.not_gt, Ideal.div_coe hsq]
  simp only [← EReal.coe_sub, ← EReal.coe_mul, ← EReal.coe_add]
  refine ⟨?_, Real'.max ⟨_, rfl⟩ Real'.zero⟩
  congr 2
  rw [one_div]; ring

theorem div_real {s : EReal} (hs : Real' s) {M : ℝ} (hM : M ≠ 0) : Real' (Ideal.div s ((M : ℝ) : EReal)) := by
  obtain ⟨r, rfl⟩ := hs
  rw [Ideal.div_coe hM, ← EReal.coe_mul]
  exact ⟨_, rfl⟩

variable {I} (h : I.Real)
include h

theorem pm_real (f : Fin 64) : Real' (pm I f) := div_real (Real'.sum fun _ => h.st _ _ _) (by norm_num)

theorem pv_real (f : Fin 64) : Real' (pv I f) :=
  (div_real (Real'.sum fun _ => h.st _ _ _) (by norm_num)).sub ((pm_real h f).mul (pm_real h f))

theorem F2_both (b : Fin 16) (j : Fin 512) (f : Fin 64) :
    max (I.g2 f * ((if 0 ≤ I.g2 f then I.hmax b j f else I.hmin b j f) - pm I f) *
      Ideal.rsqrt (pv I f + Ideal.ofBits .f32 0x3727C5AC#32) + I.b2 f) 0 = F2 I b j f ∧ Real' (F2 I b j f) :=
  norm_both (by split; exacts [h.hmax _ _ _, h.hmin _ _ _]) (pm_real h f) (pv_real h f) (h.g2 f) (h.b2 f) (h.pv f)

theorem F2_real (b : Fin 16) (j : Fin 512) (f : Fin 64) : Real' (F2 I b j f) := (F2_both h b j f).2

theorem H3_real (c : Fin 128) (b : Fin 16) (a : Fin 128) (k : Fin 16) : Real' (H3 I c b a k) :=
  regroup_real (fun _ => h.p2 _ _ _) (fun _ => h.p3 _ _ _) (fun _ => h.w3 _ _) (fun _ => F2_real h _ _ _) (fun _ => h.w3 _ _)

theorem X3_both (b : Fin 16) (a : Fin 128) (c : Fin 128) :
    max (I.g3 c * ((if 0 ≤ I.g3 c then Finset.univ.fold max ⊥ fun k => H3 I c b a k else Finset.univ.fold min ⊤ fun k => H3 I c b a k) -
      Ideal.div (∑ q : Fin 16 × Fin 128 × Fin 16, H3 I c q.1 q.2.1 q.2.2) ((32768 : ℝ) : EReal)) *
      Ideal.rsqrt (Ideal.div (∑ q : Fin 16 × Fin 128 × Fin 16, H3 I c q.1 q.2.1 q.2.2 * H3 I c q.1 q.2.1 q.2.2) ((32768 : ℝ) : EReal) -
        Ideal.div (∑ q : Fin 16 × Fin 128 × Fin 16, H3 I c q.1 q.2.1 q.2.2) ((32768 : ℝ) : EReal) *
        Ideal.div (∑ q : Fin 16 × Fin 128 × Fin 16, H3 I c q.1 q.2.1 q.2.2) ((32768 : ℝ) : EReal) +
        Ideal.ofBits .f32 0x3727C5AC#32) + I.b3 c) 0 = X3 I b a c ∧ Real' (X3 I b a c) :=
  both (H3 I c) (H3_real h c) 32768 (by norm_num) (by norm_num) (h.g3 c) (h.b3 c) b a

end Cert.MidSpec

end
-- ==== Proof.MidBlock.lean ====
/-
  Stage 3's output block over the reals.
-/
module

public import proofs.«01_k».proof.Proof.MidRound
public import proofs.«01_k».proof.Proof.MidSpec
public import proofs.«01_k».proof.Proof.TailBlock

@[expose] public section

set_option maxRecDepth 16384

noncomputable section

namespace Cert.MidBlock

open Idealize.ShloMosaic Idealize.ShloMosaic.TcCoe Idealize.ShloMosaic.Tactic
open Cert.MidIdeal Cert.MidIdeal.Gen Cert.MidIdeal.Run Cert.Select Cert.Arith Cert.MidRound Cert.MidSpec
open Cert.TailBlock (kn ix2_same)
open Cert.TailRound (sum_rows)

/-! ## The tables and the distances -/

theorem halves3_lo (a b : FVec Ideal S8192x128 .f32) (r : Fin 8192) (c : Fin 128) :
    halves3 (F := Ideal) a b (ix2 r ⟨c.val, by omega⟩) = a (ix2 r c) := by
  unfold halves3
  refine (dif_pos (show c.val < 128 from c.isLt)).trans ?_
  exact congrArg a (ix2_same r c)

theorem halves3_hi (a b : FVec Ideal S8192x128 .f32) (r : Fin 8192) (c : Fin 128) :
    halves3 (F := Ideal) a b (ix2 r ⟨128 + c.val, by omega⟩) = b (ix2 r c) := by
  unfold halves3
  refine (dif_neg (show ¬ 128 + c.val < 128 by omega)).trans ?_
  have e : (⟨128 + c.val - 128, by omega⟩ : Fin 128) = c := Fin.ext (by show 128 + c.val - 128 = c.val; omega)
  exact congrArg b ((ix2_same r _).trans (congrArg (ix2 r) e))

variable (x0 : FVec Ideal S8192x3 .f32) (x1 : FVec Ideal S16x3x512 .f32) (x2 : FVec Ideal S2048x3 .f32) (x3 x4 : FVec Ideal S8192x64 .f32)
  (x5 : FVec Ideal S16x2x64 .f32) (x6 x7 : FVec Ideal S1x64 .f32) (x8 : FVec Ideal S67x128 .f32) (x9 x10 : FVec Ideal S1x128 .f32)

theorem feat_eq (r : Fin 8192) (f : Fin 64) : feat (F := Ideal) x3 x4 x5 x6 x7 (ix2 r f) =
    max (kn (x6 (ix2 0 f)) (x7 (ix2 0 f)) (∑ b : Fin 16, x5 (ix3 b 0 f)) (∑ b : Fin 16, x5 (ix3 b 1 f)) (Ideal.ofBits .f32 0x48000000#32)
      (x3 (ix2 r f)) (x4 (ix2 r f))) 0 := by
  pointwise [feat, k0_pay8]
  unfold kn
  rfl

theorem table3 (v : FVec Ideal S8192x64 .f32) (r : Fin 8192) (c : Fin 128) : k0_pay12 (F := Ideal) v x0 (wp3 x8) (wx3 x8) (ix2 r c) =
    (∑ i : Fin 3, x0 (ix2 r i) * x8 (ix2 ⟨i.val, by omega⟩ c) + ∑ f : Fin 64, v (ix2 r f) * x8 (ix2 ⟨3 + f.val, by omega⟩ c) : EReal) := by
  pointwise [k0_pay12, wp3, wx3]

theorem dist3 (a : Fin 2048) (j : Fin 512) :
    k0_pay18 (F := Ideal) (k0_pay9 x2) (k0_pay17 x2 (ax3 x1)) (ay3 x1) (az3 x1) (ix2 a j) =
      (∑ i : Fin 3, (x2 (ix2 a i) - x1 (ix3 ⟨a.val / 128, by omega⟩ i j)) * (x2 (ix2 a i) - x1 (ix3 ⟨a.val / 128, by omega⟩ i j)) : EReal) := by
  rw [Fin.sum_univ_three]
  pointwise [k0_pay18, k0_pay17, k0_pay9, ax3, ay3, az3]

/-- A table of products in two parts, the second the first's remainder. -/
theorem took3_of (q : FVec Ideal S2048x128 .f32) (Z0 Z1 : FVec Ideal S8192x128 .f32) (D : FVec Ideal S2048x512 .f32) (k : ℕ) (b : Fin 16)
    (a : Fin 128) (c : Fin 128) (d : Fin 512 → EReal)
    (hD : ∀ j, D (ix2 ⟨a.val + 128 * b.val, by omega⟩ j) = d j) :
    took3 q (halves3 (F := Ideal) Z0 Z1) D k ⟨a.val + 128 * b.val, by omega⟩ c =
      (Z0 (ix2 ⟨(pick d k).val + 512 * b.val, by omega⟩ c) + Z1 (ix2 ⟨(pick d k).val + 512 * b.val, by omega⟩ c)
        - q (ix2 ⟨a.val + 128 * b.val, by omega⟩ c) : EReal) := by
  unfold took3
  have hd : (fun j => (D (ix2 ⟨a.val + 128 * b.val, by omega⟩ j) : EReal)) = d := funext hD
  have e : (⟨512 * ((a.val + 128 * b.val) / 128) + (pick d k).val, by omega⟩ : Fin 8192) = ⟨(pick d k).val + 512 * b.val, by omega⟩ :=
    Fin.ext (by show 512 * ((a.val + 128 * b.val) / 128) + (pick d k).val = (pick d k).val + 512 * b.val; omega)
  simp only [hd]
  rw [halves3_lo, halves3_hi, e]

theorem norm3_eq (S Q : FVec Ideal S1x128 .f32) (T L : FVec Ideal S2048x128 .f32) (r : Fin 2048) (c : Fin 128) :
    k0_pay1 (F := Ideal) (k0_pay10 x9) (k0_pay11 x10) (k0_pay25 S) (k0_pay26 Q) T L (ix2 r c) =
      max (kn (x9 (ix2 0 c)) (x10 (ix2 0 c)) (S (ix2 0 c)) (Q (ix2 0 c)) (Ideal.ofBits .f32 0x47000000#32) (T (ix2 r c)) (L (ix2 r c))) 0 := by
  pointwise [k0_pay1, k0_pay10, k0_pay11, k0_pay25, k0_pay26]
  unfold kn
  rfl

/-! ## The whole block -/

/-- The operands the blocks hold. -/
def inK : In where
  p2 b j i := x0 (ix2 ⟨j.val + 512 * b.val, by omega⟩ i)
  p3 b j i := x2 (ix2 ⟨j.val + 128 * b.val, by omega⟩ i)
  hmax b j f := x3 (ix2 ⟨j.val + 512 * b.val, by omega⟩ f)
  hmin b j f := x4 (ix2 ⟨j.val + 512 * b.val, by omega⟩ f)
  st b e f := x5 (ix3 b e f)
  g2 f := x6 (ix2 0 f)
  b2 f := x7 (ix2 0 f)
  w3 j c := x8 (ix2 j c)
  g3 c := x9 (ix2 0 c)
  b3 c := x10 (ix2 0 c)

section

variable (h : In.Real (inK x0 x2 x3 x4 x5 x6 x7 x8 x9 x10)) (h2 : ∀ b i j, x1 (ix3 b i j) = x0 (ix2 ⟨j.val + 512 * b.val, by omega⟩ i))

theorem split3 (A : Fin 2048) : ∃ (b : Fin 16) (a : Fin 128), A = ⟨a.val + 128 * b.val, by omega⟩ :=
  ⟨⟨A.val / 128, by omega⟩, ⟨A.val % 128, by omega⟩, Fin.ext (by show A.val = A.val % 128 + 128 * (A.val / 128); omega)⟩

include h2 in
theorem dist3_eq (b : Fin 16) (a : Fin 128) (j : Fin 512) : (ent3v (F := Ideal) x1 x2).2.2.2 (ix2 ⟨a.val + 128 * b.val, by omega⟩ j) =
    dist ((inK x0 x2 x3 x4 x5 x6 x7 x8 x9 x10).p2 b) ((inK x0 x2 x3 x4 x5 x6 x7 x8 x9 x10).p3 b a) j := by
  refine (dist3 x1 x2 _ j).trans ?_
  have e : (⟨(a.val + 128 * b.val) / 128, by omega⟩ : Fin 16) = b := Fin.ext (by show (a.val + 128 * b.val) / 128 = b.val; omega)
  simp only [e, h2]
  rfl

include h in
/-- Stage 2's features. -/
theorem feat_in (b : Fin 16) (j : Fin 512) (f : Fin 64) :
    feat (F := Ideal) x3 x4 x5 x6 x7 (ix2 ⟨j.val + 512 * b.val, by omega⟩ f) = F2 (inK x0 x2 x3 x4 x5 x6 x7 x8 x9 x10) b j f := by
  rw [feat_eq, bits_131072]
  exact (F2_both h b j f).1

include h h2

theorem rounds3 (q : FVec Ideal S2048x128 .f32) (z : FVec Ideal S8192x256 .f32) :
    After3 q z (ent3v (F := Ideal) x1 x2).2.2.2 16 ((round3 (F := Ideal) q io3 z)^[16] (ent3v (F := Ideal) x1 x2)) :=
  after_iterate3 q z (ent3v (F := Ideal) x1 x2).2.2.2 (fun A j => by
      obtain ⟨b, a, rfl⟩ := split3 A
      rw [dist3_eq x0 x1 x2 x3 x4 x5 x6 x7 x8 x9 x10 h2]
      exact (dist_real (fun _ _ => h.p2 _ _ _) (fun _ => h.p3 _ _ _) j).ne_top) (ent3v (F := Ideal) x1 x2)
    (after_entry3 q z x1 x2) 16 (by norm_num)

theorem fin3_after (v : FVec Ideal S8192x64 .f32) : After3 (k0_pay16 (F := Ideal) x2 (wp3 x8)) (halves3 (F := Ideal) (k0_pay14 (F := Ideal) v x0 (wp3 x8) (wx3 x8)) (k0_pay15 (F := Ideal) v x0 (wp3 x8) (wx3 x8)))
    (ent3v (F := Ideal) x1 x2).2.2.2 16 (fin3 (F := Ideal) v x0 x1 x2 x8) := by
  unfold fin3
  exact rounds3 x0 x1 x2 x3 x4 x5 x6 x7 x8 x9 x10 h h2 _ _

theorem took3_abs (q : FVec Ideal S2048x128 .f32) (Z0 Z1 : FVec Ideal S8192x128 .f32) (D : FVec Ideal S2048x512 .f32) (k : Fin 16) (b : Fin 16)
    (a : Fin 128) (c : Fin 128) (Zv : Fin 512 → EReal)
    (hD : ∀ j, D (ix2 ⟨a.val + 128 * b.val, by omega⟩ j) = dist ((inK x0 x2 x3 x4 x5 x6 x7 x8 x9 x10).p2 b) ((inK x0 x2 x3 x4 x5 x6 x7 x8 x9 x10).p3 b a) j)
    (h0 : ∀ p : Fin 512, Z0 (ix2 ⟨p.val + 512 * b.val, by omega⟩ c) = Zv p)
    (h1 : ∀ p : Fin 512, Z1 (ix2 ⟨p.val + 512 * b.val, by omega⟩ c) = Zv p - Zv p)
    (hZ : ∀ p, Zv p = (∑ i : Fin 3, (inK x0 x2 x3 x4 x5 x6 x7 x8 x9 x10).p2 b p i * (inK x0 x2 x3 x4 x5 x6 x7 x8 x9 x10).w3 ⟨i.val, by omega⟩ c +
      ∑ f : Fin 64, F2 (inK x0 x2 x3 x4 x5 x6 x7 x8 x9 x10) b p f * (inK x0 x2 x3 x4 x5 x6 x7 x8 x9 x10).w3 ⟨3 + f.val, by omega⟩ c : EReal))
    (hq : q (ix2 ⟨a.val + 128 * b.val, by omega⟩ c) = (∑ i : Fin 3, (inK x0 x2 x3 x4 x5 x6 x7 x8 x9 x10).p3 b a i * (inK x0 x2 x3 x4 x5 x6 x7 x8 x9 x10).w3 ⟨i.val, by omega⟩ c : EReal)) :
    took3 q (halves3 (F := Ideal) Z0 Z1) D k.val ⟨a.val + 128 * b.val, by omega⟩ c = H3 (inK x0 x2 x3 x4 x5 x6 x7 x8 x9 x10) c b a k := by
  rw [took3_of q Z0 Z1 D k.val b a c _ hD, h0, h1, hZ, hq]
  exact regroup (fun _ => h.p2 _ _ _) (fun _ => h.p3 _ _ _) (fun _ => h.w3 _ _) (fun _ => F2_real h _ _ _) (fun _ => h.w3 _ _)

theorem took3_v (v : FVec Ideal S8192x64 .f32) (k : Fin 16) (b : Fin 16) (a : Fin 128) (c : Fin 128)
    (hv : ∀ (j : Fin 512) (f : Fin 64), v (ix2 ⟨j.val + 512 * b.val, by omega⟩ f) = F2 (inK x0 x2 x3 x4 x5 x6 x7 x8 x9 x10) b j f) :
    took3 (k0_pay16 (F := Ideal) x2 (wp3 x8)) (halves3 (F := Ideal) (k0_pay14 (F := Ideal) v x0 (wp3 x8) (wx3 x8)) (k0_pay15 (F := Ideal) v x0 (wp3 x8) (wx3 x8)))
      (ent3v (F := Ideal) x1 x2).2.2.2 k.val ⟨a.val + 128 * b.val, by omega⟩ c = H3 (inK x0 x2 x3 x4 x5 x6 x7 x8 x9 x10) c b a k := by
  refine took3_abs x0 x1 x2 x3 x4 x5 x6 x7 x8 x9 x10 h h2 _ _ _ _ k b a c
    (fun p => k0_pay12 (F := Ideal) v x0 (wp3 x8) (wx3 x8) (ix2 ⟨p.val + 512 * b.val, by omega⟩ c))
    (fun j => dist3_eq x0 x1 x2 x3 x4 x5 x6 x7 x8 x9 x10 h2 b a j) (fun p => ?_) (fun p => ?_) (fun p => ?_) ?_
  · pointwise [k0_pay14, k0_pay13]
  · pointwise [k0_pay15, k0_pay13]
  · refine (table3 x0 x8 v _ c).trans ?_
    simp only [hv]
    rfl
  · have hq : k0_pay16 (F := Ideal) x2 (wp3 x8) (ix2 ⟨a.val + 128 * b.val, by omega⟩ c) =
        (∑ i : Fin 3, x2 (ix2 ⟨a.val + 128 * b.val, by omega⟩ i) * x8 (ix2 ⟨i.val, by omega⟩ c) : EReal) := by
      pointwise [k0_pay16, k0_pay9, wp3]
    exact hq

theorem x3_eq (v : FVec Ideal S8192x64 .f32) (hv : ∀ (b : Fin 16) (j : Fin 512) (f : Fin 64), v (ix2 ⟨j.val + 512 * b.val, by omega⟩ f) = F2 (inK x0 x2 x3 x4 x5 x6 x7 x8 x9 x10) b j f)
    (b : Fin 16) (a : Fin 128) (c : Fin 128) (s : St3 Ideal) (hs : s = fin3 (F := Ideal) v x0 x1 x2 x8) :
    max (kn (x9 (ix2 0 c)) (x10 (ix2 0 c)) (s.1.1 (ix2 0 c)) (s.1.2 (ix2 0 c))
      (Ideal.ofBits .f32 0x47000000#32) (s.2.1 (ix2 ⟨a.val + 128 * b.val, by omega⟩ c))
      (s.2.2.1 (ix2 ⟨a.val + 128 * b.val, by omega⟩ c))) 0 = X3 (inK x0 x2 x3 x4 x5 x6 x7 x8 x9 x10) b a c := by
  have F := fin3_after x0 x1 x2 x3 x4 x5 x6 x7 x8 x9 x10 h h2 v
  rw [← hs] at F
  rw [F.sum, F.sq, F.top, F.low, bits_32768, sum_rows (m := 128) rfl, sum_rows (m := 128) rfl]
  simp only [took3_v x0 x1 x2 x3 x4 x5 x6 x7 x8 x9 x10 h h2 v _ _ _ _ (hv _)]
  exact (X3_both h b a c).1

theorem outv_eq (b : Fin 16) (a : Fin 128) (c : Fin 128) :
    outv (F := Ideal) x0 x1 x2 x3 x4 x5 x6 x7 x8 x9 x10 (ix2 ⟨a.val + 128 * b.val, by omega⟩ c) = X3 (inK x0 x2 x3 x4 x5 x6 x7 x8 x9 x10) b a c := by
  unfold outv
  have hv := feat_in x0 x2 x3 x4 x5 x6 x7 x8 x9 x10 h
  generalize feat (F := Ideal) x3 x4 x5 x6 x7 = v at hv
  have hx := x3_eq x0 x1 x2 x3 x4 x5 x6 x7 x8 x9 x10 h h2 v hv b a c _ rfl
  generalize fin3 (F := Ideal) v x0 x1 x2 x8 = s at hx
  exact (norm3_eq x9 x10 s.1.1 s.1.2 s.2.1 s.2.2.1 _ c).trans hx

end

end Cert.MidBlock

end
-- ==== Proof.MidRefVal.lean ====
/-
  Stage 3's reference over the reals, read at an index.
-/
module

public import proofs.«01_k».proof.Proof.Gen.MidReferenceIdeal.Read
public import proofs.«01_k».proof.Proof.MidSpec
public import proofs.«01_k».proof.Proof.TopK
public import Idealize.ShloMosaic.Lib.Pointwise

@[expose] public section

set_option maxRecDepth 16384

noncomputable section

namespace Cert.MidRefVal

open Idealize.ShloMosaic Idealize.ShloMosaic.TcCoe Idealize.ShloMosaic.Tactic
open Cert.MidReferenceIdeal Cert.MidReferenceIdeal.Gen Cert.MidReferenceIdeal.Read
open Cert.Select Cert.Arith Cert.Consts Cert.MidSpec Cert.Norm

theorem small_toInt {N : ℕ} (hN : N ≤ 2048) (p : Fin N) : (BitVec.ofNat 32 p.val).toInt = p.val := by
  have := p.isLt
  rw [BitVec.toInt_eq_toNat_of_lt] <;> rw [BitVec.toNat_ofNat] <;> omega

theorem wrap {N : ℕ} (hN : N ≤ 2048) (p : Fin N) (u : BitVec 32) :
    Scalar.select (IntOp.cmpi .slt (BitVec.ofNat 32 p.val) 0#32) (IntOp.addi (BitVec.ofNat 32 p.val) u) (BitVec.ofNat 32 p.val) =
      BitVec.ofNat 32 p.val := by
  have : ¬ (BitVec.ofNat 32 p.val).toInt < 0 := by rw [small_toInt hN]; omega
  unfold IntOp.cmpi Scalar.select
  simp [BitVec.slt, this]

/-- The gather of the points reads the point at its start index. -/
theorem gather_pts3 {α : Type} (x : S16x512x3.Idx → α) (idx : IVec S16x128x16x1 32) (b : Fin 16) (a : Fin 128) (k : Fin 16) (i : Fin 3) (p : Fin 512)
    (h : idx (ix4 b a k 0) = BitVec.ofNat 32 p.val) : Host.gather gather_S16x512x3_S16x128x16x1_S16x128x16x3_3_1_0_0_1_3_113 x idx (ix4 b a k i) = x (ix3 b p i) := by
  have hs : gather_S16x512x3_S16x128x16x1_S16x128x16x3_3_1_0_0_1_3_113.siIdx (ix4 b a k i) (0 : Fin 1) = ix4 b a k 0 := by
    funext e
    match e with
    | ⟨0, _⟩ => rfl
    | ⟨1, _⟩ => rfl
    | ⟨2, _⟩ => rfl
    | ⟨3, _⟩ => rfl
  have ht : (BitVec.ofNat 32 p.val).toInt.toNat = p.val := by rw [small_toInt (by norm_num)]; rfl
  unfold Host.gather
  congr 1
  funext e
  apply Fin.ext
  match e with
  | ⟨0, _⟩ =>
    have h1 : gather_S16x512x3_S16x128x16x1_S16x128x16x3_3_1_0_0_1_3_113.start (ix4 b a k i) idx (0 : Fin 3) = 0 := rfl
    have h2 : gather_S16x512x3_S16x128x16x1_S16x128x16x3_3_1_0_0_1_3_113.batchCoord (ix4 b a k i) (0 : Fin 3) = b.val := rfl
    have h3 : gather_S16x512x3_S16x128x16x1_S16x128x16x3_3_1_0_0_1_3_113.offCoord (ix4 b a k i) (0 : Fin 3) = 0 := rfl
    show gather_S16x512x3_S16x128x16x1_S16x128x16x3_3_1_0_0_1_3_113.start (ix4 b a k i) idx (0 : Fin 3) + gather_S16x512x3_S16x128x16x1_S16x128x16x3_3_1_0_0_1_3_113.batchCoord (ix4 b a k i) (0 : Fin 3) + gather_S16x512x3_S16x128x16x1_S16x128x16x3_3_1_0_0_1_3_113.offCoord (ix4 b a k i) (0 : Fin 3) = b.val
    rw [h1, h2, h3]; omega
  | ⟨1, _⟩ =>
    have h1 : gather_S16x512x3_S16x128x16x1_S16x128x16x3_3_1_0_0_1_3_113.start (ix4 b a k i) idx (1 : Fin 3) = min (idx (gather_S16x512x3_S16x128x16x1_S16x128x16x3_3_1_0_0_1_3_113.siIdx (ix4 b a k i) (0 : Fin 1))).toInt.toNat 511 := rfl
    have h2 : gather_S16x512x3_S16x128x16x1_S16x128x16x3_3_1_0_0_1_3_113.batchCoord (ix4 b a k i) (1 : Fin 3) = 0 := rfl
    have h3 : gather_S16x512x3_S16x128x16x1_S16x128x16x3_3_1_0_0_1_3_113.offCoord (ix4 b a k i) (1 : Fin 3) = 0 := rfl
    show gather_S16x512x3_S16x128x16x1_S16x128x16x3_3_1_0_0_1_3_113.start (ix4 b a k i) idx (1 : Fin 3) + gather_S16x512x3_S16x128x16x1_S16x128x16x3_3_1_0_0_1_3_113.batchCoord (ix4 b a k i) (1 : Fin 3) + gather_S16x512x3_S16x128x16x1_S16x128x16x3_3_1_0_0_1_3_113.offCoord (ix4 b a k i) (1 : Fin 3) = p.val
    rw [h1, h2, h3, hs, h, ht]; omega
  | ⟨2, _⟩ =>
    have h1 : gather_S16x512x3_S16x128x16x1_S16x128x16x3_3_1_0_0_1_3_113.start (ix4 b a k i) idx (2 : Fin 3) = 0 := rfl
    have h2 : gather_S16x512x3_S16x128x16x1_S16x128x16x3_3_1_0_0_1_3_113.batchCoord (ix4 b a k i) (2 : Fin 3) = 0 := rfl
    have h3 : gather_S16x512x3_S16x128x16x1_S16x128x16x3_3_1_0_0_1_3_113.offCoord (ix4 b a k i) (2 : Fin 3) = i.val := rfl
    show gather_S16x512x3_S16x128x16x1_S16x128x16x3_3_1_0_0_1_3_113.start (ix4 b a k i) idx (2 : Fin 3) + gather_S16x512x3_S16x128x16x1_S16x128x16x3_3_1_0_0_1_3_113.batchCoord (ix4 b a k i) (2 : Fin 3) + gather_S16x512x3_S16x128x16x1_S16x128x16x3_3_1_0_0_1_3_113.offCoord (ix4 b a k i) (2 : Fin 3) = i.val
    rw [h1, h2, h3]; omega

/-- The gather of the features. -/
theorem gather_feat3 {α : Type} (x : S16x512x64.Idx → α) (idx : IVec S16x128x16x1 32) (b : Fin 16) (a : Fin 128) (k : Fin 16) (i : Fin 64) (p : Fin 512)
    (h : idx (ix4 b a k 0) = BitVec.ofNat 32 p.val) : Host.gather gather_S16x512x64_S16x128x16x1_S16x128x16x64_3_1_0_0_1_3_1164 x idx (ix4 b a k i) = x (ix3 b p i) := by
  have hs : gather_S16x512x64_S16x128x16x1_S16x128x16x64_3_1_0_0_1_3_1164.siIdx (ix4 b a k i) (0 : Fin 1) = ix4 b a k 0 := by
    funext e
    match e with
    | ⟨0, _⟩ => rfl
    | ⟨1, _⟩ => rfl
    | ⟨2, _⟩ => rfl
    | ⟨3, _⟩ => rfl
  have ht : (BitVec.ofNat 32 p.val).toInt.toNat = p.val := by rw [small_toInt (by norm_num)]; rfl
  unfold Host.gather
  congr 1
  funext e
  apply Fin.ext
  match e with
  | ⟨0, _⟩ =>
    have h1 : gather_S16x512x64_S16x128x16x1_S16x128x16x64_3_1_0_0_1_3_1164.start (ix4 b a k i) idx (0 : Fin 3) = 0 := rfl
    have h2 : gather_S16x512x64_S16x128x16x1_S16x128x16x64_3_1_0_0_1_3_1164.batchCoord (ix4 b a k i) (0 : Fin 3) = b.val := rfl
    have h3 : gather_S16x512x64_S16x128x16x1_S16x128x16x64_3_1_0_0_1_3_1164.offCoord (ix4 b a k i) (0 : Fin 3) = 0 := rfl
    show gather_S16x512x64_S16x128x16x1_S16x128x16x64_3_1_0_0_1_3_1164.start (ix4 b a k i) idx (0 : Fin 3) + gather_S16x512x64_S16x128x16x1_S16x128x16x64_3_1_0_0_1_3_1164.batchCoord (ix4 b a k i) (0 : Fin 3) + gather_S16x512x64_S16x128x16x1_S16x128x16x64_3_1_0_0_1_3_1164.offCoord (ix4 b a k i) (0 : Fin 3) = b.val
    rw [h1, h2, h3]; omega
  | ⟨1, _⟩ =>
    have h1 : gather_S16x512x64_S16x128x16x1_S16x128x16x64_3_1_0_0_1_3_1164.start (ix4 b a k i) idx (1 : Fin 3) = min (idx (gather_S16x512x64_S16x128x16x1_S16x128x16x64_3_1_0_0_1_3_1164.siIdx (ix4 b a k i) (0 : Fin 1))).toInt.toNat 511 := rfl
    have h2 : gather_S16x512x64_S16x128x16x1_S16x128x16x64_3_1_0_0_1_3_1164.batchCoord (ix4 b a k i) (1 : Fin 3) = 0 := rfl
    have h3 : gather_S16x512x64_S16x128x16x1_S16x128x16x64_3_1_0_0_1_3_1164.offCoord (ix4 b a k i) (1 : Fin 3) = 0 := rfl
    show gather_S16x512x64_S16x128x16x1_S16x128x16x64_3_1_0_0_1_3_1164.start (ix4 b a k i) idx (1 : Fin 3) + gather_S16x512x64_S16x128x16x1_S16x128x16x64_3_1_0_0_1_3_1164.batchCoord (ix4 b a k i) (1 : Fin 3) + gather_S16x512x64_S16x128x16x1_S16x128x16x64_3_1_0_0_1_3_1164.offCoord (ix4 b a k i) (1 : Fin 3) = p.val
    rw [h1, h2, h3, hs, h, ht]; omega
  | ⟨2, _⟩ =>
    have h1 : gather_S16x512x64_S16x128x16x1_S16x128x16x64_3_1_0_0_1_3_1164.start (ix4 b a k i) idx (2 : Fin 3) = 0 := rfl
    have h2 : gather_S16x512x64_S16x128x16x1_S16x128x16x64_3_1_0_0_1_3_1164.batchCoord (ix4 b a k i) (2 : Fin 3) = 0 := rfl
    have h3 : gather_S16x512x64_S16x128x16x1_S16x128x16x64_3_1_0_0_1_3_1164.offCoord (ix4 b a k i) (2 : Fin 3) = i.val := rfl
    show gather_S16x512x64_S16x128x16x1_S16x128x16x64_3_1_0_0_1_3_1164.start (ix4 b a k i) idx (2 : Fin 3) + gather_S16x512x64_S16x128x16x1_S16x128x16x64_3_1_0_0_1_3_1164.batchCoord (ix4 b a k i) (2 : Fin 3) + gather_S16x512x64_S16x128x16x1_S16x128x16x64_3_1_0_0_1_3_1164.offCoord (ix4 b a k i) (2 : Fin 3) = i.val
    rw [h1, h2, h3]; omega

variable (x0 : FVec Ideal S16x3x512 .f32) (x1 : FVec Ideal S16x3x128 .f32) (x2 x3 : FVec Ideal S16x512x64 .f32) (x4 : FVec Ideal S16x2x64 .f32)
  (x5 x6 : FVec Ideal S64 .f32) (x7 : FVec Ideal S67x128 .f32) (x8 x9 : FVec Ideal S128 .f32)

/-- The operands the arguments hold. -/
def inR : In where
  p2 b j i := x0 (ix3 b i j)
  p3 b j i := x1 (ix3 b i j)
  hmax b j f := x2 (ix3 b j f)
  hmin b j f := x3 (ix3 b j f)
  st b e f := x4 (ix3 b e f)
  g2 f := x5 (ix1 f)
  b2 f := x6 (ix1 f)
  w3 j c := x7 (ix2 j c)
  g3 c := x8 (ix1 c)
  b3 c := x9 (ix1 c)

theorem int_zero : FloatOps.sitofp (F := Ideal) .f32 (0#32) = (0 : EReal) := by
  show (((0#32 : BitVec 32).toInt : ℝ) : EReal) = 0
  simp

theorem pmean (f : Fin 64) : val_main_v6 (F := Ideal) x4 (ix1 f) = pm (inR x0 x1 x2 x3 x4 x5 x6 x7 x8 x9) f := by
  pointwise [val_main_v6, val_main_v5, val_main_v4, val_main_v3, val_main_v2, val_main_cst, val_main_cst_0, bits_131072]
  rfl

theorem pvar (f : Fin 64) : val_main_v13 (F := Ideal) x4 (ix1 f) = pv (inR x0 x1 x2 x3 x4 x5 x6 x7 x8 x9) f := by
  have e := pmean x0 x1 x2 x3 x4 x5 x6 x7 x8 x9 f
  pointwise [val_main_v13, val_main_v12, val_main_v11, val_main_v10, val_main_v9, val_main_v8, val_main_v7, val_main_cst_1, val_main_cst_2, bits_131072, e]
  rfl

theorem prior (b : Fin 16) (p : Fin 512) (f : Fin 64) : val_main_v32 (F := Ideal) x2 x3 x4 x5 x6 (ix3 b p f) = F2 (inR x0 x1 x2 x3 x4 x5 x6 x7 x8 x9) b p f := by
  have e1 := pmean x0 x1 x2 x3 x4 x5 x6 x7 x8 x9 f
  have e2 := pvar x0 x1 x2 x3 x4 x5 x6 x7 x8 x9 f
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_call0_v0, val_main_call1_v0, val_main_call1_cst, val_main_cst_3, val_main_cst_4, e1, e2]
  unfold F2
  rfl

/-! ## The stage -/

section

variable (b : Fin 16) (a : Fin 128) (k : Fin 16) (c : Fin 128) (p : Fin 512) (i : Fin 3)

theorem key3 : val_main_v40 (F := Ideal) x0 x1 (ix3 b a p) = (-Select.dist ((inR x0 x1 x2 x3 x4 x5 x6 x7 x8 x9).p2 b) ((inR x0 x1 x2 x3 x4 x5 x6 x7 x8 x9).p3 b a) p : EReal) := by
  pointwise [val_main_v40, val_main_v39, val_main_v38, val_main_v37, val_main_v36, val_main_v35, val_main_v34, val_main_v33, val_main_v1, val_main_v0, val_main_cst_5]
  rfl

/-- The chosen position. -/
def pos3 : Fin 512 := pick (Select.dist ((inR x0 x1 x2 x3 x4 x5 x6 x7 x8 x9).p2 b) ((inR x0 x1 x2 x3 x4 x5 x6 x7 x8 x9).p3 b a)) k.val

theorem index3 : val_main_indices (F := Ideal) x0 x1 (ix3 b a k) = BitVec.ofNat 32 (pos3 x0 x1 x2 x3 x4 x5 x6 x7 x8 x9 b a k).val := by
  have hk : k.val < 512 := by omega
  unfold val_main_indices pos3
  rw [pick_eq _ _ hk]
  exact topK_index _ _ b a k hk _ fun j => key3 x0 x1 x2 x3 x4 x5 x6 x7 x8 x9 b a j

theorem start3 : val_main_v46 (F := Ideal) x0 x1 (ix4 b a k 0) = BitVec.ofNat 32 (pos3 x0 x1 x2 x3 x4 x5 x6 x7 x8 x9 b a k).val := by
  pointwise [val_main_v46, val_main_v45, val_main_v44, val_main_v43, val_main_v42, val_main_v41, val_main_c, val_main_c_6]
  rw [index3 x0 x1 x2 x3 x4 x5 x6 x7 x8 x9, wrap (by norm_num)]

theorem starts3 : val_main_v53 (F := Ideal) x0 x1 (ix4 b a k 0) = BitVec.ofNat 32 (pos3 x0 x1 x2 x3 x4 x5 x6 x7 x8 x9 b a k).val := by
  pointwise [val_main_v53, val_main_v52, val_main_v51, val_main_v50, val_main_v49, val_main_v48, val_main_c_7, val_main_c_8]
  rw [index3 x0 x1 x2 x3 x4 x5 x6 x7 x8 x9, wrap (by norm_num)]

theorem pts3 : val_main_v47 (F := Ideal) x0 x1 (ix4 b a k i) = (inR x0 x1 x2 x3 x4 x5 x6 x7 x8 x9).p2 b (pos3 x0 x1 x2 x3 x4 x5 x6 x7 x8 x9 b a k) i := by
  unfold val_main_v47
  rw [gather_pts3 _ _ b a k i _ (start3 x0 x1 x2 x3 x4 x5 x6 x7 x8 x9 b a k)]
  pointwise [val_main_v0]
  rfl

theorem feat3 (f : Fin 64) : val_main_v54 (F := Ideal) x0 x1 x2 x3 x4 x5 x6 (ix4 b a k f) = F2 (inR x0 x1 x2 x3 x4 x5 x6 x7 x8 x9) b (pos3 x0 x1 x2 x3 x4 x5 x6 x7 x8 x9 b a k) f := by
  unfold val_main_v54
  rw [gather_feat3 _ _ b a k f _ (starts3 x0 x1 x2 x3 x4 x5 x6 x7 x8 x9 b a k)]
  exact prior x0 x1 x2 x3 x4 x5 x6 x7 x8 x9 b _ f

theorem grouped3 : val_main_v59 (F := Ideal) x0 x1 x2 x3 x4 x5 x6 x7 (ix4 b a k c) = H3 (inR x0 x1 x2 x3 x4 x5 x6 x7 x8 x9) c b a k := by
  have e1 := fun i => pts3 x0 x1 x2 x3 x4 x5 x6 x7 x8 x9 b a k i
  have e2 := fun f => feat3 x0 x1 x2 x3 x4 x5 x6 x7 x8 x9 b a k f
  pointwise [val_main_v59, val_main_v58, val_main_v57, val_main_v56, val_main_v55, val_main_v1, e1, e2]
  rfl

theorem total3 (v : FVec Ideal S16x128x16x128 .f32) : Ideal.hostReduceAdd reducesTo_S16x128x16x128_S128_d0_1_2 v 0 (ix1 c) =
    (∑ q : Fin 16 × Fin 128 × Fin 16, v (ix4 q.1 q.2.1 q.2.2 c) : EReal) := by
  have hdrop : ∀ (b : Fin 16) (a : Fin 128) (k : Fin 16) (d : Fin 128),
      reducesTo_S16x128x16x128_S128_d0_1_2.drop (ix4 b a k d) = ix1 d := by
    intro b a k d
    funext e
    match e with
    | ⟨0, _⟩ => rfl
  unfold Ideal.hostReduceAdd
  rw [zero_add]
  have hin : ∀ i : S16x128x16x128.Idx, reducesTo_S16x128x16x128_S128_d0_1_2.drop i = ix1 c →
      ix4 (i 0 : Fin 16) (i 1 : Fin 128) (i 2 : Fin 16) c = i := by
    intro i hi
    obtain ⟨b, a, k, d, rfl⟩ : ∃ (b : Fin 16) (a : Fin 128) (k : Fin 16) (d : Fin 128), i = ix4 b a k d :=
      ⟨i 0, i 1, i 2, i 3, eq_ix4 i⟩
    rw [hdrop] at hi
    have h1 : d = c := congrFun hi 0
    subst h1; rfl
  refine Finset.sum_nbij' (fun i => ((i 0 : Fin 16), (i 1 : Fin 128), (i 2 : Fin 16))) (fun q => ix4 q.1 q.2.1 q.2.2 c) (fun _ _ => Finset.mem_univ _)
    (fun q _ => Finset.mem_filter.mpr ⟨Finset.mem_univ _, hdrop _ _ _ _⟩) (fun i hi => hin i (Finset.mem_filter.mp hi).2)
    (fun q _ => rfl) (fun i hi => congrArg v (hin i (Finset.mem_filter.mp hi).2).symm)

theorem mean3 : val_main_v62 (F := Ideal) x0 x1 x2 x3 x4 x5 x6 x7 (ix1 c) = mean (H3 (inR x0 x1 x2 x3 x4 x5 x6 x7 x8 x9) c) ((32768 : ℝ) : EReal) := by
  have e := fun b a k => grouped3 x0 x1 x2 x3 x4 x5 x6 x7 x8 x9 b a k c
  pointwise [val_main_v62, val_main_v61, val_main_v60, val_main_cst_9, val_main_cst_10, total3, e, bits_32768]
  rfl

theorem var3 : val_main_v63 (F := Ideal) x0 x1 x2 x3 x4 x5 x6 x7 (ix1 c) = vr (H3 (inR x0 x1 x2 x3 x4 x5 x6 x7 x8 x9) c) ((32768 : ℝ) : EReal) := by
  have e := fun b a k => grouped3 x0 x1 x2 x3 x4 x5 x6 x7 x8 x9 b a k c
  pointwise [val_main_v63, val_main_call2_v12, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_cst, val_main_call2_cst_0, val_main_call2_cst_1, val_main_call2_cst_2, val_main_call2_cst_3, val_main_call2_cst_4, val_main_call2_call0_v0, val_main_call2_call0_v1, val_main_c_11, total3, e]
  rw [int_zero, sub_zero, bits_32768, if_pos (by exact_mod_cast (by norm_num : (0 : ℝ) < 32768))]
  rfl

theorem norm3 : val_main_v80 (F := Ideal) x0 x1 x2 x3 x4 x5 x6 x7 x8 x9 (ix3 b a c) = X3 (inR x0 x1 x2 x3 x4 x5 x6 x7 x8 x9) b a c := by
  have e := fun k => grouped3 x0 x1 x2 x3 x4 x5 x6 x7 x8 x9 b a k c
  have e1 := mean3 x0 x1 x2 x3 x4 x5 x6 x7 x8 x9 c
  have e2 := var3 x0 x1 x2 x3 x4 x5 x6 x7 x8 x9 c
  pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_call3_v0, val_main_call3_cst, val_main_cst_12, val_main_cst_13, e, e1, e2, bot_bits]
  rfl

end

theorem out_eq (b : Fin 16) (a : Fin 128) (c : Fin 128) : val_main_v81 (F := Ideal) x0 x1 x2 x3 x4 x5 x6 x7 x8 x9 (ix2 ⟨a.val + 128 * b.val, by omega⟩ c) = X3 (inR x0 x1 x2 x3 x4 x5 x6 x7 x8 x9) b a c := by
  have e1 : (⟨(a.val + 128 * b.val) / 128, by omega⟩ : Fin 16) = b := Fin.ext (by show (a.val + 128 * b.val) / 128 = b.val; omega)
  have e2 : (⟨(a.val + 128 * b.val) % 128, by omega⟩ : Fin 128) = a := Fin.ext (by show (a.val + 128 * b.val) % 128 = a.val; omega)
  have e := fun b a => norm3 x0 x1 x2 x3 x4 x5 x6 x7 x8 x9 b a c
  pointwise [val_main_v81, e, e1, e2]

end Cert.MidRefVal

end
-- ==== Proof.MidTie.lean ====
/-
  Stage 3's result array after the run against the reference's result.
-/
module

public import proofs.«01_k».proof.Proof.MidBlock
public import proofs.«01_k».proof.Proof.MidRefVal
public import proofs.«01_k».proof.Proof.MidIdealFrame
public import Idealize.ShloMosaic.Lib.Pipeline.Value
public import Idealize.ShloMosaic.Lib.Pipeline.ValueKit
public import Idealize.ShloMosaic.Lib.Claim

@[expose] public section

set_option maxRecDepth 16384

noncomputable section

namespace Cert.MidTie

open Cert.MidSpec Cert.MidBlock Cert.MidRefVal Cert.MidIdeal Cert.MidIdeal.Gen Cert.MidIdeal.Run Idealize.ShloMosaic Idealize.ShloMosaic.TcCoe Idealize.SL.Sem Cert.Arith
open Idealize.ShloMosaic.Pipeline (Dat)

theorem idx : ∀ t : Fin grid0.N,
    (win0_0.index t 0 = 0 ∧ win0_0.index t 1 = 0) ∧
    (win0_1.index t 0 = 0 ∧ win0_1.index t 1 = 0 ∧ win0_1.index t 2 = 0) ∧
    (win0_2.index t 0 = 0 ∧ win0_2.index t 1 = 0) ∧
    (win0_3.index t 0 = 0 ∧ win0_3.index t 1 = 0) ∧
    (win0_4.index t 0 = 0 ∧ win0_4.index t 1 = 0) ∧
    (win0_5.index t 0 = 0 ∧ win0_5.index t 1 = 0 ∧ win0_5.index t 2 = 0) ∧
    (win0_6.index t 0 = 0 ∧ win0_6.index t 1 = 0) ∧
    (win0_7.index t 0 = 0 ∧ win0_7.index t 1 = 0) ∧
    (win0_8.index t 0 = 0 ∧ win0_8.index t 1 = 0) ∧
    (win0_9.index t 0 = 0 ∧ win0_9.index t 1 = 0) ∧
    (win0_10.index t 0 = 0 ∧ win0_10.index t 1 = 0) ∧
    (win0_11.index t 0 = 0 ∧ win0_11.index t 1 = 0) := by
  decide +kernel

variable (m : (ℓ : Loc nD τ sig) → Buf (Elt Ideal) ℓ) (c : Dev nD) (t : Fin cfg0.N)

theorem iblk1 : iblk m c 1 t = m ((c : Thread nD τ).loc main_arg0) := by
  blk_ext! [iblk, V, idx t]

theorem iblk5 : iblk m c 5 t = m ((c : Thread nD τ).loc main_arg4) := by
  blk_ext! [iblk, V, idx t]

theorem iblk8 : iblk m c 8 t = m ((c : Thread nD τ).loc main_arg7) := by
  blk_ext! [iblk, V, idx t]

theorem iblk0 (b : Fin 16) (j : Fin 512) (i : Fin 3) : iblk m c 0 t (ix2 ⟨j.val + 512 * b.val, by omega⟩ i) =
    m ((c : Thread nD τ).loc main_arg0) (ix3 b i j) := by
  have e1 : (⟨(j.val + 512 * b.val) / 512, by omega⟩ : Fin 16) = b := Fin.ext (by show (j.val + 512 * b.val) / 512 = b.val; omega)
  have e2 : (⟨(j.val + 512 * b.val) % 512, by omega⟩ : Fin 512) = j := Fin.ext (by show (j.val + 512 * b.val) % 512 = j.val; omega)
  blk_simp [iblk, idx t]
  entry_read
  pointwise
  blk_ext [idx t]

theorem iblk2 (b : Fin 16) (j : Fin 128) (i : Fin 3) : iblk m c 2 t (ix2 ⟨j.val + 128 * b.val, by omega⟩ i) =
    m ((c : Thread nD τ).loc main_arg1) (ix3 b i j) := by
  have e1 : (⟨(j.val + 128 * b.val) / 128, by omega⟩ : Fin 16) = b := Fin.ext (by show (j.val + 128 * b.val) / 128 = b.val; omega)
  have e2 : (⟨(j.val + 128 * b.val) % 128, by omega⟩ : Fin 128) = j := Fin.ext (by show (j.val + 128 * b.val) % 128 = j.val; omega)
  blk_simp [iblk, idx t]
  entry_read
  pointwise
  blk_ext [idx t]

theorem iblk3 (b : Fin 16) (j : Fin 512) (i : Fin 64) : iblk m c 3 t (ix2 ⟨j.val + 512 * b.val, by omega⟩ i) =
    m ((c : Thread nD τ).loc main_arg2) (ix3 b j i) := by
  have e1 : (⟨(j.val + 512 * b.val) / 512, by omega⟩ : Fin 16) = b := Fin.ext (by show (j.val + 512 * b.val) / 512 = b.val; omega)
  have e2 : (⟨(j.val + 512 * b.val) % 512, by omega⟩ : Fin 512) = j := Fin.ext (by show (j.val + 512 * b.val) % 512 = j.val; omega)
  blk_simp [iblk, idx t]
  entry_read
  pointwise
  blk_ext [idx t]

theorem iblk4 (b : Fin 16) (j : Fin 512) (i : Fin 64) : iblk m c 4 t (ix2 ⟨j.val + 512 * b.val, by omega⟩ i) =
    m ((c : Thread nD τ).loc main_arg3) (ix3 b j i) := by
  have e1 : (⟨(j.val + 512 * b.val) / 512, by omega⟩ : Fin 16) = b := Fin.ext (by show (j.val + 512 * b.val) / 512 = b.val; omega)
  have e2 : (⟨(j.val + 512 * b.val) % 512, by omega⟩ : Fin 512) = j := Fin.ext (by show (j.val + 512 * b.val) % 512 = j.val; omega)
  blk_simp [iblk, idx t]
  entry_read
  pointwise
  blk_ext [idx t]

theorem iblk6 (f : Fin 64) : iblk m c 6 t (ix2 0 f) = m ((c : Thread nD τ).loc main_arg5) (ix1 f) := by
  blk_simp [iblk, idx t]
  entry_read
  pointwise
  blk_ext [idx t]

theorem iblk7 (f : Fin 64) : iblk m c 7 t (ix2 0 f) = m ((c : Thread nD τ).loc main_arg6) (ix1 f) := by
  blk_simp [iblk, idx t]
  entry_read
  pointwise
  blk_ext [idx t]

theorem iblk9 (f : Fin 128) : iblk m c 9 t (ix2 0 f) = m ((c : Thread nD τ).loc main_arg8) (ix1 f) := by
  blk_simp [iblk, idx t]
  entry_read
  pointwise
  blk_ext [idx t]

theorem iblk10 (f : Fin 128) : iblk m c 10 t (ix2 0 f) = m ((c : Thread nD τ).loc main_arg9) (ix1 f) := by
  blk_simp [iblk, idx t]
  entry_read
  pointwise
  blk_ext [idx t]

/-! ## The blocks against the arguments, over any contents -/

section

variable {x0 : FVec Ideal S8192x3 .f32} {x1 : FVec Ideal S16x3x512 .f32} {x2 : FVec Ideal S2048x3 .f32} {x3 x4 : FVec Ideal S8192x64 .f32}
  {x5 : FVec Ideal S16x2x64 .f32} {x6 x7 : FVec Ideal S1x64 .f32} {x8 : FVec Ideal S67x128 .f32} {x9 x10 : FVec Ideal S1x128 .f32}
  {y0 : FVec Ideal S16x3x512 .f32} {y1 : FVec Ideal S16x3x128 .f32} {y2 y3 : FVec Ideal S16x512x64 .f32} {y4 : FVec Ideal S16x2x64 .f32}
  {y5 y6 : FVec Ideal S64 .f32} {y7 : FVec Ideal S67x128 .f32} {y8 y9 : FVec Ideal S128 .f32}

theorem in_eq
    (h0 : ∀ (b : Fin 16) (j : Fin 512) (i : Fin 3), x0 (ix2 ⟨j.val + 512 * b.val, by omega⟩ i) = y0 (ix3 b i j))
    (h2 : ∀ (b : Fin 16) (j : Fin 128) (i : Fin 3), x2 (ix2 ⟨j.val + 128 * b.val, by omega⟩ i) = y1 (ix3 b i j))
    (h3 : ∀ (b : Fin 16) (j : Fin 512) (i : Fin 64), x3 (ix2 ⟨j.val + 512 * b.val, by omega⟩ i) = y2 (ix3 b j i))
    (h4 : ∀ (b : Fin 16) (j : Fin 512) (i : Fin 64), x4 (ix2 ⟨j.val + 512 * b.val, by omega⟩ i) = y3 (ix3 b j i))
    (h5 : x5 = y4) (h6 : ∀ f : Fin 64, x6 (ix2 0 f) = y5 (ix1 f)) (h7 : ∀ f : Fin 64, x7 (ix2 0 f) = y6 (ix1 f))
    (h8 : x8 = y7) (h9 : ∀ f : Fin 128, x9 (ix2 0 f) = y8 (ix1 f)) (h10 : ∀ f : Fin 128, x10 (ix2 0 f) = y9 (ix1 f)) :
    inK x0 x2 x3 x4 x5 x6 x7 x8 x9 x10 = inR y0 y1 y2 y3 y4 y5 y6 y7 y8 y9 := by
  subst h5 h8
  simp only [inK, inR, In.mk.injEq]
  exact ⟨funext fun b => funext fun j => funext fun i => h0 b j i, funext fun b => funext fun j => funext fun i => h2 b j i,
    funext fun b => funext fun j => funext fun i => h3 b j i, funext fun b => funext fun j => funext fun i => h4 b j i, trivial,
    funext h6, funext h7, trivial, funext h9, funext h10⟩

theorem real_in (g0 : ∀ i, Real' (y0 i)) (g1 : ∀ i, Real' (y1 i)) (g2 : ∀ i, Real' (y2 i)) (g3 : ∀ i, Real' (y3 i)) (g4 : ∀ i, Real' (y4 i))
    (g5 : ∀ i, Real' (y5 i)) (g6 : ∀ i, Real' (y6 i)) (g7 : ∀ i, Real' (y7 i)) (g8 : ∀ i, Real' (y8 i)) (g9 : ∀ i, Real' (y9 i))
    (gv : ∀ f : Fin 64, (0 : EReal) ≤ Ideal.div (∑ b : Fin 16, y4 (ix3 b 1 f)) (Ideal.ofBits .f32 0x48000000#32) -
      Ideal.div (∑ b : Fin 16, y4 (ix3 b 0 f)) (Ideal.ofBits .f32 0x48000000#32) *
      Ideal.div (∑ b : Fin 16, y4 (ix3 b 0 f)) (Ideal.ofBits .f32 0x48000000#32)) :
    In.Real (inR y0 y1 y2 y3 y4 y5 y6 y7 y8 y9) :=
  ⟨fun _ _ _ => g0 _, fun _ _ _ => g1 _, fun _ _ _ => g2 _, fun _ _ _ => g3 _, fun _ _ _ => g4 _, fun _ => g5 _, fun _ => g6 _, fun _ _ => g7 _,
    fun _ => g8 _, fun _ => g9 _, fun f => by have e := gv f; rw [bits_131072] at e; exact e⟩

theorem point_abs
    (h0 : ∀ (b : Fin 16) (j : Fin 512) (i : Fin 3), x0 (ix2 ⟨j.val + 512 * b.val, by omega⟩ i) = y0 (ix3 b i j)) (h1 : x1 = y0)
    (h2 : ∀ (b : Fin 16) (j : Fin 128) (i : Fin 3), x2 (ix2 ⟨j.val + 128 * b.val, by omega⟩ i) = y1 (ix3 b i j))
    (h3 : ∀ (b : Fin 16) (j : Fin 512) (i : Fin 64), x3 (ix2 ⟨j.val + 512 * b.val, by omega⟩ i) = y2 (ix3 b j i))
    (h4 : ∀ (b : Fin 16) (j : Fin 512) (i : Fin 64), x4 (ix2 ⟨j.val + 512 * b.val, by omega⟩ i) = y3 (ix3 b j i))
    (h5 : x5 = y4) (h6 : ∀ f : Fin 64, x6 (ix2 0 f) = y5 (ix1 f)) (h7 : ∀ f : Fin 64, x7 (ix2 0 f) = y6 (ix1 f))
    (h8 : x8 = y7) (h9 : ∀ f : Fin 128, x9 (ix2 0 f) = y8 (ix1 f)) (h10 : ∀ f : Fin 128, x10 (ix2 0 f) = y9 (ix1 f))
    (hr : In.Real (inR y0 y1 y2 y3 y4 y5 y6 y7 y8 y9)) (b : Fin 16) (a : Fin 128) (o : Fin 128) :
    outv (F := Ideal) x0 x1 x2 x3 x4 x5 x6 x7 x8 x9 x10 (ix2 ⟨a.val + 128 * b.val, by omega⟩ o) = Cert.MidReferenceIdeal.Read.val_main_v81 (F := Ideal) y0 y1 y2 y3 y4 y5 y6 y7 y8 y9 (ix2 ⟨a.val + 128 * b.val, by omega⟩ o) := by
  have e := in_eq h0 h2 h3 h4 h5 h6 h7 h8 h9 h10
  rw [MidBlock.outv_eq x0 x1 x2 x3 x4 x5 x6 x7 x8 x9 x10 (e ▸ hr) (fun b i j => (congrFun h1 _).trans (h0 b j i).symm) b a o, MidRefVal.out_eq y0 y1 y2 y3 y4 y5 y6 y7 y8 y9 b a o, e]

end

/-! ## The result array -/

/-- What the proof takes of the arguments. -/
structure Good : Prop where
  g0 : ∀ i, Real' (m ((c : Thread nD τ).loc main_arg0) i)
  g1 : ∀ i, Real' (m ((c : Thread nD τ).loc main_arg1) i)
  g2 : ∀ i, Real' (m ((c : Thread nD τ).loc main_arg2) i)
  g3 : ∀ i, Real' (m ((c : Thread nD τ).loc main_arg3) i)
  g4 : ∀ i, Real' (m ((c : Thread nD τ).loc main_arg4) i)
  g5 : ∀ i, Real' (m ((c : Thread nD τ).loc main_arg5) i)
  g6 : ∀ i, Real' (m ((c : Thread nD τ).loc main_arg6) i)
  g7 : ∀ i, Real' (m ((c : Thread nD τ).loc main_arg7) i)
  g8 : ∀ i, Real' (m ((c : Thread nD τ).loc main_arg8) i)
  g9 : ∀ i, Real' (m ((c : Thread nD τ).loc main_arg9) i)
  gv : ∀ f : Fin 64, (0 : EReal) ≤ Ideal.div (∑ b : Fin 16, (m ((c : Thread nD τ).loc main_arg4) : FVec Ideal S16x2x64 .f32) (ix3 b 1 f)) (Ideal.ofBits .f32 0x48000000#32) -
      Ideal.div (∑ b : Fin 16, (m ((c : Thread nD τ).loc main_arg4) : FVec Ideal S16x2x64 .f32) (ix3 b 0 f)) (Ideal.ofBits .f32 0x48000000#32) *
      Ideal.div (∑ b : Fin 16, (m ((c : Thread nD τ).loc main_arg4) : FVec Ideal S16x2x64 .f32) (ix3 b 0 f)) (Ideal.ofBits .f32 0x48000000#32)

/-- The reference's result over the kernel's arguments. -/
def refOut (c : Dev nD) : Buf (Elt Ideal) ((c : Thread nD τ).loc main_v10) :=
  Cert.MidReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

variable (g : Good m c)
include g

theorem point (b : Fin 16) (a : Fin 128) (o : Fin 128) :
    outAt m c t (ix2 ⟨a.val + 128 * b.val, by omega⟩ o) = refOut m c (ix2 ⟨a.val + 128 * b.val, by omega⟩ o) :=
  point_abs (iblk0 m c t) (iblk1 m c t) (iblk2 m c t) (iblk3 m c t) (iblk4 m c t) (iblk5 m c t) (iblk6 m c t) (iblk7 m c t) (iblk8 m c t)
    (iblk9 m c t) (iblk10 m c t) (real_in g.g0 g.g1 g.g2 g.g3 g.g4 g.g5 g.g6 g.g7 g.g8 g.g9 g.gv) b a o

omit g in
theorem at2 {x G : FVec Ideal S2048x128 .f32}
    (h : ∀ (b : Fin 16) (a : Fin 128) (o : Fin 128), x (ix2 ⟨a.val + 128 * b.val, by omega⟩ o) = G (ix2 ⟨a.val + 128 * b.val, by omega⟩ o)) : x = G := by
  have h' : ∀ (r : Fin 2048) (o : Fin 128), x (ix2 r o) = G (ix2 r o) := fun r o => by
    obtain ⟨b, a, rfl⟩ := split3 r
    exact h b a o
  funext y
  have e : y = ix2 (y 0) (y 1) := by
    funext a
    match a with
    | ⟨0, _⟩ => rfl
    | ⟨1, _⟩ => rfl
  rw [e]
  exact h' _ _

theorem final11 : (dats m 0 c).arrAt 11 cfg0.N = refOut m c := by
  refine (dats m 0 c).arrAt_eq_of_covers 11 _ (by decide +kernel) fun t hf y => ?_
  blk_simp
  rw [after0_11]
  have e : outAt m c t = refOut m c := at2 (point m c t g)
  rw [e]
  clear e
  generalize refOut m c = G
  blk_ext [idx t]

omit g in
/-- The run, the result array named and the arguments kept. -/
theorem run_blocks (ρ : Dev nD → PrngReg) : θ_run defs (onTc (τ := τ) (main (F := Ideal))) ⟨m, fun _ => 0, ρ⟩ fun r =>
    (∀ c : Dev nD, r.2.mem ((c.tc : Thread nD τ).loc main_v10) = (dats m 0 c).arrAt 11 cfg0.N)
    ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  θ_run_and ((θ_run defs _ _).mono (fun _ h c => (h c).1 11) (run_main m ρ)) (frame_of m ρ (dats m) (A_eq m) (run_main m ρ))

end Cert.MidTie

end
-- ==== Proof.lean ====
module

public import proofs.«01_k».proof.Proof.Gen.Mid
public import proofs.«01_k».proof.Proof.Gen.MidIdeal
public import proofs.«01_k».proof.Proof.Gen.MidReferenceIdeal
public import proofs.«01_k».proof.Proof.Gen.MidReferenceIdeal.Run
public import proofs.«01_k».proof.Proof.Gen.MidReferenceIdeal.Read
public import proofs.«01_k».proof.Proof.Gen.Mid.Frame
public import proofs.«01_k».proof.Proof.Gen.MidIdeal.Frame
public import proofs.«01_k».proof.Proof.Gen.Mid.Loops
public import proofs.«01_k».proof.Proof.Gen.MidIdeal.Loops
public import proofs.«01_k».proof.Proof.Gen.Tail
public import proofs.«01_k».proof.Proof.Gen.TailIdeal
public import proofs.«01_k».proof.Proof.Gen.TailReferenceIdeal
public import proofs.«01_k».proof.Proof.Gen.TailReferenceIdeal.Run
public import proofs.«01_k».proof.Proof.Gen.TailReferenceIdeal.Read
public import proofs.«01_k».proof.Proof.Gen.Tail.Frame
public import proofs.«01_k».proof.Proof.Gen.TailIdeal.Frame
public import proofs.«01_k».proof.Proof.Gen.Tail.Loops
public import proofs.«01_k».proof.Proof.Gen.TailIdeal.Loops
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.PureOps.IdealRules
public import proofs.«01_k».proof.Proof.Pre
public import proofs.«01_k».proof.Proof.Tie
public import proofs.«01_k».proof.Proof.TailFrame
public import proofs.«01_k».proof.Proof.TailIdealFrame
public import proofs.«01_k».proof.Proof.TailPre
public import proofs.«01_k».proof.Proof.TailTie
public import proofs.«01_k».proof.Proof.MidFrame
public import proofs.«01_k».proof.Proof.MidIdealFrame
public import proofs.«01_k».proof.Proof.MidPre
public import proofs.«01_k».proof.Proof.MidTie

@[expose] public section

set_option maxRecDepth 16384

noncomputable section

namespace Cert.Proof

open Idealize.ShloMosaic Idealize.ShloMosaic.TcCoe Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_and_spread (hPre_finite_and_spread := Cert.Pre.facts) :=
  fun m ρ _ => Cert.KernelIdeal.Gen.frame m ρ

theorem frame_r : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem frame_r_pre : Cert.quiescent_ReferenceIdeal_pre_finite_and_spread (hPre_finite_and_spread := Cert.Pre.facts) :=
  fun m g _ => frame_r m g trivial

theorem preserves : Cert.preserves_Kernel_KernelIdeal :=
  ⟨IdealRules.named_const.statement Cert.KernelIdeal.κ "neg_big" .f32 0xFF61B1E6#32 ⊥ rfl,
    IdealRules.named_const.statement Cert.KernelIdeal.κ "pos_big" .f32 0x7F61B1E6#32 ⊤ rfl,
    IdealRules.named_const.statement Cert.KernelIdeal.κ "mask_big" .f32 0x7149F2CA#32 ⊤ rfl⟩

/-- The precondition on a device, read. -/
theorem good (m : (ℓ : Loc Cert.KernelIdeal.nD Cert.KernelIdeal.τ Cert.KernelIdeal.sig) → Buf (Elt Ideal) ℓ)
    (h : Cert.Pre_KernelIdeal_finite_and_spread (hPre_finite_and_spread := Cert.Pre.facts) m) (c : Dev Cert.KernelIdeal.nD) :
    Cert.Tie.Good m c := by
  obtain ⟨h0, h1, h2, h3, h4, h5, h6, hv⟩ := @Cert.Pre.read Cert.Pre.facts _ _ _ _ _ _ _ (h c)
  exact ⟨h0, h1, h2, h3, h4, h5, h6, hv⟩

theorem algebraic : Cert.algebraic_KernelIdeal_ReferenceIdeal_pre_finite_and_spread (hPre_finite_and_spread := Cert.Pre.facts) := by
  intro m g m' g' hpre hagree
  refine ⟨fun c => Cert.Tie.refTop m c, fun c => Cert.Tie.refLow m c, fun c => Cert.Tie.refSums m c, ?_, ?_⟩
  · refine (θ_run Cert.KernelIdeal.defs _ _).mono (fun r h c => ?_) (Cert.KernelIdeal.Value.run_blocks (F := Ideal) m g)
    obtain ⟨o0, o1, o2, rest⟩ := h c
    exact ⟨o0.trans (Cert.Tie.final9 m c (good m hpre c)), o1.trans (Cert.Tie.final10 m c (good m hpre c)),
      o2.trans (Cert.Tie.final11 m c (good m hpre c)), rest⟩
  · refine (θ_run Cert.ReferenceIdeal.defs _ _).mono (fun r h c => ?_) (Cert.ReferenceIdeal.Value.run (F := Ideal) m' g')
    obtain ⟨o0, o1, o2, rest⟩ := h c
    obtain ⟨e0, e1, e2, e3, e4, e5, e6⟩ := hagree c
    refine ⟨o0.trans ((Cert.ReferenceIdeal.Read.val_main_v62_eq m' c).trans ?_), o1.trans ((Cert.ReferenceIdeal.Read.val_main_v63_eq m' c).trans ?_),
      o2.trans ((Cert.ReferenceIdeal.Read.val_main_v61_eq m' c).trans ?_), rest⟩
    · rw [e0, e1, e2, e3, e4, e5, e6]
    · rw [e0, e1, e2, e3, e4, e5, e6]
    · rw [e0, e1, e2, e3, e4, e5, e6]

theorem frame_tail : Cert.quiescent_Tail := fun m ρ _ => Cert.Tail.Run.tail_frame m ρ
theorem frame_tail_ideal : Cert.quiescent_TailIdeal := fun m ρ _ => Cert.TailIdeal.Run.tail_frame m ρ

theorem frame_tail_ref : Cert.quiescent_TailReferenceIdeal := fun m ρ _ =>
  (θ_run Cert.TailReferenceIdeal.defs _ _).mono (fun r h => ⟨fun c => (h c).2,
      Idealize.ShloMosaic.sem_eq_zero_of_no_sems (by decide) r.2⟩)
    (Cert.TailReferenceIdeal.Value.run (F := Ideal) m ρ)

theorem preserves_tail : Cert.preserves_Tail_TailIdeal :=
  ⟨IdealRules.named_const.statement Cert.TailIdeal.κ "neg_big" .f32 0xFF61B1E6#32 ⊥ rfl,
    IdealRules.named_const.statement Cert.TailIdeal.κ "pos_big" .f32 0x7F61B1E6#32 ⊤ rfl,
    IdealRules.named_const.statement Cert.TailIdeal.κ "mask_big" .f32 0x7149F2CA#32 ⊤ rfl⟩

theorem frame_tail_ideal_pre : Cert.quiescent_TailIdeal_pre_finite (hPre_finite := Cert.TailPre.facts) :=
  fun m ρ _ => Cert.TailIdeal.Run.tail_frame m ρ
theorem frame_tail_ref_pre : Cert.quiescent_TailReferenceIdeal_pre_finite (hPre_finite := Cert.TailPre.facts) :=
  fun m g _ => frame_tail_ref m g trivial

/-- The tail's precondition on a device, read. -/
theorem good_tail (m : (ℓ : Loc Cert.TailIdeal.nD Cert.TailIdeal.τ Cert.TailIdeal.sig) → Buf (Elt Ideal) ℓ)
    (h : Cert.Pre_TailIdeal_finite (hPre_finite := Cert.TailPre.facts) m) (c : Dev Cert.TailIdeal.nD) : Cert.TailTie.Good m c := by
  obtain ⟨h0, h1, h2, h3, h4, h5, h6, h7, h8, h9⟩ := @Cert.TailPre.read Cert.TailPre.facts _ _ _ _ _ _ _ _ _ _ _ _ _ _ (h c)
  exact ⟨h0, h1, h2, h3, h4, h5, h6, h7, h8, h9⟩

theorem algebraic_tail : Cert.algebraic_TailIdeal_TailReferenceIdeal_pre_finite (hPre_finite := Cert.TailPre.facts) := by
  intro m g m' g' hpre hagree
  refine ⟨fun c => Cert.TailTie.refOut m c, ?_, ?_⟩
  · refine (θ_run Cert.TailIdeal.defs _ _).mono (fun r h c => ?_) (Cert.TailTie.run_blocks m g)
    exact ⟨(h.1 c).trans (Cert.TailTie.final16 m c (good_tail m hpre c)), h.2 c⟩
  · refine (θ_run Cert.TailReferenceIdeal.defs _ _).mono (fun r h c => ?_) (Cert.TailReferenceIdeal.Value.run (F := Ideal) m' g')
    obtain ⟨o0, rest⟩ := h c
    obtain ⟨e0, e1, e2, e3, e4, e5, e6, e7, e8, e9, e10, e11, e12, e13⟩ := hagree c
    refine ⟨o0.trans ((Cert.TailReferenceIdeal.Read.val_main_v112_eq (F := Ideal) (Idealize.ShloMosaic.StableHlo.launchContents m' c)).trans ?_), rest⟩
    show Cert.TailReferenceIdeal.Read.val_main_v112 (F := Ideal) (m' ((c.tc : Thread Cert.TailReferenceIdeal.nD Cert.TailReferenceIdeal.τ).loc Cert.TailReferenceIdeal.main_arg0)) (m' ((c.tc : Thread Cert.TailReferenceIdeal.nD Cert.TailReferenceIdeal.τ).loc Cert.TailReferenceIdeal.main_arg1)) (m' ((c.tc : Thread Cert.TailReferenceIdeal.nD Cert.TailReferenceIdeal.τ).loc Cert.TailReferenceIdeal.main_arg2)) (m' ((c.tc : Thread Cert.TailReferenceIdeal.nD Cert.TailReferenceIdeal.τ).loc Cert.TailReferenceIdeal.main_arg3)) (m' ((c.tc : Thread Cert.TailReferenceIdeal.nD Cert.TailReferenceIdeal.τ).loc Cert.TailReferenceIdeal.main_arg4)) (m' ((c.tc : Thread Cert.TailReferenceIdeal.nD Cert.TailReferenceIdeal.τ).loc Cert.TailReferenceIdeal.main_arg5)) (m' ((c.tc : Thread Cert.TailReferenceIdeal.nD Cert.TailReferenceIdeal.τ).loc Cert.TailReferenceIdeal.main_arg6)) (m' ((c.tc : Thread Cert.TailReferenceIdeal.nD Cert.TailReferenceIdeal.τ).loc Cert.TailReferenceIdeal.main_arg7)) (m' ((c.tc : Thread Cert.TailReferenceIdeal.nD Cert.TailReferenceIdeal.τ).loc Cert.TailReferenceIdeal.main_arg8)) (m' ((c.tc : Thread Cert.TailReferenceIdeal.nD Cert.TailReferenceIdeal.τ).loc Cert.TailReferenceIdeal.main_arg9)) (m' ((c.tc : Thread Cert.TailReferenceIdeal.nD Cert.TailReferenceIdeal.τ).loc Cert.TailReferenceIdeal.main_arg10)) (m' ((c.tc : Thread Cert.TailReferenceIdeal.nD Cert.TailReferenceIdeal.τ).loc Cert.TailReferenceIdeal.main_arg11)) (m' ((c.tc : Thread Cert.TailReferenceIdeal.nD Cert.TailReferenceIdeal.τ).loc Cert.TailReferenceIdeal.main_arg12)) (m' ((c.tc : Thread Cert.TailReferenceIdeal.nD Cert.TailReferenceIdeal.τ).loc Cert.TailReferenceIdeal.main_arg13)) = _
    rw [e0, e1, e2, e3, e4, e5, e6, e7, e8, e9, e10, e11, e12, e13]
    rfl

theorem frame_mid : Cert.quiescent_Mid := fun m ρ _ => Cert.Mid.Run.mid_frame m ρ
theorem frame_mid_ideal : Cert.quiescent_MidIdeal := fun m ρ _ => Cert.MidIdeal.Run.mid_frame m ρ

theorem frame_mid_ref : Cert.quiescent_MidReferenceIdeal := fun m ρ _ =>
  (θ_run Cert.MidReferenceIdeal.defs _ _).mono (fun r h => ⟨fun c => (h c).2,
      Idealize.ShloMosaic.sem_eq_zero_of_no_sems (by decide) r.2⟩)
    (Cert.MidReferenceIdeal.Value.run (F := Ideal) m ρ)

theorem preserves_mid : Cert.preserves_Mid_MidIdeal :=
  ⟨IdealRules.named_const.statement Cert.MidIdeal.κ "neg_big" .f32 0xFF61B1E6#32 ⊥ rfl,
    IdealRules.named_const.statement Cert.MidIdeal.κ "pos_big" .f32 0x7F61B1E6#32 ⊤ rfl,
    IdealRules.named_const.statement Cert.MidIdeal.κ "mask_big" .f32 0x7149F2CA#32 ⊤ rfl⟩

theorem frame_mid_ideal_pre : Cert.quiescent_MidIdeal_pre_finite_and_spread2 (hPre_finite_and_spread2 := Cert.MidPre.facts) :=
  fun m ρ _ => Cert.MidIdeal.Run.mid_frame m ρ
theorem frame_mid_ref_pre : Cert.quiescent_MidReferenceIdeal_pre_finite_and_spread2 (hPre_finite_and_spread2 := Cert.MidPre.facts) :=
  fun m g _ => frame_mid_ref m g trivial

/-- The precondition of stage 3's claim on a device, read. -/
theorem good_mid (m : (ℓ : Loc Cert.MidIdeal.nD Cert.MidIdeal.τ Cert.MidIdeal.sig) → Buf (Elt Ideal) ℓ)
    (h : Cert.Pre_MidIdeal_finite_and_spread2 (hPre_finite_and_spread2 := Cert.MidPre.facts) m) (c : Dev Cert.MidIdeal.nD) : Cert.MidTie.Good m c := by
  obtain ⟨h0, h1, h2, h3, h4, h5, h6, h7, h8, h9, hv⟩ := @Cert.MidPre.read Cert.MidPre.facts _ _ _ _ _ _ _ _ _ _ (h c)
  exact ⟨h0, h1, h2, h3, h4, h5, h6, h7, h8, h9, hv⟩

theorem algebraic_mid : Cert.algebraic_MidIdeal_MidReferenceIdeal_pre_finite_and_spread2 (hPre_finite_and_spread2 := Cert.MidPre.facts) := by
  intro m g m' g' hpre hagree
  refine ⟨fun c => Cert.MidTie.refOut m c, ?_, ?_⟩
  · refine (θ_run Cert.MidIdeal.defs _ _).mono (fun r h c => ?_) (Cert.MidTie.run_blocks m g)
    exact ⟨(h.1 c).trans (Cert.MidTie.final11 m c (good_mid m hpre c)), h.2 c⟩
  · refine (θ_run Cert.MidReferenceIdeal.defs _ _).mono (fun r h c => ?_) (Cert.MidReferenceIdeal.Value.run (F := Ideal) m' g')
    obtain ⟨o0, rest⟩ := h c
    obtain ⟨e0, e1, e2, e3, e4, e5, e6, e7, e8, e9⟩ := hagree c
    refine ⟨o0.trans ((Cert.MidReferenceIdeal.Read.val_main_v81_eq (F := Ideal) m' c).trans ?_), rest⟩
    rw [e0, e1, e2, e3, e4, e5, e6, e7, e8, e9]
    rfl

theorem claim : Cert.Claim := ⟨Cert.Kernel.Gen.facts, Cert.KernelIdeal.Gen.facts, Cert.ReferenceIdeal.Gen.facts,
  Cert.Tail.Gen.facts, Cert.TailIdeal.Gen.facts, Cert.TailReferenceIdeal.Gen.facts, Cert.Mid.Gen.facts, Cert.MidIdeal.Gen.facts, Cert.MidReferenceIdeal.Gen.facts,
  Cert.Pre.facts, Cert.TailPre.facts, Cert.MidPre.facts,
  frame_p, frame_pi, frame_pi_pre, frame_r, frame_r_pre, frame_tail, frame_tail_ideal, frame_tail_ideal_pre, frame_tail_ref,
  frame_tail_ref_pre, frame_mid, frame_mid_ideal, frame_mid_ideal_pre, frame_mid_ref, frame_mid_ref_pre, preserves, algebraic,
  preserves_tail, algebraic_tail, preserves_mid, algebraic_mid⟩

end Cert.Proof

end
